-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_finite_heads [hPre_finite_heads : Cert.Pre_finite_heads.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_finite_heads.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 = (fun _ => 1#1)
    ∧ (Cert.Pre_finite_heads.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 = (fun _ => 1#1)
    ∧ (Cert.Pre_finite_heads.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 = (fun _ => 1#1)
    ∧ (Cert.Pre_finite_heads.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.1 = (fun _ => 1#1)
    ∧ (Cert.Pre_finite_heads.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_heads [hPre_finite_heads : Cert.Pre_finite_heads.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_heads.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).1 = (fun _ => 1#1)
    ∧ (Cert.Pre_finite_heads.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.1 = (fun _ => 1#1)
    ∧ (Cert.Pre_finite_heads.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.1 = (fun _ => 1#1)
    ∧ (Cert.Pre_finite_heads.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2.1 = (fun _ => 1#1)
    ∧ (Cert.Pre_finite_heads.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2.2 = (fun _ => 1#1)

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_ZGrad (m : (ℓ : Loc Cert.ZGrad.nD Cert.ZGrad.τ Cert.ZGrad.sig) → Buf (Elt Bits) ℓ) : Prop :=
  True

def Pre_ZGradIdeal (m : (ℓ : Loc Cert.ZGradIdeal.nD Cert.ZGradIdeal.τ Cert.ZGradIdeal.sig) → Buf (Elt Ideal) ℓ) : Prop :=
  True

def Pre_ZGradReferenceIdeal (m : (ℓ : Loc Cert.ZGradReferenceIdeal.nD Cert.ZGradReferenceIdeal.τ Cert.ZGradReferenceIdeal.sig) → Buf (Elt Ideal) ℓ) : Prop :=
  True

def Pre_HGrad (m : (ℓ : Loc Cert.HGrad.nD Cert.HGrad.τ Cert.HGrad.sig) → Buf (Elt Bits) ℓ) : Prop :=
  True

def Pre_HGradIdeal (m : (ℓ : Loc Cert.HGradIdeal.nD Cert.HGradIdeal.τ Cert.HGradIdeal.sig) → Buf (Elt Ideal) ℓ) : Prop :=
  True

def Pre_HGradReferenceIdeal (m : (ℓ : Loc Cert.HGradReferenceIdeal.nD Cert.HGradReferenceIdeal.τ Cert.HGradReferenceIdeal.sig) → Buf (Elt Ideal) ℓ) : Prop :=
  True

def Pre_ZProj (m : (ℓ : Loc Cert.ZProj.nD Cert.ZProj.τ Cert.ZProj.sig) → Buf (Elt Bits) ℓ) : Prop :=
  True

def Pre_ZProjIdeal (m : (ℓ : Loc Cert.ZProjIdeal.nD Cert.ZProjIdeal.τ Cert.ZProjIdeal.sig) → Buf (Elt Ideal) ℓ) : Prop :=
  True

def Pre_ZProjReferenceIdeal (m : (ℓ : Loc Cert.ZProjReferenceIdeal.nD Cert.ZProjReferenceIdeal.τ Cert.ZProjReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_finite_heads [hFoxKernelIdeal : Cert.FoxKernelIdeal.Facts] [hPre_finite_heads : Cert.Pre_finite_heads.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_finite_heads m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_finite_heads [hFoxReferenceIdeal : Cert.FoxReferenceIdeal.Facts] [hPre_finite_heads : Cert.Pre_finite_heads.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_heads m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_ZGrad [hZGrad : Cert.ZGrad.Facts] : Prop :=
  ∀ (m : (ℓ : Loc Cert.ZGrad.nD Cert.ZGrad.τ Cert.ZGrad.sig) → Buf (Elt Bits) ℓ) (g : Dev Cert.ZGrad.nD → PrngReg), Pre_ZGrad m →
    θ_run (Cert.ZGrad.defs (F := Bits)) (onTc (τ := Cert.ZGrad.τ) (Cert.ZGrad.main (F := Bits))) ⟨m, fun _ => 0, g⟩ (fun r => (∀ c : Dev Cert.ZGrad.nD,
      r.2.mem ((c.tc : Thread Cert.ZGrad.nD Cert.ZGrad.τ).loc Cert.ZGrad.main_arg0) = m ((c.tc : Thread Cert.ZGrad.nD Cert.ZGrad.τ).loc Cert.ZGrad.main_arg0)
      ∧ r.2.mem ((c.tc : Thread Cert.ZGrad.nD Cert.ZGrad.τ).loc Cert.ZGrad.main_arg1) = m ((c.tc : Thread Cert.ZGrad.nD Cert.ZGrad.τ).loc Cert.ZGrad.main_arg1))
      ∧ r.2.sem = fun _ => 0)

def quiescent_ZGradIdeal [hZGradIdeal : Cert.ZGradIdeal.Facts] : Prop :=
  ∀ (m : (ℓ : Loc Cert.ZGradIdeal.nD Cert.ZGradIdeal.τ Cert.ZGradIdeal.sig) → Buf (Elt Ideal) ℓ) (g : Dev Cert.ZGradIdeal.nD → PrngReg), Pre_ZGradIdeal m →
    θ_run (Cert.ZGradIdeal.defs (F := Ideal)) (onTc (τ := Cert.ZGradIdeal.τ) (Cert.ZGradIdeal.main (F := Ideal))) ⟨m, fun _ => 0, g⟩ (fun r => (∀ c : Dev Cert.ZGradIdeal.nD,
      r.2.mem ((c.tc : Thread Cert.ZGradIdeal.nD Cert.ZGradIdeal.τ).loc Cert.ZGradIdeal.main_arg0) = m ((c.tc : Thread Cert.ZGradIdeal.nD Cert.ZGradIdeal.τ).loc Cert.ZGradIdeal.main_arg0)
      ∧ r.2.mem ((c.tc : Thread Cert.ZGradIdeal.nD Cert.ZGradIdeal.τ).loc Cert.ZGradIdeal.main_arg1) = m ((c.tc : Thread Cert.ZGradIdeal.nD Cert.ZGradIdeal.τ).loc Cert.ZGradIdeal.main_arg1))
      ∧ r.2.sem = fun _ => 0)

def quiescent_ZGradReferenceIdeal [hZGradReferenceIdeal : Cert.ZGradReferenceIdeal.Facts] : Prop :=
  ∀ (m : (ℓ : Loc Cert.ZGradReferenceIdeal.nD Cert.ZGradReferenceIdeal.τ Cert.ZGradReferenceIdeal.sig) → Buf (Elt Ideal) ℓ) (g : Dev Cert.ZGradReferenceIdeal.nD → PrngReg), Pre_ZGradReferenceIdeal m →
    θ_run (Cert.ZGradReferenceIdeal.defs (F := Ideal)) (onTc (τ := Cert.ZGradReferenceIdeal.τ) (Cert.ZGradReferenceIdeal.main (F := Ideal))) ⟨m, fun _ => 0, g⟩ (fun r => (∀ c : Dev Cert.ZGradReferenceIdeal.nD,
      r.2.mem ((c.tc : Thread Cert.ZGradReferenceIdeal.nD Cert.ZGradReferenceIdeal.τ).loc Cert.ZGradReferenceIdeal.main_arg0) = m ((c.tc : Thread Cert.ZGradReferenceIdeal.nD Cert.ZGradReferenceIdeal.τ).loc Cert.ZGradReferenceIdeal.main_arg0)
      ∧ r.2.mem ((c.tc : Thread Cert.ZGradReferenceIdeal.nD Cert.ZGradReferenceIdeal.τ).loc Cert.ZGradReferenceIdeal.main_arg1) = m ((c.tc : Thread Cert.ZGradReferenceIdeal.nD Cert.ZGradReferenceIdeal.τ).loc Cert.ZGradReferenceIdeal.main_arg1))
      ∧ r.2.sem = fun _ => 0)

def quiescent_HGrad [hHGrad : Cert.HGrad.Facts] : Prop :=
  ∀ (m : (ℓ : Loc Cert.HGrad.nD Cert.HGrad.τ Cert.HGrad.sig) → Buf (Elt Bits) ℓ) (g : Dev Cert.HGrad.nD → PrngReg), Pre_HGrad m →
    θ_run (Cert.HGrad.defs (F := Bits)) (onTc (τ := Cert.HGrad.τ) (Cert.HGrad.main (F := Bits))) ⟨m, fun _ => 0, g⟩ (fun r => (∀ c : Dev Cert.HGrad.nD,
      r.2.mem ((c.tc : Thread Cert.HGrad.nD Cert.HGrad.τ).loc Cert.HGrad.main_arg0) = m ((c.tc : Thread Cert.HGrad.nD Cert.HGrad.τ).loc Cert.HGrad.main_arg0)
      ∧ r.2.mem ((c.tc : Thread Cert.HGrad.nD Cert.HGrad.τ).loc Cert.HGrad.main_arg1) = m ((c.tc : Thread Cert.HGrad.nD Cert.HGrad.τ).loc Cert.HGrad.main_arg1)
      ∧ r.2.mem ((c.tc : Thread Cert.HGrad.nD Cert.HGrad.τ).loc Cert.HGrad.main_arg2) = m ((c.tc : Thread Cert.HGrad.nD Cert.HGrad.τ).loc Cert.HGrad.main_arg2))
      ∧ r.2.sem = fun _ => 0)

def quiescent_HGradIdeal [hHGradIdeal : Cert.HGradIdeal.Facts] : Prop :=
  ∀ (m : (ℓ : Loc Cert.HGradIdeal.nD Cert.HGradIdeal.τ Cert.HGradIdeal.sig) → Buf (Elt Ideal) ℓ) (g : Dev Cert.HGradIdeal.nD → PrngReg), Pre_HGradIdeal m →
    θ_run (Cert.HGradIdeal.defs (F := Ideal)) (onTc (τ := Cert.HGradIdeal.τ) (Cert.HGradIdeal.main (F := Ideal))) ⟨m, fun _ => 0, g⟩ (fun r => (∀ c : Dev Cert.HGradIdeal.nD,
      r.2.mem ((c.tc : Thread Cert.HGradIdeal.nD Cert.HGradIdeal.τ).loc Cert.HGradIdeal.main_arg0) = m ((c.tc : Thread Cert.HGradIdeal.nD Cert.HGradIdeal.τ).loc Cert.HGradIdeal.main_arg0)
      ∧ r.2.mem ((c.tc : Thread Cert.HGradIdeal.nD Cert.HGradIdeal.τ).loc Cert.HGradIdeal.main_arg1) = m ((c.tc : Thread Cert.HGradIdeal.nD Cert.HGradIdeal.τ).loc Cert.HGradIdeal.main_arg1)
      ∧ r.2.mem ((c.tc : Thread Cert.HGradIdeal.nD Cert.HGradIdeal.τ).loc Cert.HGradIdeal.main_arg2) = m ((c.tc : Thread Cert.HGradIdeal.nD Cert.HGradIdeal.τ).loc Cert.HGradIdeal.main_arg2))
      ∧ r.2.sem = fun _ => 0)

def quiescent_HGradReferenceIdeal [hHGradReferenceIdeal : Cert.HGradReferenceIdeal.Facts] : Prop :=
  ∀ (m : (ℓ : Loc Cert.HGradReferenceIdeal.nD Cert.HGradReferenceIdeal.τ Cert.HGradReferenceIdeal.sig) → Buf (Elt Ideal) ℓ) (g : Dev Cert.HGradReferenceIdeal.nD → PrngReg), Pre_HGradReferenceIdeal m →
    θ_run (Cert.HGradReferenceIdeal.defs (F := Ideal)) (onTc (τ := Cert.HGradReferenceIdeal.τ) (Cert.HGradReferenceIdeal.main (F := Ideal))) ⟨m, fun _ => 0, g⟩ (fun r => (∀ c : Dev Cert.HGradReferenceIdeal.nD,
      r.2.mem ((c.tc : Thread Cert.HGradReferenceIdeal.nD Cert.HGradReferenceIdeal.τ).loc Cert.HGradReferenceIdeal.main_arg0) = m ((c.tc : Thread Cert.HGradReferenceIdeal.nD Cert.HGradReferenceIdeal.τ).loc Cert.HGradReferenceIdeal.main_arg0)
      ∧ r.2.mem ((c.tc : Thread Cert.HGradReferenceIdeal.nD Cert.HGradReferenceIdeal.τ).loc Cert.HGradReferenceIdeal.main_arg1) = m ((c.tc : Thread Cert.HGradReferenceIdeal.nD Cert.HGradReferenceIdeal.τ).loc Cert.HGradReferenceIdeal.main_arg1)
      ∧ r.2.mem ((c.tc : Thread Cert.HGradReferenceIdeal.nD Cert.HGradReferenceIdeal.τ).loc Cert.HGradReferenceIdeal.main_arg2) = m ((c.tc : Thread Cert.HGradReferenceIdeal.nD Cert.HGradReferenceIdeal.τ).loc Cert.HGradReferenceIdeal.main_arg2))
      ∧ r.2.sem = fun _ => 0)

def quiescent_ZProj [hZProj : Cert.ZProj.Facts] : Prop :=
  ∀ (m : (ℓ : Loc Cert.ZProj.nD Cert.ZProj.τ Cert.ZProj.sig) → Buf (Elt Bits) ℓ) (g : Dev Cert.ZProj.nD → PrngReg), Pre_ZProj m →
    θ_run (Cert.ZProj.defs (F := Bits)) (onTc (τ := Cert.ZProj.τ) (Cert.ZProj.main (F := Bits))) ⟨m, fun _ => 0, g⟩ (fun r => (∀ c : Dev Cert.ZProj.nD,
      r.2.mem ((c.tc : Thread Cert.ZProj.nD Cert.ZProj.τ).loc Cert.ZProj.main_arg0) = m ((c.tc : Thread Cert.ZProj.nD Cert.ZProj.τ).loc Cert.ZProj.main_arg0)
      ∧ r.2.mem ((c.tc : Thread Cert.ZProj.nD Cert.ZProj.τ).loc Cert.ZProj.main_arg1) = m ((c.tc : Thread Cert.ZProj.nD Cert.ZProj.τ).loc Cert.ZProj.main_arg1)
      ∧ r.2.mem ((c.tc : Thread Cert.ZProj.nD Cert.ZProj.τ).loc Cert.ZProj.main_arg2) = m ((c.tc : Thread Cert.ZProj.nD Cert.ZProj.τ).loc Cert.ZProj.main_arg2))
      ∧ r.2.sem = fun _ => 0)

def quiescent_ZProjIdeal [hZProjIdeal : Cert.ZProjIdeal.Facts] : Prop :=
  ∀ (m : (ℓ : Loc Cert.ZProjIdeal.nD Cert.ZProjIdeal.τ Cert.ZProjIdeal.sig) → Buf (Elt Ideal) ℓ) (g : Dev Cert.ZProjIdeal.nD → PrngReg), Pre_ZProjIdeal m →
    θ_run (Cert.ZProjIdeal.defs (F := Ideal)) (onTc (τ := Cert.ZProjIdeal.τ) (Cert.ZProjIdeal.main (F := Ideal))) ⟨m, fun _ => 0, g⟩ (fun r => (∀ c : Dev Cert.ZProjIdeal.nD,
      r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
      ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1)
      ∧ r.2.mem ((c.tc : Thread Cert.ZProjIdeal.nD Cert.ZProjIdeal.τ).loc Cert.ZProjIdeal.main_arg2) = m ((c.tc : Thread Cert.ZProjIdeal.nD Cert.ZProjIdeal.τ).loc Cert.ZProjIdeal.main_arg2))
      ∧ r.2.sem = fun _ => 0)

def quiescent_ZProjReferenceIdeal [hZProjReferenceIdeal : Cert.ZProjReferenceIdeal.Facts] : Prop :=
  ∀ (m : (ℓ : Loc Cert.ZProjReferenceIdeal.nD Cert.ZProjReferenceIdeal.τ Cert.ZProjReferenceIdeal.sig) → Buf (Elt Ideal) ℓ) (g : Dev Cert.ZProjReferenceIdeal.nD → PrngReg), Pre_ZProjReferenceIdeal m →
    θ_run (Cert.ZProjReferenceIdeal.defs (F := Ideal)) (onTc (τ := Cert.ZProjReferenceIdeal.τ) (Cert.ZProjReferenceIdeal.main (F := Ideal))) ⟨m, fun _ => 0, g⟩ (fun r => (∀ c : Dev Cert.ZProjReferenceIdeal.nD,
      r.2.mem ((c.tc : Thread Cert.ZProjReferenceIdeal.nD Cert.ZProjReferenceIdeal.τ).loc Cert.ZProjReferenceIdeal.main_arg0) = m ((c.tc : Thread Cert.ZProjReferenceIdeal.nD Cert.ZProjReferenceIdeal.τ).loc Cert.ZProjReferenceIdeal.main_arg0)
      ∧ r.2.mem ((c.tc : Thread Cert.ZProjReferenceIdeal.nD Cert.ZProjReferenceIdeal.τ).loc Cert.ZProjReferenceIdeal.main_arg1) = m ((c.tc : Thread Cert.ZProjReferenceIdeal.nD Cert.ZProjReferenceIdeal.τ).loc Cert.ZProjReferenceIdeal.main_arg1)
      ∧ r.2.mem ((c.tc : Thread Cert.ZProjReferenceIdeal.nD Cert.ZProjReferenceIdeal.τ).loc Cert.ZProjReferenceIdeal.main_arg2) = m ((c.tc : Thread Cert.ZProjReferenceIdeal.nD Cert.ZProjReferenceIdeal.τ).loc Cert.ZProjReferenceIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2)
      ∧ r.2.mem ((c.tc : Thread Cert.FfnOutReferenceIdeal.nD Cert.FfnOutReferenceIdeal.τ).loc Cert.FfnOutReferenceIdeal.main_arg3) = m ((c.tc : Thread Cert.FfnOutReferenceIdeal.nD Cert.FfnOutReferenceIdeal.τ).loc Cert.FfnOutReferenceIdeal.main_arg3)
      ∧ r.2.mem ((c.tc : Thread Cert.FfnOutReferenceIdeal.nD Cert.FfnOutReferenceIdeal.τ).loc Cert.FfnOutReferenceIdeal.main_arg4) = m ((c.tc : Thread Cert.FfnOutReferenceIdeal.nD Cert.FfnOutReferenceIdeal.τ).loc Cert.FfnOutReferenceIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8))
      ∧ r.2.sem = fun _ => 0)

def preserves_Kernel_KernelIdeal : Prop :=
  IdealRules.named_const.Statement Cert.KernelIdeal.κ "alpha" .f32 0x3FB504F3#32 ((Real.sqrt 2 : ℝ) : EReal)

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FoxKernel_FoxKernelIdeal : Prop :=
  IdealRules.named_const.Statement Cert.FoxKernelIdeal.κ "log2e" .f32 0x3FB8AA3B#32 (((Real.log 2)⁻¹ : ℝ) : EReal)
  ∧ IdealRules.named_const.Statement Cert.FoxKernelIdeal.κ "mask" .f32 0xF149F2CA#32 ⊥

def algebraic_FoxKernelIdeal_FoxReferenceIdeal_pre_finite_heads [hFoxKernelIdeal : Cert.FoxKernelIdeal.Facts] [hFoxReferenceIdeal : Cert.FoxReferenceIdeal.Facts] [hPre_finite_heads : Cert.Pre_finite_heads.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_finite_heads m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v115_0)) (v1 : (c : Dev Cert.FoxKernelIdeal.nD) → Buf (Elt Ideal) ((c.tc : Thread Cert.FoxKernelIdeal.nD Cert.FoxKernelIdeal.τ).loc Cert.FoxKernelIdeal.main_v115_1)) (v2 : (c : Dev Cert.FoxKernelIdeal.nD) → Buf (Elt Ideal) ((c.tc : Thread Cert.FoxKernelIdeal.nD Cert.FoxKernelIdeal.τ).loc Cert.FoxKernelIdeal.main_v115_2)) (v3 : (c : Dev Cert.FoxKernelIdeal.nD) → Buf (Elt Ideal) ((c.tc : Thread Cert.FoxKernelIdeal.nD Cert.FoxKernelIdeal.τ).loc Cert.FoxKernelIdeal.main_v115_3)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v115_0) = v0 c
          ∧ r.2.mem ((c.tc : Thread Cert.FoxKernelIdeal.nD Cert.FoxKernelIdeal.τ).loc Cert.FoxKernelIdeal.main_v115_1) = v1 c
          ∧ r.2.mem ((c.tc : Thread Cert.FoxKernelIdeal.nD Cert.FoxKernelIdeal.τ).loc Cert.FoxKernelIdeal.main_v115_2) = v2 c
          ∧ r.2.mem ((c.tc : Thread Cert.FoxKernelIdeal.nD Cert.FoxKernelIdeal.τ).loc Cert.FoxKernelIdeal.main_v115_3) = v3 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v89) = v0 c
          ∧ r.2.mem ((c.tc : Thread Cert.FoxReferenceIdeal.nD Cert.FoxReferenceIdeal.τ).loc Cert.FoxReferenceIdeal.main_v91) = v1 c
          ∧ r.2.mem ((c.tc : Thread Cert.FoxReferenceIdeal.nD Cert.FoxReferenceIdeal.τ).loc Cert.FoxReferenceIdeal.main_v93) = v2 c
          ∧ r.2.mem ((c.tc : Thread Cert.FoxReferenceIdeal.nD Cert.FoxReferenceIdeal.τ).loc Cert.FoxReferenceIdeal.main_v94) = v3 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v4)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v4) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v4) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v3)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v3) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v3) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_ZGrad_ZGradIdeal : Prop :=
  True

def algebraic_ZGradIdeal_ZGradReferenceIdeal [hZGradIdeal : Cert.ZGradIdeal.Facts] [hZGradReferenceIdeal : Cert.ZGradReferenceIdeal.Facts] : Prop :=
  ∀ (m : (ℓ : Loc Cert.ZGradIdeal.nD Cert.ZGradIdeal.τ Cert.ZGradIdeal.sig) → Buf (Elt Ideal) ℓ) (g : Dev Cert.ZGradIdeal.nD → PrngReg)
    (m' : (ℓ : Loc Cert.ZGradReferenceIdeal.nD Cert.ZGradReferenceIdeal.τ Cert.ZGradReferenceIdeal.sig) → Buf (Elt Ideal) ℓ) (g' : Dev Cert.ZGradReferenceIdeal.nD → PrngReg), Pre_ZGradIdeal m →
    (∀ c : Dev Cert.ZGradIdeal.nD,
      m' ((c.tc : Thread Cert.ZGradReferenceIdeal.nD Cert.ZGradReferenceIdeal.τ).loc Cert.ZGradReferenceIdeal.main_arg0) = m ((c.tc : Thread Cert.ZGradIdeal.nD Cert.ZGradIdeal.τ).loc Cert.ZGradIdeal.main_arg0)
      ∧ m' ((c.tc : Thread Cert.ZGradReferenceIdeal.nD Cert.ZGradReferenceIdeal.τ).loc Cert.ZGradReferenceIdeal.main_arg1) = m ((c.tc : Thread Cert.ZGradIdeal.nD Cert.ZGradIdeal.τ).loc Cert.ZGradIdeal.main_arg1)) →
    ∃ (v0 : (c : Dev Cert.ZGradIdeal.nD) → Buf (Elt Ideal) ((c.tc : Thread Cert.ZGradIdeal.nD Cert.ZGradIdeal.τ).loc Cert.ZGradIdeal.main_v7_0)) (v1 : (c : Dev Cert.ZGradIdeal.nD) → Buf (Elt Ideal) ((c.tc : Thread Cert.ZGradIdeal.nD Cert.ZGradIdeal.τ).loc Cert.ZGradIdeal.main_v7_1)),
      θ_run (Cert.ZGradIdeal.defs (F := Ideal)) (onTc (τ := Cert.ZGradIdeal.τ) (Cert.ZGradIdeal.main (F := Ideal))) ⟨m, fun _ => 0, g⟩ (fun r => ∀ c : Dev Cert.ZGradIdeal.nD,
          r.2.mem ((c.tc : Thread Cert.ZGradIdeal.nD Cert.ZGradIdeal.τ).loc Cert.ZGradIdeal.main_v7_0) = v0 c
          ∧ r.2.mem ((c.tc : Thread Cert.ZGradIdeal.nD Cert.ZGradIdeal.τ).loc Cert.ZGradIdeal.main_v7_1) = v1 c
          ∧ r.2.mem ((c.tc : Thread Cert.ZGradIdeal.nD Cert.ZGradIdeal.τ).loc Cert.ZGradIdeal.main_arg0) = m ((c.tc : Thread Cert.ZGradIdeal.nD Cert.ZGradIdeal.τ).loc Cert.ZGradIdeal.main_arg0)
          ∧ r.2.mem ((c.tc : Thread Cert.ZGradIdeal.nD Cert.ZGradIdeal.τ).loc Cert.ZGradIdeal.main_arg1) = m ((c.tc : Thread Cert.ZGradIdeal.nD Cert.ZGradIdeal.τ).loc Cert.ZGradIdeal.main_arg1))
      ∧ θ_run (Cert.ZGradReferenceIdeal.defs (F := Ideal)) (onTc (τ := Cert.ZGradReferenceIdeal.τ) (Cert.ZGradReferenceIdeal.main (F := Ideal))) ⟨m', fun _ => 0, g'⟩ (fun r => ∀ c : Dev Cert.ZGradReferenceIdeal.nD,
          r.2.mem ((c.tc : Thread Cert.ZGradReferenceIdeal.nD Cert.ZGradReferenceIdeal.τ).loc Cert.ZGradReferenceIdeal.main_v23) = v0 c
          ∧ r.2.mem ((c.tc : Thread Cert.ZGradReferenceIdeal.nD Cert.ZGradReferenceIdeal.τ).loc Cert.ZGradReferenceIdeal.main_v24) = v1 c
          ∧ r.2.mem ((c.tc : Thread Cert.ZGradReferenceIdeal.nD Cert.ZGradReferenceIdeal.τ).loc Cert.ZGradReferenceIdeal.main_arg0) = m' ((c.tc : Thread Cert.ZGradReferenceIdeal.nD Cert.ZGradReferenceIdeal.τ).loc Cert.ZGradReferenceIdeal.main_arg0)
          ∧ r.2.mem ((c.tc : Thread Cert.ZGradReferenceIdeal.nD Cert.ZGradReferenceIdeal.τ).loc Cert.ZGradReferenceIdeal.main_arg1) = m' ((c.tc : Thread Cert.ZGradReferenceIdeal.nD Cert.ZGradReferenceIdeal.τ).loc Cert.ZGradReferenceIdeal.main_arg1))

def preserves_HGrad_HGradIdeal : Prop :=
  IdealRules.named_const.Statement Cert.HGradIdeal.κ "alpha" .f32 0x3FB504F3#32 ((Real.sqrt 2 : ℝ) : EReal)

def algebraic_HGradIdeal_HGradReferenceIdeal [hHGradIdeal : Cert.HGradIdeal.Facts] [hHGradReferenceIdeal : Cert.HGradReferenceIdeal.Facts] : Prop :=
  ∀ (m : (ℓ : Loc Cert.HGradIdeal.nD Cert.HGradIdeal.τ Cert.HGradIdeal.sig) → Buf (Elt Ideal) ℓ) (g : Dev Cert.HGradIdeal.nD → PrngReg)
    (m' : (ℓ : Loc Cert.HGradReferenceIdeal.nD Cert.HGradReferenceIdeal.τ Cert.HGradReferenceIdeal.sig) → Buf (Elt Ideal) ℓ) (g' : Dev Cert.HGradReferenceIdeal.nD → PrngReg), Pre_HGradIdeal m →
    (∀ c : Dev Cert.HGradIdeal.nD,
      m' ((c.tc : Thread Cert.HGradReferenceIdeal.nD Cert.HGradReferenceIdeal.τ).loc Cert.HGradReferenceIdeal.main_arg0) = m ((c.tc : Thread Cert.HGradIdeal.nD Cert.HGradIdeal.τ).loc Cert.HGradIdeal.main_arg0)
      ∧ m' ((c.tc : Thread Cert.HGradReferenceIdeal.nD Cert.HGradReferenceIdeal.τ).loc Cert.HGradReferenceIdeal.main_arg1) = m ((c.tc : Thread Cert.HGradIdeal.nD Cert.HGradIdeal.τ).loc Cert.HGradIdeal.main_arg1)
      ∧ m' ((c.tc : Thread Cert.HGradReferenceIdeal.nD Cert.HGradReferenceIdeal.τ).loc Cert.HGradReferenceIdeal.main_arg2) = m ((c.tc : Thread Cert.HGradIdeal.nD Cert.HGradIdeal.τ).loc Cert.HGradIdeal.main_arg2)) →
    ∃ (v0 : (c : Dev Cert.HGradIdeal.nD) → Buf (Elt Ideal) ((c.tc : Thread Cert.HGradIdeal.nD Cert.HGradIdeal.τ).loc Cert.HGradIdeal.main_v13)),
      θ_run (Cert.HGradIdeal.defs (F := Ideal)) (onTc (τ := Cert.HGradIdeal.τ) (Cert.HGradIdeal.main (F := Ideal))) ⟨m, fun _ => 0, g⟩ (fun r => ∀ c : Dev Cert.HGradIdeal.nD,
          r.2.mem ((c.tc : Thread Cert.HGradIdeal.nD Cert.HGradIdeal.τ).loc Cert.HGradIdeal.main_v13) = v0 c
          ∧ r.2.mem ((c.tc : Thread Cert.HGradIdeal.nD Cert.HGradIdeal.τ).loc Cert.HGradIdeal.main_arg0) = m ((c.tc : Thread Cert.HGradIdeal.nD Cert.HGradIdeal.τ).loc Cert.HGradIdeal.main_arg0)
          ∧ r.2.mem ((c.tc : Thread Cert.HGradIdeal.nD Cert.HGradIdeal.τ).loc Cert.HGradIdeal.main_arg1) = m ((c.tc : Thread Cert.HGradIdeal.nD Cert.HGradIdeal.τ).loc Cert.HGradIdeal.main_arg1)
          ∧ r.2.mem ((c.tc : Thread Cert.HGradIdeal.nD Cert.HGradIdeal.τ).loc Cert.HGradIdeal.main_arg2) = m ((c.tc : Thread Cert.HGradIdeal.nD Cert.HGradIdeal.τ).loc Cert.HGradIdeal.main_arg2))
      ∧ θ_run (Cert.HGradReferenceIdeal.defs (F := Ideal)) (onTc (τ := Cert.HGradReferenceIdeal.τ) (Cert.HGradReferenceIdeal.main (F := Ideal))) ⟨m', fun _ => 0, g'⟩ (fun r => ∀ c : Dev Cert.HGradReferenceIdeal.nD,
          r.2.mem ((c.tc : Thread Cert.HGradReferenceIdeal.nD Cert.HGradReferenceIdeal.τ).loc Cert.HGradReferenceIdeal.main_v4) = v0 c
          ∧ r.2.mem ((c.tc : Thread Cert.HGradReferenceIdeal.nD Cert.HGradReferenceIdeal.τ).loc Cert.HGradReferenceIdeal.main_arg0) = m' ((c.tc : Thread Cert.HGradReferenceIdeal.nD Cert.HGradReferenceIdeal.τ).loc Cert.HGradReferenceIdeal.main_arg0)
          ∧ r.2.mem ((c.tc : Thread Cert.HGradReferenceIdeal.nD Cert.HGradReferenceIdeal.τ).loc Cert.HGradReferenceIdeal.main_arg1) = m' ((c.tc : Thread Cert.HGradReferenceIdeal.nD Cert.HGradReferenceIdeal.τ).loc Cert.HGradReferenceIdeal.main_arg1)
          ∧ r.2.mem ((c.tc : Thread Cert.HGradReferenceIdeal.nD Cert.HGradReferenceIdeal.τ).loc Cert.HGradReferenceIdeal.main_arg2) = m' ((c.tc : Thread Cert.HGradReferenceIdeal.nD Cert.HGradReferenceIdeal.τ).loc Cert.HGradReferenceIdeal.main_arg2))

def preserves_ZProj_ZProjIdeal : Prop :=
  True

def algebraic_ZProjIdeal_ZProjReferenceIdeal [hZProjIdeal : Cert.ZProjIdeal.Facts] [hZProjReferenceIdeal : Cert.ZProjReferenceIdeal.Facts] : Prop :=
  ∀ (m : (ℓ : Loc Cert.ZProjIdeal.nD Cert.ZProjIdeal.τ Cert.ZProjIdeal.sig) → Buf (Elt Ideal) ℓ) (g : Dev Cert.ZProjIdeal.nD → PrngReg)
    (m' : (ℓ : Loc Cert.ZProjReferenceIdeal.nD Cert.ZProjReferenceIdeal.τ Cert.ZProjReferenceIdeal.sig) → Buf (Elt Ideal) ℓ) (g' : Dev Cert.ZProjReferenceIdeal.nD → PrngReg), Pre_ZProjIdeal m →
    (∀ c : Dev Cert.ZProjIdeal.nD,
      m' ((c.tc : Thread Cert.ZProjReferenceIdeal.nD Cert.ZProjReferenceIdeal.τ).loc Cert.ZProjReferenceIdeal.main_arg0) = m ((c.tc : Thread Cert.ZProjIdeal.nD Cert.ZProjIdeal.τ).loc Cert.ZProjIdeal.main_arg0)
      ∧ m' ((c.tc : Thread Cert.ZProjReferenceIdeal.nD Cert.ZProjReferenceIdeal.τ).loc Cert.ZProjReferenceIdeal.main_arg1) = m ((c.tc : Thread Cert.ZProjIdeal.nD Cert.ZProjIdeal.τ).loc Cert.ZProjIdeal.main_arg1)
      ∧ m' ((c.tc : Thread Cert.ZProjReferenceIdeal.nD Cert.ZProjReferenceIdeal.τ).loc Cert.ZProjReferenceIdeal.main_arg2) = m ((c.tc : Thread Cert.ZProjIdeal.nD Cert.ZProjIdeal.τ).loc Cert.ZProjIdeal.main_arg2)) →
    ∃ (v0 : (c : Dev Cert.ZProjIdeal.nD) → Buf (Elt Ideal) ((c.tc : Thread Cert.ZProjIdeal.nD Cert.ZProjIdeal.τ).loc Cert.ZProjIdeal.main_v13_0)) (v1 : (c : Dev Cert.ZProjIdeal.nD) → Buf (Elt Ideal) ((c.tc : Thread Cert.ZProjIdeal.nD Cert.ZProjIdeal.τ).loc Cert.ZProjIdeal.main_v13_1)) (v2 : (c : Dev Cert.ZProjIdeal.nD) → Buf (Elt Ideal) ((c.tc : Thread Cert.ZProjIdeal.nD Cert.ZProjIdeal.τ).loc Cert.ZProjIdeal.main_v13_2)),
      θ_run (Cert.ZProjIdeal.defs (F := Ideal)) (onTc (τ := Cert.ZProjIdeal.τ) (Cert.ZProjIdeal.main (F := Ideal))) ⟨m, fun _ => 0, g⟩ (fun r => ∀ c : Dev Cert.ZProjIdeal.nD,
          r.2.mem ((c.tc : Thread Cert.ZProjIdeal.nD Cert.ZProjIdeal.τ).loc Cert.ZProjIdeal.main_v13_0) = v0 c
          ∧ r.2.mem ((c.tc : Thread Cert.ZProjIdeal.nD Cert.ZProjIdeal.τ).loc Cert.ZProjIdeal.main_v13_1) = v1 c
          ∧ r.2.mem ((c.tc : Thread Cert.ZProjIdeal.nD Cert.ZProjIdeal.τ).loc Cert.ZProjIdeal.main_v13_2) = v2 c
          ∧ r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
          ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1)
          ∧ r.2.mem ((c.tc : Thread Cert.ZProjIdeal.nD Cert.ZProjIdeal.τ).loc Cert.ZProjIdeal.main_arg2) = m ((c.tc : Thread Cert.ZProjIdeal.nD Cert.ZProjIdeal.τ).loc Cert.ZProjIdeal.main_arg2))
      ∧ θ_run (Cert.ZProjReferenceIdeal.defs (F := Ideal)) (onTc (τ := Cert.ZProjReferenceIdeal.τ) (Cert.ZProjReferenceIdeal.main (F := Ideal))) ⟨m', fun _ => 0, g'⟩ (fun r => ∀ c : Dev Cert.ZProjReferenceIdeal.nD,
          r.2.mem ((c.tc : Thread Cert.ZProjReferenceIdeal.nD Cert.ZProjReferenceIdeal.τ).loc Cert.ZProjReferenceIdeal.main_v7) = v0 c
          ∧ r.2.mem ((c.tc : Thread Cert.ZProjReferenceIdeal.nD Cert.ZProjReferenceIdeal.τ).loc Cert.ZProjReferenceIdeal.main_v9) = v1 c
          ∧ r.2.mem ((c.tc : Thread Cert.ZProjReferenceIdeal.nD Cert.ZProjReferenceIdeal.τ).loc Cert.ZProjReferenceIdeal.main_v10) = v2 c
          ∧ r.2.mem ((c.tc : Thread Cert.ZProjReferenceIdeal.nD Cert.ZProjReferenceIdeal.τ).loc Cert.ZProjReferenceIdeal.main_arg0) = m' ((c.tc : Thread Cert.ZProjReferenceIdeal.nD Cert.ZProjReferenceIdeal.τ).loc Cert.ZProjReferenceIdeal.main_arg0)
          ∧ r.2.mem ((c.tc : Thread Cert.ZProjReferenceIdeal.nD Cert.ZProjReferenceIdeal.τ).loc Cert.ZProjReferenceIdeal.main_arg1) = m' ((c.tc : Thread Cert.ZProjReferenceIdeal.nD Cert.ZProjReferenceIdeal.τ).loc Cert.ZProjReferenceIdeal.main_arg1)
          ∧ r.2.mem ((c.tc : Thread Cert.ZProjReferenceIdeal.nD Cert.ZProjReferenceIdeal.τ).loc Cert.ZProjReferenceIdeal.main_arg2) = m' ((c.tc : Thread Cert.ZProjReferenceIdeal.nD Cert.ZProjReferenceIdeal.τ).loc Cert.ZProjReferenceIdeal.main_arg2))

def preserves_FfnOut_FfnOutIdeal : Prop :=
  IdealRules.named_const.Statement Cert.FfnOutIdeal.κ "alpha" .f32 0x3FB504F3#32 ((Real.sqrt 2 : ℝ) : EReal)

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)
      ∧ m' ((c.tc : Thread Cert.FfnOutReferenceIdeal.nD Cert.FfnOutReferenceIdeal.τ).loc Cert.FfnOutReferenceIdeal.main_arg3) = m ((c.tc : Thread Cert.FfnOutIdeal.nD Cert.FfnOutIdeal.τ).loc Cert.FfnOutIdeal.main_arg3)
      ∧ m' ((c.tc : Thread Cert.FfnOutReferenceIdeal.nD Cert.FfnOutReferenceIdeal.τ).loc Cert.FfnOutReferenceIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v7_0)) (v1 : (c : Dev Cert.FfnOutIdeal.nD) → Buf (Elt Ideal) ((c.tc : Thread Cert.FfnOutIdeal.nD Cert.FfnOutIdeal.τ).loc Cert.FfnOutIdeal.main_v7_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v7_0) = v0 c
          ∧ r.2.mem ((c.tc : Thread Cert.FfnOutIdeal.nD Cert.FfnOutIdeal.τ).loc Cert.FfnOutIdeal.main_v7_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v4) = v0 c
          ∧ r.2.mem ((c.tc : Thread Cert.FfnOutReferenceIdeal.nD Cert.FfnOutReferenceIdeal.τ).loc Cert.FfnOutReferenceIdeal.main_v28) = v1 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2)
          ∧ r.2.mem ((c.tc : Thread Cert.FfnOutReferenceIdeal.nD Cert.FfnOutReferenceIdeal.τ).loc Cert.FfnOutReferenceIdeal.main_arg3) = m' ((c.tc : Thread Cert.FfnOutReferenceIdeal.nD Cert.FfnOutReferenceIdeal.τ).loc Cert.FfnOutReferenceIdeal.main_arg3)
          ∧ r.2.mem ((c.tc : Thread Cert.FfnOutReferenceIdeal.nD Cert.FfnOutReferenceIdeal.τ).loc Cert.FfnOutReferenceIdeal.main_arg4) = m' ((c.tc : Thread Cert.FfnOutReferenceIdeal.nD Cert.FfnOutReferenceIdeal.τ).loc Cert.FfnOutReferenceIdeal.main_arg4))

def preserves_MixOut_MixOutIdeal : Prop :=
  IdealRules.named_const.Statement Cert.MixOutIdeal.κ "alpha" .f32 0x3FB504F3#32 ((Real.sqrt 2 : ℝ) : EReal)

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)
      ∧ m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v7_0)) (v1 : (c : Dev Cert.MixOutIdeal.nD) → Buf (Elt Ideal) ((c.tc : Thread Cert.MixOutIdeal.nD Cert.MixOutIdeal.τ).loc Cert.MixOutIdeal.main_v7_1)) (v2 : (c : Dev Cert.MixOutIdeal.nD) → Buf (Elt Ideal) ((c.tc : Thread Cert.MixOutIdeal.nD Cert.MixOutIdeal.τ).loc Cert.MixOutIdeal.main_v7_2)) (v3 : (c : Dev Cert.MixOutIdeal.nD) → Buf (Elt Ideal) ((c.tc : Thread Cert.MixOutIdeal.nD Cert.MixOutIdeal.τ).loc Cert.MixOutIdeal.main_v7_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v7_0) = v0 c
          ∧ r.2.mem ((c.tc : Thread Cert.MixOutIdeal.nD Cert.MixOutIdeal.τ).loc Cert.MixOutIdeal.main_v7_1) = v1 c
          ∧ r.2.mem ((c.tc : Thread Cert.MixOutIdeal.nD Cert.MixOutIdeal.τ).loc Cert.MixOutIdeal.main_v7_2) = v2 c
          ∧ r.2.mem ((c.tc : Thread Cert.MixOutIdeal.nD Cert.MixOutIdeal.τ).loc Cert.MixOutIdeal.main_v7_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v48) = v0 c
          ∧ r.2.mem ((c.tc : Thread Cert.MixOutReferenceIdeal.nD Cert.MixOutReferenceIdeal.τ).loc Cert.MixOutReferenceIdeal.main_v24) = v1 c
          ∧ r.2.mem ((c.tc : Thread Cert.MixOutReferenceIdeal.nD Cert.MixOutReferenceIdeal.τ).loc Cert.MixOutReferenceIdeal.main_v49) = v2 c
          ∧ r.2.mem ((c.tc : Thread Cert.MixOutReferenceIdeal.nD Cert.MixOutReferenceIdeal.τ).loc Cert.MixOutReferenceIdeal.main_v50) = v3 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8))

def Claim : Prop :=
  ∃ (hKernel : Cert.Kernel.Facts) (hKernelIdeal : Cert.KernelIdeal.Facts) (hReferenceIdeal : Cert.ReferenceIdeal.Facts) (hFoxKernel : Cert.FoxKernel.Facts) (hFoxKernelIdeal : Cert.FoxKernelIdeal.Facts) (hFoxReferenceIdeal : Cert.FoxReferenceIdeal.Facts) (hInGrad : Cert.InGrad.Facts) (hInGradIdeal : Cert.InGradIdeal.Facts) (hInGradReferenceIdeal : Cert.InGradReferenceIdeal.Facts) (hOutGrad : Cert.OutGrad.Facts) (hOutGradIdeal : Cert.OutGradIdeal.Facts) (hOutGradReferenceIdeal : Cert.OutGradReferenceIdeal.Facts) (hZGrad : Cert.ZGrad.Facts) (hZGradIdeal : Cert.ZGradIdeal.Facts) (hZGradReferenceIdeal : Cert.ZGradReferenceIdeal.Facts) (hHGrad : Cert.HGrad.Facts) (hHGradIdeal : Cert.HGradIdeal.Facts) (hHGradReferenceIdeal : Cert.HGradReferenceIdeal.Facts) (hZProj : Cert.ZProj.Facts) (hZProjIdeal : Cert.ZProjIdeal.Facts) (hZProjReferenceIdeal : Cert.ZProjReferenceIdeal.Facts) (hFfnOut : Cert.FfnOut.Facts) (hFfnOutIdeal : Cert.FfnOutIdeal.Facts) (hFfnOutReferenceIdeal : Cert.FfnOutReferenceIdeal.Facts) (hMixOut : Cert.MixOut.Facts) (hMixOutIdeal : Cert.MixOutIdeal.Facts) (hMixOutReferenceIdeal : Cert.MixOutReferenceIdeal.Facts) (hPre_finite_operands : Cert.Pre_finite_operands.Facts) (hPre_finite_heads : Cert.Pre_finite_heads.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_FoxKernel (hFoxKernel := hFoxKernel)
    ∧ quiescent_FoxKernelIdeal (hFoxKernelIdeal := hFoxKernelIdeal)
    ∧ quiescent_FoxKernelIdeal_pre_finite_heads (hFoxKernelIdeal := hFoxKernelIdeal) (hPre_finite_heads := hPre_finite_heads)
    ∧ quiescent_FoxReferenceIdeal (hFoxReferenceIdeal := hFoxReferenceIdeal)
    ∧ quiescent_FoxReferenceIdeal_pre_finite_heads (hFoxReferenceIdeal := hFoxReferenceIdeal) (hPre_finite_heads := hPre_finite_heads)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_ZGrad (hZGrad := hZGrad)
    ∧ quiescent_ZGradIdeal (hZGradIdeal := hZGradIdeal)
    ∧ quiescent_ZGradReferenceIdeal (hZGradReferenceIdeal := hZGradReferenceIdeal)
    ∧ quiescent_HGrad (hHGrad := hHGrad)
    ∧ quiescent_HGradIdeal (hHGradIdeal := hHGradIdeal)
    ∧ quiescent_HGradReferenceIdeal (hHGradReferenceIdeal := hHGradReferenceIdeal)
    ∧ quiescent_ZProj (hZProj := hZProj)
    ∧ quiescent_ZProjIdeal (hZProjIdeal := hZProjIdeal)
    ∧ quiescent_ZProjReferenceIdeal (hZProjReferenceIdeal := hZProjReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_FoxKernel_FoxKernelIdeal
    ∧ algebraic_FoxKernelIdeal_FoxReferenceIdeal_pre_finite_heads (hFoxKernelIdeal := hFoxKernelIdeal) (hFoxReferenceIdeal := hFoxReferenceIdeal) (hPre_finite_heads := hPre_finite_heads)
    ∧ preserves_InGrad_InGradIdeal
    ∧ algebraic_InGradIdeal_InGradReferenceIdeal (hInGradIdeal := hInGradIdeal) (hInGradReferenceIdeal := hInGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_ZGrad_ZGradIdeal
    ∧ algebraic_ZGradIdeal_ZGradReferenceIdeal (hZGradIdeal := hZGradIdeal) (hZGradReferenceIdeal := hZGradReferenceIdeal)
    ∧ preserves_HGrad_HGradIdeal
    ∧ algebraic_HGradIdeal_HGradReferenceIdeal (hHGradIdeal := hHGradIdeal) (hHGradReferenceIdeal := hHGradReferenceIdeal)
    ∧ preserves_ZProj_ZProjIdeal
    ∧ algebraic_ZProjIdeal_ZProjReferenceIdeal (hZProjIdeal := hZProjIdeal) (hZProjReferenceIdeal := hZProjReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_MixOut_MixOutIdeal
    ∧ algebraic_MixOutIdeal_MixOutReferenceIdeal (hMixOutIdeal := hMixOutIdeal) (hMixOutReferenceIdeal := hMixOutReferenceIdeal)
-- ==== Pre_finite_heads.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  bcast_S_S8192x8 : S_.BroadcastsInDim S8192x8 (![] : Fin 0 → Fin S8192x8.rank)

variable [Facts]

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S8192x512 1 × IVec S8192x512 1 × IVec S8192x512 1 × IVec S8192x8 1 × IVec S8192x512 1 :=
  let main_v0 : FVec F S8192x512 .f32 := subf main_arg0 main_arg0
  let main_cst : FVec F S_ .f32 := constant S_ .f32 0x00000000#32
  let main_v1 : FVec F S8192x512 .f32 := broadcastInDim S8192x512 ![] bcast_S_S8192x512 main_cst
  let main_v2 : IVec S8192x512 1 := cmpf .oeq main_v0 main_v1
  let main_v3 : FVec F S8192x512 .f32 := subf main_arg1 main_arg1
  let main_cst_0 : FVec F S_ .f32 := constant S_ .f32 0x00000000#32
  let main_v4 : FVec F S8192x512 .f32 := broadcastInDim S8192x512 ![] bcast_S_S8192x512 main_cst_0
  let main_v5 : IVec S8192x512 1 := cmpf .oeq main_v3 main_v4
  let main_v6 : FVec F S8192x512 .f32 := subf main_arg2 main_arg2
  let main_cst_1 : FVec F S_ .f32 := constant S_ .f32 0x00000000#32
  let main_v7 : FVec F S8192x512 .f32 := broadcastInDim S8192x512 ![] bcast_S_S8192x512 main_cst_1
  let main_v8 : IVec S8192x512 1 := cmpf .oeq main_v6 main_v7
  let main_v9 : FVec F S8192x8 .f32 := subf main_arg3 main_arg3
  let main_cst_2 : FVec F S_ .f32 := constant S_ .f32 0x00000000#32
  let main_v10 : FVec F S8192x8 .f32 := broadcastInDim S8192x8 ![] bcast_S_S8192x8 main_cst_2
  let main_v11 : IVec S8192x8 1 := cmpf .oeq main_v9 main_v10
  let main_v12 : FVec F S8192x512 .f32 := subf main_arg4 main_arg4
  let main_cst_3 : FVec F S_ .f32 := constant S_ .f32 0x00000000#32
  let main_v13 : FVec F S8192x512 .f32 := broadcastInDim S8192x512 ![] bcast_S_S8192x512 main_cst_3
  let main_v14 : IVec S8192x512 1 := cmpf .oeq main_v12 main_v13
  (main_v2, main_v5, main_v8, main_v11, main_v14)
-- ==== Pre_finite_operands.lean ====
abbrev S8192x1024 : Shape := ⟨2, ![8192, 1024]⟩
abbrev S1024x5632 : Shape := ⟨2, ![1024, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1024x5632 .f32) (main_arg2 : FVec F S3x2816 .f32) (main_arg3 : FVec F S2816 .f32) (main_arg4 : FVec F S8192x2816 .f32) (main_arg5 : FVec F S8192x1024 .f32) : IVec S8192x1024 1 × IVec S1024x5632 1 × IVec S8192x2816 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1024x5632 .f32 := subf main_arg1 main_arg1
  let main_cst_0 : FVec F S_ .f32 := constant S_ .f32 0x00000000#32
  let main_v4 : FVec F S1024x5632 .f32 := broadcastInDim S1024x5632 ![] bcast_S_S1024x5632 main_cst_0
  let main_v5 : IVec S1024x5632 1 := cmpf .oeq main_v3 main_v4
  let main_v6 : FVec F S8192x2816 .f32 := subf main_arg4 main_arg4
  let main_cst_1 : FVec F S_ .f32 := constant S_ .f32 0x00000000#32
  let main_v7 : FVec F S8192x2816 .f32 := broadcastInDim S8192x2816 ![] bcast_S_S8192x2816 main_cst_1
  let main_v8 : IVec S8192x2816 1 := cmpf .oeq main_v6 main_v7
  (main_v2, main_v5, main_v8)
-- ==== Kernel.lean ====
abbrev S8192x1024 : Shape := ⟨2, ![8192, 1024]⟩
abbrev S1024x5632 : Shape := ⟨2, ![1024, 5632]⟩
abbrev S3x2816 : Shape := ⟨2, ![3, 2816]⟩
abbrev S2816 : Shape := ⟨1, ![2816]⟩
abbrev S8192x2816 : Shape := ⟨2, ![8192, 2816]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S5632x1024 : Shape := ⟨2, ![5632, 1024]⟩
abbrev S8x704x1024 : Shape := ⟨3, ![8, 704, 1024]⟩
abbrev S8192x4x704 : Shape := ⟨3, ![8192, 4, 704]⟩
abbrev S4x8192x704 : Shape := ⟨3, ![4, 8192, 704]⟩
abbrev S_ : Shape := ⟨0, ![]⟩
abbrev S8x2816 : Shape := ⟨2, ![8, 2816]⟩
abbrev S8x4x704 : Shape := ⟨3, ![8, 4, 704]⟩
abbrev S4x8x704 : Shape := ⟨3, ![4, 8, 704]⟩
abbrev S4x1x704 : Shape := ⟨3, ![4, 1, 704]⟩
abbrev S4x2x256x704 : Shape := ⟨4, ![4, 2, 256, 704]⟩
abbrev S4x1x8x704 : Shape := ⟨4, ![4, 1, 8, 704]⟩
abbrev S4x2x8x704 : Shape := ⟨4, ![4, 2, 8, 704]⟩
abbrev S4x256x704 : Shape := ⟨3, ![4, 256, 704]⟩
abbrev S256x1024 : Shape := ⟨2, ![256, 1024]⟩
abbrev S8x1 : Shape := ⟨2, ![8, 1]⟩
abbrev S1x8x704 : Shape := ⟨3, ![1, 8, 704]⟩
abbrev S8x704 : Shape := ⟨2, ![8, 704]⟩
abbrev S1x1x704 : Shape := ⟨3, ![1, 1, 704]⟩
abbrev S1x704 : Shape := ⟨2, ![1, 704]⟩
abbrev S1x1x256x704 : Shape := ⟨4, ![1, 1, 256, 704]⟩
abbrev S256x704 : Shape := ⟨2, ![256, 704]⟩
abbrev S1x1x8x704 : Shape := ⟨4, ![1, 1, 8, 704]⟩
abbrev S256x1 : Shape := ⟨2, ![256, 1]⟩
abbrev S1x256x704 : Shape := ⟨3, ![1, 256, 704]⟩
abbrev S1x704x1024 : Shape := ⟨3, ![1, 704, 1024]⟩
abbrev S704x1024 : Shape := ⟨2, ![704, 1024]⟩
abbrev S704 : Shape := ⟨1, ![704]⟩

abbrev nBuf : Space → Nat
  | .hbm => 23
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S8192x2816, .f32⟩
  | .hbm, ⟨5, _⟩ => ⟨S8192x1024, .f32⟩
  | .hbm, ⟨6, _⟩ => ⟨S8192x5632, .f32⟩
  | .hbm, ⟨7, _⟩ => ⟨S8192x2x4x704, .f32⟩
  | .hbm, ⟨8, _⟩ => ⟨S4x2x8192x704, .f32⟩
  | .hbm, ⟨9, _⟩ => ⟨S5632x1024, .f32⟩
  | .hbm, ⟨10, _⟩ => ⟨S8x704x1024, .f32⟩
  | .hbm, ⟨11, _⟩ => ⟨S8x704x1024, .bf16⟩
  | .hbm, ⟨12, _⟩ => ⟨S8192x4x704, .f32⟩
  | .hbm, ⟨13, _⟩ => ⟨S4x8192x704, .f32⟩
  | .hbm, ⟨14, _⟩ => ⟨S_, .i32⟩
  | .hbm, ⟨15, _⟩ => ⟨S_, .f32⟩
  | .hbm, ⟨16, _⟩ => ⟨S8x2816, .f32⟩
  | .hbm, ⟨17, _⟩ => ⟨S8x4x704, .f32⟩
  | .hbm, ⟨18, _⟩ => ⟨S4x8x704, .f32⟩
  | .hbm, ⟨19, _⟩ => ⟨S4x1x704, .f32⟩
  | .hbm, ⟨20, _⟩ => ⟨S4x2x8192x704, .bf16⟩
  | .hbm, ⟨21, _⟩ => ⟨S4x8x704, .f32⟩
  | .hbm, ⟨22, _⟩ => ⟨S8192x1024, .f32⟩
  | .local _ .vmem, ⟨0, _⟩ => ⟨S4x2x256x704, .f32⟩
  | .local _ .vmem, ⟨1, _⟩ => ⟨S4x2x256x704, .f32⟩
  | .local _ .vmem, ⟨2, _⟩ => ⟨S4x1x8x704, .f32⟩
  | .local _ .vmem, ⟨3, _⟩ => ⟨S4x1x8x704, .f32⟩
  | .local _ .vmem, ⟨4, _⟩ => ⟨S4x2x8x704, .f32⟩
  | .local _ .vmem, ⟨5, _⟩ => ⟨S4x2x8x704, .f32⟩
  | .local _ .vmem, ⟨6, _⟩ => ⟨S4x256x704, .f32⟩
  | .local _ .vmem, ⟨7, _⟩ => ⟨S4x256x704, .f32⟩
  | .local _ .vmem, ⟨8, _⟩ => ⟨S4x8x704, .f32⟩
  | .local _ .vmem, ⟨9, _⟩ => ⟨S4x8x704, .f32⟩
  | .local _ .vmem, ⟨10, _⟩ => ⟨S4x8x704, .f32⟩
  | .local _ .vmem, ⟨11, _⟩ => ⟨S4x1x704, .f32⟩
  | .local _ .vmem, ⟨12, _⟩ => ⟨S8x704x1024, .bf16⟩
  | .local _ .vmem, ⟨13, _⟩ => ⟨S256x1024, .f32⟩
  | .local _ .vmem, ⟨14, _⟩ => ⟨S256x1024, .f32⟩
  | .local _ .vmem, ⟨15, _⟩ => ⟨S4x2x256x704, .bf16⟩
  | .local _ .vmem, ⟨16, _⟩ => ⟨S4x2x256x704, .bf16⟩
  | .local _ .vmem, ⟨17, _⟩ => ⟨S4x8x704, .f32⟩
  | .local _ .vmem, ⟨18, _⟩ => ⟨S256x1024, .f32⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x8x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x8x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "alpha" => some ((Real.sqrt 2 : ℝ) : EReal)
  | _ => none
-- ==== ReferenceIdeal.lean ====
abbrev S8192x1024 : Shape := ⟨2, ![8192, 1024]⟩
abbrev S1024x5632 : Shape := ⟨2, ![1024, 5632]⟩
abbrev S3x2816 : Shape := ⟨2, ![3, 2816]⟩
abbrev S2816 : Shape := ⟨1, ![2816]⟩
abbrev S8192x2816 : Shape := ⟨2, ![8192, 2816]⟩
abbrev S8192x5632 : Shape := ⟨2, ![8192, 5632]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S1x8192x2816 : Shape := ⟨3, ![1, 8192, 2816]⟩
abbrev S2x8192x2816 : Shape := ⟨3, ![2, 8192, 2816]⟩
abbrev S2x8192x4x704 : Shape := ⟨4, ![2, 8192, 4, 704]⟩
abbrev S4x2x8192x704 : Shape := ⟨4, ![4, 2, 8192, 704]⟩
abbrev S4x2816 : Shape := ⟨2, ![4, 2816]⟩
abbrev S8x2816 : Shape := ⟨2, ![8, 2816]⟩
abbrev S8x4x704 : Shape := ⟨3, ![8, 4, 704]⟩
abbrev S4x8x704 : Shape := ⟨3, ![4, 8, 704]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S8192x2816, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S2x2816, .f32⟩
  | .hbm, ⟨11, _⟩ => ⟨S8194x2816, .f32⟩
  | .hbm, ⟨12, _⟩ => ⟨S_, .f32⟩
  | .hbm, ⟨13, _⟩ => ⟨S2x2816, .f32⟩
  | .hbm, ⟨14, _⟩ => ⟨S1x2816, .f32⟩
  | .hbm, ⟨15, _⟩ => ⟨S2816, .f32⟩
  | .hbm, ⟨16, _⟩ => ⟨S8192x2816, .f32⟩
  | .hbm, ⟨17, _⟩ => ⟨S1x2816, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S2816, .f32⟩
  | .hbm, ⟨25, _⟩ => ⟨S8192x2816, .f32⟩
  | .hbm, ⟨26, _⟩ => ⟨S1x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S1x2816, .f32⟩
  | .hbm, ⟨31, _⟩ => ⟨S2816, .f32⟩
  | .hbm, ⟨32, _⟩ => ⟨S8192x2816, .f32⟩
  | .hbm, ⟨33, _⟩ => ⟨S1x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S2816, .f32⟩
  | .hbm, ⟨62, _⟩ => ⟨S1x2816, .f32⟩
  | .hbm, ⟨63, _⟩ => ⟨S_, .f32⟩
  | .hbm, ⟨64, _⟩ => ⟨S2816, .f32⟩
  | .hbm, ⟨65, _⟩ => ⟨S_, .f32⟩
  | .hbm, ⟨66, _⟩ => ⟨S8194x2816, .f32⟩
  | .hbm, ⟨67, _⟩ => ⟨S1x2816, .f32⟩
  | .hbm, ⟨68, _⟩ => ⟨S_, .f32⟩
  | .hbm, ⟨69, _⟩ => ⟨S3x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S2816, .f32⟩
  | .hbm, ⟨75, _⟩ => ⟨S1x2816, .f32⟩
  | .hbm, ⟨76, _⟩ => ⟨S_, .f32⟩
  | .hbm, ⟨77, _⟩ => ⟨S2816, .f32⟩
  | .hbm, ⟨78, _⟩ => ⟨S_, .f32⟩
  | .hbm, ⟨79, _⟩ => ⟨S8194x2816, .f32⟩
  | .hbm, ⟨80, _⟩ => ⟨S8194x2816, .f32⟩
  | .hbm, ⟨81, _⟩ => ⟨S1x2816, .f32⟩
  | .hbm, ⟨82, _⟩ => ⟨S_, .f32⟩
  | .hbm, ⟨83, _⟩ => ⟨S3x2816, .f32⟩
  | .hbm, ⟨84, _⟩ => ⟨S3x2816, .f32⟩
  | .hbm, ⟨85, _⟩ => ⟨S_, .f32⟩
  | .hbm, ⟨86, _⟩ => ⟨S2816, .f32⟩
  | .hbm, ⟨87, _⟩ => ⟨S1x2816, .f32⟩
  | .hbm, ⟨88, _⟩ => ⟨S_, .f32⟩
  | .hbm, ⟨89, _⟩ => ⟨S2816, .f32⟩
  | .hbm, ⟨90, _⟩ => ⟨S8192x2816, .f32⟩
  | .hbm, ⟨91, _⟩ => ⟨S8192x2816, .f32⟩
  | .hbm, ⟨92, _⟩ => ⟨S8192x2816, .f32⟩
  | .hbm, ⟨93, _⟩ => ⟨S_, .f32⟩
  | .hbm, ⟨94, _⟩ => ⟨S2816, .f32⟩
  | .hbm, ⟨95, _⟩ => ⟨S1x2816, .f32⟩
  | .hbm, ⟨96, _⟩ => ⟨S_, .f32⟩
  | .hbm, ⟨97, _⟩ => ⟨S2816, .f32⟩
  | .hbm, ⟨98, _⟩ => ⟨S_, .f32⟩
  | .hbm, ⟨99, _⟩ => ⟨S8194x2816, .f32⟩
  | .hbm, ⟨100, _⟩ => ⟨S8194x2816, .f32⟩
  | .hbm, ⟨101, _⟩ => ⟨S1x2816, .f32⟩
  | .hbm, ⟨102, _⟩ => ⟨S_, .f32⟩
  | .hbm, ⟨103, _⟩ => ⟨S3x2816, .f32⟩
  | .hbm, ⟨104, _⟩ => ⟨S3x2816, .f32⟩
  | .hbm, ⟨105, _⟩ => ⟨S2x2816, .f32⟩
  | .hbm, ⟨106, _⟩ => ⟨S8192x2816, .f32⟩
  | .hbm, ⟨107, _⟩ => ⟨S8192x5632, .f32⟩
  | .hbm, ⟨108, _⟩ => ⟨S8192x1024, .f32⟩
  | .hbm, ⟨109, _⟩ => ⟨S1x8192x2816, .f32⟩
  | .hbm, ⟨110, _⟩ => ⟨S1x8192x2816, .f32⟩
  | .hbm, ⟨111, _⟩ => ⟨S2x8192x2816, .f32⟩
  | .hbm, ⟨112, _⟩ => ⟨S2x8192x4x704, .f32⟩
  | .hbm, ⟨113, _⟩ => ⟨S4x2x8192x704, .f32⟩
  | .hbm, ⟨114, _⟩ => ⟨S1x2816, .f32⟩
  | .hbm, ⟨115, _⟩ => ⟨S_, .f32⟩
  | .hbm, ⟨116, _⟩ => ⟨S4x2816, .f32⟩
  | .hbm, ⟨117, _⟩ => ⟨S8x2816, .f32⟩
  | .hbm, ⟨118, _⟩ => ⟨S8x4x704, .f32⟩
  | .hbm, ⟨119, _⟩ => ⟨S4x8x704, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S4x2x8192x704, .bf16⟩
  | .hbm, ⟨124, _⟩ => ⟨S8192x1024, .f32⟩
  | .hbm, ⟨125, _⟩ => ⟨S8192x1024, .f32⟩
  | .hbm, ⟨126, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_1 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]

def κ : String → Option EReal := fun
  | "alpha" => some ((Real.sqrt 2 : ℝ) : EReal)
  | _ => none
-- ==== FoxKernel.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S4x2x8192 : Shape := ⟨3, ![4, 2, 8192]⟩
abbrev S4x8x8192 : Shape := ⟨3, ![4, 8, 8192]⟩
abbrev S8192x8x1 : Shape := ⟨3, ![8192, 8, 1]⟩
abbrev S8192x8x58 : Shape := ⟨3, ![8192, 8, 58]⟩
abbrev S8192x4x64 : Shape := ⟨3, ![8192, 4, 64]⟩
abbrev S8192x4x128 : Shape := ⟨3, ![8192, 4, 128]⟩
abbrev S8192x4x1x128 : Shape := ⟨4, ![8192, 4, 1, 128]⟩
abbrev S8192x4x2x128 : Shape := ⟨4, ![8192, 4, 2, 128]⟩
abbrev S8192x1024 : Shape := ⟨2, ![8192, 1024]⟩
abbrev S8192x8x63 : Shape := ⟨3, ![8192, 8, 63]⟩
abbrev S8192x256 : Shape := ⟨2, ![8192, 256]⟩
abbrev S1x8x8192 : Shape := ⟨3, ![1, 8, 8192]⟩
abbrev S1024x256 : Shape := ⟨2, ![1024, 256]⟩
abbrev S8192x128 : Shape := ⟨2, ![8192, 128]⟩
abbrev S1024x128 : Shape := ⟨2, ![1024, 128]⟩
abbrev S1x128 : Shape := ⟨2, ![1, 128]⟩
abbrev S128x1024 : Shape := ⟨2, ![128, 1024]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S128x1 : Shape := ⟨2, ![128, 1]⟩

abbrev nBuf : Space → Nat
  | .hbm => 140
  | .vmem => 18
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8192x8x64, .f32⟩
  | 7 => ⟨S8192x8x64, .f32⟩
  | 8 => ⟨S8192x8x64, .f32⟩
  | 9 => ⟨S8x8192x8192, .f32⟩
  | 10 => ⟨S_, .f32⟩
  | 11 => ⟨S8x8192x8192, .f32⟩
  | 12 => ⟨S8x8192x8192, .f32⟩
  | 13 => ⟨S8x8192, .f32⟩
  | 14 => ⟨S8x8192x1, .f32⟩
  | 15 => ⟨S8x8192x8192, .f32⟩
  | 16 => ⟨S8x8192x8192, .f32⟩
  | 17 => ⟨S8x8192, .f32⟩
  | 18 => ⟨S8x1x8192, .f32⟩
  | 19 => ⟨S8x8192x8192, .f32⟩
  | 20 => ⟨S8x8192x8192, .f32⟩
  | 21 => ⟨S8192, .i32⟩
  | 22 => ⟨S1x8192, .i32⟩
  | 23 => ⟨S8192x1, .i32⟩
  | 24 => ⟨S8192x8192, .i32⟩
  | 25 => ⟨S8192x8192, .i32⟩
  | 26 => ⟨S8192x8192, .i1⟩
  | 27 => ⟨S1x8192x8192, .i1⟩
  | 28 => ⟨S_, .f32⟩
  | 29 => ⟨S_, .f32⟩
  | 30 => ⟨S8x8192x8192, .i1⟩
  | 31 => ⟨S8x8192x8192, .f32⟩
  | 32 => ⟨S8x8192x8192, .f32⟩
  | 33 => ⟨S_, .f32⟩
  | 34 => ⟨S8x8192, .f32⟩
  | 35 => ⟨S8x8192x1, .f32⟩
  | 36 => ⟨S8x8192x8192, .f32⟩
  | 37 => ⟨S8x8192x8192, .f32⟩
  | 38 => ⟨S8x8192x8192, .f32⟩
  | 39 => ⟨S_, .f32⟩
  | 40 => ⟨S8x8192, .f32⟩
  | 41 => ⟨S8x8192x1, .f32⟩
  | 42 => ⟨S8x8192x8192, .f32⟩
  | 43 => ⟨S8x8192x8192, .f32⟩
  | 44 => ⟨S8x64x8192, .f32⟩
  | 45 => ⟨S8192x8x64, .f32⟩
  | 46 => ⟨S8192x8x64, .f32⟩
  | 47 => ⟨S_, .f32⟩
  | 48 => ⟨S8192x8, .f32⟩
  | 49 => ⟨S8x8192, .f32⟩
  | 50 => ⟨S_, .f32⟩
  | 51 => ⟨S_, .f32⟩
  | 52 => ⟨S8x8192, .f32⟩
  | 53 => ⟨S8x8192, .f32⟩
  | 54 => ⟨S_, .f32⟩
  | 55 => ⟨S8x8192, .f32⟩
  | 56 => ⟨S8x8192, .f32⟩
  | 57 => ⟨S4x2x8192, .f32⟩
  | 58 => ⟨S4x2x8192, .f32⟩
  | 59 => ⟨S4x2x8192, .f32⟩
  | 60 => ⟨S_, .f32⟩
  | 61 => ⟨S4x2x8192, .f32⟩
  | 62 => ⟨S4x8x8192, .f32⟩
  | 63 => ⟨S8192x8, .bf16⟩
  | 64 => ⟨S8192x8, .f32⟩
  | 65 => ⟨S8192x8, .f32⟩
  | 66 => ⟨S8192x8x1, .f32⟩
  | 67 => ⟨S8192x8, .bf16⟩
  | 68 => ⟨S8192x8, .f32⟩
  | 69 => ⟨S8192x8, .f32⟩
  | 70 => ⟨S8192x8x1, .f32⟩
  | 71 => ⟨S8192x8, .bf16⟩
  | 72 => ⟨S8192x8, .f32⟩
  | 73 => ⟨S8192x8, .f32⟩
  | 74 => ⟨S8192x8x1, .f32⟩
  | 75 => ⟨S_, .f32⟩
  | 76 => ⟨S8192x8x1, .f32⟩
  | 77 => ⟨S_, .f32⟩
  | 78 => ⟨S8192x8x58, .f32⟩
  | 79 => ⟨S_, .f32⟩
  | 80 => ⟨S8192x8x64, .f32⟩
  | 81 => ⟨S8192x8x64, .f32⟩
  | 82 => ⟨S8192x8x64, .f32⟩
  | 83 => ⟨S8192x4x64, .f32⟩
  | 84 => ⟨S8192x4x64, .f32⟩
  | 85 => ⟨S8192x4x128, .f32⟩
  | 86 => ⟨S8192x4x64, .f32⟩
  | 87 => ⟨S8192x4x64, .f32⟩
  | 88 => ⟨S8192x4x128, .f32⟩
  | 89 => ⟨S8192x4x1x128, .f32⟩
  | 90 => ⟨S8192x4x1x128, .f32⟩
  | 91 => ⟨S8192x4x2x128, .f32⟩
  | 92 => ⟨S8192x1024, .f32⟩
  | 93 => ⟨S8192x1024, .bf16⟩
  | 94 => ⟨S8192x8x1, .f32⟩
  | 95 => ⟨S8192x8x1, .f32⟩
  | 96 => ⟨S8192x8x1, .f32⟩
  | 97 => ⟨S8192x8x64, .f32⟩
  | 98 => ⟨S8192x4x64, .f32⟩
  | 99 => ⟨S8192x4x64, .f32⟩
  | 100 => ⟨S8192x4x128, .f32⟩
  | 101 => ⟨S8192x4x64, .f32⟩
  | 102 => ⟨S8192x4x64, .f32⟩
  | 103 => ⟨S8192x4x128, .f32⟩
  | 104 => ⟨S8192x4x1x128, .f32⟩
  | 105 => ⟨S8192x4x1x128, .f32⟩
  | 106 => ⟨S8192x4x2x128, .f32⟩
  | 107 => ⟨S8192x1024, .f32⟩
  | 108 => ⟨S8192x1024, .bf16⟩
  | 109 => ⟨S_, .f32⟩
  | 110 => ⟨S8192x8x63, .f32⟩
  | 111 => ⟨S8192x8x64, .f32⟩
  | 112 => ⟨S8192x4x64, .f32⟩
  | 113 => ⟨S8192x4x64, .f32⟩
  | 114 => ⟨S8192x4x128, .f32⟩
  | 115 => ⟨S8192x4x64, .f32⟩
  | 116 => ⟨S8192x4x64, .f32⟩
  | 117 => ⟨S8192x4x128, .f32⟩
  | 118 => ⟨S8192x4x1x128, .f32⟩
  | 119 => ⟨S8192x4x1x128, .f32⟩
  | 120 => ⟨S8192x4x2x128, .f32⟩
  | 121 => ⟨S8192x1024, .f32⟩
  | 122 => ⟨S8192x1024, .bf16⟩
  | 123 => ⟨S_, .f32⟩
  | 124 => ⟨S8192x8x64, .f32⟩
  | 125 => ⟨S8192x4x64, .f32⟩
  | 126 => ⟨S8192x4x64, .f32⟩
  | 127 => ⟨S8192x4x128, .f32⟩
  | _ => ⟨S8192x512, .f32⟩

abbrev hbmTy0_1 (i : Nat) : BufTy := match i % 128 with
  | 0 => ⟨S8192x4x64, .f32⟩
  | 1 => ⟨S8192x4x64, .f32⟩
  | 2 => ⟨S8192x4x128, .f32⟩
  | 3 => ⟨S8192x4x1x128, .f32⟩
  | 4 => ⟨S8192x4x1x128, .f32⟩
  | 5 => ⟨S8192x4x2x128, .f32⟩
  | 6 => ⟨S8192x1024, .f32⟩
  | 7 => ⟨S8192x1024, .bf16⟩
  | 8 => ⟨S8192x512, .f32⟩
  | 9 => ⟨S8192x512, .bf16⟩
  | 10 => ⟨S8192x512, .bf16⟩
  | 11 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S1x8x8192, .f32⟩
  | .local _ .vmem, ⟨5, _⟩ => ⟨S1x8x8192, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S8192x128, .f32⟩
  | .local _ .vmem, ⟨11, _⟩ => ⟨S8192x128, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_11 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115_0 : Ref sig .tc := ⟨.hbm, 136, rfl⟩
abbrev main_v115_1 : Ref sig .tc := ⟨.hbm, 137, rfl⟩
abbrev main_v115_2 : Ref sig .tc := ⟨.hbm, 138, rfl⟩
abbrev main_v115_3 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v20 : BitVec 32 := Scalar.muli arg1 c1024_i32
  v20
def k0_off1 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v23 : Index := Scalar.indexCast v21
  let c0_9 : Index := 0#32
  ![v23.toNat, 0]
def k0_off2 (i : grid0.Coords) : Fin 3 → Nat :=
  let c0_14 : Index := 0#32
  let c0_15 : Index := 0#32
  let arg1 : BitVec 32 := BitVec.ofNat 32 (i 1).val
  let c1024_i32 : BitVec 32 := 1024#32
  let v20 : BitVec 32 := Scalar.muli arg1 c1024_i32
  let v21 : BitVec 32 := v20
  let v37 : Index := Scalar.indexCast v21
  ![0, 0, v37.toNat]
def k0_off3 (i : grid0.Coords) : Fin 3 → Nat :=
  let c0_16 : Index := 0#32
  let c4 : Index := 4#32
  let arg1 : BitVec 32 := BitVec.ofNat 32 (i 1).val
  let c1024_i32 : BitVec 32 := 1024#32
  let v20 : BitVec 32 := Scalar.muli arg1 c1024_i32
  let v21 : BitVec 32 := v20
  let v45 : Index := Scalar.indexCast v21
  ![0, 4, v45.toNat]
def k0_off4 (i : grid0.Coords) : Fin 3 → Nat :=
  let c0_18 : Index := 0#32
  let c2 : Index := 2#32
  let arg1 : BitVec 32 := BitVec.ofNat 32 (i 1).val
  let c1024_i32 : BitVec 32 := 1024#32
  let v20 : BitVec 32 := Scalar.muli arg1 c1024_i32
  let v21 : BitVec 32 := v20
  let v51 : Index := Scalar.indexCast v21
  ![0, 2, v51.toNat]
def k0_off5 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v76 : Index := Scalar.indexCast v21
  let c128_25 : Index := 128#32
  ![v76.toNat, 128]
def k0_off6 (i : grid0.Coords) : Fin 3 → Nat :=
  let c0_30 : Index := 0#32
  let c1 : Index := 1#32
  let arg1 : BitVec 32 := BitVec.ofNat 32 (i 1).val
  let c1024_i32 : BitVec 32 := 1024#32
  let v20 : BitVec 32 := Scalar.muli arg1 c1024_i32
  let v21 : BitVec 32 := v20
  let v90 : Index := Scalar.indexCast v21
  ![0, 1, v90.toNat]
def k0_off7 (i : grid0.Coords) : Fin 3 → Nat :=
  let c0_31 : Index := 0#32
  let c5 : Index := 5#32
  let arg1 : BitVec 32 := BitVec.ofNat 32 (i 1).val
  let c1024_i32 : BitVec 32 := 1024#32
  let v20 : BitVec 32 := Scalar.muli arg1 c1024_i32
  let v21 : BitVec 32 := v20
  let v98 : Index := Scalar.indexCast v21
  ![0, 5, v98.toNat]
def k0_off8 (i : grid0.Coords) : Fin 3 → Nat :=
  let c0_33 : Index := 0#32
  let c3 : Index := 3#32
  let arg1 : BitVec 32 := BitVec.ofNat 32 (i 1).val
  let c1024_i32 : BitVec 32 := 1024#32
  let v20 : BitVec 32 := Scalar.muli arg1 c1024_i32
  let v21 : BitVec 32 := v20
  let v104 : Index := Scalar.indexCast v21
  ![0, 3, v104.toNat]
def k0_off9 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v128 : Index := Scalar.indexCast v21
  let c0_40 : Index := 0#32
  ![v128.toNat, 0]
@[reducible] def k0_t1_loop (i : grid0.Coords) : Scf.Loop 32 :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_44 : BitVec 32 := 1#32
  ⟨v137, v142, c1_i32_44⟩
def k0_mult2 (i : grid0.Coords) (k0_t1 : Fin (k0_t1_loop i).trips) : BitVec 32 :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  v181
def k0_off10 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v184 : Index := Scalar.indexCast v182
  let c0_61 : Index := 0#32
  ![v184.toNat, 0]
def k0_off11 (i : grid0.Coords) (k0_t1 : Fin (k0_t1_loop i).trips) : Fin 3 → Nat :=
  let c0_65 : Index := 0#32
  let c0_66 : Index := 0#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v193 : Index := Scalar.indexCast v182
  ![0, 0, v193.toNat]
def k0_off12 (i : grid0.Coords) (k0_t1 : Fin (k0_t1_loop i).trips) : Fin 3 → Nat :=
  let c0_67 : Index := 0#32
  let c4_68 : Index := 4#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v201 : Index := Scalar.indexCast v182
  ![0, 4, v201.toNat]
def k0_off13 (i : grid0.Coords) (k0_t1 : Fin (k0_t1_loop i).trips) : Fin 3 → Nat :=
  let c0_70 : Index := 0#32
  let c2_71 : Index := 2#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v207 : Index := Scalar.indexCast v182
  ![0, 2, v207.toNat]
def k0_off14 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v232 : Index := Scalar.indexCast v182
  let c128_79 : Index := 128#32
  ![v232.toNat, 128]
def k0_off15 (i : grid0.Coords) (k0_t1 : Fin (k0_t1_loop i).trips) : Fin 3 → Nat :=
  let c0_83 : Index := 0#32
  let c1_84 : Index := 1#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v241 : Index := Scalar.indexCast v182
  ![0, 1, v241.toNat]
def k0_off16 (i : grid0.Coords) (k0_t1 : Fin (k0_t1_loop i).trips) : Fin 3 → Nat :=
  let c0_85 : Index := 0#32
  let c5_86 : Index := 5#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v249 : Index := Scalar.indexCast v182
  ![0, 5, v249.toNat]
def k0_off17 (i : grid0.Coords) (k0_t1 : Fin (k0_t1_loop i).trips) : Fin 3 → Nat :=
  let c0_88 : Index := 0#32
  let c3_89 : Index := 3#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v255 : Index := Scalar.indexCast v182
  ![0, 3, v255.toNat]
def k0_off18 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v280 : Index := Scalar.indexCast v182
  let c0_97 : Index := 0#32
  ![v280.toNat, 0]
@[reducible] def k0_t2_loop (i : grid0.Coords) : Scf.Loop 32 :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let v139 : BitVec 32 := Scalar.addi v137 v138
  let c1_i32_45 : BitVec 32 := 1#32
  ⟨v142, v139, c1_i32_45⟩
def k0_mult3 (i : grid0.Coords) (k0_t2 : Fin (k0_t2_loop i).trips) : BitVec 32 :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  v181
def k0_off19 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v184 : Index := Scalar.indexCast v182
  let c0_61 : Index := 0#32
  ![v184.toNat, 0]
def k0_off20 (i : grid0.Coords) (k0_t2 : Fin (k0_t2_loop i).trips) : Fin 3 → Nat :=
  let c0_65 : Index := 0#32
  let c0_66 : Index := 0#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v193 : Index := Scalar.indexCast v182
  ![0, 0, v193.toNat]
def k0_off21 (i : grid0.Coords) (k0_t2 : Fin (k0_t2_loop i).trips) : Fin 3 → Nat :=
  let c0_67 : Index := 0#32
  let c4_68 : Index := 4#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v201 : Index := Scalar.indexCast v182
  ![0, 4, v201.toNat]
def k0_off22 (i : grid0.Coords) (k0_t2 : Fin (k0_t2_loop i).trips) : Fin 3 → Nat :=
  let c0_70 : Index := 0#32
  let c2_71 : Index := 2#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v207 : Index := Scalar.indexCast v182
  ![0, 2, v207.toNat]
def k0_off23 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v232 : Index := Scalar.indexCast v182
  let c128_79 : Index := 128#32
  ![v232.toNat, 128]
def k0_off24 (i : grid0.Coords) (k0_t2 : Fin (k0_t2_loop i).trips) : Fin 3 → Nat :=
  let c0_83 : Index := 0#32
  let c1_84 : Index := 1#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v241 : Index := Scalar.indexCast v182
  ![0, 1, v241.toNat]
def k0_off25 (i : grid0.Coords) (k0_t2 : Fin (k0_t2_loop i).trips) : Fin 3 → Nat :=
  let c0_85 : Index := 0#32
  let c5_86 : Index := 5#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v249 : Index := Scalar.indexCast v182
  ![0, 5, v249.toNat]
def k0_off26 (i : grid0.Coords) (k0_t2 : Fin (k0_t2_loop i).trips) : Fin 3 → Nat :=
  let c0_88 : Index := 0#32
  let c3_89 : Index := 3#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v255 : Index := Scalar.indexCast v182
  ![0, 3, v255.toNat]
def k0_off27 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v280 : Index := Scalar.indexCast v182
  let c0_97 : Index := 0#32
  ![v280.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FoxKernelIdeal.lean ====
variable {F : FTy → Type} [FloatOps F] [Named F]
def κ : String → Option EReal := fun
  | "log2e" => some (((Real.log 2)⁻¹ : ℝ) : EReal)
  | "mask" => some ⊥
  | _ => none
-- ==== FoxReferenceIdeal.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩
abbrev S8192x4x2 : Shape := ⟨3, ![8192, 4, 2]⟩
abbrev S8192x4x126 : Shape := ⟨3, ![8192, 4, 126]⟩
abbrev S8192x4x128 : Shape := ⟨3, ![8192, 4, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x8x64, .f32⟩
  | .hbm, ⟨6, _⟩ => ⟨S8192x8x64, .f32⟩
  | .hbm, ⟨7, _⟩ => ⟨S8192x8x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S1x8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .i1⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S8x8192, .i1⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x64x8192, .f32⟩
  | .hbm, ⟨73, _⟩ => ⟨S8192x8x64, .f32⟩
  | .hbm, ⟨74, _⟩ => ⟨S8192x8x64, .f32⟩
  | .hbm, ⟨75, _⟩ => ⟨S8x64x8192, .f32⟩
  | .hbm, ⟨76, _⟩ => ⟨S8x8192x8192, .f32⟩
  | .hbm, ⟨77, _⟩ => ⟨S8x64x8192, .f32⟩
  | .hbm, ⟨78, _⟩ => ⟨S8192x8x64, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S8x8192x1, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192, .f32⟩
  | .hbm, ⟨99, _⟩ => ⟨S8x1x8192, .f32⟩
  | .hbm, ⟨100, _⟩ => ⟨S_, .f32⟩
  | .hbm, ⟨101, _⟩ => ⟨S8x8192, .f32⟩
  | .hbm, ⟨102, _⟩ => ⟨S8192x8, .f32⟩
  | .hbm, ⟨103, _⟩ => ⟨S_, .f32⟩
  | .hbm, ⟨104, _⟩ => ⟨S8x8192, .f32⟩
  | .hbm, ⟨105, _⟩ => ⟨S8x8192x1, .f32⟩
  | .hbm, ⟨106, _⟩ => ⟨S_, .f32⟩
  | .hbm, ⟨107, _⟩ => ⟨S8x8192, .f32⟩
  | .hbm, ⟨108, _⟩ => ⟨S8192x8, .f32⟩
  | .hbm, ⟨109, _⟩ => ⟨S8192x8, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S8x8192x64, .f32⟩
  | .hbm, ⟨114, _⟩ => ⟨S8192x8x64, .f32⟩
  | .hbm, ⟨115, _⟩ => ⟨S8x8192x64, .f32⟩
  | .hbm, ⟨116, _⟩ => ⟨S8192x8x64, .f32⟩
  | .hbm, ⟨117, _⟩ => ⟨S8192x4x2, .f32⟩
  | .hbm, ⟨118, _⟩ => ⟨S_, .f32⟩
  | .hbm, ⟨119, _⟩ => ⟨S8192x4x126, .f32⟩
  | .hbm, ⟨120, _⟩ => ⟨S8192x4x128, .f32⟩
  | .hbm, ⟨121, _⟩ => ⟨S8192x512, .f32⟩
  | .hbm, ⟨122, _⟩ => ⟨S8192x512, .f32⟩
  | .hbm, ⟨123, _⟩ => ⟨S8192x512, .bf16⟩
  | .hbm, ⟨124, _⟩ => ⟨S8192x512, .f32⟩
  | .hbm, ⟨125, _⟩ => ⟨S8192x512, .bf16⟩
  | .hbm, ⟨126, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== InGrad.lean ====
abbrev S8192x1024 : Shape := ⟨2, ![8192, 1024]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S8x704x1024 : Shape := ⟨3, ![8, 704, 1024]⟩
abbrev S4096x1024 : Shape := ⟨2, ![4096, 1024]⟩
abbrev S1x1x4096x704 : Shape := ⟨4, ![1, 1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x2x4x704, .f32⟩
  | .hbm, ⟨3, _⟩ => ⟨S4x2x8192x704, .f32⟩
  | .hbm, ⟨4, _⟩ => ⟨S4x2x8192x704, .bf16⟩
  | .hbm, ⟨5, _⟩ => ⟨S8192x1024, .bf16⟩
  | .hbm, ⟨6, _⟩ => ⟨S8x704x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1x4096x704, .bf16⟩
  | .local _ .vmem, ⟨3, _⟩ => ⟨S1x1x4096x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg1.toNat, c0_i32_10.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InGradReferenceIdeal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩
abbrev S8x704x1024 : Shape := ⟨3, ![8, 704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S5632x1024, .f32⟩
  | .hbm, ⟨3, _⟩ => ⟨S1024x5632, .f32⟩
  | .hbm, ⟨4, _⟩ => ⟨S5632x1024, .f32⟩
  | .hbm, ⟨5, _⟩ => ⟨S8x704x1024, .f32⟩
  | .hbm, ⟨6, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutGrad.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutGradReferenceIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024x2816, .f32⟩
  | .hbm, ⟨3, _⟩ => ⟨S2816x1024, .f32⟩
  | .hbm, ⟨4, _⟩ => ⟨S4x704x1024, .f32⟩
  | .hbm, ⟨5, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ZGrad.lean ====
abbrev S8192x1024 : Shape := ⟨2, ![8192, 1024]⟩
abbrev S8192x4360 : Shape := ⟨2, ![8192, 4360]⟩
abbrev S8192x2304 : Shape := ⟨2, ![8192, 2304]⟩
abbrev S8192x2048 : Shape := ⟨2, ![8192, 2048]⟩
abbrev S8192x8 : Shape := ⟨2, ![8192, 8]⟩
abbrev S_ : Shape := ⟨0, ![]⟩
abbrev S8192x248 : Shape := ⟨2, ![8192, 248]⟩
abbrev S8192x4608 : Shape := ⟨2, ![8192, 4608]⟩
abbrev S4608x1024 : Shape := ⟨2, ![4608, 1024]⟩
abbrev S1x4608 : Shape := ⟨2, ![1, 4608]⟩
abbrev S4096x768 : Shape := ⟨2, ![4096, 768]⟩
abbrev S4096x1024 : Shape := ⟨2, ![4096, 1024]⟩
abbrev S768x1024 : Shape := ⟨2, ![768, 1024]⟩
abbrev S1x768 : Shape := ⟨2, ![1, 768]⟩
abbrev S768 : Shape := ⟨1, ![768]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x4360, .f32⟩
  | .hbm, ⟨2, _⟩ => ⟨S8192x2304, .f32⟩
  | .hbm, ⟨3, _⟩ => ⟨S8192x2048, .f32⟩
  | .hbm, ⟨4, _⟩ => ⟨S8192x8, .f32⟩
  | .hbm, ⟨5, _⟩ => ⟨S_, .f32⟩
  | .hbm, ⟨6, _⟩ => ⟨S8192x248, .f32⟩
  | .hbm, ⟨7, _⟩ => ⟨S8192x4608, .f32⟩
  | .hbm, ⟨8, _⟩ => ⟨S8192x4608, .bf16⟩
  | .hbm, ⟨9, _⟩ => ⟨S8192x1024, .bf16⟩
  | .hbm, ⟨10, _⟩ => ⟨S4608x1024, .bf16⟩
  | .hbm, ⟨11, _⟩ => ⟨S1x4608, .f32⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | .local _ .vmem, ⟨6, _⟩ => ⟨S1x768, .f32⟩
  | .local _ .vmem, ⟨7, _⟩ => ⟨S1x768, .f32⟩
  | .local _ .vmem, ⟨8, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 1, 2], ![false, false, false]⟩

def k0_cond2 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ZGradReferenceIdeal.lean ====
abbrev S8192x1024 : Shape := ⟨2, ![8192, 1024]⟩
abbrev S8192x4360 : Shape := ⟨2, ![8192, 4360]⟩
abbrev S_ : Shape := ⟨0, ![]⟩
abbrev S1024x4360 : Shape := ⟨2, ![1024, 4360]⟩
abbrev S4360 : Shape := ⟨1, ![4360]⟩
abbrev S1x4360 : Shape := ⟨2, ![1, 4360]⟩
abbrev S4360x1024 : Shape := ⟨2, ![4360, 1024]⟩
abbrev S2304x1024 : Shape := ⟨2, ![2304, 1024]⟩
abbrev S8x1024 : Shape := ⟨2, ![8, 1024]⟩
abbrev S2048x1024 : Shape := ⟨2, ![2048, 1024]⟩
abbrev S2304 : Shape := ⟨1, ![2304]⟩
abbrev S8 : Shape := ⟨1, ![8]⟩
abbrev S2048 : Shape := ⟨1, ![2048]⟩
abbrev S248x1024 : Shape := ⟨2, ![248, 1024]⟩
abbrev S4608x1024 : Shape := ⟨2, ![4608, 1024]⟩
abbrev S248 : Shape := ⟨1, ![248]⟩
abbrev S4608 : Shape := ⟨1, ![4608]⟩
abbrev S1x4608 : Shape := ⟨2, ![1, 4608]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4360, .f32⟩
  | .hbm, ⟨2, _⟩ => ⟨S_, .f32⟩
  | .hbm, ⟨3, _⟩ => ⟨S1024x4360, .f32⟩
  | .hbm, ⟨4, _⟩ => ⟨S_, .f32⟩
  | .hbm, ⟨5, _⟩ => ⟨S4360, .f32⟩
  | .hbm, ⟨6, _⟩ => ⟨S8192x4360, .f32⟩
  | .hbm, ⟨7, _⟩ => ⟨S1x4360, .f32⟩
  | .hbm, ⟨8, _⟩ => ⟨S8192x4360, .f32⟩
  | .hbm, ⟨9, _⟩ => ⟨S8192x4360, .f32⟩
  | .hbm, ⟨10, _⟩ => ⟨S8192x4360, .f32⟩
  | .hbm, ⟨11, _⟩ => ⟨S_, .f32⟩
  | .hbm, ⟨12, _⟩ => ⟨S4360, .f32⟩
  | .hbm, ⟨13, _⟩ => ⟨S1x4360, .f32⟩
  | .hbm, ⟨14, _⟩ => ⟨S_, .f32⟩
  | .hbm, ⟨15, _⟩ => ⟨S4360, .f32⟩
  | .hbm, ⟨16, _⟩ => ⟨S4360x1024, .f32⟩
  | .hbm, ⟨17, _⟩ => ⟨S1024x4360, .f32⟩
  | .hbm, ⟨18, _⟩ => ⟨S4360x1024, .f32⟩
  | .hbm, ⟨19, _⟩ => ⟨S2304x1024, .f32⟩
  | .hbm, ⟨20, _⟩ => ⟨S8x1024, .f32⟩
  | .hbm, ⟨21, _⟩ => ⟨S2048x1024, .f32⟩
  | .hbm, ⟨22, _⟩ => ⟨S2304, .f32⟩
  | .hbm, ⟨23, _⟩ => ⟨S8, .f32⟩
  | .hbm, ⟨24, _⟩ => ⟨S2048, .f32⟩
  | .hbm, ⟨25, _⟩ => ⟨S_, .f32⟩
  | .hbm, ⟨26, _⟩ => ⟨S248x1024, .f32⟩
  | .hbm, ⟨27, _⟩ => ⟨S4608x1024, .f32⟩
  | .hbm, ⟨28, _⟩ => ⟨S_, .f32⟩
  | .hbm, ⟨29, _⟩ => ⟨S248, .f32⟩
  | .hbm, ⟨30, _⟩ => ⟨S4608, .f32⟩
  | .hbm, ⟨31, _⟩ => ⟨S4608x1024, .bf16⟩
  | .hbm, ⟨32, _⟩ => ⟨S1x4608, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== HGrad.lean ====
abbrev S8192x4360 : Shape := ⟨2, ![8192, 4360]⟩
abbrev S1024x4360 : Shape := ⟨2, ![1024, 4360]⟩
abbrev S8192x1024 : Shape := ⟨2, ![8192, 1024]⟩
abbrev S8192x2304 : Shape := ⟨2, ![8192, 2304]⟩
abbrev S8192x2048 : Shape := ⟨2, ![8192, 2048]⟩
abbrev S8192x8 : Shape := ⟨2, ![8192, 8]⟩
abbrev S_ : Shape := ⟨0, ![]⟩
abbrev S8192x248 : Shape := ⟨2, ![8192, 248]⟩
abbrev S8192x4608 : Shape := ⟨2, ![8192, 4608]⟩
abbrev S4360x1024 : Shape := ⟨2, ![4360, 1024]⟩
abbrev S2304x1024 : Shape := ⟨2, ![2304, 1024]⟩
abbrev S2048x1024 : Shape := ⟨2, ![2048, 1024]⟩
abbrev S8x1024 : Shape := ⟨2, ![8, 1024]⟩
abbrev S248x1024 : Shape := ⟨2, ![248, 1024]⟩
abbrev S4608x1024 : Shape := ⟨2, ![4608, 1024]⟩
abbrev S512x4608 : Shape := ⟨2, ![512, 4608]⟩
abbrev S512x1024 : Shape := ⟨2, ![512, 1024]⟩

abbrev nBuf : Space → Nat
  | .hbm => 19
  | .vmem => 7
  | .smem => 0
  | _ => 0

abbrev bufTy : (tb : Table) → Fin (tcTables nBuf tb) → BufTy
  | .hbm, ⟨0, _⟩ => ⟨S8192x4360, .f32⟩
  | .hbm, ⟨1, _⟩ => ⟨S1024x4360, .f32⟩
  | .hbm, ⟨2, _⟩ => ⟨S8192x1024, .f32⟩
  | .hbm, ⟨3, _⟩ => ⟨S8192x2304, .f32⟩
  | .hbm, ⟨4, _⟩ => ⟨S8192x2048, .f32⟩
  | .hbm, ⟨5, _⟩ => ⟨S8192x8, .f32⟩
  | .hbm, ⟨6, _⟩ => ⟨S_, .f32⟩
  | .hbm, ⟨7, _⟩ => ⟨S8192x248, .f32⟩
  | .hbm, ⟨8, _⟩ => ⟨S8192x4608, .f32⟩
  | .hbm, ⟨9, _⟩ => ⟨S8192x4608, .bf16⟩
  | .hbm, ⟨10, _⟩ => ⟨S4360x1024, .f32⟩
  | .hbm, ⟨11, _⟩ => ⟨S2304x1024, .f32⟩
  | .hbm, ⟨12, _⟩ => ⟨S2048x1024, .f32⟩
  | .hbm, ⟨13, _⟩ => ⟨S8x1024, .f32⟩
  | .hbm, ⟨14, _⟩ => ⟨S_, .f32⟩
  | .hbm, ⟨15, _⟩ => ⟨S248x1024, .f32⟩
  | .hbm, ⟨16, _⟩ => ⟨S4608x1024, .f32⟩
  | .hbm, ⟨17, _⟩ => ⟨S4608x1024, .bf16⟩
  | .hbm, ⟨18, _⟩ => ⟨S8192x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HGradIdeal.lean ====
variable {F : FTy → Type} [FloatOps F] [Named F]
def κ : String → Option EReal := fun
  | "alpha" => some ((Real.sqrt 2 : ℝ) : EReal)
  | _ => none
-- ==== HGradReferenceIdeal.lean ====
abbrev S8192x4360 : Shape := ⟨2, ![8192, 4360]⟩
abbrev S1024x4360 : Shape := ⟨2, ![1024, 4360]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4360, .f32⟩
  | .hbm, ⟨1, _⟩ => ⟨S1024x4360, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x4360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== ZProj.lean ====
abbrev S8192x1024 : Shape := ⟨2, ![8192, 1024]⟩
abbrev S1024x4360 : Shape := ⟨2, ![1024, 4360]⟩
abbrev S4360 : Shape := ⟨1, ![4360]⟩
abbrev S4360x1024 : Shape := ⟨2, ![4360, 1024]⟩
abbrev S2304x1024 : Shape := ⟨2, ![2304, 1024]⟩
abbrev S2048x1024 : Shape := ⟨2, ![2048, 1024]⟩
abbrev S8x1024 : Shape := ⟨2, ![8, 1024]⟩
abbrev S_ : Shape := ⟨0, ![]⟩
abbrev S248x1024 : Shape := ⟨2, ![248, 1024]⟩
abbrev S4608x1024 : Shape := ⟨2, ![4608, 1024]⟩
abbrev S1x4360 : Shape := ⟨2, ![1, 4360]⟩
abbrev S1x2304 : Shape := ⟨2, ![1, 2304]⟩
abbrev S1x2048 : Shape := ⟨2, ![1, 2048]⟩
abbrev S1x8 : Shape := ⟨2, ![1, 8]⟩
abbrev S1x248 : Shape := ⟨2, ![1, 248]⟩
abbrev S1x4608 : Shape := ⟨2, ![1, 4608]⟩
abbrev S8192x2304 : Shape := ⟨2, ![8192, 2304]⟩
abbrev S512x1024 : Shape := ⟨2, ![512, 1024]⟩
abbrev S512x2304 : Shape := ⟨2, ![512, 2304]⟩

abbrev nBuf : Space → Nat
  | .hbm => 21
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x4360, .f32⟩
  | .hbm, ⟨2, _⟩ => ⟨S4360, .f32⟩
  | .hbm, ⟨3, _⟩ => ⟨S4360x1024, .f32⟩
  | .hbm, ⟨4, _⟩ => ⟨S2304x1024, .f32⟩
  | .hbm, ⟨5, _⟩ => ⟨S2048x1024, .f32⟩
  | .hbm, ⟨6, _⟩ => ⟨S8x1024, .f32⟩
  | .hbm, ⟨7, _⟩ => ⟨S_, .f32⟩
  | .hbm, ⟨8, _⟩ => ⟨S248x1024, .f32⟩
  | .hbm, ⟨9, _⟩ => ⟨S4608x1024, .f32⟩
  | .hbm, ⟨10, _⟩ => ⟨S4608x1024, .bf16⟩
  | .hbm, ⟨11, _⟩ => ⟨S1x4360, .f32⟩
  | .hbm, ⟨12, _⟩ => ⟨S1x2304, .f32⟩
  | .hbm, ⟨13, _⟩ => ⟨S1x2048, .f32⟩
  | .hbm, ⟨14, _⟩ => ⟨S1x8, .f32⟩
  | .hbm, ⟨15, _⟩ => ⟨S_, .f32⟩
  | .hbm, ⟨16, _⟩ => ⟨S1x248, .f32⟩
  | .hbm, ⟨17, _⟩ => ⟨S1x4608, .f32⟩
  | .hbm, ⟨18, _⟩ => ⟨S8192x2304, .bf16⟩
  | .hbm, ⟨19, _⟩ => ⟨S8192x2304, .f32⟩
  | .hbm, ⟨20, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4608x1024, .bf16⟩
  | .local _ .vmem, ⟨3, _⟩ => ⟨S1x4608, .f32⟩
  | .local _ .vmem, ⟨4, _⟩ => ⟨S512x2304, .bf16⟩
  | .local _ .vmem, ⟨5, _⟩ => ⟨S512x2304, .bf16⟩
  | .local _ .vmem, ⟨6, _⟩ => ⟨S512x2304, .f32⟩
  | .local _ .vmem, ⟨7, _⟩ => ⟨S512x2304, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ZProjReferenceIdeal.lean ====
abbrev S8192x1024 : Shape := ⟨2, ![8192, 1024]⟩
abbrev S1024x4360 : Shape := ⟨2, ![1024, 4360]⟩
abbrev S4360 : Shape := ⟨1, ![4360]⟩
abbrev S8192x4360 : Shape := ⟨2, ![8192, 4360]⟩
abbrev S1x4360 : Shape := ⟨2, ![1, 4360]⟩
abbrev S8192x2304 : Shape := ⟨2, ![8192, 2304]⟩
abbrev S8192x8 : Shape := ⟨2, ![8192, 8]⟩
abbrev S8192x2048 : Shape := ⟨2, ![8192, 2048]⟩
abbrev S_ : Shape := ⟨0, ![]⟩
abbrev S8192x248 : Shape := ⟨2, ![8192, 248]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4360, .f32⟩
  | .hbm, ⟨2, _⟩ => ⟨S4360, .f32⟩
  | .hbm, ⟨3, _⟩ => ⟨S8192x4360, .f32⟩
  | .hbm, ⟨4, _⟩ => ⟨S1x4360, .f32⟩
  | .hbm, ⟨5, _⟩ => ⟨S8192x4360, .f32⟩
  | .hbm, ⟨6, _⟩ => ⟨S8192x4360, .f32⟩
  | .hbm, ⟨7, _⟩ => ⟨S8192x2304, .f32⟩
  | .hbm, ⟨8, _⟩ => ⟨S8192x8, .f32⟩
  | .hbm, ⟨9, _⟩ => ⟨S8192x2048, .f32⟩
  | .hbm, ⟨10, _⟩ => ⟨S8192x2304, .bf16⟩
  | .hbm, ⟨11, _⟩ => ⟨S_, .f32⟩
  | .hbm, ⟨12, _⟩ => ⟨S8192x248, .f32⟩
  | .hbm, ⟨13, _⟩ => ⟨S8192x2304, .f32⟩
  | .hbm, ⟨14, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S4x704x1024, .f32⟩
  | .hbm, ⟨9, _⟩ => ⟨S4x704x1024, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnOutIdeal.lean ====
variable {F : FTy → Type} [FloatOps F] [Named F]
def κ : String → Option EReal := fun
  | "alpha" => some ((Real.sqrt 2 : ℝ) : EReal)
  | _ => none
-- ==== FfnOutReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== MixOut.lean ====
abbrev S8192x512 : Shape := ⟨2, ![8192, 512]⟩
abbrev S8192x2304 : Shape := ⟨2, ![8192, 2304]⟩
abbrev S8192x1024 : Shape := ⟨2, ![8192, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2304, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S8192x512, .bf16⟩
  | .hbm, ⟨10, _⟩ => ⟨S8192x512, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixOutIdeal.lean ====
variable {F : FTy → Type} [FloatOps F] [Named F]
def κ : String → Option EReal := fun
  | "alpha" => some ((Real.sqrt 2 : ℝ) : EReal)
  | _ => none
-- ==== MixOutReferenceIdeal.lean ====
abbrev S8192x512 : Shape := ⟨2, ![8192, 512]⟩
abbrev S8192x2304 : Shape := ⟨2, ![8192, 2304]⟩
abbrev S8192x1024 : Shape := ⟨2, ![8192, 1024]⟩
abbrev S512x1024 : Shape := ⟨2, ![512, 1024]⟩
abbrev S1024x1024 : Shape := ⟨2, ![1024, 1024]⟩
abbrev S1024 : Shape := ⟨1, ![1024]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2304, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S8192x256, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.FoxKernelIdealLoops.lean ====
module

public import proofs.«01_k».proof.Proof.Gen.FoxKernelIdeal.Skeleton
public import Idealize.ShloMosaic.Lib.Exec
public import Idealize.ShloMosaic.Lib.Tactic
public import Idealize.ShloMosaic.Lib.Pipeline.Kit

@[expose] public section

/-! The two query-tile loops of the forgetting-attention gradient: what one trip reads and stores, the state after `n` trips, and the
loop rule built from them. The accumulator array `dq` is carried as the value read back after each trip, because every trip reads and
writes it again. -/

set_option maxRecDepth 8192
set_option maxHeartbeats 4000000

noncomputable section

namespace Cert.FoxKernelIdeal.Body

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

-- The kernel's operands: queries and output gradients, statistics, the query gradient, keys and values, the results in
-- bf16, the gate's gradient; and the loop's accumulators.
local notation "𝕄Q" => Memref sig Kind.tc Space.vmem S8192x256 EltTy.bf16
local notation "𝕄S" => Memref sig Kind.tc Space.vmem S1x8x8192 EltTy.f32
local notation "𝕄D" => Memref sig Kind.tc Space.vmem S8192x128 EltTy.f32
local notation "𝕄K" => Memref sig Kind.tc Space.vmem S1024x256 EltTy.bf16
local notation "𝕄O" => Memref sig Kind.tc Space.vmem S1024x128 EltTy.bf16
local notation "𝕄C" => Memref sig Kind.tc Space.vmem S1024x128 EltTy.f32
local notation "𝕄Acc" => FVec F S1024x128 FTy.f32 × FVec F S1024x128 FTy.f32 × FVec F S1024x1 FTy.f32 × FVec F S1024x128 FTy.f32 × FVec F S1024x128 FTy.f32 × FVec F S1024x1 FTy.f32
/-! ## `cc0_fox_bwd` -/

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (init : 𝕄Acc) :=
  Idealize.ShloMosaic.LoopInv (M := MT nD τ sig Ix (Elt F) Name U Lvl) Idealize.ShloMosaic.frame (wpE defs₀ 𝒱 (c : Thread nD τ) bd) E
    (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137)

/-! ### `k0_t1_loop i` -/

abbrev Trip_k0_t1 (c : Dev nD) (arg2 : 𝕄Q) (arg3 : 𝕄Q) (arg4 : 𝕄S) (arg7 : 𝕄D) (X_arg2 : BufTy.Contents (Elt F) arg2.view.ty) (X_arg3 : BufTy.Contents (Elt F) arg3.view.ty) (X_arg4 : BufTy.Contents (Elt F) arg4.view.ty) (f_arg7 : BufTy.Contents (Elt F) arg7.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} f_arg7))

@[irreducible] def trip_k0_t1 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (k : Fin (k0_t1_loop i).trips) :
    Σ' (R_k0_t1 : ((𝕄Acc) → BufTy.Contents (Elt F) arg7.view.ty → 𝕄Acc)) , { L_arg7 : ((𝕄Acc) → BufTy.Contents (Elt F) arg7.view.ty → List (View.Piece (Elt F) S8192x128 .f32)) // ∀ (E : Set ℕ) (acc : 𝕄Acc) (f_arg7 : BufTy.Contents (Elt F) arg7.view.ty),
      Trip_k0_t1 (F := F) c arg2 arg3 arg4 arg7 X_arg2 X_arg3 X_arg4 f_arg7
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 k acc)
          (fun yld => iprop(⌜yld = R_k0_t1 acc f_arg7⌝ ∗ Trip_k0_t1 (F := F) c arg2 arg3 arg4 arg7 X_arg2 X_arg3 X_arg4 (arg7.view.writes (Elt F) f_arg7 (L_arg7 acc f_arg7)))) } := by
  refine ⟨?_, ?_, fun E acc f_arg7 => ?run⟩
  case run =>
    unfold k0_t1_body
    iintro ⟨HR_arg2, HR_arg3, HR_arg4, HW_arg7⟩
    sl_exec
    sl_step
    sl_close

abbrev tripR_k0_t1 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (k : Fin (k0_t1_loop i).trips) (acc : 𝕄Acc) (f_arg7 : BufTy.Contents (Elt F) arg7.view.ty) : 𝕄Acc :=
  (trip_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k).1 acc f_arg7

abbrev tripL_k0_t1 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (k : Fin (k0_t1_loop i).trips) (acc : 𝕄Acc) (f_arg7 : BufTy.Contents (Elt F) arg7.view.ty) : List (View.Piece (Elt F) S8192x128 .f32) :=
  (trip_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k).2.1 acc f_arg7

@[irreducible] def st_k0_t1Step (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) (k : ℕ) (prev : (𝕄Acc) × List (View.Piece (Elt F) S8192x128 .f32)) : (𝕄Acc) × List (View.Piece (Elt F) S8192x128 .f32) :=
  if h : k < (k0_t1_loop i).trips then
    (tripR_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 ⟨k, h⟩ prev.1 (arg7.view.writes (Elt F) G_arg7 prev.2), (tripL_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 ⟨k, h⟩ prev.1 (arg7.view.writes (Elt F) G_arg7 prev.2)) ++ prev.2)
  else prev

def st_k0_t1 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) : ℕ → (𝕄Acc) × List (View.Piece (Elt F) S8192x128 .f32)
  | 0 => (init, [])
  | k + 1 => st_k0_t1Step 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k (st_k0_t1 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k)

theorem st_k0_t1_succ (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) (k : Fin (k0_t1_loop i).trips) :
    st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init (k.val + 1)
      = ((tripR_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k.val).1 (arg7.view.writes (Elt F) G_arg7 (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k.val).2)), (tripL_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k.val).1 (arg7.view.writes (Elt F) G_arg7 (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k.val).2)) ++ (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k.val).2) := by
  rw [st_k0_t1.eq_2]; unfold st_k0_t1Step; exact dif_pos k.isLt

theorem st_k0_t1_zero (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) :
    (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init 0).1 = init := rfl

abbrev inv_k0_t1 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) (k : ℕ) (acc : 𝕄Acc) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg7.view.loc (c : Thread nD τ) ↦[arg7.view.set]{fullShare} f) ∗ ⌜f = arg7.view.writes (Elt F) G_arg7 (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k).2⌝) ∗ ⌜acc = (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k).1⌝)

set_option warn.classDefReducibility false in
@[sl_loop] def loopInv_k0_t1 (𝒱 : Variants) (c : Dev nD) (bd : Option 𝒱.V) (E : Set ℕ) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 init where
  inv := inv_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init
  step k acc := by
    iintro ⟨HR_arg2, HR_arg3, HR_arg4, ⟨%f_arg7, HW_arg7, %h_arg7⟩, %h_acc⟩
    subst h_acc
    iapply (wp_wand_r Idealize.ShloMosaic.frame (wpE (defs₀ (F := F)) 𝒱 (c : Thread nD τ) bd) E)
    isplitl [HR_arg2 HR_arg3 HR_arg4 HW_arg7]
    · iapply ((trip_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k).2.2 E (st_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G_arg7 init k).1 f_arg7)
      isplitl [HR_arg2]; · iexact HR_arg2
      isplitl [HR_arg3]; · iexact HR_arg3
      isplitl [HR_arg4]; · iexact HR_arg4
      iexact HW_arg7
    · iintro %yld ⟨%h_res, HR_arg2, HR_arg3, HR_arg4, HW_arg7⟩
      isplitl [HR_arg2]; · iexact HR_arg2
      isplitl [HR_arg3]; · iexact HR_arg3
      isplitl [HR_arg4]; · iexact HR_arg4
      simp only [st_k0_t1_succ]
      isplitl [HW_arg7]
      · iexists _; isplitl [HW_arg7]; · iexact HW_arg7
        ipureintro; rw [h_arg7, ← View.writes_append]
      ipureintro; rw [h_res, h_arg7]

abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (init : 𝕄Acc) :=
  Idealize.ShloMosaic.LoopInv (M := MT nD τ sig Ix (Elt F) Name U Lvl) Idealize.ShloMosaic.frame (wpE defs₀ 𝒱 (c : Thread nD τ) bd) E
    (k0_t2_loop i).lb (k0_t2_loop i).ub (k0_t2_loop i).st (k0_t2_ok i) init (k0_t2_body (F := F) i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142)

/-! ### `k0_t2_loop i` -/

abbrev Trip_k0_t2 (c : Dev nD) (arg2 : 𝕄Q) (arg3 : 𝕄Q) (arg4 : 𝕄S) (arg7 : 𝕄D) (X_arg2 : BufTy.Contents (Elt F) arg2.view.ty) (X_arg3 : BufTy.Contents (Elt F) arg3.view.ty) (X_arg4 : BufTy.Contents (Elt F) arg4.view.ty) (f_arg7 : BufTy.Contents (Elt F) arg7.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} f_arg7))

@[irreducible] def trip_k0_t2 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (k : Fin (k0_t2_loop i).trips) :
    Σ' (R_k0_t2 : ((𝕄Acc) → BufTy.Contents (Elt F) arg7.view.ty → 𝕄Acc)) , { L_arg7 : ((𝕄Acc) → BufTy.Contents (Elt F) arg7.view.ty → List (View.Piece (Elt F) S8192x128 .f32)) // ∀ (E : Set ℕ) (acc : 𝕄Acc) (f_arg7 : BufTy.Contents (Elt F) arg7.view.ty),
      Trip_k0_t2 (F := F) c arg2 arg3 arg4 arg7 X_arg2 X_arg3 X_arg4 f_arg7
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 k acc)
          (fun yld => iprop(⌜yld = R_k0_t2 acc f_arg7⌝ ∗ Trip_k0_t2 (F := F) c arg2 arg3 arg4 arg7 X_arg2 X_arg3 X_arg4 (arg7.view.writes (Elt F) f_arg7 (L_arg7 acc f_arg7)))) } := by
  refine ⟨?_, ?_, fun E acc f_arg7 => ?run⟩
  case run =>
    unfold k0_t2_body
    iintro ⟨HR_arg2, HR_arg3, HR_arg4, HW_arg7⟩
    sl_exec
    sl_step
    sl_close

abbrev tripR_k0_t2 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (k : Fin (k0_t2_loop i).trips) (acc : 𝕄Acc) (f_arg7 : BufTy.Contents (Elt F) arg7.view.ty) : 𝕄Acc :=
  (trip_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 k).1 acc f_arg7

abbrev tripL_k0_t2 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (k : Fin (k0_t2_loop i).trips) (acc : 𝕄Acc) (f_arg7 : BufTy.Contents (Elt F) arg7.view.ty) : List (View.Piece (Elt F) S8192x128 .f32) :=
  (trip_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 k).2.1 acc f_arg7

@[irreducible] def st_k0_t2Step (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) (k : ℕ) (prev : (𝕄Acc) × List (View.Piece (Elt F) S8192x128 .f32)) : (𝕄Acc) × List (View.Piece (Elt F) S8192x128 .f32) :=
  if h : k < (k0_t2_loop i).trips then
    (tripR_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 ⟨k, h⟩ prev.1 (arg7.view.writes (Elt F) G_arg7 prev.2), (tripL_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 ⟨k, h⟩ prev.1 (arg7.view.writes (Elt F) G_arg7 prev.2)) ++ prev.2)
  else prev

def st_k0_t2 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) : ℕ → (𝕄Acc) × List (View.Piece (Elt F) S8192x128 .f32)
  | 0 => (init, [])
  | k + 1 => st_k0_t2Step 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k (st_k0_t2 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k)

theorem st_k0_t2_succ (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) (k : Fin (k0_t2_loop i).trips) :
    st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init (k.val + 1)
      = ((tripR_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 k (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k.val).1 (arg7.view.writes (Elt F) G_arg7 (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k.val).2)), (tripL_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 k (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k.val).1 (arg7.view.writes (Elt F) G_arg7 (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k.val).2)) ++ (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k.val).2) := by
  rw [st_k0_t2.eq_2]; unfold st_k0_t2Step; exact dif_pos k.isLt

theorem st_k0_t2_zero (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) :
    (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init 0).1 = init := rfl

abbrev inv_k0_t2 (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) (k : ℕ) (acc : 𝕄Acc) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg7.view.loc (c : Thread nD τ) ↦[arg7.view.set]{fullShare} f) ∗ ⌜f = arg7.view.writes (Elt F) G_arg7 (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k).2⌝) ∗ ⌜acc = (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k).1⌝)

set_option warn.classDefReducibility false in
@[sl_loop] def loopInv_k0_t2 (𝒱 : Variants) (c : Dev nD) (bd : Option 𝒱.V) (E : Set ℕ) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 init where
  inv := inv_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init
  step k acc := by
    iintro ⟨HR_arg2, HR_arg3, HR_arg4, ⟨%f_arg7, HW_arg7, %h_arg7⟩, %h_acc⟩
    subst h_acc
    iapply (wp_wand_r Idealize.ShloMosaic.frame (wpE (defs₀ (F := F)) 𝒱 (c : Thread nD τ) bd) E)
    isplitl [HR_arg2 HR_arg3 HR_arg4 HW_arg7]
    · iapply ((trip_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 k).2.2 E (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init k).1 f_arg7)
      isplitl [HR_arg2]; · iexact HR_arg2
      isplitl [HR_arg3]; · iexact HR_arg3
      isplitl [HR_arg4]; · iexact HR_arg4
      iexact HW_arg7
    · iintro %yld ⟨%h_res, HR_arg2, HR_arg3, HR_arg4, HW_arg7⟩
      isplitl [HR_arg2]; · iexact HR_arg2
      isplitl [HR_arg3]; · iexact HR_arg3
      isplitl [HR_arg4]; · iexact HR_arg4
      simp only [st_k0_t2_succ]
      isplitl [HW_arg7]
      · iexists _; isplitl [HW_arg7]; · iexact HW_arg7
        ipureintro; rw [h_arg7, ← View.writes_append]
      ipureintro; rw [h_res, h_arg7]

end Cert.FoxKernelIdeal.Body

end
-- ==== Proof.FoxKernelIdealRuns.lean ====
module

public import proofs.«01_k».proof.Proof.Gen.FoxKernelIdeal.Frame
public import proofs.«01_k».proof.Proof.Gen.FoxKernelIdeal.Skeleton
public import proofs.«01_k».proof.Proof.FoxKernelIdealLoops
public import proofs.«01_k».proof.Proof.Gen.FoxKernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The condition under which the body zeroes `dq` (the first key tile of a pair of heads), and short names for the staging buffers. -/

set_option maxRecDepth 16384

noncomputable section

namespace Cert.FoxKernelIdeal.Body

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

abbrev VO0_5 : View sig .tc .vmem S8192x128 .f32 := (Memref.whole cc0_stg5_0 : Memref sig .tc .vmem S8192x128 .f32).view
abbrev VO0_6 : View sig .tc .vmem S1024x128 .bf16 := (Memref.whole cc0_stg6_0 : Memref sig .tc .vmem S1024x128 .bf16).view
abbrev VO0_7 : View sig .tc .vmem S1024x128 .bf16 := (Memref.whole cc0_stg7_0 : Memref sig .tc .vmem S1024x128 .bf16).view
abbrev VO0_8 : View sig .tc .vmem S1024x128 .f32 := (Memref.whole cc0_stg8_0 : Memref sig .tc .vmem S1024x128 .f32).view
abbrev ms0_0 (t : Fin cfg0.N) : Memref sig .tc .vmem S8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8192x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)

end Cert.FoxKernelIdeal.Body

end
-- ==== Proof.FoxKernelIdealRunA.lean ====
module

public import proofs.«01_k».proof.Proof.FoxKernelIdealRuns

@[expose] public section

/-! One run of the body at the first key tile of a pair of heads: `dq` is filled with zeros and then added to. -/

set_option maxRecDepth 16384

noncomputable section

namespace Cert.FoxKernelIdeal.Body

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : cond0_0 i)
    (x0 : Vec F S8192x256 .bf16) (x1 : Vec F S8192x256 .bf16) (x2 : Vec F S1x8x8192 .f32) (x3 : Vec F S1024x256 .bf16) (x4 : Vec F S1024x256 .bf16) :
    Σ' (L5 : List (View.Piece (Elt F) S8192x128 .f32)), Σ' (L6 : List (View.Piece (Elt F) S1024x128 .bf16)), Σ' (L7 : List (View.Piece (Elt F) S1024x128 .bf16)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

end Cert.FoxKernelIdeal.Body

end
-- ==== Proof.FoxKernelIdealRunB.lean ====
module

public import proofs.«01_k».proof.Proof.FoxKernelIdealRunA

@[expose] public section

/-! One run of the body at a later key tile: `dq` still holds what the earlier key tiles of this pair of heads added. -/

set_option maxRecDepth 16384

noncomputable section

namespace Cert.FoxKernelIdeal.Body

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_B (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : ¬cond0_0 i)
    (x0 : Vec F S8192x256 .bf16) (x1 : Vec F S8192x256 .bf16) (x2 : Vec F S1x8x8192 .f32) (x3 : Vec F S1024x256 .bf16) (x4 : Vec F S1024x256 .bf16) (xo5 : Vec F S8192x128 .f32) :
    Σ' (L5 : List (View.Piece (Elt F) S8192x128 .f32)), Σ' (L6 : List (View.Piece (Elt F) S1024x128 .bf16)), Σ' (L7 : List (View.Piece (Elt F) S1024x128 .bf16)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo5) L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexists _; iexact H6
    isplitl [H7]; · iexists _; iexact H7
    iexists _; iexact H8

end Cert.FoxKernelIdeal.Body

end
-- ==== Proof.FoxKernelIdealFrame.lean ====
module

public import proofs.«01_k».proof.Proof.FoxKernelIdealRunB
public import Idealize.ShloMosaic.Lib.Claim

@[expose] public section

/-! The whole program: what each output block holds after each grid point, that the body keeps that promise at every point, and so that
the program ends without a fault, with its arguments unchanged and every semaphore back at zero. -/

set_option maxRecDepth 16384

noncomputable section

namespace Cert.FoxKernelIdeal.Body

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

-- Types of the kernel's operands.
local notation "𝕄Q" => Memref sig Kind.tc Space.vmem S8192x256 EltTy.bf16
local notation "𝕄S" => Memref sig Kind.tc Space.vmem S1x8x8192 EltTy.f32
local notation "𝕄D" => Memref sig Kind.tc Space.vmem S8192x128 EltTy.f32
local notation "𝕄K" => Memref sig Kind.tc Space.vmem S1024x256 EltTy.bf16
local notation "𝕄O" => Memref sig Kind.tc Space.vmem S1024x128 EltTy.bf16
local notation "𝕄C" => Memref sig Kind.tc Space.vmem S1024x128 EltTy.f32

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : cond0_0 i)
  (x0 : Vec F S8192x256 .bf16) (x1 : Vec F S8192x256 .bf16) (x2 : Vec F S1x8x8192 .f32) (x3 : Vec F S1024x256 .bf16) (x4 : Vec F S1024x256 .bf16)

theorem cover0_A_5 (y : S8192x128.Idx) :
    ∃ pc ∈ (kernelRun0_A c i arg2 harg2 arg3 harg3 arg4 harg4 arg5 harg5 arg6 harg6 arg7 harg7 arg8 harg8 arg9 harg9 arg10 harg10 hc0 x0 x1 x2 x3 x4).1, y ∈ pc.1.set :=
  View.cover_of_wholeMem (kernelRun0_A c i arg2 harg2 arg3 harg3 arg4 harg4 arg5 harg5 arg6 harg6 arg7 harg7 arg8 harg8 arg9 harg9 arg10 harg10 hc0 x0 x1 x2 x3 x4).1 (by sl_whole_mem) y

def out0_A_5 : Vec F S8192x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 x0 x1 x2 x3 x4).1)

theorem cover0_A_6 (y : S1024x128.Idx) :
    ∃ pc ∈ (kernelRun0_A c i arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.1 S1024x128.size (by sl_kernel_rfl) y

def out0_A_6 : Vec F S1024x128 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4).2.1)

theorem cover0_A_7 (y : S1024x128.Idx) :
    ∃ pc ∈ (kernelRun0_A c i arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.1 S1024x128.size (by sl_kernel_rfl) y

def out0_A_7 : Vec F S1024x128 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4).2.2.1)

theorem cover0_A_8 (y : S1024x128.Idx) :
    ∃ pc ∈ (kernelRun0_A c i arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.2.1 S1024x128.size (by sl_kernel_rfl) y

def out0_A_8 : Vec F S1024x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4).2.2.2.1)

end

section

variable (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : ¬cond0_0 i)
  (x0 : Vec F S8192x256 .bf16) (x1 : Vec F S8192x256 .bf16) (x2 : Vec F S1x8x8192 .f32) (x3 : Vec F S1024x256 .bf16) (x4 : Vec F S1024x256 .bf16) (xo5 : Vec F S8192x128 .f32)

def out0_B_5 : Vec F S8192x128 .f32 :=
  arg7.view.read (Elt F) (arg7.view.writes (Elt F) (harg7.unread xo5) (kernelRun0_B c i arg2 harg2 arg3 harg3 arg4 harg4 arg5 harg5 arg6 harg6 arg7 harg7 arg8 harg8 arg9 harg9 arg10 harg10 hc0 x0 x1 x2 x3 x4 xo5).1)

theorem cover0_B_6 (y : S1024x128.Idx) :
    ∃ pc ∈ (kernelRun0_B c i arg2 harg2 arg3 harg3 arg4 harg4 arg5 harg5 arg6 harg6 arg7 harg7 arg8 harg8 arg9 harg9 arg10 harg10 hc0 x0 x1 x2 x3 x4 xo5).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xo5).2.1 S1024x128.size (by sl_kernel_rfl) y

def out0_B_6 : Vec F S1024x128 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 xo5).2.1)

theorem cover0_B_7 (y : S1024x128.Idx) :
    ∃ pc ∈ (kernelRun0_B c i arg2 harg2 arg3 harg3 arg4 harg4 arg5 harg5 arg6 harg6 arg7 harg7 arg8 harg8 arg9 harg9 arg10 harg10 hc0 x0 x1 x2 x3 x4 xo5).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xo5).2.2.1 S1024x128.size (by sl_kernel_rfl) y

def out0_B_7 : Vec F S1024x128 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 xo5).2.2.1)

theorem cover0_B_8 (y : S1024x128.Idx) :
    ∃ pc ∈ (kernelRun0_B c i arg2 harg2 arg3 harg3 arg4 harg4 arg5 harg5 arg6 harg6 arg7 harg7 arg8 harg8 arg9 harg9 arg10 harg10 hc0 x0 x1 x2 x3 x4 xo5).2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xo5).2.2.2.1 S1024x128.size (by sl_kernel_rfl) y

def out0_B_8 : Vec F S1024x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 x3 x4 xo5).2.2.2.1)

end

/-! ## What the outputs hold after each point -/

def outsAt0 (c : Dev nD) : (n : ℕ) → n < cfg0.N → Vec F S8192x128 .f32 × Vec F S1024x128 .bf16 × Vec F S1024x128 .bf16 × Vec F S1024x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)

theorem outsAt0_A (c : Dev nD) (t : Fin cfg0.N) (h0 : t.val % 8 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The first key tile of a pair of heads: what the body leaves in each window. -/
theorem sound_body_A (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [outsAt0_A m c t h0]
  unfold out0_A_5 out0_A_6 out0_A_7 out0_A_8; (try dsimp only)
  have c5 := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)
  have c6 := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)
  have c7 := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)
  have c8 := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)
  revert c5 c6 c7 c8
  generalize kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) = R
  intro c5 c6 c7 c8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (R.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ c5
  isplitl [H6]
  · unfold owns; iexists _; isplitr
    swap; · iexact H6
    ipureintro; exact View.read_writes_of_cover _ _ _ _ _ c6
  isplitl [H7]
  · unfold owns; iexists _; isplitr
    swap; · iexact H7
    ipureintro; exact View.read_writes_of_cover _ _ _ _ _ c7
  unfold owns; iexists _; isplitr
  swap; · iexact H8
  ipureintro; exact View.read_writes_of_cover _ _ _ _ _ c8

set_option maxHeartbeats 1600000 in
/-- A later key tile of a pair of heads: what the body leaves in each window. -/
theorem sound_body_B (c : Dev nD) (t : Fin cfg0.N) (h0 : ¬t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [outsAt0_B m c t h0]
  simp only [before0_5_B m c t h0]
  unfold out0_B_5 out0_B_6 out0_B_7 out0_B_8; (try dsimp only)
  have c6 := cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1
  have c7 := cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1
  have c8 := cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1
  revert c6 c7 c8
  generalize kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 = R
  intro c6 c7 c8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (R.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rfl
  isplitl [H6]
  · unfold owns; iexists _; isplitr
    swap; · iexact H6
    ipureintro; exact View.read_writes_of_cover _ _ _ _ _ c6
  isplitl [H7]
  · unfold owns; iexists _; isplitr
    swap; · iexact H7
    ipureintro; exact View.read_writes_of_cover _ _ _ _ _ c7
  unfold owns; iexists _; isplitr
  swap; · iexact H8
  ipureintro; exact View.read_writes_of_cover _ _ _ _ _ c8

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_body_A m c t h0
  · exact sound_body_B m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FoxKernelIdeal.Body

end
-- ==== Proof.Column.lean ====
module

public import Idealize.ShloMosaic.PureOps.Ideal.Laws

@[expose] public section

/-!
  One channel of the causal three-tap gated convolution, as plain functions of the row.

  A channel has three taps, a bias, its gate values `g`, its up values `u` and the incoming gradient `d`, each over the
  8192 rows of the sequence. The forward value is `silu (conv R) * u R`; the definitions below are the parts of its
  gradient.
-/

noncomputable section

open Idealize.ShloMosaic

namespace Cert.Conv

/-- `x` at the row `k` before `R`, zero before the first row. -/
def back (x : Fin 8192 → EReal) (k : ℕ) (R : Fin 8192) : EReal :=
  if h : k ≤ R.val then x ⟨R.val - k, by omega⟩ else 0

/-- `x` at the row `k` after `R`, zero after the last row. -/
def ahead (x : Fin 8192 → EReal) (k : ℕ) (R : Fin 8192) : EReal :=
  if h : R.val + k < 8192 then x ⟨R.val + k, h⟩ else 0

/-- What one channel's gradient depends on. -/
structure Channel where
  w0 : EReal
  w1 : EReal
  w2 : EReal
  b : EReal
  g : Fin 8192 → EReal
  u : Fin 8192 → EReal
  d : Fin 8192 → EReal

namespace Channel

variable (K : Channel)

/-- The convolution before its activation. -/
def conv (R : Fin 8192) : EReal := K.b + K.w0 * back K.g 2 R + K.w1 * back K.g 1 R + K.w2 * K.g R

/-- The gradient at the convolution, `d u silu'(conv)`. -/
def dconv (R : Fin 8192) : EReal :=
  K.d R * K.u R * (Ideal.logistic (K.conv R) * (1 + K.conv R * (1 - Ideal.logistic (K.conv R))))

/-- The gradient at the gate: the convolution's, correlated with the taps. -/
def dgate (R : Fin 8192) : EReal := K.w2 * K.dconv R + K.w1 * ahead K.dconv 1 R + K.w0 * ahead K.dconv 2 R

/-- The gradient at the up values, `d silu(conv)`. -/
def dup (R : Fin 8192) : EReal := K.d R * K.conv R * Ideal.logistic (K.conv R)

/-- What row `R` adds to the gradient of tap `j` (`j = 3`: of the bias; above: nothing). -/
def tapTerm (j : Fin 8) (R : Fin 8192) : EReal :=
  if j.val = 0 then K.dconv R * back K.g 2 R
  else if j.val = 1 then K.dconv R * back K.g 1 R
  else if j.val = 2 then K.dconv R * K.g R
  else if j.val = 3 then K.dconv R
  else 0

/-- The gradient of tap `j`. -/
def tap (j : Fin 8) : EReal := ∑ R : Fin 8192, K.tapTerm j R

end Channel

end Cert.Conv

end
-- ==== Proof.RefConv.lean ====
module

public import proofs.«01_k».proof.Proof.Column
public import proofs.«01_k».proof.Proof.Gen.ReferenceIdeal.Read
public import Idealize.ShloMosaic.Lib.Pointwise

@[expose] public section

/-!
  The reference's arrays, channel by channel: the convolution, and its gradients, are the channel's.
-/
set_option maxRecDepth 16384

noncomputable section

open Idealize.ShloMosaic Idealize.ShloMosaic.TcCoe Idealize.SL.Sem

namespace Cert.ReferenceIdeal.ConvValue

open Cert.ReferenceIdeal Cert.ReferenceIdeal.Gen Cert.ReferenceIdeal.Read Cert.Conv

variable (x0 : (⟨S8192x1024, .f32⟩ : BufTy).Contents (Elt Ideal)) (x1 : (⟨S1024x5632, .f32⟩ : BufTy).Contents (Elt Ideal))
  (x2 : (⟨S3x2816, .f32⟩ : BufTy).Contents (Elt Ideal)) (x3 : (⟨S2816, .f32⟩ : BufTy).Contents (Elt Ideal))
  (x4 : (⟨S8192x2816, .f32⟩ : BufTy).Contents (Elt Ideal)) (x5 : (⟨S8192x1024, .f32⟩ : BufTy).Contents (Elt Ideal))

/-- The feed-forward product at row `R`, column `f`. -/
def zR (R : Fin 8192) (f : Fin 5632) : EReal := ∑ k : Fin 1024, (x0 (ix2 R k) : EReal) * x1 (ix2 k f)

/-- The channel of column `f`. -/
def chan (f : Fin 2816) : Channel where
  w0 := x2 (ix2 (0 : Fin 3) f)
  w1 := x2 (ix2 (1 : Fin 3) f)
  w2 := x2 (ix2 (2 : Fin 3) f)
  b := x3 (ix1 f)
  g R := zR x0 x1 R ⟨f.val, by omega⟩
  u R := zR x0 x1 R ⟨2816 + f.val, by omega⟩
  d R := x4 (ix2 R f)

theorem z_at (R : Fin 8192) (f : Fin 5632) : (val_main_v0 x0 x1 (ix2 R f) : EReal) = zR x0 x1 R f := by
  pointwise [val_main_v0]
  rfl

theorem gate_at (R : Fin 8192) (f : Fin 2816) : (val_main_v1 x0 x1 (ix2 R f) : EReal) = (chan x0 x1 x2 x3 x4 f).g R := by
  refine Eq.trans ?_ (z_at x0 x1 R _)
  pointwise [val_main_v1]

theorem up_at (R : Fin 8192) (f : Fin 2816) : (val_main_v2 x0 x1 (ix2 R f) : EReal) = (chan x0 x1 x2 x3 x4 f).u R := by
  refine Eq.trans ?_ (z_at x0 x1 R _)
  pointwise [val_main_v2]

theorem padded_at (k : Fin 8194) (f : Fin 2816) : (val_main_v4 x0 x1 (ix2 k f) : EReal) =
    if h : k.val < 2 then 0 else (chan x0 x1 x2 x3 x4 f).g ⟨k.val - 2, by omega⟩ := by
  unfold val_main_v4
  pointwise
  by_cases h : k.val < 2
  · rw [dif_pos h, dif_pos h]
    pointwise [val_main_v3, val_main_cst]
  · rw [dif_neg h, dif_neg h]
    exact gate_at x0 x1 x2 x3 x4 _ f

theorem shift2_at (R : Fin 8192) (f : Fin 2816) : (val_main_v8 x0 x1 (ix2 R f) : EReal) = back (chan x0 x1 x2 x3 x4 f).g 2 R := by
  have e : (val_main_v8 x0 x1 (ix2 R f) : EReal) = val_main_v4 x0 x1 (ix2 ⟨R.val, by omega⟩ f) := by pointwise [val_main_v8]
  rw [e, padded_at x0 x1 x2 x3 x4]
  unfold back
  by_cases h : R.val < 2
  · rw [dif_pos h, dif_neg (by omega)]
  · rw [dif_neg h, dif_pos (by omega)]

theorem shift1_at (R : Fin 8192) (f : Fin 2816) : (val_main_v17 x0 x1 (ix2 R f) : EReal) = back (chan x0 x1 x2 x3 x4 f).g 1 R := by
  have e : (val_main_v17 x0 x1 (ix2 R f) : EReal) = val_main_v4 x0 x1 (ix2 ⟨1 + R.val, by omega⟩ f) := by pointwise [val_main_v17]
  rw [e, padded_at x0 x1 x2 x3 x4]
  unfold back
  by_cases h : 1 + R.val < 2
  · rw [dif_pos h, dif_neg (by omega)]
  · rw [dif_neg h, dif_pos (by omega)]
    refine congrArg (chan x0 x1 x2 x3 x4 f).g (Fin.ext ?_)
    show 1 + R.val - 2 = R.val - 1
    omega

theorem shift0_at (R : Fin 8192) (f : Fin 2816) : (val_main_v24 x0 x1 (ix2 R f) : EReal) = (chan x0 x1 x2 x3 x4 f).g R := by
  have e : (val_main_v24 x0 x1 (ix2 R f) : EReal) = val_main_v4 x0 x1 (ix2 ⟨2 + R.val, by omega⟩ f) := by pointwise [val_main_v24]
  rw [e, padded_at x0 x1 x2 x3 x4, dif_neg (by show ¬ 2 + R.val < 2; omega)]
  refine congrArg (chan x0 x1 x2 x3 x4 f).g (Fin.ext ?_)
  show 2 + R.val - 2 = R.val
  omega

theorem conv_at (R : Fin 8192) (f : Fin 2816) : (val_main_v28 x0 x1 x2 x3 (ix2 R f) : EReal) = (chan x0 x1 x2 x3 x4 f).conv R := by
  have e : (val_main_v28 x0 x1 x2 x3 (ix2 R f) : EReal) = x3 (ix1 f) + x2 (ix2 0 f) * val_main_v8 x0 x1 (ix2 R f) +
    x2 (ix2 1 f) * val_main_v17 x0 x1 (ix2 R f) + x2 (ix2 2 f) * val_main_v24 x0 x1 (ix2 R f) := by
    generalize hv8 : val_main_v8 x0 x1 = v8
    generalize hv17 : val_main_v17 x0 x1 = v17
    generalize hv24 : val_main_v24 x0 x1 = v24
    simp only [val_main_v28, val_main_v21, val_main_v14, val_main_v11, val_main_v20, val_main_v27, hv8, hv17, hv24]
    pointwise [val_main_v13, val_main_v12, val_main_v10, val_main_v9, val_main_v7, val_main_v6, val_main_v19, val_main_v18, val_main_v16, val_main_v15, val_main_v26, val_main_v25, val_main_v23, val_main_v22]
  rw [e, shift2_at x0 x1 x2 x3 x4, shift1_at x0 x1 x2 x3 x4, shift0_at x0 x1 x2 x3 x4]
  rfl

theorem sigmoid_at (R : Fin 8192) (f : Fin 2816) :
    (val_main_v29_2 x0 x1 x2 x3 (ix2 R f) : EReal) = Ideal.logistic ((chan x0 x1 x2 x3 x4 f).conv R) := by
  rw [← conv_at x0 x1 x2 x3 x4]
  simp only [val_main_v29_2, val_main_call0_v3, val_main_call0_v1, val_main_call0_v0]
  generalize val_main_v28 x0 x1 x2 x3 = v28
  pointwise [val_main_call0_v4, val_main_call0_cst_0, val_main_call0_v2, val_main_call0_cst]
  rfl

theorem dup_at (R : Fin 8192) (f : Fin 2816) :
    (val_main_v31 x0 x1 x2 x3 x4 (ix2 R f) : EReal) = (chan x0 x1 x2 x3 x4 f).dup R := by
  have e : (val_main_v31 x0 x1 x2 x3 x4 (ix2 R f) : EReal) =
      val_main_v28 x0 x1 x2 x3 (ix2 R f) * val_main_v29_2 x0 x1 x2 x3 (ix2 R f) * x4 (ix2 R f) := rfl
  rw [e, conv_at x0 x1 x2 x3 x4, sigmoid_at x0 x1 x2 x3 x4]
  unfold Channel.dup
  rw [mul_comm]
  exact (mul_assoc _ _ _).symm

/-- The derivative of `silu` in its two forms, times a real factor. -/
theorem silu_grad (c : ℝ) (x : EReal) :
    (c : EReal) * Ideal.logistic x + x * c * (Ideal.logistic x * (1 - Ideal.logistic x)) =
      c * (Ideal.logistic x * (1 + x * (1 - Ideal.logistic x))) := by
  have one : (1 : EReal) - 1 = 0 := by
    have : ((1 : ℝ) : EReal) - ((1 : ℝ) : EReal) = ((1 - 1 : ℝ) : EReal) := (EReal.coe_sub 1 1).symm
    simpa using this
  induction x with
  | bot => rw [Ideal.logistic_bot]; simp
  | top => rw [Ideal.logistic_top, one]; simp
  | coe x =>
    rw [Ideal.logistic_coe]
    generalize (1 + Real.exp (-x))⁻¹ = s
    have h1 : (1 : EReal) = ((1 : ℝ) : EReal) := rfl
    rw [h1]
    norm_cast
    ring

theorem dconv_at (R : Fin 8192) (f : Fin 2816) (hc : ∃ r : ℝ, (chan x0 x1 x2 x3 x4 f).d R * (chan x0 x1 x2 x3 x4 f).u R = r) :
    (val_main_v33 x0 x1 x2 x3 x4 (ix2 R f) : EReal) = (chan x0 x1 x2 x3 x4 f).dconv R := by
  have e : (val_main_v33 x0 x1 x2 x3 x4 (ix2 R f) : EReal) =
      x4 (ix2 R f) * val_main_v2 x0 x1 (ix2 R f) * val_main_v29_2 x0 x1 x2 x3 (ix2 R f) +
        val_main_v28 x0 x1 x2 x3 (ix2 R f) * (x4 (ix2 R f) * val_main_v2 x0 x1 (ix2 R f)) *
          (val_main_v29_2 x0 x1 x2 x3 (ix2 R f) * (1 - val_main_v29_2 x0 x1 x2 x3 (ix2 R f))) := by
    simp only [val_main_v33, val_main_call1_v1, val_main_call1_v2, val_main_call1_v0, val_main_v32, val_main_v29_1, val_main_call0_v7]
    generalize val_main_v28 x0 x1 x2 x3 = v28
    generalize val_main_v29_2 x0 x1 x2 x3 = v292
    generalize val_main_v2 x0 x1 = v2
    pointwise [val_main_call0_v6, val_main_call0_cst_1]
  rw [e, conv_at x0 x1 x2 x3 x4, sigmoid_at x0 x1 x2 x3 x4, up_at x0 x1 x2 x3 x4]
  obtain ⟨r, hr⟩ := hc
  unfold Channel.dconv
  have hr' : (x4 (ix2 R f) : EReal) * (chan x0 x1 x2 x3 x4 f).u R = r := hr
  rw [hr', hr]
  exact silu_grad r _

/-- The gradient at the convolution is the channel's at every row and column. -/
def DconvIs : Prop := ∀ (R : Fin 8192) (f : Fin 2816),
    (val_main_v33 x0 x1 x2 x3 x4 (ix2 R f) : EReal) = (chan x0 x1 x2 x3 x4 f).dconv R

variable {x0 x1 x2 x3 x4} (hD : DconvIs x0 x1 x2 x3 x4)
include hD

theorem dgate_at (R : Fin 8192) (f : Fin 2816) :
    (val_main_v69 x0 x1 x2 x3 x4 (ix2 R f) : EReal) = (chan x0 x1 x2 x3 x4 f).dgate R := by
  have e : (val_main_v69 x0 x1 x2 x3 x4 (ix2 R f) : EReal) =
      ((x2 (ix2 2 f) * val_main_v33 x0 x1 x2 x3 x4 (ix2 R f) +
        if h : 1 ≤ 2 + R.val ∧ 2 + R.val - 1 < 8192 then x2 (ix2 1 f) * val_main_v33 x0 x1 x2 x3 x4 (ix2 ⟨2 + R.val - 1, h.2⟩ f) else (0 : EReal)) +
      if h : 2 + R.val < 8192 then x2 (ix2 0 f) * val_main_v33 x0 x1 x2 x3 x4 (ix2 ⟨2 + R.val, h⟩ f) else (0 : EReal)) := by
    simp only [val_main_v69, val_main_v64, val_main_v40, val_main_v49, val_main_v63, val_main_v50, val_main_v35, val_main_v44, val_main_v58]
    generalize val_main_v33 x0 x1 x2 x3 x4 = v33
    pointwise [val_main_v34, val_main_v43, val_main_v57, val_main_v25, val_main_v23, val_main_v22, val_main_v18, val_main_v16, val_main_v15, val_main_v9, val_main_v7, val_main_v6, val_main_cst_3, val_main_cst_7, val_main_cst_13]
  rw [e, hD R f]
  unfold Channel.dgate ahead
  refine congrArg₂ (fun p q : EReal => p + q) (congrArg₂ (fun p q : EReal => p + q) rfl ?_) ?_
  · by_cases h : R.val + 1 < 8192
    · rw [dif_pos (by omega), dif_pos h, hD]
      have e : (⟨2 + R.val - 1, by omega⟩ : Fin 8192) = ⟨R.val + 1, h⟩ := Fin.ext (by show 2 + R.val - 1 = R.val + 1; omega)
      rw [e]; rfl
    · rw [dif_neg (by omega), dif_neg h, mul_zero]
  · by_cases h : R.val + 2 < 8192
    · rw [dif_pos (by omega), dif_pos h, hD]
      have e : (⟨2 + R.val, by omega⟩ : Fin 8192) = ⟨R.val + 2, h⟩ := Fin.ext (by show 2 + R.val = R.val + 2; omega)
      rw [e]; rfl
    · rw [dif_neg (by omega), dif_neg h, mul_zero]

theorem tap2_at (f : Fin 2816) :
    (val_main_v39 x0 x1 x2 x3 x4 (ix1 f) : EReal) = (chan x0 x1 x2 x3 x4 f).tap 2 := by
  have e : (val_main_v39 x0 x1 x2 x3 x4 (ix1 f) : EReal) =
      ∑ R : Fin 8192, (val_main_v33 x0 x1 x2 x3 x4 (ix2 R f) : EReal) * val_main_v24 x0 x1 (ix2 R f) := by
    simp only [val_main_v39, val_main_v38, val_main_v37, val_main_v36]
    generalize val_main_v33 x0 x1 x2 x3 x4 = v33
    generalize val_main_v24 x0 x1 = v24
    pointwise [val_main_cst_1, val_main_cst_2]
    simp
  rw [e]
  refine Finset.sum_congr rfl fun R _ => ?_
  rw [hD, shift0_at x0 x1 x2 x3 x4]
  rfl

theorem tap1_at (f : Fin 2816) :
    (val_main_v48 x0 x1 x2 x3 x4 (ix1 f) : EReal) = (chan x0 x1 x2 x3 x4 f).tap 1 := by
  have e : (val_main_v48 x0 x1 x2 x3 x4 (ix1 f) : EReal) =
      ∑ R : Fin 8192, (val_main_v33 x0 x1 x2 x3 x4 (ix2 R f) : EReal) * val_main_v17 x0 x1 (ix2 R f) := by
    simp only [val_main_v48, val_main_v47, val_main_v46, val_main_v45]
    generalize val_main_v33 x0 x1 x2 x3 x4 = v33
    generalize val_main_v17 x0 x1 = v17
    pointwise [val_main_cst_5, val_main_cst_6]
    simp
  rw [e]
  refine Finset.sum_congr rfl fun R _ => ?_
  rw [hD, shift1_at x0 x1 x2 x3 x4]
  rfl

theorem tap0_at (f : Fin 2816) :
    (val_main_v62 x0 x1 x2 x3 x4 (ix1 f) : EReal) = (chan x0 x1 x2 x3 x4 f).tap 0 := by
  have e : (val_main_v62 x0 x1 x2 x3 x4 (ix1 f) : EReal) =
      ∑ R : Fin 8192, (val_main_v33 x0 x1 x2 x3 x4 (ix2 R f) : EReal) * val_main_v8 x0 x1 (ix2 R f) := by
    simp only [val_main_v62, val_main_v61, val_main_v60, val_main_v59]
    generalize val_main_v33 x0 x1 x2 x3 x4 = v33
    generalize val_main_v8 x0 x1 = v8
    pointwise [val_main_cst_11, val_main_cst_12]
    simp
  rw [e]
  refine Finset.sum_congr rfl fun R _ => ?_
  rw [hD, shift2_at x0 x1 x2 x3 x4]
  rfl

theorem bias_at (f : Fin 2816) :
    (val_main_v56 x0 x1 x2 x3 x4 (ix1 f) : EReal) = (chan x0 x1 x2 x3 x4 f).tap 3 := by
  have e : (val_main_v56 x0 x1 x2 x3 x4 (ix1 f) : EReal) =
      ∑ R : Fin 8192, (val_main_v33 x0 x1 x2 x3 x4 (ix2 R f) : EReal) := by
    simp only [val_main_v56, val_main_v55, val_main_v54]
    generalize val_main_v33 x0 x1 x2 x3 x4 = v33
    pointwise [val_main_cst_9, val_main_cst_10]
    simp
  rw [e]
  refine Finset.sum_congr rfl fun R _ => ?_
  rw [hD]
  rfl

theorem taps_at (j : Fin 3) (f : Fin 2816) :
    (val_main_v67 x0 x1 x2 x3 x4 (ix2 j f) : EReal) = (chan x0 x1 x2 x3 x4 f).tap ⟨j.val, by omega⟩ := by
  simp only [val_main_v67, val_main_v53, val_main_v42, val_main_v52, val_main_v66, val_main_v41, val_main_v51, val_main_v65]
  have h0 := tap0_at hD f
  have h1 := tap1_at hD f
  have h2 := tap2_at hD f
  generalize val_main_v39 x0 x1 x2 x3 x4 = v39 at *
  generalize val_main_v48 x0 x1 x2 x3 x4 = v48 at *
  generalize val_main_v62 x0 x1 x2 x3 x4 = v62 at *
  pointwise [val_main_cst_4, val_main_cst_8, val_main_cst_14]
  rw [h0, h1, h2]
  fin_cases j
  · simp
  · simp
  · simp

end Cert.ReferenceIdeal.ConvValue

end
-- ==== Proof.Finite.lean ====
module

public import proofs.«01_k».proof.Proof.RefConv
public import proofs.«01_k».proof.Proof.Gen.Pre_finite_operands

@[expose] public section

/-!
  What the precondition gives: the entries of the input, of the weights and of the incoming gradient are real numbers,
  so the product's results and the gradient at the activation are real as well.
-/
set_option maxRecDepth 16384

noncomputable section

open Idealize.ShloMosaic Idealize.ShloMosaic.TcCoe Idealize.SL.Sem

namespace Cert.ReferenceIdeal.ConvValue

open Cert.ReferenceIdeal Cert.ReferenceIdeal.Gen Cert.ReferenceIdeal.Read Cert.Conv

/-- A value that gives zero when taken from itself is a real number. -/
theorem real_of_sub_self {x : EReal} (h : Ideal.cmp .oeq (x - x) (Ideal.ofBits .f32 0#32) = 1#1) : ∃ r : ℝ, x = r := by
  have h0 : Ideal.ofBits .f32 0#32 = 0 := by simp [Ideal.ofBits, Ideal.ieee]
  rw [h0] at h
  induction x using EReal.rec with
  | bot => simp [Ideal.cmp] at h
  | top => simp [Ideal.cmp] at h
  | coe r => exact ⟨r, rfl⟩

/-- A sum of products of real numbers is a real number. -/
theorem real_sum {n : Nat} (a b : Fin n → EReal) (ha : ∀ k, ∃ r : ℝ, a k = r) (hb : ∀ k, ∃ r : ℝ, b k = r) :
    ∃ r : ℝ, ∑ k : Fin n, a k * b k = r := by
  refine Finset.sum_induction _ (fun x : EReal => ∃ r : ℝ, x = r) ?_ ⟨0, rfl⟩ fun k _ => ?_
  · rintro _ _ ⟨p, rfl⟩ ⟨q, rfl⟩
    exact ⟨p + q, (EReal.coe_add p q).symm⟩
  · obtain ⟨p, hp⟩ := ha k
    obtain ⟨q, hq⟩ := hb k
    exact ⟨p * q, by rw [hp, hq, EReal.coe_mul]⟩

variable (x0 : (⟨S8192x1024, .f32⟩ : BufTy).Contents (Elt Ideal)) (x1 : (⟨S1024x5632, .f32⟩ : BufTy).Contents (Elt Ideal))
  (x2 : (⟨S3x2816, .f32⟩ : BufTy).Contents (Elt Ideal)) (x3 : (⟨S2816, .f32⟩ : BufTy).Contents (Elt Ideal))
  (x4 : (⟨S8192x2816, .f32⟩ : BufTy).Contents (Elt Ideal)) (x5 : (⟨S8192x1024, .f32⟩ : BufTy).Contents (Elt Ideal))

/-- With the precondition the reference's gradient at the convolution is the channel's. -/
theorem dconvIs_of_finite
    (h0 : (Cert.Pre_finite_operands.fn (F := Ideal) x0 x1 x2 x3 x4 x5).1 = fun _ => 1#1)
    (h1 : (Cert.Pre_finite_operands.fn (F := Ideal) x0 x1 x2 x3 x4 x5).2.1 = fun _ => 1#1)
    (h2 : (Cert.Pre_finite_operands.fn (F := Ideal) x0 x1 x2 x3 x4 x5).2.2 = fun _ => 1#1) :
    DconvIs x0 x1 x2 x3 x4 := by
  have f0 : ∀ i, ∃ r : ℝ, x0 i = r := fun i => real_of_sub_self (congrFun h0 i)
  have f1 : ∀ i, ∃ r : ℝ, x1 i = r := fun i => real_of_sub_self (congrFun h1 i)
  have f4 : ∀ i, ∃ r : ℝ, x4 i = r := fun i => real_of_sub_self (congrFun h2 i)
  intro R f
  refine dconv_at x0 x1 x2 x3 x4 R f ?_
  obtain ⟨a, ha⟩ := f4 (ix2 R f)
  obtain ⟨b, hb⟩ := real_sum (fun k : Fin 1024 => x0 (ix2 R k)) (fun k => x1 (ix2 k (⟨2816 + f.val, by omega⟩ : Fin 5632)))
    (fun k => f0 _) (fun k => f1 _)
  refine ⟨a * b, ?_⟩
  show x4 (ix2 R f) * (∑ k : Fin 1024, (x0 (ix2 R k) : EReal) * x1 (ix2 k (⟨2816 + f.val, by omega⟩ : Fin 5632))) = _
  rw [hb, EReal.coe_mul]
  exact congrArg (fun q : EReal => q * b) ha

end Cert.ReferenceIdeal.ConvValue

end
-- ==== Proof.Chunk.lean ====
module

public import proofs.«01_k».proof.Proof.Gen.KernelIdeal.Skeleton
public import proofs.«01_k».proof.Proof.Column
public import Idealize.ShloMosaic.Lib.Pointwise

@[expose] public section

/-!
  What one step of the kernel's loop over channel chunks computes, as operations on vectors: 256 rows of 704 channels,
  with eight rows before and eight rows after. Each operation is read at a row and a channel.
-/
set_option maxRecDepth 16384

noncomputable section

open Idealize.ShloMosaic Idealize.ShloMosaic.TcCoe Idealize.SL.Sem

namespace Cert.KernelIdeal.Chunk

open Cert.KernelIdeal Cert.KernelIdeal.Gen

/-- The rows of a chunk. -/
abbrev Rows : Type := FVec Ideal S256x704 .f32
/-- Eight neighbouring rows. -/
abbrev Eight : Type := FVec Ideal S8x704 .f32
/-- One row. -/
abbrev Row : Type := FVec Ideal S1x704 .f32

/-- The mask of row `k` of a chunk. -/
abbrev isRow (k : BitVec 32) : IVec S256x704 1 :=
  broadcastTo S256x704 (shapeCast S256x1 (cmpi .eq (iota .tc S256x1 32 [0] iota_S256x1_d0_w32) (broadcast S256x1 k)) shapeCasts_S256x1_S256x1) broadcasts_S256x1_S256x704
/-- The mask of row `k` of eight rows. -/
abbrev isRow8 (k : BitVec 32) : IVec S8x704 1 :=
  broadcastTo S8x704 (shapeCast S8x1 (cmpi .eq (iota .tc S8x1 32 [0] iota_S8x1_d0_w32) (broadcast S8x1 k)) shapeCasts_S8x1_S8x1) broadcasts_S8x1_S8x704
/-- The zero row where the flag is set, else `x`. -/
abbrev fill (v : BitVec 1) (x : Row) : Row :=
  Scalar.select v (broadcast S1x704 (Scalar.ofBits .f32 0x00000000#32)) x
/-- A row in every row of a chunk. -/
abbrev spread (x : Row) : Rows := broadcastTo S256x704 (shapeCast S1x704 x shapeCasts_S1x704_S1x704) broadcasts_S1x704_S256x704
/-- A row in every one of eight rows. -/
abbrev spread8 (x : Row) : Eight := broadcastTo S8x704 (shapeCast S1x704 x shapeCasts_S1x704_S1x704) broadcasts_S1x704_S8x704

/-- The chunk one row down. -/
abbrev down1 (v : BitVec 1) (x : Rows) (h : Eight) : Rows :=
  select (isRow 0#32) (spread (fill v (extractStridedSlice S1x704 ![7, 0] h slices_S8x704_o7_0_S1x704)))
    (dynamicRotate 0 1#32 none x rotates_S256x704_d0)
/-- The chunk two rows down. -/
abbrev down2 (v : BitVec 1) (x : Rows) (h : Eight) : Rows :=
  select (isRow 1#32) (spread (fill v (extractStridedSlice S1x704 ![7, 0] h slices_S8x704_o7_0_S1x704)))
    (select (isRow 0#32) (spread (fill v (extractStridedSlice S1x704 ![6, 0] h slices_S8x704_o6_0_S1x704)))
      (dynamicRotate 0 2#32 none x rotates_S256x704_d0))
/-- Eight rows one row down. -/
abbrev down1' (x h : Eight) : Eight :=
  select (isRow8 0#32) (spread8 (fill 0#1 (extractStridedSlice S1x704 ![7, 0] h slices_S8x704_o7_0_S1x704)))
    (dynamicRotate 0 1#32 none x rotates_S8x704_d0)
/-- Eight rows two rows down. -/
abbrev down2' (x h : Eight) : Eight :=
  select (isRow8 1#32) (spread8 (fill 0#1 (extractStridedSlice S1x704 ![7, 0] h slices_S8x704_o7_0_S1x704)))
    (select (isRow8 0#32) (spread8 (fill 0#1 (extractStridedSlice S1x704 ![6, 0] h slices_S8x704_o6_0_S1x704)))
      (dynamicRotate 0 2#32 none x rotates_S8x704_d0))
/-- The last eight rows of a chunk. -/
abbrev tail (x : Rows) : Eight := extractStridedSlice S8x704 ![248, 0] x slices_S256x704_o248_0_S8x704
/-- The chunk one row up. -/
abbrev up1 (v : BitVec 1) (x : Rows) (h : Eight) : Rows :=
  select (isRow 255#32) (spread (fill v (extractStridedSlice S1x704 ![0, 0] h slices_S8x704_o0_0_S1x704)))
    (dynamicRotate 0 255#32 none x rotates_S256x704_d0)
/-- The chunk two rows up. -/
abbrev up2 (v : BitVec 1) (x : Rows) (h : Eight) : Rows :=
  select (isRow 255#32) (spread (fill v (extractStridedSlice S1x704 ![1, 0] h slices_S8x704_o1_0_S1x704)))
    (select (isRow 254#32) (spread (fill v (extractStridedSlice S1x704 ![0, 0] h slices_S8x704_o0_0_S1x704)))
      (dynamicRotate 0 254#32 none x rotates_S256x704_d0))

/-- A tap in every row of a chunk. -/
abbrev wrow0 (w : Eight) : Rows := broadcastTo S256x704 (extractStridedSlice S1x704 ![0, 0] w slices_S8x704_o0_0_S1x704) broadcasts_S1x704_S256x704
abbrev wrow1 (w : Eight) : Rows := broadcastTo S256x704 (extractStridedSlice S1x704 ![1, 0] w slices_S8x704_o1_0_S1x704) broadcasts_S1x704_S256x704
abbrev wrow2 (w : Eight) : Rows := broadcastTo S256x704 (extractStridedSlice S1x704 ![2, 0] w slices_S8x704_o2_0_S1x704) broadcasts_S1x704_S256x704
abbrev wrow0' (w : Eight) : Eight := broadcastTo S8x704 (extractStridedSlice S1x704 ![0, 0] w slices_S8x704_o0_0_S1x704) broadcasts_S1x704_S8x704
abbrev wrow1' (w : Eight) : Eight := broadcastTo S8x704 (extractStridedSlice S1x704 ![1, 0] w slices_S8x704_o1_0_S1x704) broadcasts_S1x704_S8x704
abbrev wrow2' (w : Eight) : Eight := broadcastTo S8x704 (extractStridedSlice S1x704 ![2, 0] w slices_S8x704_o2_0_S1x704) broadcasts_S1x704_S8x704

/-- The convolution of a chunk before its activation. -/
abbrev conv (w : Eight) (b : Row) (x x1 x2 : Rows) : Rows :=
  addf (addf (addf (broadcastTo S256x704 b broadcasts_S1x704_S256x704) (mulf (wrow0 w) x2)) (mulf (wrow1 w) x1)) (mulf (wrow2 w) x)
/-- The convolution of eight rows before its activation. -/
abbrev conv' (w : Eight) (b : Row) (x x1 x2 : Eight) : Eight :=
  addf (addf (addf (broadcastTo S8x704 b broadcasts_S1x704_S8x704) (mulf (wrow0' w) x2)) (mulf (wrow1' w) x1)) (mulf (wrow2' w) x)
/-- The gradient at the convolution, from the convolution, the up values and the incoming gradient. -/
abbrev dconv (cv up da : Rows) : Rows :=
  mulf (mulf da up) (mulf (logistic cv) (addf (broadcast S256x704 (Scalar.ofBits .f32 0x3F800000#32)) (mulf cv (subf (broadcast S256x704 (Scalar.ofBits .f32 0x3F800000#32)) (logistic cv)))))
/-- The same on eight rows. -/
abbrev dconv' (cv up da : Eight) : Eight :=
  mulf (mulf da up) (mulf (logistic cv) (addf (broadcast S8x704 (Scalar.ofBits .f32 0x3F800000#32)) (mulf cv (subf (broadcast S8x704 (Scalar.ofBits .f32 0x3F800000#32)) (logistic cv)))))
/-- The gradient at the gate. -/
abbrev dgate (v1 : BitVec 1) (w : Eight) (dc : Rows) (dn : Eight) : FVec Ideal S256x704 .bf16 :=
  truncf .bf16 (addf (addf (mulf (wrow2 w) dc) (mulf (wrow1 w) (up1 v1 dc dn))) (mulf (wrow0 w) (up2 v1 dc dn))) bitsLt_bf16_f32
/-- The gradient at the up values. -/
abbrev dup (cv da : Rows) : FVec Ideal S256x704 .bf16 :=
  truncf .bf16 (mulf (mulf da cv) (logistic cv)) bitsLt_bf16_f32
/-- The sum of a chunk's rows, in every one of eight rows. -/
abbrev rowSum (x : Rows) : Eight :=
  spread8 (shapeCast S1x704 (multiReduction .add [0] S704 x 0x00000000#32 reduces_S256x704_S704 (.inl rfl) rfl) shapeCasts_S704_S1x704)
/-- A chunk's part of the gradients of the taps and of the bias. -/
abbrev part (x x1 x2 dc : Rows) : Eight :=
  select (isRow8 3#32) (rowSum dc) (select (isRow8 2#32) (rowSum (mulf dc x)) (select (isRow8 1#32) (rowSum (mulf dc x1))
    (select (isRow8 0#32) (rowSum (mulf dc x2)) (broadcast S8x704 (Scalar.ofBits .f32 0x00000000#32)))))

/-! ### The operations at a row and a channel -/

/-- A choice by the row's number. -/
theorem choose_row {α : Type} (n m : ℕ) (k : BitVec 32) (a b : α) (hn : n < 4294967296) (hk : k.toNat = m) :
    Scalar.select (IntOp.cmpi .eq (BitVec.ofNat 32 n) k) a b = if n = m then a else b := by
  have : (BitVec.ofNat 32 n = k) ↔ n = m := by
    rw [← BitVec.toNat_inj, BitVec.toNat_ofNat, Nat.mod_eq_of_lt hn, hk]
  by_cases h : n = m
  · rw [if_pos h]
    simp [Scalar.select, IntOp.cmpi, this.2 h]
  · have h' : (BitVec.ofNat 32 n == k) = false := by simpa using mt this.1 h
    simp [Scalar.select, IntOp.cmpi, h', h]

variable (v : BitVec 1) (x : Rows) (h : Eight)

theorem down1_at (r : Fin 256) (l : Fin 704) :
    down1 v x h (ix2 r l) = if r.val = 0 then Scalar.select v 0 (h (ix2 7 l)) else x (ix2 ⟨r.val - 1, by omega⟩ l) := by
  pointwise
  rw [choose_row _ 0 _ _ _ (by omega) rfl]
  by_cases h0 : r.val = 0
  · simp [h0]
  · rw [if_neg h0, if_neg h0]; congr 2; apply Fin.ext; show (r.val + 256 - 1) % 256 = r.val - 1; omega

theorem down2_at (r : Fin 256) (l : Fin 704) :
    down2 v x h (ix2 r l) = if r.val = 1 then Scalar.select v 0 (h (ix2 7 l)) else if r.val = 0 then Scalar.select v 0 (h (ix2 6 l))
      else x (ix2 ⟨r.val - 2, by omega⟩ l) := by
  pointwise
  rw [choose_row _ 1 _ _ _ (by omega) rfl, choose_row _ 0 _ _ _ (by omega) rfl]
  by_cases h1 : r.val = 1
  · simp [h1]
  by_cases h0 : r.val = 0
  · simp [h0]
  rw [if_neg h1, if_neg h1, if_neg h0, if_neg h0]; congr 2; apply Fin.ext; show (r.val + 256 - 2) % 256 = r.val - 2; omega

theorem down1'_at (x h : Eight) (r : Fin 8) (l : Fin 704) :
    down1' x h (ix2 r l) = if r.val = 0 then h (ix2 7 l) else x (ix2 ⟨r.val - 1, by omega⟩ l) := by
  pointwise
  rw [choose_row _ 0 _ _ _ (by omega) rfl]
  by_cases h0 : r.val = 0
  · simp [h0, Scalar.select]
  · rw [if_neg h0, if_neg h0]; congr 2; apply Fin.ext; show (r.val + 8 - 1) % 8 = r.val - 1; omega

theorem down2'_at (x h : Eight) (r : Fin 8) (l : Fin 704) :
    down2' x h (ix2 r l) = if r.val = 1 then h (ix2 7 l) else if r.val = 0 then h (ix2 6 l)
      else x (ix2 ⟨r.val - 2, by omega⟩ l) := by
  pointwise
  rw [choose_row _ 1 _ _ _ (by omega) rfl, choose_row _ 0 _ _ _ (by omega) rfl]
  by_cases h1 : r.val = 1
  · simp [h1, Scalar.select]
  by_cases h0 : r.val = 0
  · simp [h0, Scalar.select]
  rw [if_neg h1, if_neg h1, if_neg h0, if_neg h0]; congr 2; apply Fin.ext; show (r.val + 8 - 2) % 8 = r.val - 2; omega

theorem tail_at (r : Fin 8) (l : Fin 704) : tail x (ix2 r l) = x (ix2 ⟨248 + r.val, by omega⟩ l) := by
  pointwise

theorem up1_at (r : Fin 256) (l : Fin 704) :
    up1 v x h (ix2 r l) = if hr : r.val = 255 then Scalar.select v 0 (h (ix2 0 l)) else x (ix2 ⟨r.val + 1, by omega⟩ l) := by
  pointwise
  rw [choose_row _ 255 _ _ _ (by omega) rfl]
  by_cases h0 : r.val = 255
  · simp [h0]
  · rw [if_neg h0, dif_neg h0]; congr 2; apply Fin.ext; show (r.val + 256 - 255) % 256 = r.val + 1; omega

theorem up2_at (r : Fin 256) (l : Fin 704) :
    up2 v x h (ix2 r l) = if h1 : r.val = 255 then Scalar.select v 0 (h (ix2 1 l)) else if h0 : r.val = 254 then Scalar.select v 0 (h (ix2 0 l))
      else x (ix2 ⟨r.val + 2, by omega⟩ l) := by
  pointwise
  rw [choose_row _ 255 _ _ _ (by omega) rfl, choose_row _ 254 _ _ _ (by omega) rfl]
  by_cases h1 : r.val = 255
  · simp [h1]
  by_cases h0 : r.val = 254
  · simp [h0]
  rw [if_neg h1, dif_neg h1, if_neg h0, dif_neg h0]; congr 2; apply Fin.ext; show (r.val + 256 - 254) % 256 = r.val + 2; omega

theorem conv_at (w : Eight) (b : Row) (x1 x2 : Rows) (r : Fin 256) (l : Fin 704) :
    conv w b x x1 x2 (ix2 r l) = b (ix2 0 l) + w (ix2 0 l) * x2 (ix2 r l) + w (ix2 1 l) * x1 (ix2 r l) + w (ix2 2 l) * x (ix2 r l) := by
  pointwise

theorem conv'_at (w : Eight) (b : Row) (x x1 x2 : Eight) (r : Fin 8) (l : Fin 704) :
    conv' w b x x1 x2 (ix2 r l) = b (ix2 0 l) + w (ix2 0 l) * x2 (ix2 r l) + w (ix2 1 l) * x1 (ix2 r l) + w (ix2 2 l) * x (ix2 r l) := by
  pointwise

theorem dconv_at (cv up da : Rows) (r : Fin 256) (l : Fin 704) :
    dconv cv up da (ix2 r l) = da (ix2 r l) * up (ix2 r l) * (Ideal.logistic (cv (ix2 r l)) *
      (1 + cv (ix2 r l) * (1 - Ideal.logistic (cv (ix2 r l))))) := by
  pointwise

theorem dconv'_at (cv up da : Eight) (r : Fin 8) (l : Fin 704) :
    dconv' cv up da (ix2 r l) = da (ix2 r l) * up (ix2 r l) * (Ideal.logistic (cv (ix2 r l)) *
      (1 + cv (ix2 r l) * (1 - Ideal.logistic (cv (ix2 r l))))) := by
  pointwise

theorem dgate_at (w : Eight) (dc : Rows) (dn : Eight) (r : Fin 256) (l : Fin 704) :
    (dgate v w dc dn (ix2 r l) : EReal) = w (ix2 2 l) * dc (ix2 r l) + w (ix2 1 l) * up1 v dc dn (ix2 r l) + w (ix2 0 l) * up2 v dc dn (ix2 r l) := by
  generalize hu1 : up1 v dc dn = u1
  generalize hu2 : up2 v dc dn = u2
  unfold dgate
  rw [hu1, hu2]
  pointwise

theorem dup_at (cv da : Rows) (r : Fin 256) (l : Fin 704) :
    (dup cv da (ix2 r l) : EReal) = da (ix2 r l) * cv (ix2 r l) * Ideal.logistic (cv (ix2 r l)) := by
  pointwise

theorem part_at (x1 x2 dc : Rows) (j : Fin 8) (l : Fin 704) :
    part x x1 x2 dc (ix2 j l) = ∑ r : Fin 256, (if j.val = 0 then dc (ix2 r l) * x2 (ix2 r l)
      else if j.val = 1 then dc (ix2 r l) * x1 (ix2 r l) else if j.val = 2 then dc (ix2 r l) * x (ix2 r l)
      else if j.val = 3 then dc (ix2 r l) else (0 : EReal)) := by
  pointwise
  rw [choose_row _ 3 _ _ _ (by omega) rfl, choose_row _ 2 _ _ _ (by omega) rfl, choose_row _ 1 _ _ _ (by omega) rfl, choose_row _ 0 _ _ _ (by omega) rfl]
  by_cases h0 : j.val = 0
  · simp [h0]
  by_cases h1 : j.val = 1
  · simp [h1]
  by_cases h2 : j.val = 2
  · simp [h2]
  by_cases h3 : j.val = 3
  · simp [h3]
  simp [h0, h1, h2, h3]

end Cert.KernelIdeal.Chunk

end
-- ==== Proof.ChunkValue.lean ====
module

public import proofs.«01_k».proof.Proof.Chunk

@[expose] public section

/-!
  One step of the kernel's loop over channel chunks is the gradient of its channels at the chunk's rows: where the
  vectors hold a channel's gate, up values and incoming gradient at rows `256 t ..`, the eight gate rows before them and
  the eight rows after them, the chunk's three results are the channel's.
-/
set_option maxRecDepth 16384

noncomputable section

open Idealize.ShloMosaic Idealize.ShloMosaic.TcCoe Idealize.SL.Sem

namespace Cert.KernelIdeal.Chunk

open Cert.KernelIdeal Cert.KernelIdeal.Gen Cert.Conv

/-- The row `r` of the chunk of rows `t`. -/
abbrev rowAt (t : Fin 32) (r : Fin 256) : Fin 8192 := ⟨256 * t.val + r.val, by omega⟩

/-- What the vectors of a chunk hold of channel `K`, whose column is `l`. -/
structure Holds (K : Channel) (t : Fin 32) (l : Fin 704) (v0 v1 : BitVec 1) (x up da : Rows) (halo xn upn dan w : Eight) (b : Row) : Prop where
  first : v0 = if t.val = 0 then 1#1 else 0#1
  last : v1 = if t.val = 31 then 1#1 else 0#1
  gate : ∀ r : Fin 256, (x (ix2 r l) : EReal) = K.g (rowAt t r)
  ups : ∀ r : Fin 256, (up (ix2 r l) : EReal) = K.u (rowAt t r)
  das : ∀ r : Fin 256, (da (ix2 r l) : EReal) = K.d (rowAt t r)
  before : ∀ (j : Fin 8) (h : 0 < t.val), (halo (ix2 j l) : EReal) = K.g ⟨256 * t.val - 8 + j.val, by omega⟩
  gaten : ∀ (j : Fin 8) (h : t.val < 31), (xn (ix2 j l) : EReal) = K.g ⟨256 * t.val + 256 + j.val, by omega⟩
  upsn : ∀ (j : Fin 8) (h : t.val < 31), (upn (ix2 j l) : EReal) = K.u ⟨256 * t.val + 256 + j.val, by omega⟩
  dasn : ∀ (j : Fin 8) (h : t.val < 31), (dan (ix2 j l) : EReal) = K.d ⟨256 * t.val + 256 + j.val, by omega⟩
  tap0 : (w (ix2 0 l) : EReal) = K.w0
  tap1 : (w (ix2 1 l) : EReal) = K.w1
  tap2 : (w (ix2 2 l) : EReal) = K.w2
  bias : (b (ix2 0 l) : EReal) = K.b

variable {K : Channel} {t : Fin 32} {l : Fin 704} {v0 v1 : BitVec 1} {x up da : Rows} {halo xn upn dan w : Eight} {b : Row}

namespace Holds

variable (H : Holds K t l v0 v1 x up da halo xn upn dan w b)
include H

theorem down1_eq (r : Fin 256) : (down1 v0 x halo (ix2 r l) : EReal) = back K.g 1 (rowAt t r) := by
  rw [down1_at]
  unfold back
  by_cases hr : r.val = 0
  · rw [if_pos hr]
    by_cases ht : t.val = 0
    · rw [H.first, if_pos ht, dif_neg (by simp only; omega)]; rfl
    · rw [H.first, if_neg ht, dif_pos (by simp only; omega)]
      refine (H.before 7 (by omega)).trans (congrArg K.g (Fin.ext ?_))
      simp only; omega
  · rw [if_neg hr, dif_pos (by simp only; omega)]
    refine (H.gate _).trans (congrArg K.g (Fin.ext ?_))
    simp only; omega

theorem down2_eq (r : Fin 256) : (down2 v0 x halo (ix2 r l) : EReal) = back K.g 2 (rowAt t r) := by
  rw [down2_at]
  unfold back
  by_cases hr1 : r.val = 1
  · rw [if_pos hr1]
    by_cases ht : t.val = 0
    · rw [H.first, if_pos ht, dif_neg (by simp only; omega)]; rfl
    · rw [H.first, if_neg ht, dif_pos (by simp only; omega)]
      refine (H.before 7 (by omega)).trans (congrArg K.g (Fin.ext ?_))
      simp only; omega
  rw [if_neg hr1]
  by_cases hr : r.val = 0
  · rw [if_pos hr]
    by_cases ht : t.val = 0
    · rw [H.first, if_pos ht, dif_neg (by simp only; omega)]; rfl
    · rw [H.first, if_neg ht, dif_pos (by simp only; omega)]
      refine (H.before 6 (by omega)).trans (congrArg K.g (Fin.ext ?_))
      simp only; omega
  · rw [if_neg hr, dif_pos (by simp only; omega)]
    refine (H.gate _).trans (congrArg K.g (Fin.ext ?_))
    simp only; omega

theorem conv_eq (r : Fin 256) : (conv w b x (down1 v0 x halo) (down2 v0 x halo) (ix2 r l) : EReal) = K.conv (rowAt t r) := by
  rw [conv_at, H.down1_eq, H.down2_eq, H.gate, H.tap0, H.tap1, H.tap2, H.bias]
  rfl

theorem dconv_eq (r : Fin 256) :
    (dconv (conv w b x (down1 v0 x halo) (down2 v0 x halo)) up da (ix2 r l) : EReal) = K.dconv (rowAt t r) := by
  rw [dconv_at, H.conv_eq, H.ups, H.das]
  rfl

theorem dup_eq (r : Fin 256) :
    (dup (conv w b x (down1 v0 x halo) (down2 v0 x halo)) da (ix2 r l) : EReal) = K.dup (rowAt t r) := by
  rw [dup_at, H.conv_eq, H.das]
  rfl

theorem down1'_eq (j : Fin 8) (h : t.val < 31) :
    (down1' xn (tail x) (ix2 j l) : EReal) = back K.g 1 ⟨256 * t.val + 256 + j.val, by omega⟩ := by
  rw [down1'_at]
  unfold back
  rw [dif_pos (by simp only; omega)]
  by_cases hj : j.val = 0
  · rw [if_pos hj, tail_at]
    refine (H.gate _).trans (congrArg K.g (Fin.ext ?_))
    show 256 * t.val + (248 + 7) = _; simp only; omega
  · rw [if_neg hj]
    refine (H.gaten _ h).trans (congrArg K.g (Fin.ext ?_))
    simp only; omega

theorem down2'_eq (j : Fin 8) (h : t.val < 31) :
    (down2' xn (tail x) (ix2 j l) : EReal) = back K.g 2 ⟨256 * t.val + 256 + j.val, by omega⟩ := by
  rw [down2'_at]
  unfold back
  rw [dif_pos (by simp only; omega)]
  by_cases hj1 : j.val = 1
  · rw [if_pos hj1, tail_at]
    refine (H.gate _).trans (congrArg K.g (Fin.ext ?_))
    show 256 * t.val + (248 + 7) = _; simp only; omega
  rw [if_neg hj1]
  by_cases hj : j.val = 0
  · rw [if_pos hj, tail_at]
    refine (H.gate _).trans (congrArg K.g (Fin.ext ?_))
    show 256 * t.val + (248 + 6) = _; simp only; omega
  · rw [if_neg hj]
    refine (H.gaten _ h).trans (congrArg K.g (Fin.ext ?_))
    simp only; omega

theorem dconv'_eq (j : Fin 8) (h : t.val < 31) :
    (dconv' (conv' w b xn (down1' xn (tail x)) (down2' xn (tail x))) upn dan (ix2 j l) : EReal) = K.dconv ⟨256 * t.val + 256 + j.val, by omega⟩ := by
  rw [dconv'_at, conv'_at, H.down1'_eq j h, H.down2'_eq j h, H.gaten j h, H.upsn j h, H.dasn j h, H.tap0, H.tap1, H.tap2, H.bias]
  rfl

theorem up1_eq (dc : Rows) (dn : Eight) (hc : ∀ r : Fin 256, (dc (ix2 r l) : EReal) = K.dconv (rowAt t r))
    (hn : ∀ (j : Fin 8) (h : t.val < 31), (dn (ix2 j l) : EReal) = K.dconv ⟨256 * t.val + 256 + j.val, by omega⟩) (r : Fin 256) :
    (up1 v1 dc dn (ix2 r l) : EReal) = ahead K.dconv 1 (rowAt t r) := by
  rw [up1_at]
  unfold ahead
  by_cases hr : r.val = 255
  · rw [dif_pos hr]
    by_cases ht : t.val = 31
    · rw [H.last, if_pos ht, dif_neg (by simp only; omega)]; rfl
    · rw [H.last, if_neg ht, dif_pos (by simp only; omega)]
      refine (hn 0 (by omega)).trans (congrArg K.dconv (Fin.ext ?_))
      show 256 * t.val + 256 + 0 = _; simp only; omega
  · rw [dif_neg hr, dif_pos (by simp only; omega)]
    refine (hc _).trans (congrArg K.dconv (Fin.ext ?_))
    simp only; omega

theorem up2_eq (dc : Rows) (dn : Eight) (hc : ∀ r : Fin 256, (dc (ix2 r l) : EReal) = K.dconv (rowAt t r))
    (hn : ∀ (j : Fin 8) (h : t.val < 31), (dn (ix2 j l) : EReal) = K.dconv ⟨256 * t.val + 256 + j.val, by omega⟩) (r : Fin 256) :
    (up2 v1 dc dn (ix2 r l) : EReal) = ahead K.dconv 2 (rowAt t r) := by
  rw [up2_at]
  unfold ahead
  by_cases hr1 : r.val = 255
  · rw [dif_pos hr1]
    by_cases ht : t.val = 31
    · rw [H.last, if_pos ht, dif_neg (by simp only; omega)]; rfl
    · rw [H.last, if_neg ht, dif_pos (by simp only; omega)]
      refine (hn 1 (by omega)).trans (congrArg K.dconv (Fin.ext ?_))
      show 256 * t.val + 256 + 1 = _; simp only; omega
  rw [dif_neg hr1]
  by_cases hr : r.val = 254
  · rw [dif_pos hr]
    by_cases ht : t.val = 31
    · rw [H.last, if_pos ht, dif_neg (by simp only; omega)]; rfl
    · rw [H.last, if_neg ht, dif_pos (by simp only; omega)]
      refine (hn 0 (by omega)).trans (congrArg K.dconv (Fin.ext ?_))
      show 256 * t.val + 256 + 0 = _; simp only; omega
  · rw [dif_neg hr, dif_pos (by simp only; omega)]
    refine (hc _).trans (congrArg K.dconv (Fin.ext ?_))
    simp only; omega

theorem dgate_eq (r : Fin 256) :
    (dgate v1 w (dconv (conv w b x (down1 v0 x halo) (down2 v0 x halo)) up da)
      (dconv' (conv' w b xn (down1' xn (tail x)) (down2' xn (tail x))) upn dan) (ix2 r l) : EReal) = K.dgate (rowAt t r) := by
  rw [dgate_at, H.up1_eq _ _ H.dconv_eq H.dconv'_eq, H.up2_eq _ _ H.dconv_eq H.dconv'_eq, H.dconv_eq, H.tap0, H.tap1, H.tap2]
  rfl

theorem part_eq (j : Fin 8) :
    (part x (down1 v0 x halo) (down2 v0 x halo) (dconv (conv w b x (down1 v0 x halo) (down2 v0 x halo)) up da) (ix2 j l) : EReal) =
      ∑ r : Fin 256, K.tapTerm j (rowAt t r) := by
  rw [part_at]
  refine Finset.sum_congr rfl fun r _ => ?_
  rw [H.dconv_eq, H.down1_eq, H.down2_eq, H.gate]
  rfl

end Holds

end Cert.KernelIdeal.Chunk

end
-- ==== Proof.Blocks.lean ====
module

public import proofs.«01_k».proof.Proof.ChunkValue
public import proofs.«01_k».proof.Proof.Gen.KernelIdeal.Value
public import Idealize.ShloMosaic.Lib.Pipeline.ValueKit

@[expose] public section

/-!
  The blocks of a grid point, read as entries of the arrays the kernel is called with.
-/
set_option maxRecDepth 16384

noncomputable section

open Idealize.ShloMosaic Idealize.ShloMosaic.TcCoe Idealize.SL.Sem
open Idealize.ShloMosaic.Pipeline (Dat)

namespace Cert.KernelIdeal.ConvValue

open Cert.KernelIdeal Cert.KernelIdeal.Gen Cert.Conv Cert.KernelIdeal.Chunk

variable (m : (ℓ : Loc nD τ sig) → Buf (Elt Ideal) ℓ)

/-- Which block each window holds at grid point `t`. -/
theorem idx : ∀ t : Fin cfg0.N, t.val < 32 ∧ win0_0.index t = ![0, 0, t.val, 0] ∧ win0_1.index t = ![0, 0, 32 * t.val - 1, 0] ∧
    win0_2.index t = ![0, 0, min ((t.val + 1) * 32) 1023, 0] ∧ win0_3.index t = ![0, t.val, 0] ∧
    win0_4.index t = ![0, min ((t.val + 1) * 32) 1023, 0] ∧ win0_5.index t = ![0, 0, 0] ∧ win0_6.index t = ![0, 0, 0] ∧
    win0_7.index t = ![0, 0, 0] ∧ win0_8.index t = ![t.val, 0] ∧ win0_9.index t = ![0, 0, t.val, 0] ∧
    win0_10.index t = ![0, 0, 0] ∧ win0_11.index t = ![t.val, 0] ∧ (grid0.coords t 0).val = t.val :=
  (by decide +kernel : ∀ t : Fin grid0.N, _)

/-- The channel at column `l` of chunk `ch`. -/
def chan (c : Dev nD) (ch : Fin 4) (l : Fin 704) : Channel where
  w0 := V m c main_v10 (ix3 ch (0 : Fin 8) l)
  w1 := V m c main_v10 (ix3 ch (1 : Fin 8) l)
  w2 := V m c main_v10 (ix3 ch (2 : Fin 8) l)
  b := V m c main_v11 (ix3 ch (0 : Fin 1) l)
  g R := V m c main_v2 (ix4 ch (0 : Fin 2) R l)
  u R := V m c main_v2 (ix4 ch (1 : Fin 2) R l)
  d R := V m c main_v7 (ix3 ch R l)

variable (c : Dev nD) (t : Fin cfg0.N)

/-- The grid point as a number below 32. -/
abbrev pt (t : Fin cfg0.N) : Fin 32 := ⟨t.val, (idx t).1⟩

theorem gu_at (ch : Fin 4) (p : Fin 2) (r : Fin 256) (l : Fin 704) :
    iblk m c 0 t (ix4 ch p r l) = V m c main_v2 (ix4 ch p (rowAt (pt t) r) l) := by
  blk_ext [iblk, V, idx t]

theorem halo_at (ch : Fin 4) (j : Fin 8) (l : Fin 704) (h : 0 < t.val) :
    iblk m c 1 t (ix4 ch (0 : Fin 1) j l) = V m c main_v2 (ix4 ch (0 : Fin 2) (⟨256 * t.val - 8 + j.val, by have := (idx t).1; omega⟩ : Fin 8192) l) := by
  blk_ext [iblk, V, idx t]

theorem gun_at (ch : Fin 4) (p : Fin 2) (j : Fin 8) (l : Fin 704) (h : t.val < 31) :
    iblk m c 2 t (ix4 ch p j l) = V m c main_v2 (ix4 ch p (⟨256 * t.val + 256 + j.val, by omega⟩ : Fin 8192) l) := by
  blk_ext [iblk, V, idx t]

theorem da_at (ch : Fin 4) (r : Fin 256) (l : Fin 704) :
    iblk m c 3 t (ix3 ch r l) = V m c main_v7 (ix3 ch (rowAt (pt t) r) l) := by
  blk_ext [iblk, V, idx t]

theorem dan_at (ch : Fin 4) (j : Fin 8) (l : Fin 704) (h : t.val < 31) :
    iblk m c 4 t (ix3 ch j l) = V m c main_v7 (ix3 ch (⟨256 * t.val + 256 + j.val, by omega⟩ : Fin 8192) l) := by
  blk_ext [iblk, V, idx t]

theorem cw_at (ch : Fin 4) (j : Fin 8) (l : Fin 704) : iblk m c 5 t (ix3 ch j l) = V m c main_v10 (ix3 ch j l) := by
  blk_ext [iblk, V, idx t]

theorem cb_at (ch : Fin 4) (j : Fin 1) (l : Fin 704) : iblk m c 6 t (ix3 ch j l) = V m c main_v11 (ix3 ch j l) := by
  blk_ext [iblk, V, idx t]

theorem wfi_at (e : Fin 8) (k : Fin 704) (d : Fin 1024) : iblk m c 7 t (ix3 e k d) = V m c main_v5 (ix3 e k d) := by
  blk_ext [iblk, V, idx t]

theorem res_at (r : Fin 256) (d : Fin 1024) : iblk m c 8 t (ix2 r d) = V m c main_arg5 (ix2 (rowAt (pt t) r) d) := by
  blk_ext [iblk, V, idx t]

theorem first_eq : Scalar.cmpi .eq (BitVec.ofNat 32 (grid0.coords t 0).val) 0#32 = if (pt t).val = 0 then 1#1 else 0#1 := by
  have h := idx t
  rw [h.2.2.2.2.2.2.2.2.2.2.2.2.2]
  exact (by decide +kernel : ∀ s : Fin 32, Scalar.cmpi .eq (BitVec.ofNat 32 s.val) 0#32 = if s.val = 0 then 1#1 else 0#1) (pt t)

theorem last_eq : Scalar.cmpi .eq (BitVec.ofNat 32 (grid0.coords t 0).val) 31#32 = if (pt t).val = 31 then 1#1 else 0#1 := by
  have h := idx t
  rw [h.2.2.2.2.2.2.2.2.2.2.2.2.2]
  exact (by decide +kernel : ∀ s : Fin 32, Scalar.cmpi .eq (BitVec.ofNat 32 s.val) 31#32 = if s.val = 31 then 1#1 else 0#1) (pt t)

/-- The vectors the loop's step `ch` reads at grid point `t` hold the channels of chunk `ch`. -/
theorem holds (ch : Fin 4) (l : Fin 704) {x up da : Rows} {halo xn upn dan w : Eight} {b : Row}
    (hx : ∀ r l, (x (ix2 r l) : EReal) = iblk m c 0 t (ix4 ch (0 : Fin 2) r l))
    (hu : ∀ r l, (up (ix2 r l) : EReal) = iblk m c 0 t (ix4 ch (1 : Fin 2) r l))
    (hd : ∀ r l, (da (ix2 r l) : EReal) = iblk m c 3 t (ix3 ch r l))
    (hh : ∀ j l, (halo (ix2 j l) : EReal) = iblk m c 1 t (ix4 ch (0 : Fin 1) j l))
    (hxn : ∀ j l, (xn (ix2 j l) : EReal) = iblk m c 2 t (ix4 ch (0 : Fin 2) j l))
    (hun : ∀ j l, (upn (ix2 j l) : EReal) = iblk m c 2 t (ix4 ch (1 : Fin 2) j l))
    (hdn : ∀ j l, (dan (ix2 j l) : EReal) = iblk m c 4 t (ix3 ch j l))
    (hw : ∀ j l, (w (ix2 j l) : EReal) = iblk m c 5 t (ix3 ch j l))
    (hb : ∀ l, (b (ix2 0 l) : EReal) = iblk m c 6 t (ix3 ch (0 : Fin 1) l)) :
    Holds (chan m c ch l) (pt t) l (Scalar.cmpi .eq (BitVec.ofNat 32 (grid0.coords t 0).val) 0#32)
      (Scalar.cmpi .eq (BitVec.ofNat 32 (grid0.coords t 0).val) 31#32) x up da halo xn upn dan w b where
  first := first_eq t
  last := last_eq t
  gate r := (hx r l).trans (gu_at m c t ch 0 r l)
  ups r := (hu r l).trans (gu_at m c t ch 1 r l)
  das r := (hd r l).trans (da_at m c t ch r l)
  before j h := (hh j l).trans (halo_at m c t ch j l h)
  gaten j h := (hxn j l).trans (gun_at m c t ch 0 j l h)
  upsn j h := (hun j l).trans (gun_at m c t ch 1 j l h)
  dasn j h := (hdn j l).trans (dan_at m c t ch j l h)
  tap0 := (hw 0 l).trans (cw_at m c t ch 0 l)
  tap1 := (hw 1 l).trans (cw_at m c t ch 1 l)
  tap2 := (hw 2 l).trans (cw_at m c t ch 2 l)
  bias := (hb l).trans (cb_at m c t ch 0 l)

end Cert.KernelIdeal.ConvValue

end
-- ==== Proof.Layout.lean ====
module

public import proofs.«01_k».proof.Proof.Blocks

@[expose] public section

/-!
  The arrays that the region finds, read from the arguments: the product of the input with the weights and its layout in
  chunks of gate and up columns, the weights transposed in eighths, the incoming gradient, the taps and the bias in
  chunks.
-/
set_option maxRecDepth 16384

noncomputable section

open Idealize.ShloMosaic Idealize.ShloMosaic.TcCoe Idealize.SL.Sem

namespace Cert.KernelIdeal.ConvValue

open Cert.KernelIdeal Cert.KernelIdeal.Gen Cert.Conv

variable (m : (ℓ : Loc nD τ sig) → Buf (Elt Ideal) ℓ) (c : Dev nD)

/-- The product of the input with the weights. -/
abbrev prod (x0 : (⟨S8192x1024, .f32⟩ : BufTy).Contents (Elt Ideal)) (x1 : (⟨S1024x5632, .f32⟩ : BufTy).Contents (Elt Ideal)) :
    FVec Ideal S8192x5632 .f32 :=
  Host.dotGeneral (F := Ideal) (φ₁ := .f32) (φ₂ := .f32) dot_S8192x1024_S1024x5632_S8192x5632_1_0_0_1_n_n none (x0 : FVec Ideal S8192x1024 .f32) (x1 : FVec Ideal S1024x5632 .f32)

/-- Gate (`p = 0`) and up (`p = 1`) columns of the product, chunk `e`. -/
theorem entry_gu (x0 : (⟨S8192x1024, .f32⟩ : BufTy).Contents (Elt Ideal)) (x1 : (⟨S1024x5632, .f32⟩ : BufTy).Contents (Elt Ideal))
    (h0 : m ((c.tc : Thread nD τ).loc main_arg0) = x0) (h1 : m ((c.tc : Thread nD τ).loc main_arg1) = x1)
    (e : Fin 4) (p : Fin 2) (R : Fin 8192) (l : Fin 704) :
    (V m c main_v2 (ix4 e p R l) : EReal) =
      ∑ k : Fin 1024, x0 (ix2 R k) * x1 (ix2 k ⟨p.val * 2816 + (e.val * 704 + l.val), by omega⟩) := by
  simp only [V, hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp
  have hd : ∀ f : Fin 5632, (prod x0 x1 (ix2 R f) : EReal) =
      ∑ k : Fin 1024, x0 (ix2 R k) * x1 (ix2 k f) := by
    intro f
    pointwise [prod]
  rw [← hd]
  subst h0 h1
  change transpose S4x2x8192x704 [2, 1, 0, 3] (shapeCast S8192x2x4x704 (prod _ _) shapeCasts_S8192x5632_S8192x2x4x704) _ _ = _
  generalize prod _ _ = z
  have hs : ∀ q : Fin 5632, q.val = p.val * 2816 + (e.val * 704 + l.val) →
      shapeCast S8192x2x4x704 z shapeCasts_S8192x5632_S8192x2x4x704 (ix4 R p e l) = z (ix2 R q) := by
    intro q hq
    refine shapeCast_apply z _ _ _ ?_
    rw [Shape.rowMajor_val_two, Shape.rowMajor_val_four]
    show R.val * 5632 + q.val = ((R.val * 2 + p.val) * 4 + e.val) * 704 + l.val
    omega
  rw [← hs _ rfl]
  generalize shapeCast S8192x2x4x704 z shapeCasts_S8192x5632_S8192x2x4x704 = y
  pointwise

/-- The weights transposed, in eighths. -/
theorem entry_wt (e : Fin 8) (l : Fin 704) (d : Fin 1024) :
    (V m c main_v5 (ix3 e l d) : EReal) = m ((c.tc : Thread nD τ).loc main_arg1) (ix2 d ⟨e.val * 704 + l.val, by omega⟩) := by
  simp only [V, hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp
  pointwise

/-- The incoming gradient in chunks. -/
theorem entry_da (e : Fin 4) (R : Fin 8192) (l : Fin 704) :
    (V m c main_v7 (ix3 e R l) : EReal) = m ((c.tc : Thread nD τ).loc main_arg4) (ix2 R ⟨e.val * 704 + l.val, by omega⟩) := by
  simp only [V, hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp
  pointwise

/-- The taps in chunks. -/
theorem entry_cw (e : Fin 4) (j : Fin 3) (l : Fin 704) :
    (V m c main_v10 (ix3 e ⟨j.val, by omega⟩ l) : EReal) = m ((c.tc : Thread nD τ).loc main_arg2) (ix2 j ⟨e.val * 704 + l.val, by omega⟩) := by
  simp only [V, hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp
  pointwise
  exact dif_pos (by omega)

/-- The bias in chunks. -/
theorem entry_cb (e : Fin 4) (l : Fin 704) :
    (V m c main_v11 (ix3 e 0 l) : EReal) = m ((c.tc : Thread nD τ).loc main_arg3) (ix1 ⟨e.val * 704 + l.val, by omega⟩) := by
  simp only [V, hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results_simp
  pointwise

end Cert.KernelIdeal.ConvValue

end
-- ==== Proof.RefResults.lean ====
module

public import proofs.«01_k».proof.Proof.RefConv

@[expose] public section

/-!
  The reference's three results at an index.
-/
set_option maxRecDepth 16384

noncomputable section

open Idealize.ShloMosaic Idealize.ShloMosaic.TcCoe Idealize.SL.Sem

namespace Cert.ReferenceIdeal.ConvValue

open Cert.ReferenceIdeal Cert.ReferenceIdeal.Gen Cert.ReferenceIdeal.Read Cert.Conv

/-- The fourth root of the number of branches is the root of two. -/
theorem alpha_pow : Ideal.pow (Ideal.ofBits .f32 1082130432#32) (Ideal.ofBits .f32 1048576000#32) = ((Real.sqrt 2 : ℝ) : EReal) := by
  have h4 : Ideal.ofBits .f32 1082130432#32 = ((4 : ℝ) : EReal) := by simp [Ideal.ofBits, Ideal.ieee, -EReal.coe_mul]; norm_num
  have hq : Ideal.ofBits .f32 1048576000#32 = ((1 / 4 : ℝ) : EReal) := by simp [Ideal.ofBits, Ideal.ieee, -EReal.coe_mul]; norm_num
  rw [h4, hq, Ideal.pow_coe_coe]
  refine congrArg _ ?_
  show (4 : ℝ) ^ (1 / 4 : ℝ) = Real.sqrt 2
  rw [Real.sqrt_eq_rpow, show (4 : ℝ) = 2 ^ (2 : ℝ) by norm_num, ← Real.rpow_mul (by norm_num)]
  norm_num

variable {x0 : (⟨S8192x1024, .f32⟩ : BufTy).Contents (Elt Ideal)} {x1 : (⟨S1024x5632, .f32⟩ : BufTy).Contents (Elt Ideal)}
  {x2 : (⟨S3x2816, .f32⟩ : BufTy).Contents (Elt Ideal)} {x3 : (⟨S2816, .f32⟩ : BufTy).Contents (Elt Ideal)}
  {x4 : (⟨S8192x2816, .f32⟩ : BufTy).Contents (Elt Ideal)} (x5 : (⟨S8192x1024, .f32⟩ : BufTy).Contents (Elt Ideal))
  (hD : DconvIs x0 x1 x2 x3 x4)
include hD

/-- The gradient of gate and up values, chunk by chunk. -/
theorem dgu_at (c : Fin 4) (p : Fin 2) (R : Fin 8192) (l : Fin 704) :
    (val_main_v83 x0 x1 x2 x3 x4 (ix4 c p R l) : EReal) =
      if p.val = 0 then (chan x0 x1 x2 x3 x4 ⟨c.val * 704 + l.val, by omega⟩).dgate R
      else (chan x0 x1 x2 x3 x4 ⟨c.val * 704 + l.val, by omega⟩).dup R := by
  rw [← dgate_at hD, ← dup_at x0 x1 x2 x3 x4]
  have e : (val_main_v83 x0 x1 x2 x3 x4 (ix4 c p R l) : EReal) = val_main_v74 x0 x1 x2 x3 x4 (ix3 p R ⟨c.val * 704 + l.val, by omega⟩) := by
    rw [val_main_v83_apply, val_main_v76_apply]
    unfold val_main_v75
    generalize val_main_v74 x0 x1 x2 x3 x4 = v74
    refine shapeCast_apply v74 _ _ _ ?_
    rw [Shape.rowMajor_val_three, Shape.rowMajor_val_four]
    show (p.val * 8192 + R.val) * 2816 + (c.val * 704 + l.val) = ((p.val * 8192 + R.val) * 4 + c.val) * 704 + l.val
    omega
  rw [e]
  generalize hn : (⟨c.val * 704 + l.val, by omega⟩ : Fin 2816) = n
  clear e hD hn
  have k : ∀ a b : (⟨S8192x2816, .f32⟩ : BufTy).Contents (Elt Ideal),
      (concatenate S2x8192x2816 0 [⟨S1x8192x2816, broadcastInDim S1x8192x2816 ![1, 2] bcast_S8192x2816_S1x8192x2816_1_2 a⟩,
        ⟨S1x8192x2816, broadcastInDim S1x8192x2816 ![1, 2] bcast_S8192x2816_S1x8192x2816_1_2 b⟩]
        concatenates_S1x8192x2816_S1x8192x2816_S2x8192x2816_d0 (ix3 p R n) : EReal) =
      if p.val = 0 then a (ix2 R n) else b (ix2 R n) := by
    intro a b
    pointwise
    by_cases hp : p.val = 0
    · rw [dif_pos (by omega), if_pos hp]
    · rw [dif_neg (by omega), if_neg hp]
  exact k _ _

/-- The gradient of the taps and of the bias, chunk by chunk. -/
theorem dtaps_at (c : Fin 4) (j : Fin 8) (l : Fin 704) :
    (val_main_v81 x0 x1 x2 x3 x4 (ix3 c j l) : EReal) = (chan x0 x1 x2 x3 x4 ⟨c.val * 704 + l.val, by omega⟩).tap j := by
  have h0 := fun j => taps_at hD j ⟨c.val * 704 + l.val, by omega⟩
  have h1 := bias_at hD ⟨c.val * 704 + l.val, by omega⟩
  simp only [val_main_v81, val_main_v80, val_main_v79, val_main_v77]
  generalize val_main_v67 x0 x1 x2 x3 x4 = v67 at *
  generalize val_main_v56 x0 x1 x2 x3 x4 = v56 at *
  pointwise [val_main_v78, val_main_cst_15]
  by_cases hj : j.val < 3
  · rw [dif_pos hj, h0 ⟨j.val, hj⟩]
  · by_cases hj' : j.val = 3
    · rw [dif_neg hj, dif_pos (by omega), h1]
      exact congrArg _ (Fin.ext hj'.symm)
    · rw [dif_neg hj, dif_neg (by omega)]
      show (0 : EReal) = ∑ r : Fin 8192, Channel.tapTerm _ j r
      exact (Finset.sum_eq_zero fun r _ => by
        unfold Channel.tapTerm
        rw [if_neg (by omega), if_neg (by omega), if_neg (by omega), if_neg (by omega)]).symm

/-- The gradient at the product's result, gate columns then up columns. -/
def dz (x0 : (⟨S8192x1024, .f32⟩ : BufTy).Contents (Elt Ideal)) (x1 : (⟨S1024x5632, .f32⟩ : BufTy).Contents (Elt Ideal))
    (x2 : (⟨S3x2816, .f32⟩ : BufTy).Contents (Elt Ideal)) (x3 : (⟨S2816, .f32⟩ : BufTy).Contents (Elt Ideal))
    (x4 : (⟨S8192x2816, .f32⟩ : BufTy).Contents (Elt Ideal)) (R : Fin 8192) (n : Fin 5632) : EReal :=
  if h : n.val < 2816 then (chan x0 x1 x2 x3 x4 ⟨n.val, h⟩).dgate R else (chan x0 x1 x2 x3 x4 ⟨n.val - 2816, by omega⟩).dup R

/-- The gradient at the layer's input. -/
theorem dh_at (R : Fin 8192) (d : Fin 1024) :
    (val_main_v86 x0 x1 x2 x3 x4 x5 (ix2 R d) : EReal) =
      ((Real.sqrt 2 : ℝ) : EReal) * x5 (ix2 R d) + ∑ n : Fin 5632, dz x0 x1 x2 x3 x4 R n * x1 (ix2 d n) := by
  have hz : ∀ n : Fin 5632, (val_main_v70 x0 x1 x2 x3 x4 (ix2 R n) : EReal) = dz x0 x1 x2 x3 x4 R n := by
    intro n
    unfold dz
    have hg := fun f => dgate_at hD R f
    have hu := fun f => dup_at x0 x1 x2 x3 x4 R f
    simp only [val_main_v70]
    generalize val_main_v69 x0 x1 x2 x3 x4 = v69 at *
    generalize val_main_v31 x0 x1 x2 x3 x4 = v31 at *
    pointwise
    by_cases hn : n.val < 2816
    · rw [dif_pos hn, dif_pos hn, hg]
    · rw [dif_neg hn, dif_neg hn, hu]
  have e : (val_main_v86 x0 x1 x2 x3 x4 x5 (ix2 R d) : EReal) =
      val_main_v82 ix0 * x5 (ix2 R d) + ∑ n : Fin 5632, (val_main_v70 x0 x1 x2 x3 x4 (ix2 R n) : EReal) * x1 (ix2 d n) := by
    simp only [val_main_v86, val_main_v85, val_main_v71]
    generalize val_main_v70 x0 x1 x2 x3 x4 = v70 at *
    pointwise [val_main_v84]
  have a : (val_main_v82 (F := Ideal) ix0 : EReal) = ((Real.sqrt 2 : ℝ) : EReal) := by
    pointwise [val_main_v82, val_main_cst_16, val_main_cst_17]
    exact alpha_pow
  rw [e, a]
  refine congrArg (fun q : EReal => _ + q) (Finset.sum_congr rfl fun n _ => ?_)
  rw [hz]

end Cert.ReferenceIdeal.ConvValue

end
-- ==== Proof.BlockGate.lean ====
module

public import proofs.«01_k».proof.Proof.Blocks

@[expose] public section

/-!
  What a grid point writes into its block of the gate-and-up gradient.
-/
set_option maxRecDepth 16384

noncomputable section

open Idealize.ShloMosaic Idealize.ShloMosaic.TcCoe Idealize.SL.Sem
open Idealize.ShloMosaic.Pipeline (Dat)

namespace Cert.KernelIdeal.ConvValue

open Cert.KernelIdeal Cert.KernelIdeal.Gen Cert.Conv Cert.KernelIdeal.Chunk

variable (m : (ℓ : Loc nD τ sig) → Buf (Elt Ideal) ℓ)

/-- The gradient at the gate and up values, as the chunks lay it out. -/
def dguK (c : Dev nD) : S4x2x8192x704.Idx → EReal := fun y =>
  if (y 1).val = 0 then (chan m c (y 0) (y 3)).dgate (y 2) else (chan m c (y 0) (y 3)).dup (y 2)

/-- An entry of the gate's half. -/
theorem dguK_gate (c : Dev nD) (t : Fin cfg0.N) (ch : Fin 4) (z : S1x1x256x704.Idx) (y : S4x2x256x704.Idx)
    (h0 : (y 0).val = ch.val + (z 0).val) (h1 : (y 1).val = (z 1).val) (h2 : (y 2).val = (z 2).val) (h3 : (y 3).val = (z 3).val) :
    dguK m c (ix4 (y 0) (y 1) (rowAt (pt t) (y 2)) (y 3)) = (chan m c ch (z 3)).dgate (rowAt (pt t) (z 2)) := by
  have b0 : (z 0).val < 1 := (z 0).isLt
  have b1 : (z 1).val < 1 := (z 1).isLt
  have e0 : y 0 = ch := Fin.ext (by omega)
  have e2 : y 2 = z 2 := Fin.ext h2
  have e3 : y 3 = z 3 := Fin.ext h3
  have e1 : (y 1).val = 0 := by omega
  show (if (y 1).val = 0 then (chan m c (y 0) (y 3)).dgate (rowAt (pt t) (y 2)) else _) = _
  rw [if_pos e1, e0, e2, e3]

/-- An entry of the up values' half. -/
theorem dguK_up (c : Dev nD) (t : Fin cfg0.N) (ch : Fin 4) (z : S1x1x256x704.Idx) (y : S4x2x256x704.Idx)
    (h0 : (y 0).val = ch.val + (z 0).val) (h1 : (y 1).val = 1 + (z 1).val) (h2 : (y 2).val = (z 2).val) (h3 : (y 3).val = (z 3).val) :
    dguK m c (ix4 (y 0) (y 1) (rowAt (pt t) (y 2)) (y 3)) = (chan m c ch (z 3)).dup (rowAt (pt t) (z 2)) := by
  have b0 : (z 0).val < 1 := (z 0).isLt
  have e0 : y 0 = ch := Fin.ext (by omega)
  have e2 : y 2 = z 2 := Fin.ext h2
  have e3 : y 3 = z 3 := Fin.ext h3
  have e1 : ¬ (y 1).val = 0 := by omega
  show (if (y 1).val = 0 then _ else (chan m c (y 0) (y 3)).dup (rowAt (pt t) (y 2))) = _
  rw [if_neg e1, e0, e2, e3]

/-- A stored chunk read under its two unit axes. -/
theorem under_units (X : FVec Ideal S256x704 .bf16) (z : S1x1x256x704.Idx) :
    shapeCast S1x1x256x704 X shapeCasts_S256x704_S1x1x256x704 z = X (ix2 (z 2) (z 3)) := by
  pointwise

/-- A chunk's stored gradient at the up values is what the array holds. -/
theorem piece_dup (c : Dev nD) (t : Fin cfg0.N) (ch : Fin 4) {x da : Rows} {halo w : Eight} {b : Row}
    (z : S1x1x256x704.Idx) (y : S4x2x256x704.Idx)
    (h0 : (y 0).val = ch.val + (z 0).val) (h1 : (y 1).val = 1 + (z 1).val) (h2 : (y 2).val = (z 2).val) (h3 : (y 3).val = (z 3).val)
    (hx : ∀ r l, (x (ix2 r l) : EReal) = iblk m c 0 t (ix4 ch (0 : Fin 2) r l))
    (hd : ∀ r l, (da (ix2 r l) : EReal) = iblk m c 3 t (ix3 ch r l))
    (hh : ∀ j l, (halo (ix2 j l) : EReal) = iblk m c 1 t (ix4 ch (0 : Fin 1) j l))
    (hw : ∀ j l, (w (ix2 j l) : EReal) = iblk m c 5 t (ix3 ch j l))
    (hb : ∀ l, (b (ix2 0 l) : EReal) = iblk m c 6 t (ix3 ch (0 : Fin 1) l)) :
    (shapeCast S1x1x256x704 (dup (Chunk.conv w b x
        (down1 (Scalar.cmpi .eq (BitVec.ofNat 32 (grid0.coords t 0).val) 0#32) x halo)
        (down2 (Scalar.cmpi .eq (BitVec.ofNat 32 (grid0.coords t 0).val) 0#32) x halo)) da) shapeCasts_S256x704_S1x1x256x704 z : EReal) =
      dguK m c (ix4 (y 0) (y 1) (rowAt (pt t) (y 2)) (y 3)) := by
  have H := holds m c t ch (z 3) (up := fun i => iblk m c 0 t (ix4 ch (1 : Fin 2) (i 0) (i 1)))
    (xn := fun i => iblk m c 2 t (ix4 ch (0 : Fin 2) (i 0) (i 1))) (upn := fun i => iblk m c 2 t (ix4 ch (1 : Fin 2) (i 0) (i 1)))
    (dan := fun i => iblk m c 4 t (ix3 ch (i 0) (i 1))) hx (fun _ _ => rfl) hd hh (fun _ _ => rfl) (fun _ _ => rfl) (fun _ _ => rfl) hw hb
  exact (under_units _ z).trans ((H.dup_eq (z 2)).trans (dguK_up m c t ch z y h0 h1 h2 h3).symm)

/-- A chunk's stored gradient at the gate is what the array holds. -/
theorem piece_dgate (c : Dev nD) (t : Fin cfg0.N) (ch : Fin 4) {x up da : Rows} {halo xn upn dan w : Eight} {b : Row}
    (z : S1x1x256x704.Idx) (y : S4x2x256x704.Idx)
    (h0 : (y 0).val = ch.val + (z 0).val) (h1 : (y 1).val = (z 1).val) (h2 : (y 2).val = (z 2).val) (h3 : (y 3).val = (z 3).val)
    (hx : ∀ r l, (x (ix2 r l) : EReal) = iblk m c 0 t (ix4 ch (0 : Fin 2) r l))
    (hu : ∀ r l, (up (ix2 r l) : EReal) = iblk m c 0 t (ix4 ch (1 : Fin 2) r l))
    (hd : ∀ r l, (da (ix2 r l) : EReal) = iblk m c 3 t (ix3 ch r l))
    (hh : ∀ j l, (halo (ix2 j l) : EReal) = iblk m c 1 t (ix4 ch (0 : Fin 1) j l))
    (hxn : ∀ j l, (xn (ix2 j l) : EReal) = iblk m c 2 t (ix4 ch (0 : Fin 2) j l))
    (hun : ∀ j l, (upn (ix2 j l) : EReal) = iblk m c 2 t (ix4 ch (1 : Fin 2) j l))
    (hdn : ∀ j l, (dan (ix2 j l) : EReal) = iblk m c 4 t (ix3 ch j l))
    (hw : ∀ j l, (w (ix2 j l) : EReal) = iblk m c 5 t (ix3 ch j l))
    (hb : ∀ l, (b (ix2 0 l) : EReal) = iblk m c 6 t (ix3 ch (0 : Fin 1) l)) :
    (shapeCast S1x1x256x704 (dgate (Scalar.cmpi .eq (BitVec.ofNat 32 (grid0.coords t 0).val) 31#32) w
        (dconv (Chunk.conv w b x
          (down1 (Scalar.cmpi .eq (BitVec.ofNat 32 (grid0.coords t 0).val) 0#32) x halo)
          (down2 (Scalar.cmpi .eq (BitVec.ofNat 32 (grid0.coords t 0).val) 0#32) x halo)) up da)
        (dconv' (conv' w b xn (down1' xn (tail x)) (down2' xn (tail x))) upn dan)) shapeCasts_S256x704_S1x1x256x704 z : EReal) =
      dguK m c (ix4 (y 0) (y 1) (rowAt (pt t) (y 2)) (y 3)) := by
  have H := holds m c t ch (z 3) hx hu hd hh hxn hun hdn hw hb
  exact (under_units _ z).trans ((H.dgate_eq (z 2)).trans (dguK_gate m c t ch z y h0 h1 h2 h3).symm)

set_option maxHeartbeats 1600000 in
/-- What grid point `t` leaves in its block, at the first point. -/
theorem out9_A (c : Dev nD) (t : Fin cfg0.N) (y : S4x2x256x704.Idx) (hc : t.val % 32 = 0) :
    ((outsAt0 m c t.val t.isLt).1 y : EReal) = dguK m c (ix4 (y 0) (y 1) (rowAt (pt t) (y 2)) (y 3)) := by
  rw [outsAt0_A m c t hc]
  frame_out
  canon_tiles x h
  · refine piece_dup m c t 3 x y h0 h1 h2 h3 (hx := ?_) (hd := ?_) (hh := ?_) (hw := ?_) (hb := ?_)
    · intro r l; pointwise
    · intro r l; pointwise
    · intro r l; pointwise
    · intro r l; pointwise
    · intro l; pointwise
  · refine piece_dgate m c t 3 x y h0 h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise
  · refine piece_dup m c t 2 x y h0 h1 h2 h3 (hx := ?_) (hd := ?_) (hh := ?_) (hw := ?_) (hb := ?_)
    · intro r l; pointwise
    · intro r l; pointwise
    · intro r l; pointwise
    · intro r l; pointwise
    · intro l; pointwise
  · refine piece_dgate m c t 2 x y h0 h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise
  · refine piece_dup m c t 1 x y h0 h1 h2 h3 (hx := ?_) (hd := ?_) (hh := ?_) (hw := ?_) (hb := ?_)
    · intro r l; pointwise
    · intro r l; pointwise
    · intro r l; pointwise
    · intro r l; pointwise
    · intro l; pointwise
  · refine piece_dgate m c t 1 x y h0 h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise
  · dsimp only [k0_pay4, k0_pay5, k0_pay6, k0_pay7, k0_pay8, k0_pay9, k0_pay10]
    refine piece_dup m c t 0 x y (by simpa using h0) h1 h2 h3 (hx := ?_) (hd := ?_) (hh := ?_) (hw := ?_) (hb := ?_)
    · intro r l; pointwise
    · intro r l; pointwise
    · intro r l; pointwise
    · intro r l; pointwise
    · intro l; pointwise
  · dsimp only [k0_pay4, k0_pay5, k0_pay6, k0_pay7, k0_pay8, k0_pay9, k0_pay10]
    refine piece_dgate m c t 0 x y (by simpa using h0) h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise

set_option maxHeartbeats 1600000 in
/-- What grid point `t` leaves in its block, at a later point. -/
theorem out9_B (c : Dev nD) (t : Fin cfg0.N) (y : S4x2x256x704.Idx) (hc : ¬ t.val % 32 = 0) :
    ((outsAt0 m c t.val t.isLt).1 y : EReal) = dguK m c (ix4 (y 0) (y 1) (rowAt (pt t) (y 2)) (y 3)) := by
  rw [outsAt0_B m c t hc]
  frame_out
  canon_tiles x h
  · refine piece_dup m c t 3 x y h0 h1 h2 h3 (hx := ?_) (hd := ?_) (hh := ?_) (hw := ?_) (hb := ?_)
    · intro r l; pointwise
    · intro r l; pointwise
    · intro r l; pointwise
    · intro r l; pointwise
    · intro l; pointwise
  · refine piece_dgate m c t 3 x y h0 h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise
  · refine piece_dup m c t 2 x y h0 h1 h2 h3 (hx := ?_) (hd := ?_) (hh := ?_) (hw := ?_) (hb := ?_)
    · intro r l; pointwise
    · intro r l; pointwise
    · intro r l; pointwise
    · intro r l; pointwise
    · intro l; pointwise
  · refine piece_dgate m c t 2 x y h0 h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise
  · refine piece_dup m c t 1 x y h0 h1 h2 h3 (hx := ?_) (hd := ?_) (hh := ?_) (hw := ?_) (hb := ?_)
    · intro r l; pointwise
    · intro r l; pointwise
    · intro r l; pointwise
    · intro r l; pointwise
    · intro l; pointwise
  · refine piece_dgate m c t 1 x y h0 h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise
  · dsimp only [k0_pay4, k0_pay5, k0_pay6, k0_pay7, k0_pay8, k0_pay9, k0_pay10]
    refine piece_dup m c t 0 x y (by simpa using h0) h1 h2 h3 (hx := ?_) (hd := ?_) (hh := ?_) (hw := ?_) (hb := ?_)
    · intro r l; pointwise
    · intro r l; pointwise
    · intro r l; pointwise
    · intro r l; pointwise
    · intro l; pointwise
  · dsimp only [k0_pay4, k0_pay5, k0_pay6, k0_pay7, k0_pay8, k0_pay9, k0_pay10]
    refine piece_dgate m c t 0 x y (by simpa using h0) h1 h2 h3 (hx := ?_) (hu := ?_) (hd := ?_) (hh := ?_) (hxn := ?_) (hun := ?_) (hdn := ?_) (hw := ?_) (hb := ?_)
    · intro r l; pointwise
    · intro r l; pointwise
    · intro r l; pointwise
    · intro r l; pointwise
    · intro r l; pointwise
    · intro r l; pointwise
    · intro r l; pointwise
    · intro r l; pointwise
    · intro l; pointwise

/-- What grid point `t` leaves in its block. -/
theorem out9 (c : Dev nD) (t : Fin cfg0.N) (y : S4x2x256x704.Idx) :
    ((outsAt0 m c t.val t.isLt).1 y : EReal) = dguK m c (ix4 (y 0) (y 1) (rowAt (pt t) (y 2)) (y 3)) := by
  by_cases h0 : t.val % 32 = 0
  · exact out9_A m c t y h0
  · exact out9_B m c t y h0

/-- The array of the gate-and-up gradient after the run. -/
theorem final9 (c : Dev nD) (i : S4x2x8192x704.Idx) : ((dats m 0 c).arrAt 9 cfg0.N i : EReal) = dguK m c i := by
  refine congrFun ((dats m 0 c).arrAt_eq_of_covers 9 (dguK m c) (by decide +kernel) fun t hf y => ?_) i
  blk_simp
  rw [after0_9]
  refine (out9 m c t y).trans ?_
  congr 1
  blk_ext [idx t]

end Cert.KernelIdeal.ConvValue

end
-- ==== Proof.BlockTaps.lean ====
module

public import proofs.«01_k».proof.Proof.Blocks
public import Idealize.ShloMosaic.Lib.Pipeline.ReadBack

@[expose] public section

/-!
  The gradient of the taps and the bias: every grid point adds its rows, the first point to zero.
-/
set_option maxRecDepth 16384

noncomputable section

open Idealize.ShloMosaic Idealize.ShloMosaic.TcCoe Idealize.SL.Sem
open Idealize.ShloMosaic.Pipeline (Dat)

namespace Cert.KernelIdeal.ConvValue

open Cert.KernelIdeal Cert.KernelIdeal.Gen Cert.Conv Cert.KernelIdeal.Chunk

variable (m : (ℓ : Loc nD τ sig) → Buf (Elt Ideal) ℓ)

/-- Stores that cover an index leave there what they leave without the earlier stores. -/
theorem canon_without_earlier {S : Shape} {e : EltTy} {Val : EltTy → Type} [∀ e, Nonempty (Val e)]
    (L' : List (View.Piece Val S e)) (y : S.Idx) :
    ∀ (L : List (View.Piece Val S e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem p _ hm, View.canon_cons_of_not_mem p _ hm]
      refine canon_without_earlier L' y L ?_
      obtain ⟨q, hq, hy⟩ := hy
      rcases List.mem_cons.1 hq with rfl | hq
      · exact absurd hy hm
      · exact ⟨q, hq, hy⟩

/-- A stored chunk read under its unit axis. -/
theorem under_unit (X : Eight) (z : S1x8x704.Idx) :
    shapeCast S1x8x704 X shapeCasts_S8x704_S1x8x704 z = X (ix2 (z 1) (z 2)) := by
  pointwise

/-- A chunk's index in the stacked array. -/
theorem at_chunk (ch : Fin 4) (z : S1x8x704.Idx) (y : S4x8x704.Idx)
    (h0 : (y 0).val = ch.val + (z 0).val) (h1 : (y 1).val = (z 1).val) (h2 : (y 2).val = (z 2).val) :
    (ix3 ch (z 1) (z 2) : S4x8x704.Idx) = y := by
  have b0 : (z 0).val < 1 := (z 0).isLt
  have e0 : ch = y 0 := Fin.ext (by omega)
  have e1 : z 1 = y 1 := Fin.ext h1.symm
  have e2 : z 2 = y 2 := Fin.ext h2.symm
  rw [e0, e1, e2]
  exact ix3_eta y

/-- What grid point `t` adds to the gradient of the taps. -/
def tapsPart (c : Dev nD) (t : Fin 32) (y : S4x8x704.Idx) : EReal :=
  ∑ r : Fin 256, (chan m c (y 0) (y 2)).tapTerm (y 1) (rowAt t r)

/-- A chunk's stored taps: what it read back and the point's part. -/
theorem piece_tap (c : Dev nD) (t : Fin cfg0.N) (ch : Fin 4) {x up da : Rows} {halo w acc : Eight} {b : Row}
    (z : S1x8x704.Idx) (y : S4x8x704.Idx) (A : EReal)
    (h0 : (y 0).val = ch.val + (z 0).val) (h1 : (y 1).val = (z 1).val) (h2 : (y 2).val = (z 2).val)
    (ha : (acc (ix2 (z 1) (z 2)) : EReal) = A)
    (hx : ∀ r l, (x (ix2 r l) : EReal) = iblk m c 0 t (ix4 ch (0 : Fin 2) r l))
    (hu : ∀ r l, (up (ix2 r l) : EReal) = iblk m c 0 t (ix4 ch (1 : Fin 2) r l))
    (hd : ∀ r l, (da (ix2 r l) : EReal) = iblk m c 3 t (ix3 ch r l))
    (hh : ∀ j l, (halo (ix2 j l) : EReal) = iblk m c 1 t (ix4 ch (0 : Fin 1) j l))
    (hw : ∀ j l, (w (ix2 j l) : EReal) = iblk m c 5 t (ix3 ch j l))
    (hb : ∀ l, (b (ix2 0 l) : EReal) = iblk m c 6 t (ix3 ch (0 : Fin 1) l)) :
    (shapeCast S1x8x704 (addf acc (part x
          (down1 (Scalar.cmpi .eq (BitVec.ofNat 32 (grid0.coords t 0).val) 0#32) x halo)
          (down2 (Scalar.cmpi .eq (BitVec.ofNat 32 (grid0.coords t 0).val) 0#32) x halo)
        (dconv (Chunk.conv w b x
          (down1 (Scalar.cmpi .eq (BitVec.ofNat 32 (grid0.coords t 0).val) 0#32) x halo)
          (down2 (Scalar.cmpi .eq (BitVec.ofNat 32 (grid0.coords t 0).val) 0#32) x halo)) up da))) shapeCasts_S8x704_S1x8x704 z : EReal) =
      A + tapsPart m c (pt t) y := by
  have H := holds m c t ch (z 2)
    (xn := fun i => iblk m c 2 t (ix4 ch (0 : Fin 2) (i 0) (i 1))) (upn := fun i => iblk m c 2 t (ix4 ch (1 : Fin 2) (i 0) (i 1)))
    (dan := fun i => iblk m c 4 t (ix3 ch (i 0) (i 1))) hx hu hd hh (fun _ _ => rfl) (fun _ _ => rfl) (fun _ _ => rfl) hw hb
  have b0 : (z 0).val < 1 := (z 0).isLt
  have e0 : y 0 = ch := Fin.ext (by omega)
  have e1 : y 1 = z 1 := Fin.ext h1
  have e2 : y 2 = z 2 := Fin.ext h2
  refine (under_unit _ z).trans ?_
  refine (congrArg₂ (fun p q : EReal => p + q) ha (H.part_eq (z 1))).trans ?_
  unfold tapsPart
  rw [e0, e1, e2]

set_option maxHeartbeats 1600000 in
/-- At the first grid point the block holds the point's part. -/
theorem out10_A (c : Dev nD) (t : Fin cfg0.N) (y : S4x8x704.Idx) (hc : t.val % 32 = 0) :
    ((outsAt0 m c t.val t.isLt).2.1 y : EReal) = 0 + tapsPart m c (pt t) y := by
  rw [outsAt0_A m c t hc]
  frame_out
  change View.canon ([_, _, _, _] ++ [_]) _ = _
  rw [canon_without_earlier _ _ _ (View.cover_of_tiled_head _ _ _ (by rfl) y)]
  canon_tiles x h
  · dsimp only [k0_pay1, k0_pay125]
    refine piece_tap m c t 3 x y 0 h0 h1 h2 (ha := ?_) (hx := ?_) (hu := ?_) (hd := ?_) (hh := ?_) (hw := ?_) (hb := ?_)
    · rw [View.readCov_skip _ _ _ _ _ (by rfl), View.readCov_skip _ _ _ _ _ (by rfl), View.readCov_skip _ _ _ _ _ (by rfl), View.readCov_fill _ _ _ _ _ (by decide)]
      pointwise [k0_pay2]
    · intro r l; pointwise
    · intro r l; pointwise
    · intro r l; pointwise
    · intro r l; pointwise
    · intro r l; pointwise
    · intro l; pointwise
  · refine piece_tap m c t 2 x y 0 h0 h1 h2 (ha := ?_) (hx := ?_) (hu := ?_) (hd := ?_) (hh := ?_) (hw := ?_) (hb := ?_)
    · rw [View.readCov_skip _ _ _ _ _ (by rfl), View.readCov_skip _ _ _ _ _ (by rfl), View.readCov_fill _ _ _ _ _ (by decide)]
      pointwise [k0_pay2]
    · intro r l; pointwise
    · intro r l; pointwise
    · intro r l; pointwise
    · intro r l; pointwise
    · intro r l; pointwise
    · intro l; pointwise
  · refine piece_tap m c t 1 x y 0 h0 h1 h2 (ha := ?_) (hx := ?_) (hu := ?_) (hd := ?_) (hh := ?_) (hw := ?_) (hb := ?_)
    · rw [View.readCov_skip _ _ _ _ _ (by rfl), View.readCov_fill _ _ _ _ _ (by decide)]
      pointwise [k0_pay2]
    · intro r l; pointwise
    · intro r l; pointwise
    · intro r l; pointwise
    · intro r l; pointwise
    · intro r l; pointwise
    · intro l; pointwise
  · dsimp only [k0_pay4, k0_pay5, k0_pay6, k0_pay7, k0_pay8, k0_pay9, k0_pay10]
    refine piece_tap m c t 0 x y 0 (by simpa using h0) h1 h2 (ha := ?_) (hx := ?_) (hu := ?_) (hd := ?_) (hh := ?_) (hw := ?_) (hb := ?_)
    · rw [View.readCov_fill _ _ _ _ _ (by decide)]
      pointwise [k0_pay2]
    · intro r l; pointwise
    · intro r l; pointwise
    · intro r l; pointwise
    · intro r l; pointwise
    · intro r l; pointwise
    · intro l; pointwise

set_option maxHeartbeats 1600000 in
/-- At a later grid point the block holds what it held and the point's part. -/
theorem out10_B (c : Dev nD) (t : Fin cfg0.N) (y : S4x8x704.Idx) (hc : ¬ t.val % 32 = 0) :
    ((outsAt0 m c t.val t.isLt).2.1 y : EReal) = ((outsAt0 m c (t.val - 1) (by omega)).2.1 y : EReal) + tapsPart m c (pt t) y := by
  rw [outsAt0_B m c t hc]
  frame_out
  canon_tiles x h
  · dsimp only [k0_pay1, k0_pay125]
    refine piece_tap m c t 3 x y _ h0 h1 h2 (ha := ?_) (hx := ?_) (hu := ?_) (hd := ?_) (hh := ?_) (hw := ?_) (hb := ?_)
    · generalize (outsAt0 m c (t.val - 1) _).2.1 = P
      pointwise
      exact congrArg P (at_chunk 3 x y h0 h1 h2)
    · intro r l; pointwise
    · intro r l; pointwise
    · intro r l; pointwise
    · intro r l; pointwise
    · intro r l; pointwise
    · intro l; pointwise
  · refine piece_tap m c t 2 x y _ h0 h1 h2 (ha := ?_) (hx := ?_) (hu := ?_) (hd := ?_) (hh := ?_) (hw := ?_) (hb := ?_)
    · generalize (outsAt0 m c (t.val - 1) _).2.1 = P
      pointwise
      exact congrArg P (at_chunk 2 x y h0 h1 h2)
    · intro r l; pointwise
    · intro r l; pointwise
    · intro r l; pointwise
    · intro r l; pointwise
    · intro r l; pointwise
    · intro l; pointwise
  · refine piece_tap m c t 1 x y _ h0 h1 h2 (ha := ?_) (hx := ?_) (hu := ?_) (hd := ?_) (hh := ?_) (hw := ?_) (hb := ?_)
    · generalize (outsAt0 m c (t.val - 1) _).2.1 = P
      pointwise
      exact congrArg P (at_chunk 1 x y h0 h1 h2)
    · intro r l; pointwise
    · intro r l; pointwise
    · intro r l; pointwise
    · intro r l; pointwise
    · intro r l; pointwise
    · intro l; pointwise
  · dsimp only [k0_pay4, k0_pay5, k0_pay6, k0_pay7, k0_pay8, k0_pay9, k0_pay10]
    refine piece_tap m c t 0 x y _ (by simpa using h0) h1 h2 (ha := ?_) (hx := ?_) (hu := ?_) (hd := ?_) (hh := ?_) (hw := ?_) (hb := ?_)
    · generalize (outsAt0 m c (t.val - 1) _).2.1 = P
      pointwise
      exact congrArg P (at_chunk 0 x y (by simpa using h0) h1 h2)
    · intro r l; pointwise
    · intro r l; pointwise
    · intro r l; pointwise
    · intro r l; pointwise
    · intro r l; pointwise
    · intro l; pointwise

/-- The array of the taps' gradient after the run. -/
def tapsK (c : Dev nD) : S4x8x704.Idx → EReal := fun y => (chan m c (y 0) (y 2)).tap (y 1)

/-- The points' parts together are the sum over all rows. -/
theorem sum_tapsPart (c : Dev nD) (y : S4x8x704.Idx) : ∑ t : Fin 32, tapsPart m c t y = tapsK m c y := by
  unfold tapsPart tapsK Channel.tap
  rw [Fin.sum_univ_tiles 32 256 rfl]
  refine Finset.sum_congr rfl fun t _ => Finset.sum_congr rfl fun r _ => ?_
  refine congrArg (Channel.tapTerm _ _) (Fin.ext ?_)
  show 256 * t.val + r.val = t.val * 256 + r.val
  omega

theorem final10 (c : Dev nD) (i : S4x8x704.Idx) : ((dats m 0 c).arrAt 10 cfg0.N i : EReal) = tapsK m c i := by
  refine congrFun ((dats m 0 c).arrAt_eq_of_covers 10 (tapsK m c) (by decide +kernel) fun t hf y => ?_) i
  blk_simp
  rw [after0_10]
  refine (Pipeline.eq_sum_fin_of_reset_step_apply_of_flush (fun n h => (outsAt0 m c n h).2.1) 32 (fun _ => (0 : EReal))
    (fun s y => tapsPart m c (pt s) y) (fun t h y => out10_A m c t y h) (fun t h y => out10_B m c t y h) t ((flush0_10 t).mp hf) y).trans ?_
  rw [zero_add]
  have e : (win0_10.blk t).view.emb y = y := by blk_ext [idx t]
  rw [e, ← sum_tapsPart]
  have ht := (idx t).1
  have hz : 32 * (t.val / 32) = 0 := by omega
  refine Finset.sum_congr rfl fun s _ => ?_
  refine congrArg (fun s => tapsPart m c s y) (Fin.ext ?_)
  show 32 * (t.val / 32) + s.val = s.val
  omega

end Cert.KernelIdeal.ConvValue

end
-- ==== Proof.BlockInput.lean ====
module

public import proofs.«01_k».proof.Proof.Blocks

@[expose] public section

/-!
  The gradient at the layer's input: the scaled residual gradient and, chunk by chunk, the products of the gate's and
  the up values' gradient with the transposed weights.
-/
set_option maxRecDepth 16384

noncomputable section

open Idealize.ShloMosaic Idealize.ShloMosaic.TcCoe Idealize.SL.Sem
open Idealize.ShloMosaic.Pipeline (Dat)

namespace Cert.KernelIdeal.ConvValue

open Cert.KernelIdeal Cert.KernelIdeal.Gen Cert.Conv Cert.KernelIdeal.Chunk

variable (m : (ℓ : Loc nD τ sig) → Buf (Elt Ideal) ℓ)

/-- The residual's scale. -/
def scaleK : EReal := (Named.named κ "alpha" 0x3FB504F3#32 : Ideal .f32)

/-- The gradient at the feed-forward input, by eighths: the gate's four chunks, then the up values' four. -/
def dzK (c : Dev nD) (e : Fin 8) (k : Fin 704) (R : Fin 8192) : EReal :=
  if h : e.val < 4 then (chan m c ⟨e.val, h⟩ k).dgate R else (chan m c ⟨e.val - 4, by omega⟩ k).dup R

/-- The array of the gradient at the layer's input. -/
def dhK (c : Dev nD) : S8192x1024.Idx → EReal := fun y =>
  scaleK * V m c main_arg5 y + ∑ e : Fin 8, ∑ k : Fin 704, dzK m c e k (y 0) * V m c main_v5 (ix3 e k (y 1))

/-- A product of a chunk with an eighth of the weights. -/
theorem product_at (X : FVec Ideal S256x704 .bf16) (W : FVec Ideal S704x1024 .bf16) (r : Fin 256) (d : Fin 1024) :
    (matmul dot_S256x704_S704x1024_S256x1024_1_0_0_1_n_n none X W (constant S256x1024 FTy.f32 0#32) (ix2 r d) : EReal) =
      ∑ k : Fin 704, (X (ix2 r k) : EReal) * W (ix2 k d) := by
  pointwise

/-- Nine terms added one after the other. -/
theorem sum_at (A P0 Q0 P1 Q1 P2 Q2 P3 Q3 : FVec Ideal S256x1024 .f32) (y : S256x1024.Idx) (a : EReal) (p : Fin 8 → EReal)
    (ha : A y = a) (h0 : P0 y = p 0) (h4 : Q0 y = p 4) (h1 : P1 y = p 1) (h5 : Q1 y = p 5) (h2 : P2 y = p 2) (h6 : Q2 y = p 6)
    (h3 : P3 y = p 3) (h7 : Q3 y = p 7) :
    (addf (addf (addf (addf (addf (addf (addf (addf A P0) Q0) P1) Q1) P2) Q2) P3) Q3 y : EReal) = a + ∑ e : Fin 8, p e := by
  have e : (addf (addf (addf (addf (addf (addf (addf (addf A P0) Q0) P1) Q1) P2) Q2) P3) Q3 y : EReal) =
      (((((((A y + P0 y) + Q0 y) + P1 y) + Q1 y) + P2 y) + Q2 y) + P3 y) + Q3 y := rfl
  rw [e, ha, h0, h1, h2, h3, h4, h5, h6, h7, Fin.sum_univ_eight]
  ac_rfl

variable (c : Dev nD) (t : Fin cfg0.N)

/-- The product of chunk `ch`'s gate gradient with its eighth of the weights. -/
theorem product_dgate (ch : Fin 4) {x up da : Rows} {halo xn upn dan w : Eight} {b : Row} {W : FVec Ideal S704x1024 .bf16}
    (y : S256x1024.Idx) (e : Fin 8) (he : e.val = ch.val)
    (hx : ∀ r l, (x (ix2 r l) : EReal) = iblk m c 0 t (ix4 ch (0 : Fin 2) r l))
    (hu : ∀ r l, (up (ix2 r l) : EReal) = iblk m c 0 t (ix4 ch (1 : Fin 2) r l))
    (hd : ∀ r l, (da (ix2 r l) : EReal) = iblk m c 3 t (ix3 ch r l))
    (hh : ∀ j l, (halo (ix2 j l) : EReal) = iblk m c 1 t (ix4 ch (0 : Fin 1) j l))
    (hxn : ∀ j l, (xn (ix2 j l) : EReal) = iblk m c 2 t (ix4 ch (0 : Fin 2) j l))
    (hun : ∀ j l, (upn (ix2 j l) : EReal) = iblk m c 2 t (ix4 ch (1 : Fin 2) j l))
    (hdn : ∀ j l, (dan (ix2 j l) : EReal) = iblk m c 4 t (ix3 ch j l))
    (hw : ∀ j l, (w (ix2 j l) : EReal) = iblk m c 5 t (ix3 ch j l))
    (hb : ∀ l, (b (ix2 0 l) : EReal) = iblk m c 6 t (ix3 ch (0 : Fin 1) l))
    (hW : ∀ k d, (W (ix2 k d) : EReal) = iblk m c 7 t (ix3 e k d)) :
    (matmul dot_S256x704_S704x1024_S256x1024_1_0_0_1_n_n none (dgate (Scalar.cmpi .eq (BitVec.ofNat 32 (grid0.coords t 0).val) 31#32) w
        (dconv (Chunk.conv w b x
          (down1 (Scalar.cmpi .eq (BitVec.ofNat 32 (grid0.coords t 0).val) 0#32) x halo)
          (down2 (Scalar.cmpi .eq (BitVec.ofNat 32 (grid0.coords t 0).val) 0#32) x halo)) up da)
        (dconv' (conv' w b xn (down1' xn (tail x)) (down2' xn (tail x))) upn dan)) W (constant S256x1024 FTy.f32 0#32) y : EReal) =
      ∑ k : Fin 704, dzK m c e k (rowAt (pt t) (y 0)) * V m c main_v5 (ix3 e k (y 1)) := by
  rw [← ix2_eta y]
  refine (product_at _ W (y 0) (y 1)).trans (Finset.sum_congr rfl fun k _ => ?_)
  refine congrArg₂ (fun p q : EReal => p * q) ?_ ((hW k (y 1)).trans (wfi_at m c t e k (y 1)))
  refine ((holds m c t ch k hx hu hd hh hxn hun hdn hw hb).dgate_eq (y 0)).trans ?_
  have h : e.val < 4 := by omega
  unfold dzK
  rw [dif_pos h]
  have : (⟨e.val, h⟩ : Fin 4) = ch := Fin.ext he
  rw [this]
  rfl

/-- The product of chunk `ch`'s up gradient with its eighth of the weights. -/
theorem product_dup (ch : Fin 4) {x da : Rows} {halo w : Eight} {b : Row} {W : FVec Ideal S704x1024 .bf16}
    (y : S256x1024.Idx) (e : Fin 8) (he : e.val = 4 + ch.val)
    (hx : ∀ r l, (x (ix2 r l) : EReal) = iblk m c 0 t (ix4 ch (0 : Fin 2) r l))
    (hd : ∀ r l, (da (ix2 r l) : EReal) = iblk m c 3 t (ix3 ch r l))
    (hh : ∀ j l, (halo (ix2 j l) : EReal) = iblk m c 1 t (ix4 ch (0 : Fin 1) j l))
    (hw : ∀ j l, (w (ix2 j l) : EReal) = iblk m c 5 t (ix3 ch j l))
    (hb : ∀ l, (b (ix2 0 l) : EReal) = iblk m c 6 t (ix3 ch (0 : Fin 1) l))
    (hW : ∀ k d, (W (ix2 k d) : EReal) = iblk m c 7 t (ix3 e k d)) :
    (matmul dot_S256x704_S704x1024_S256x1024_1_0_0_1_n_n none (dup (Chunk.conv w b x
        (down1 (Scalar.cmpi .eq (BitVec.ofNat 32 (grid0.coords t 0).val) 0#32) x halo)
        (down2 (Scalar.cmpi .eq (BitVec.ofNat 32 (grid0.coords t 0).val) 0#32) x halo)) da) W (constant S256x1024 FTy.f32 0#32) y : EReal) =
      ∑ k : Fin 704, dzK m c e k (rowAt (pt t) (y 0)) * V m c main_v5 (ix3 e k (y 1)) := by
  rw [← ix2_eta y]
  refine (product_at _ W (y 0) (y 1)).trans (Finset.sum_congr rfl fun k _ => ?_)
  refine congrArg₂ (fun p q : EReal => p * q) ?_ ((hW k (y 1)).trans (wfi_at m c t e k (y 1)))
  have H := holds m c t ch k (up := fun i => iblk m c 0 t (ix4 ch (1 : Fin 2) (i 0) (i 1)))
    (xn := fun i => iblk m c 2 t (ix4 ch (0 : Fin 2) (i 0) (i 1))) (upn := fun i => iblk m c 2 t (ix4 ch (1 : Fin 2) (i 0) (i 1)))
    (dan := fun i => iblk m c 4 t (ix3 ch (i 0) (i 1))) hx (fun _ _ => rfl) hd hh (fun _ _ => rfl) (fun _ _ => rfl) (fun _ _ => rfl) hw hb
  refine (H.dup_eq (y 0)).trans ?_
  have h : ¬ e.val < 4 := by omega
  unfold dzK
  rw [dif_neg h]
  have : (⟨e.val - 4, by omega⟩ : Fin 4) = ch := Fin.ext (by show e.val - 4 = ch.val; omega)
  rw [this]
  rfl

set_option maxHeartbeats 3200000 in
/-- What grid point `t` leaves in its block, at the first point. -/
theorem out11_A (y : S256x1024.Idx) (hc : t.val % 32 = 0) :
    ((outsAt0 m c t.val t.isLt).2.2 y : EReal) = dhK m c (ix2 (rowAt (pt t) (y 0)) (y 1)) := by
  rw [outsAt0_A m c t hc]
  frame_out
  refine sum_at _ _ _ _ _ _ _ _ _ y _ (fun e => ∑ k : Fin 704, dzK m c e k (rowAt (pt t) (y 0)) * V m c main_v5 (ix3 e k (y 1)))
    ?_ ?_ ?_ ?_ ?_ ?_ ?_ ?_ ?_
  · exact congrArg (fun v : EReal => scaleK * v) ((congrArg (iblk m c 8 t) (ix2_eta y).symm).trans (res_at m c t (y 0) (y 1)))
  · dsimp only [k0_pay4, k0_pay5, k0_pay6, k0_pay7, k0_pay8, k0_pay9, k0_pay10]
    refine product_dgate m c t 0 y 0 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · dsimp only [k0_pay4, k0_pay5, k0_pay6, k0_pay7, k0_pay8, k0_pay9, k0_pay10]
    refine product_dup m c t 0 y 4 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise
  · refine product_dgate m c t 1 y 1 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · refine product_dup m c t 1 y 5 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise
  · refine product_dgate m c t 2 y 2 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · refine product_dup m c t 2 y 6 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise
  · refine product_dgate m c t 3 y 3 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · refine product_dup m c t 3 y 7 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise

set_option maxHeartbeats 3200000 in
/-- What grid point `t` leaves in its block, at a later point. -/
theorem out11_B (y : S256x1024.Idx) (hc : ¬ t.val % 32 = 0) :
    ((outsAt0 m c t.val t.isLt).2.2 y : EReal) = dhK m c (ix2 (rowAt (pt t) (y 0)) (y 1)) := by
  rw [outsAt0_B m c t hc]
  frame_out
  refine sum_at _ _ _ _ _ _ _ _ _ y _ (fun e => ∑ k : Fin 704, dzK m c e k (rowAt (pt t) (y 0)) * V m c main_v5 (ix3 e k (y 1)))
    ?_ ?_ ?_ ?_ ?_ ?_ ?_ ?_ ?_
  · exact congrArg (fun v : EReal => scaleK * v) ((congrArg (iblk m c 8 t) (ix2_eta y).symm).trans (res_at m c t (y 0) (y 1)))
  · dsimp only [k0_pay4, k0_pay5, k0_pay6, k0_pay7, k0_pay8, k0_pay9, k0_pay10]
    refine product_dgate m c t 0 y 0 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · dsimp only [k0_pay4, k0_pay5, k0_pay6, k0_pay7, k0_pay8, k0_pay9, k0_pay10]
    refine product_dup m c t 0 y 4 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise
  · refine product_dgate m c t 1 y 1 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · refine product_dup m c t 1 y 5 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise
  · refine product_dgate m c t 2 y 2 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · refine product_dup m c t 2 y 6 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise
  · refine product_dgate m c t 3 y 3 (by decide) (hx := ?_) (hu := ?_) (hd := ?_) (hh := ?_) (hxn := ?_) (hun := ?_) (hdn := ?_) (hw := ?_) (hb := ?_) (hW := ?_)
    · intro r l; pointwise
    · intro r l; pointwise
    · intro r l; pointwise
    · intro r l; pointwise
    · intro r l; pointwise
    · intro r l; pointwise
    · intro r l; pointwise
    · intro r l; pointwise
    · intro l; pointwise
    · intro k d; pointwise
  · refine product_dup m c t 3 y 7 (by decide) (hx := ?_) (hd := ?_) (hh := ?_) (hw := ?_) (hb := ?_) (hW := ?_)
    · intro r l; pointwise
    · intro r l; pointwise
    · intro r l; pointwise
    · intro r l; pointwise
    · intro l; pointwise
    · intro k d; pointwise

/-- The array of the gradient at the layer's input after the run. -/
theorem final11 (i : S8192x1024.Idx) : ((dats m 0 c).arrAt 11 cfg0.N i : EReal) = dhK m c i := by
  refine congrFun ((dats m 0 c).arrAt_eq_of_covers 11 (dhK m c) (by decide +kernel) fun t hf y => ?_) i
  blk_simp
  rw [after0_11]
  have e : ((outsAt0 m c t.val t.isLt).2.2 y : EReal) = dhK m c (ix2 (rowAt (pt t) (y 0)) (y 1)) := by
    by_cases h0 : t.val % 32 = 0
    · exact out11_A m c t y h0
    · exact out11_B m c t y h0
  refine e.trans ?_
  congr 1
  blk_ext [idx t]

end Cert.KernelIdeal.ConvValue

end
-- ==== Proof.Equation.lean ====
module

public import proofs.«01_k».proof.Proof.Layout
public import proofs.«01_k».proof.Proof.RefResults
public import proofs.«01_k».proof.Proof.BlockGate
public import proofs.«01_k».proof.Proof.BlockTaps
public import proofs.«01_k».proof.Proof.BlockInput

@[expose] public section

/-!
  The kernel's three arrays are the reference's three results.
-/
set_option maxRecDepth 16384

noncomputable section

open Idealize.ShloMosaic Idealize.ShloMosaic.TcCoe Idealize.SL.Sem

namespace Cert.KernelIdeal.ConvValue

open Cert.KernelIdeal Cert.KernelIdeal.Gen Cert.Conv
open Cert.ReferenceIdeal.ConvValue (DconvIs dz dgu_at dtaps_at dh_at)
open Cert.ReferenceIdeal.Read (val_main_v83 val_main_v81 val_main_v86)

variable (m : (ℓ : Loc nD τ sig) → Buf (Elt Ideal) ℓ) (c : Dev nD)
  {x0 : (⟨S8192x1024, .f32⟩ : BufTy).Contents (Elt Ideal)} {x1 : (⟨S1024x5632, .f32⟩ : BufTy).Contents (Elt Ideal)}
  {x2 : (⟨S3x2816, .f32⟩ : BufTy).Contents (Elt Ideal)} {x3 : (⟨S2816, .f32⟩ : BufTy).Contents (Elt Ideal)}
  {x4 : (⟨S8192x2816, .f32⟩ : BufTy).Contents (Elt Ideal)} {x5 : (⟨S8192x1024, .f32⟩ : BufTy).Contents (Elt Ideal)}
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4) (h5 : m ((c.tc : Thread nD τ).loc main_arg5) = x5)
  (hD : DconvIs x0 x1 x2 x3 x4)

include h0 h1 h2 h3 h4 in
/-- Column `l` of chunk `e` is column `704 e + l` of the whole. -/
theorem chan_eq (e : Fin 4) (l : Fin 704) :
    chan m c e l = Cert.ReferenceIdeal.ConvValue.chan x0 x1 x2 x3 x4 ⟨e.val * 704 + l.val, by omega⟩ := by
  have a0 := (entry_cw m c e 0 l).trans (congrFun h2 _)
  have a1 := (entry_cw m c e 1 l).trans (congrFun h2 _)
  have a2 := (entry_cw m c e 2 l).trans (congrFun h2 _)
  have ab := (entry_cb m c e l).trans (congrFun h3 _)
  have ag := fun R => entry_gu m c x0 x1 h0 h1 e 0 R l
  have au := fun R => entry_gu m c x0 x1 h0 h1 e 1 R l
  have ad := fun R => (entry_da m c e R l).trans (congrFun h4 _)
  have eg : (fun R => (V m c main_v2 (ix4 e (0 : Fin 2) R l) : EReal)) =
      fun R => Cert.ReferenceIdeal.ConvValue.zR x0 x1 R ⟨e.val * 704 + l.val, by omega⟩ := by
    funext R
    refine (ag R).trans ?_
    refine Finset.sum_congr (M := EReal) rfl fun k _ => ?_
    refine congrArg (fun q : Fin 5632 => x0 (ix2 R k) * x1 (ix2 k q)) (Fin.ext ?_)
    show 0 * 2816 + (e.val * 704 + l.val) = e.val * 704 + l.val
    omega
  have eu : (fun R => (V m c main_v2 (ix4 e (1 : Fin 2) R l) : EReal)) =
      fun R => Cert.ReferenceIdeal.ConvValue.zR x0 x1 R ⟨2816 + (e.val * 704 + l.val), by omega⟩ := by
    funext R
    refine (au R).trans ?_
    refine Finset.sum_congr (M := EReal) rfl fun k _ => ?_
    refine congrArg (fun q : Fin 5632 => x0 (ix2 R k) * x1 (ix2 k q)) (Fin.ext ?_)
    show 1 * 2816 + (e.val * 704 + l.val) = 2816 + (e.val * 704 + l.val)
    omega
  unfold chan Cert.ReferenceIdeal.ConvValue.chan
  rw [Channel.mk.injEq]
  exact ⟨a0, a1, a2, ab, eg, eu, funext ad⟩

include h0 h1 h2 h3 h4 hD in
theorem gate_at (e : Fin 4) (p : Fin 2) (R : Fin 8192) (l : Fin 704) :
    dguK m c (ix4 e p R l) = val_main_v83 x0 x1 x2 x3 x4 (ix4 e p R l) := by
  rw [dgu_at hD, ← chan_eq m c h0 h1 h2 h3 h4]
  rfl

include h0 h1 h2 h3 h4 hD in
/-- The gradient of the gate and up values. -/
theorem gate_eq : (dats m 0 c).arrAt 9 cfg0.N = val_main_v83 x0 x1 x2 x3 x4 :=
  funext fun i : S4x2x8192x704.Idx => (final9 m c i).trans
    ((congrArg (dguK m c) (eq_ix4 i)).trans ((gate_at m c h0 h1 h2 h3 h4 hD _ _ _ _).trans
      (congrArg (val_main_v83 x0 x1 x2 x3 x4) (eq_ix4 i)).symm))

include h0 h1 h2 h3 h4 hD in
theorem taps_at (e : Fin 4) (j : Fin 8) (l : Fin 704) :
    tapsK m c (ix3 e j l) = val_main_v81 x0 x1 x2 x3 x4 (ix3 e j l) := by
  rw [dtaps_at hD, ← chan_eq m c h0 h1 h2 h3 h4]
  rfl

include h0 h1 h2 h3 h4 hD in
/-- The gradient of the taps and the bias. -/
theorem taps_eq : (dats m 0 c).arrAt 10 cfg0.N = val_main_v81 x0 x1 x2 x3 x4 :=
  funext fun i : S4x8x704.Idx => (final10 m c i).trans
    ((congrArg (tapsK m c) (eq_ix3 i)).trans ((taps_at m c h0 h1 h2 h3 h4 hD _ _ _).trans
      (congrArg (val_main_v81 x0 x1 x2 x3 x4) (eq_ix3 i)).symm))

/-- The named scale is the root of two. -/
theorem scale_eq : scaleK = ((Real.sqrt 2 : ℝ) : EReal) := rfl

include h0 h1 h2 h3 h4 in
/-- Eighth `e` of the gradient at the product's results. -/
theorem dz_eq (e : Fin 8) (k : Fin 704) (R : Fin 8192) :
    dzK m c e k R = dz x0 x1 x2 x3 x4 R ⟨e.val * 704 + k.val, by omega⟩ := by
  unfold dzK dz
  by_cases h : e.val < 4
  · rw [dif_pos h, dif_pos (by show e.val * 704 + k.val < 2816; omega), chan_eq m c h0 h1 h2 h3 h4]
  · rw [dif_neg h, dif_neg (by show ¬ e.val * 704 + k.val < 2816; omega), chan_eq m c h0 h1 h2 h3 h4]
    refine congrArg (fun q : Fin 2816 => (Cert.ReferenceIdeal.ConvValue.chan x0 x1 x2 x3 x4 q).dup R) (Fin.ext ?_)
    show (e.val - 4) * 704 + k.val = e.val * 704 + k.val - 2816
    omega

include h0 h1 h2 h3 h4 h5 hD in
theorem input_at (R : Fin 8192) (d : Fin 1024) :
    dhK m c (ix2 R d) = val_main_v86 x0 x1 x2 x3 x4 x5 (ix2 R d) := by
  rw [dh_at x5 hD, Fin.sum_univ_tiles 8 704 rfl]
  show scaleK * (V m c main_arg5 (ix2 R d) : EReal) +
    ∑ e : Fin 8, ∑ k : Fin 704, dzK m c e k R * (V m c main_v5 (ix3 e k d) : EReal) = _
  refine congrArg₂ (fun p q : EReal => p + q) ?_ ?_
  · rw [scale_eq]
    exact congrArg (fun q : EReal => _ * q) (congrFun ((V_main_arg5 m c).trans h5) _)
  · refine Finset.sum_congr rfl fun e _ => Finset.sum_congr rfl fun k _ => ?_
    rw [dz_eq m c h0 h1 h2 h3 h4, entry_wt m c e k d]
    exact congrArg (fun q : EReal => _ * q) (congrFun h1 _)

include h0 h1 h2 h3 h4 h5 hD in
/-- The gradient at the layer's input. -/
theorem input_eq : (dats m 0 c).arrAt 11 cfg0.N = val_main_v86 x0 x1 x2 x3 x4 x5 :=
  funext fun i : S8192x1024.Idx => (final11 m c i).trans
    ((congrArg (dhK m c) (eq_ix2 i)).trans ((input_at m c h0 h1 h2 h3 h4 h5 hD _ _).trans
      (congrArg (val_main_v86 x0 x1 x2 x3 x4 x5) (eq_ix2 i)).symm))

end Cert.KernelIdeal.ConvValue

end
-- ==== Proof.FoxTile.lean ====
module

public import proofs.«01_k».proof.Proof.Gen.FoxKernelIdeal.Skeleton
public import Idealize.ShloMosaic.Lib.Pipeline.ValueKit

@[expose] public section

/-!
  One tile of the forgetting attention's backward call over the extended reals: the attention weights of 1024 keys and 1024
  queries, their gradients, and what the tile adds to each of the accumulated results, entry by entry. Head 0 and
  head 1 of a pair go through the same formulas; the tile on the diagonal has the keys after their query removed.
-/
set_option maxRecDepth 16384

noncomputable section

open Idealize.ShloMosaic Idealize.ShloMosaic.TcCoe Idealize.SL.Sem

namespace Cert.FoxKernelIdeal.Tile

open Cert.FoxKernelIdeal Cert.FoxKernelIdeal.Gen

abbrev Rows := Vec Ideal S1024x128 .bf16
abbrev Stat := Vec Ideal S1x1x1024 .f32

/-- The factor in front of the scores, 1 / log 2. -/
def log2e : EReal := (Named.named κ "log2e" 0x3FB8AA3B#32 : Ideal .f32)

/-- Entry (key `r`, query `c`) of a product of two tiles over the lanes. -/
def dotT (K Q : Rows) (r c : Fin 1024) : EReal := ∑ l : Fin 128, (K (ix2 r l) : EReal) * Q (ix2 c l)

/-- The attention weight of key `r` for query `c`: shift `sh` and inverse row sum `il` are the query's. -/
def TP (K Q : Rows) (sh il : Stat) (r c : Fin 1024) : EReal :=
  Ideal.exp2 (dotT K Q r c * log2e - sh (ix3 0 0 c)) * il (ix3 0 0 c)

/-- The gradient at the score of key `r` for query `c`. -/
def TD (K V Q O : Rows) (sh il de : Stat) (r c : Fin 1024) : EReal :=
  TP K Q sh il r c * (dotT V O r c - de (ix3 0 0 c))

/-- The weight with later keys removed. -/
def TPm (K Q : Rows) (sh il : Stat) (r c : Fin 1024) : EReal := if r.val ≤ c.val then TP K Q sh il r c else 0

/-- The score gradient with later keys removed. -/
def TDm (K V Q O : Rows) (sh il de : Stat) (r c : Fin 1024) : EReal :=
  TPm K Q sh il r c * (dotT V O r c - de (ix3 0 0 c))

/-! The tiles below the diagonal, head 0. -/

theorem pay5_at (K Q : Rows) (sh il : Stat) (r c : Fin 1024) :
    (k0_pay5 (F := Ideal) K Q sh il (ix2 r c) : EReal) = TP K Q sh il r c := by
  unfold k0_pay5 k0_pay3
  pointwise
  rfl

theorem pay6_at (K V Q O : Rows) (sh il de : Stat) (r c : Fin 1024) :
    (k0_pay6 (F := Ideal) K V Q O sh il de (ix2 r c) : EReal) = TD K V Q O sh il de r c := by
  unfold k0_pay6 k0_pay4
  pointwise [pay5_at]
  rfl

theorem pay7_at (K V Q O : Rows) (sh il de : Stat) (r c : Fin 1024) :
    (k0_pay7 (F := Ideal) K V Q O sh il de (ix2 r c) : EReal) = TD K V Q O sh il de r c := by
  unfold k0_pay7
  pointwise [pay6_at]

theorem pay8_at (K V Q O : Rows) (a : FVec Ideal S1024x1 .f32) (sh il de : Stat) (r : Fin 1024) :
    (k0_pay8 (F := Ideal) K V a Q O sh il de (ix2 r 0) : EReal) = a (ix2 r 0) + ∑ c, TD K V Q O sh il de r c := by
  unfold k0_pay8
  pointwise [pay6_at]

theorem pay9_at (K Q O : Rows) (a : FVec Ideal S1024x128 .f32) (sh il : Stat) (r : Fin 1024) (l : Fin 128) :
    (k0_pay9 (F := Ideal) K a Q O sh il (ix2 r l) : EReal) = a (ix2 r l) + ∑ c, TP K Q sh il r c * O (ix2 c l) := by
  unfold k0_pay9 k0_pay4
  pointwise [pay5_at]

theorem pay10_at (K V Q O : Rows) (a : FVec Ideal S1024x128 .f32) (sh il de : Stat) (r : Fin 1024) (l : Fin 128) :
    (k0_pay10 (F := Ideal) K V a Q O sh il de (ix2 r l) : EReal)
      = a (ix2 r l) + ∑ c, TD K V Q O sh il de r c * Q (ix2 c l) := by
  unfold k0_pay10 k0_pay3
  pointwise [pay7_at]

theorem pay11_at (K V Q O : Rows) (Kt : FVec Ideal S128x1024 .bf16) (sh il de : Stat) (l : Fin 128) (c : Fin 1024) :
    (k0_pay11 (F := Ideal) K V Kt Q O sh il de (ix2 l c) : EReal)
      = ∑ r, (Kt (ix2 l r) : EReal) * TD K V Q O sh il de r c := by
  unfold k0_pay11
  pointwise [pay7_at]

/-- The lower half of the lanes, as the kernel's comparison of a lane number with 64. -/
theorem half_iff : ∀ l : Fin 128, IntOp.cmpi CmpIPredicate.sge (BitVec.ofNat 32 l.val) 64#32 = if l.val < 64 then 0#1 else 1#1 := by
  decide +kernel

theorem select_high (l : Fin 128) (a b : EReal) :
    Scalar.select (IntOp.cmpi CmpIPredicate.sge (BitVec.ofNat 32 l.val) 64#32) a b = if l.val < 64 then b else a := by
  rw [half_iff]; split <;> rfl

theorem select_low (l : Fin 128) (a b : EReal) :
    Scalar.select (IntOp.xori (IntOp.cmpi CmpIPredicate.sge (BitVec.ofNat 32 l.val) 64#32) 1#1) a b = if l.val < 64 then a else b := by
  rw [half_iff]; split <;> rfl

theorem pay12_at (z a : FVec Ideal S128x1024 .f32) (l : Fin 128) (c : Fin 1024) :
    (k0_pay12 (F := Ideal) z a (ix2 l c) : EReal) = z (ix2 l c) + if l.val < 64 then (a (ix2 l c) : EReal) else 0 := by
  unfold k0_pay12
  pointwise
  rw [select_low]

/-! The tiles below the diagonal, head 1. -/

theorem pay15_at (K Q : Rows) (sh il : Stat) (r c : Fin 1024) :
    (k0_pay15 (F := Ideal) K Q sh il (ix2 r c) : EReal) = TP K Q sh il r c := by
  unfold k0_pay15 k0_pay13
  pointwise
  rfl

theorem pay16_at (K V Q O : Rows) (sh il de : Stat) (r c : Fin 1024) :
    (k0_pay16 (F := Ideal) K V Q O sh il de (ix2 r c) : EReal) = TD K V Q O sh il de r c := by
  unfold k0_pay16 k0_pay14
  pointwise [pay15_at]
  rfl

theorem pay17_at (K V Q O : Rows) (sh il de : Stat) (r c : Fin 1024) :
    (k0_pay17 (F := Ideal) K V Q O sh il de (ix2 r c) : EReal) = TD K V Q O sh il de r c := by
  unfold k0_pay17
  pointwise [pay16_at]

theorem pay18_at (K V Q O : Rows) (a : FVec Ideal S1024x1 .f32) (sh il de : Stat) (r : Fin 1024) :
    (k0_pay18 (F := Ideal) K V a Q O sh il de (ix2 r 0) : EReal) = a (ix2 r 0) + ∑ c, TD K V Q O sh il de r c := by
  unfold k0_pay18
  pointwise [pay16_at]

theorem pay19_at (K Q O : Rows) (sh il : Stat) (r : Fin 1024) (l : Fin 128) :
    (k0_pay19 (F := Ideal) K Q O sh il (ix2 r l) : EReal) = ∑ c, TP K Q sh il r c * O (ix2 c l) := by
  unfold k0_pay19 k0_pay14
  pointwise [pay15_at]

theorem pay70_at (a b : FVec Ideal S1024x128 .f32) (r : Fin 1024) (l : Fin 128) :
    (k0_pay70 (F := Ideal) a b (ix2 r l) : EReal) = a (ix2 r l) + b (ix2 r l) := by
  unfold k0_pay70
  pointwise

theorem pay2_at (i : S128x1024.Idx) : (k0_pay2 (F := Ideal) i : EReal) = 0 := by
  unfold k0_pay2
  pointwise

theorem pay71_at (a : FVec Ideal S1024x128 .f32) (q : FVec Ideal S1024x128 .bf16) (ds : FVec Ideal S1024x1024 .bf16) (r : Fin 1024) (l : Fin 128) :
    (k0_pay71 (F := Ideal) a q ds (ix2 r l) : EReal) = a (ix2 r l) + ∑ c, (ds (ix2 r c) : EReal) * q (ix2 c l) := by
  unfold k0_pay71
  pointwise

/-- The head's scale, 1 / 8. -/
def eighth : EReal := (Scalar.ofBits .f32 0x3E000000#32 : Ideal .f32)

theorem pay72_at (Kt : FVec Ideal S128x1024 .bf16) (z : FVec Ideal S128x1024 .f32) (ds : FVec Ideal S1024x1024 .bf16)
    (d : Vec Ideal S1024x128 .f32) (c : Fin 1024) (l : Fin 128) :
    (k0_pay72 (F := Ideal) Kt z ds d (ix2 c l) : EReal)
      = d (ix2 c l) + (z (ix2 l c) + if l.val < 64 then 0 else ∑ r, (Kt (ix2 l r) : EReal) * ds (ix2 r c)) * eighth := by
  unfold k0_pay72
  pointwise
  rw [select_high]
  rfl

/-! The tile on the diagonal. -/

theorem toInt_small : ∀ n : Fin 1024, (BitVec.ofNat 32 n.val).toInt = (n.val : ℤ) := by decide +kernel

theorem causal_iff (r c : Fin 1024) :
    IntOp.cmpi CmpIPredicate.sge (BitVec.ofNat 32 c.val) (BitVec.ofNat 32 r.val) = if r.val ≤ c.val then 1#1 else 0#1 := by
  have h : (BitVec.ofNat 32 r.val).sle (BitVec.ofNat 32 c.val) = decide (r.val ≤ c.val) := by
    rw [BitVec.sle_eq_decide, toInt_small, toInt_small, decide_eq_decide]
    exact Int.ofNat_le
  show BitVec.ofBool ((BitVec.ofNat 32 r.val).sle (BitVec.ofNat 32 c.val)) = _
  rw [h]
  by_cases hh : r.val ≤ c.val
  · rw [if_pos hh, decide_eq_true hh]; rfl
  · rw [if_neg hh, decide_eq_false hh]; rfl

/-- The weight under the mask: a masked score is the bottom, whose power of two is zero whatever the shift. -/
theorem masked (r c : Fin 1024) (s sh il : EReal) :
    Ideal.exp2 (Scalar.select (IntOp.cmpi CmpIPredicate.sge (BitVec.ofNat 32 c.val) (BitVec.ofNat 32 r.val)) s
      (Named.named κ "mask" 0xF149F2CA#32 : Ideal .f32) - sh) * il = if r.val ≤ c.val then Ideal.exp2 (s - sh) * il else 0 := by
  rw [causal_iff]
  split
  · rfl
  · show Ideal.exp2 (⊥ - sh) * il = 0
    rw [sub_eq_add_neg, EReal.bot_add, Ideal.exp2_bot, zero_mul]

theorem pay39_eq (K : Rows) : k0_pay39 (F := Ideal) K = K := shapeCast_self _ _
theorem pay40_eq (K : Rows) : k0_pay40 (F := Ideal) K = K := shapeCast_self _ _
theorem pay41_eq (K : Rows) : k0_pay41 (F := Ideal) K = K := shapeCast_self _ _
theorem pay42_eq (K : Rows) : k0_pay42 (F := Ideal) K = K := shapeCast_self _ _
theorem pay48_eq (K : Rows) : k0_pay48 (F := Ideal) K = K := shapeCast_self _ _
theorem pay49_eq (K : Rows) : k0_pay49 (F := Ideal) K = K := shapeCast_self _ _
theorem pay58_eq (K : Rows) : k0_pay58 (F := Ideal) K = K := shapeCast_self _ _
theorem pay59_eq (K : Rows) : k0_pay59 (F := Ideal) K = K := shapeCast_self _ _
theorem pay3_eq (K : Rows) : k0_pay3 (F := Ideal) K = K := shapeCast_self _ _
theorem pay13_eq (K : Rows) : k0_pay13 (F := Ideal) K = K := shapeCast_self _ _

theorem pay43_at (K : Rows) (l : Fin 128) (r : Fin 1024) : (k0_pay43 (F := Ideal) K (ix2 l r) : EReal) = K (ix2 r l) := by
  unfold k0_pay43
  rw [pay39_eq]
  pointwise

theorem pay44_at (K : Rows) (l : Fin 128) (r : Fin 1024) : (k0_pay44 (F := Ideal) K (ix2 l r) : EReal) = K (ix2 r l) := by
  unfold k0_pay44
  rw [pay40_eq]
  pointwise

theorem pay45_at (i : S1024x128.Idx) : (k0_pay45 (F := Ideal) i : EReal) = 0 := by
  unfold k0_pay45
  pointwise

theorem pay46_at (i : S1024x1.Idx) : (k0_pay46 (F := Ideal) i : EReal) = 0 := by
  unfold k0_pay46
  pointwise

theorem pay47_at (i : S128x1024.Idx) : (k0_pay47 (F := Ideal) i : EReal) = 0 := by
  unfold k0_pay47
  pointwise

theorem pay51_at (K Q : Rows) (sh il : Stat) (r c : Fin 1024) :
    (k0_pay51 (F := Ideal) (k0_pay50 K Q) sh il (ix2 r c) : EReal) = TPm K Q sh il r c := by
  unfold k0_pay51 k0_pay50
  rw [pay39_eq, pay48_eq]
  pointwise
  exact masked r c _ _ _

theorem pay52_at (K V Q O : Rows) (sh il de : Stat) (r c : Fin 1024) :
    (k0_pay52 (F := Ideal) V O (k0_pay50 K Q) sh il de (ix2 r c) : EReal) = TDm K V Q O sh il de r c := by
  unfold k0_pay52
  pointwise [pay51_at]
  rfl

theorem pay53_at (K V Q O : Rows) (sh il de : Stat) (r c : Fin 1024) :
    (k0_pay53 (F := Ideal) V O (k0_pay50 K Q) sh il de (ix2 r c) : EReal) = TDm K V Q O sh il de r c := by
  unfold k0_pay53
  pointwise [pay52_at]

theorem pay54_at (K V Q O : Rows) (a : FVec Ideal S1024x1 .f32) (sh il de : Stat) (r : Fin 1024) :
    (k0_pay54 (F := Ideal) V a O (k0_pay50 K Q) sh il de (ix2 r 0) : EReal)
      = a (ix2 r 0) + ∑ c, TDm K V Q O sh il de r c := by
  unfold k0_pay54
  pointwise [pay52_at]

theorem pay55_at (K Q O : Rows) (a : FVec Ideal S1024x128 .f32) (sh il : Stat) (r : Fin 1024) (l : Fin 128) :
    (k0_pay55 (F := Ideal) a O (k0_pay50 K Q) sh il (ix2 r l) : EReal)
      = a (ix2 r l) + ∑ c, TPm K Q sh il r c * O (ix2 c l) := by
  unfold k0_pay55
  pointwise [pay51_at]

theorem pay56_at (K V Q O Q' : Rows) (a : FVec Ideal S1024x128 .f32) (sh il de : Stat) (r : Fin 1024) (l : Fin 128) :
    (k0_pay56 (F := Ideal) V a Q' O (k0_pay50 K Q) sh il de (ix2 r l) : EReal)
      = a (ix2 r l) + ∑ c, TDm K V Q O sh il de r c * Q' (ix2 c l) := by
  unfold k0_pay56
  pointwise [pay53_at]

theorem pay57_at (K V Q O : Rows) (Kt : FVec Ideal S128x1024 .bf16) (z : FVec Ideal S128x1024 .f32) (sh il de : Stat) (l : Fin 128)
    (c : Fin 1024) :
    (k0_pay57 (F := Ideal) V Kt z O (k0_pay50 K Q) sh il de (ix2 l c) : EReal)
      = z (ix2 l c) + if l.val < 64 then ∑ r, (Kt (ix2 l r) : EReal) * TDm K V Q O sh il de r c else 0 := by
  unfold k0_pay57
  pointwise [pay53_at]
  rw [select_low]

theorem pay60_at (K Q : Rows) (sh il : Stat) (r c : Fin 1024) :
    (k0_pay60 (F := Ideal) K Q sh il (ix2 r c) : EReal) = TPm K Q sh il r c := by
  unfold k0_pay60
  pointwise
  exact masked r c _ _ _

theorem pay61_at (K V Q O : Rows) (sh il de : Stat) (r c : Fin 1024) :
    (k0_pay61 (F := Ideal) K V Q O sh il de (ix2 r c) : EReal) = TDm K V Q O sh il de r c := by
  unfold k0_pay61
  pointwise [pay60_at]
  rfl

theorem pay62_at (K V Q O : Rows) (sh il de : Stat) (r c : Fin 1024) :
    (k0_pay62 (F := Ideal) K V Q O sh il de (ix2 r c) : EReal) = TDm K V Q O sh il de r c := by
  unfold k0_pay62
  pointwise [pay61_at]

theorem pay63_at (K V Q O : Rows) (a : FVec Ideal S1024x1 .f32) (sh il de : Stat) (r : Fin 1024) :
    (k0_pay63 (F := Ideal) K V a Q O sh il de (ix2 r 0) : EReal) = a (ix2 r 0) + ∑ c, TDm K V Q O sh il de r c := by
  unfold k0_pay63
  pointwise [pay61_at]

theorem pay64_at (K Q O : Rows) (a : FVec Ideal S1024x128 .f32) (sh il : Stat) (r : Fin 1024) (l : Fin 128) :
    (k0_pay64 (F := Ideal) K a Q O sh il (ix2 r l) : EReal) = a (ix2 r l) + ∑ c, TPm K Q sh il r c * O (ix2 c l) := by
  unfold k0_pay64
  pointwise [pay60_at]

theorem pay65_at (K V Q O : Rows) (a : FVec Ideal S1024x128 .f32) (sh il de : Stat) (r : Fin 1024) (l : Fin 128) :
    (k0_pay65 (F := Ideal) K V a Q O sh il de (ix2 r l) : EReal)
      = a (ix2 r l) + ∑ c, TDm K V Q O sh il de r c * Q (ix2 c l) := by
  unfold k0_pay65
  pointwise [pay62_at]

theorem pay66_at (K V Q O : Rows) (Kt : FVec Ideal S128x1024 .bf16) (sh il de : Stat) (l : Fin 128) (c : Fin 1024) :
    (k0_pay66 (F := Ideal) K V Kt Q O sh il de (ix2 l c) : EReal)
      = ∑ r, (Kt (ix2 l r) : EReal) * TDm K V Q O sh il de r c := by
  unfold k0_pay66
  pointwise [pay62_at]

theorem pay69_at (z a : FVec Ideal S128x1024 .f32) (d : Vec Ideal S1024x128 .f32) (c : Fin 1024) (l : Fin 128) :
    (k0_pay69 (F := Ideal) z a k0_pay67 k0_pay68 d (ix2 c l) : EReal)
      = d (ix2 c l) + (z (ix2 l c) + if l.val < 64 then 0 else (a (ix2 l c) : EReal)) * eighth := by
  unfold k0_pay69 k0_pay67 k0_pay68
  pointwise
  rw [select_high]
  rfl

/-! What is stored of the two heads. -/

theorem pay76_at (a b : FVec Ideal S1024x128 .f32) (r : Fin 1024) (l : Fin 128) :
    (k0_pay76 (F := Ideal) a b (ix2 r l) : EReal) = if l.val < 64 then (a (ix2 r l) : EReal) else b (ix2 r l) := by
  unfold k0_pay76
  pointwise
  rw [select_high]

theorem pay77_at (a b : FVec Ideal S1024x128 .f32) (r : Fin 1024) (l : Fin 128) :
    (k0_pay77 (F := Ideal) a b (ix2 r l) : EReal) = if l.val < 64 then (a (ix2 r l) : EReal) else b (ix2 r l) := by
  unfold k0_pay77
  pointwise
  rw [select_high]

theorem lane_eq (k : ℕ) (hk : k < 2) : ∀ l : Fin 128, IntOp.cmpi CmpIPredicate.eq (BitVec.ofNat 32 l.val) (BitVec.ofNat 32 k) = if l.val = k then 1#1 else 0#1 := by
  interval_cases k <;> decide +kernel

/-- The lane numbers. -/
abbrev lanes : IVec S1x128 32 := iota .tc S1x128 32 [1] iota_S1x128_d1_w32

theorem pay1_at (a b : FVec Ideal S1024x1 .f32) (r : Fin 1024) (l : Fin 128) :
    (k0_pay1 (F := Ideal) lanes b (k0_pay78 lanes) (k0_pay79 a) k0_pay80 (ix2 r l) : EReal)
      = if l.val = 0 then 0 - (a (ix2 r 0) : EReal) else if l.val = 1 then 0 - (b (ix2 r 0) : EReal) else 0 := by
  unfold k0_pay1 k0_pay78 k0_pay79 k0_pay80 lanes
  pointwise
  rw [show (0#32 : BitVec 32) = BitVec.ofNat 32 0 from rfl, show (1#32 : BitVec 32) = BitVec.ofNat 32 1 from rfl,
    lane_eq 0 (by decide), lane_eq 1 (by decide)]
  by_cases h0 : l.val = 0
  · rw [if_pos h0, if_pos h0]; rfl
  · rw [if_neg h0, if_neg h0]
    by_cases h1 : l.val = 1
    · rw [if_pos h1, if_pos h1]; rfl
    · rw [if_neg h1, if_neg h1]; rfl

end Cert.FoxKernelIdeal.Tile
-- ==== Proof.FoxGlobal.lean ====
module

public import proofs.«01_k».proof.Proof.FoxTile

@[expose] public section

/-!
  The attention weights and score gradients of one tile of 1024 keys against all 8192 queries, and how the tiles of 1024
  queries the kernel goes through read from them: below the diagonal as they are, on the diagonal with later keys removed,
  and nothing above. The sums over a tile's queries are so the pieces of a sum over all queries.
-/
set_option maxRecDepth 16384

noncomputable section

open Idealize.ShloMosaic Idealize.ShloMosaic.TcCoe Idealize.SL.Sem

namespace Cert.FoxKernelIdeal.Tile

open Cert.FoxKernelIdeal Cert.FoxKernelIdeal.Gen

/-- Row `c` of tile `T` among the 8192. -/
def rowOf (T : Fin 8) (c : Fin 1024) : Fin 8192 := ⟨T.val * 1024 + c.val, by omega⟩

/-- Lane `l` of head `e` of a pair. -/
def lane (e : Fin 2) (l : Fin 128) : Fin 256 := ⟨128 * e.val + l.val, by omega⟩

/-- The row of the statistics of head `e` at group `s` (0 the shift, 1 the row's `delta`, 2 the inverse sum). -/
def srow (s : Fin 3) (e : Fin 2) : Fin 8 := ⟨2 * s.val + e.val, by omega⟩

abbrev Pair := Vec Ideal S8192x256 .bf16
abbrev Stats := Vec Ideal S1x8x8192 .f32

variable (j T : Fin 8) (e : Fin 2) (K V : Rows) (x0 x1 : Pair) (x2 : Stats)

/-- The product of key row `r` with row `C` of a pair's head `e`. -/
def gdot (K : Rows) (x : Pair) (r : Fin 1024) (C : Fin 8192) : EReal := ∑ l : Fin 128, (K (ix2 r l) : EReal) * x (ix2 C (lane e l))

/-- The weight of key `r` of tile `j` for query `C`, zero where the key comes after the query. -/
def gP (r : Fin 1024) (C : Fin 8192) : EReal :=
  if (rowOf j r).val ≤ C.val then
    Ideal.exp2 (gdot e K x0 r C * log2e - x2 (ix3 0 (srow 0 e) C)) * x2 (ix3 0 (srow 2 e) C)
  else 0

/-- The gradient at the score. -/
def gD (r : Fin 1024) (C : Fin 8192) : EReal := gP j e K x0 x2 r C * (gdot e V x1 r C - x2 (ix3 0 (srow 1 e) C))

/-- What query `C` adds to the key gradient, the value gradient. -/
def cdk (r : Fin 1024) (l : Fin 128) (C : Fin 8192) : EReal := gD j e K V x0 x1 x2 r C * x0 (ix2 C (lane e l))
def cdv (r : Fin 1024) (l : Fin 128) (C : Fin 8192) : EReal := gP j e K x0 x2 r C * x1 (ix2 C (lane e l))

/-- What the tile of keys adds to the query gradient before its scale. -/
def cdq (C : Fin 8192) (l : Fin 128) : EReal := ∑ r : Fin 1024, (K (ix2 r l) : EReal) * gD j e K V x0 x1 x2 r C

/-- The part of a sum over queries that lies in tile `T`. -/
def tileSum (g : Fin 8192 → EReal) (T : ℕ) : EReal := if h : T < 8 then ∑ c : Fin 1024, g (rowOf ⟨T, h⟩ c) else 0

theorem tileSum_at (g : Fin 8192 → EReal) : tileSum g T.val = ∑ c : Fin 1024, g (rowOf T c) := dif_pos T.isLt

/-- The tiles make up the whole sum. -/
theorem sum_tileSum (g : Fin 8192 → EReal) : ∑ C, g C = ∑ T ∈ Finset.range 8, tileSum g T := by
  rw [Fin.sum_univ_tiles 8 1024 rfl g, ← Fin.sum_univ_eq_sum_range (fun T => tileSum g T) 8]
  exact Finset.sum_congr rfl fun T _ => (tileSum_at T g).symm

/-- A sum over all queries, where the tiles before `j` add nothing: the diagonal tile, then the later ones. -/
theorem sum_from (g : Fin 8192 → EReal) (h0 : ∀ T, T < j.val → tileSum g T = 0) :
    ∑ C, g C = tileSum g j.val + ∑ k ∈ Finset.range (7 - j.val), tileSum g (j.val + 1 + k) := by
  have k : ∀ n : ℕ, n = (j.val + 1) + (7 - j.val) → ∑ T ∈ Finset.range n, tileSum g T
      = tileSum g j.val + ∑ k ∈ Finset.range (7 - j.val), tileSum g (j.val + 1 + k) := by
    rintro n rfl
    rw [Finset.sum_range_add, Finset.sum_range_succ, Finset.sum_eq_zero fun T hT => h0 T (Finset.mem_range.mp hT), zero_add]
  rw [sum_tileSum]
  exact k 8 (by omega)

/-- Tile `T` of a pair's vectors and statistics, as loaded for head `e`. -/
structure Loads (Q O : Rows) (sh il de : Stat) : Prop where
  q : ∀ c l, (Q (ix2 c l) : EReal) = x0 (ix2 (rowOf T c) (lane e l))
  o : ∀ c l, (O (ix2 c l) : EReal) = x1 (ix2 (rowOf T c) (lane e l))
  sh : ∀ c, (sh (ix3 0 0 c) : EReal) = x2 (ix3 0 (srow 0 e) (rowOf T c))
  de : ∀ c, (de (ix3 0 0 c) : EReal) = x2 (ix3 0 (srow 1 e) (rowOf T c))
  il : ∀ c, (il (ix3 0 0 c) : EReal) = x2 (ix3 0 (srow 2 e) (rowOf T c))

namespace Loads

variable {j T e K V x0 x1 x2} {Q O : Rows} {sh il de : Stat}
variable (H : Loads T e x0 x1 x2 Q O sh il de)
include H

theorem dotq (K : Rows) (r c : Fin 1024) : dotT K Q r c = gdot e K x0 r (rowOf T c) :=
  Finset.sum_congr rfl fun l _ => by rw [H.q]

theorem doto (K : Rows) (r c : Fin 1024) : dotT K O r c = gdot e K x1 r (rowOf T c) :=
  Finset.sum_congr rfl fun l _ => by rw [H.o]

theorem TP_eq (r c : Fin 1024) : TP K Q sh il r c
    = Ideal.exp2 (gdot e K x0 r (rowOf T c) * log2e - x2 (ix3 0 (srow 0 e) (rowOf T c))) * x2 (ix3 0 (srow 2 e) (rowOf T c)) := by
  unfold TP
  rw [H.dotq, H.sh, H.il]

theorem p_lt (h : j < T) (r c : Fin 1024) : TP K Q sh il r c = gP j e K x0 x2 r (rowOf T c) := by
  have h' : j.val < T.val := h
  unfold gP
  rw [if_pos (by simp only [rowOf]; omega), H.TP_eq]

theorem p_eq (h : T = j) (r c : Fin 1024) : TPm K Q sh il r c = gP j e K x0 x2 r (rowOf T c) := by
  subst h
  unfold TPm gP
  rw [H.TP_eq]
  by_cases hr : r.val ≤ c.val
  · rw [if_pos hr, if_pos (by simp only [rowOf]; omega)]
  · rw [if_neg hr, if_neg (by simp only [rowOf]; omega)]

theorem d_lt (h : j < T) (r c : Fin 1024) : TD K V Q O sh il de r c = gD j e K V x0 x1 x2 r (rowOf T c) := by
  unfold TD gD
  rw [H.p_lt h, H.doto, H.de]

theorem d_eq (h : T = j) (r c : Fin 1024) : TDm K V Q O sh il de r c = gD j e K V x0 x1 x2 r (rowOf T c) := by
  unfold TDm gD
  rw [H.p_eq h, H.doto, H.de]

theorem dk_lt (h : j < T) (r : Fin 1024) (l : Fin 128) :
    ∑ c, TD K V Q O sh il de r c * Q (ix2 c l) = tileSum (cdk j e K V x0 x1 x2 r l) T.val := by
  rw [tileSum_at]
  exact Finset.sum_congr rfl fun c _ => by rw [H.d_lt h, H.q]; rfl

theorem dk_eq (h : T = j) (r : Fin 1024) (l : Fin 128) :
    ∑ c, TDm K V Q O sh il de r c * Q (ix2 c l) = tileSum (cdk j e K V x0 x1 x2 r l) T.val := by
  rw [tileSum_at]
  exact Finset.sum_congr rfl fun c _ => by rw [H.d_eq h, H.q]; rfl

theorem dv_lt (h : j < T) (r : Fin 1024) (l : Fin 128) :
    ∑ c, TP K Q sh il r c * O (ix2 c l) = tileSum (cdv j e K x0 x1 x2 r l) T.val := by
  rw [tileSum_at]
  exact Finset.sum_congr rfl fun c _ => by rw [H.p_lt h, H.o]; rfl

theorem dv_eq (h : T = j) (r : Fin 1024) (l : Fin 128) :
    ∑ c, TPm K Q sh il r c * O (ix2 c l) = tileSum (cdv j e K x0 x1 x2 r l) T.val := by
  rw [tileSum_at]
  exact Finset.sum_congr rfl fun c _ => by rw [H.p_eq h, H.o]; rfl

theorem dc_lt (h : j < T) (r : Fin 1024) : ∑ c, TD K V Q O sh il de r c = tileSum (gD j e K V x0 x1 x2 r) T.val := by
  rw [tileSum_at]
  exact Finset.sum_congr rfl fun c _ => H.d_lt h r c

theorem dc_eq (h : T = j) (r : Fin 1024) : ∑ c, TDm K V Q O sh il de r c = tileSum (gD j e K V x0 x1 x2 r) T.val := by
  rw [tileSum_at]
  exact Finset.sum_congr rfl fun c _ => H.d_eq h r c

theorem dq_lt (h : j < T) {Kt : FVec Ideal S128x1024 .bf16} (hK : ∀ l r, (Kt (ix2 l r) : EReal) = K (ix2 r l)) (l : Fin 128)
    (c : Fin 1024) : ∑ r, (Kt (ix2 l r) : EReal) * TD K V Q O sh il de r c = cdq j e K V x0 x1 x2 (rowOf T c) l :=
  Finset.sum_congr rfl fun r _ => by rw [H.d_lt h, hK]

theorem dq_eq (h : T = j) {Kt : FVec Ideal S128x1024 .bf16} (hK : ∀ l r, (Kt (ix2 l r) : EReal) = K (ix2 r l)) (l : Fin 128)
    (c : Fin 1024) : ∑ r, (Kt (ix2 l r) : EReal) * TDm K V Q O sh il de r c = cdq j e K V x0 x1 x2 (rowOf T c) l :=
  Finset.sum_congr rfl fun r _ => by rw [H.d_eq h, hK]

end Loads

/-! Queries before the tile's keys have weight zero. -/

theorem gP_zero (r : Fin 1024) (C : Fin 8192) (h : C.val < (rowOf j r).val) : gP j e K x0 x2 r C = 0 := if_neg (by omega)

theorem gD_zero (r : Fin 1024) (C : Fin 8192) (h : C.val < (rowOf j r).val) : gD j e K V x0 x1 x2 r C = 0 := by
  unfold gD; rw [gP_zero _ _ _ _ _ _ _ h, zero_mul]

theorem tileSum_zero (g : Fin 8192 → EReal) (T : ℕ) (h : ∀ C : Fin 8192, C.val < (T + 1) * 1024 → g C = 0) : tileSum g T = 0 := by
  unfold tileSum
  split
  · exact Finset.sum_eq_zero fun c _ => h _ (by simp only [rowOf]; omega)
  · rfl

theorem cdk_before (r : Fin 1024) (l : Fin 128) (T : ℕ) (h : T < j.val) : tileSum (cdk j e K V x0 x1 x2 r l) T = 0 :=
  tileSum_zero _ _ fun C hC => by unfold cdk; rw [gD_zero _ _ _ _ _ _ _ _ _ (by simp only [rowOf]; omega), zero_mul]

theorem cdv_before (r : Fin 1024) (l : Fin 128) (T : ℕ) (h : T < j.val) : tileSum (cdv j e K x0 x1 x2 r l) T = 0 :=
  tileSum_zero _ _ fun C hC => by unfold cdv; rw [gP_zero _ _ _ _ _ _ _ (by simp only [rowOf]; omega), zero_mul]

theorem gD_before (r : Fin 1024) (T : ℕ) (h : T < j.val) : tileSum (gD j e K V x0 x1 x2 r) T = 0 :=
  tileSum_zero _ _ fun C hC => gD_zero _ _ _ _ _ _ _ _ _ (by simp only [rowOf]; omega)

theorem cdq_before (C : Fin 8192) (l : Fin 128) (h : C.val < j.val * 1024) : cdq j e K V x0 x1 x2 C l = 0 :=
  Finset.sum_eq_zero fun r _ => by rw [gD_zero _ _ _ _ _ _ _ _ _ (by simp only [rowOf]; omega), mul_zero]

/-! Loads of a tile's rows and of one row of its statistics. -/

theorem rows_at {off : Fin 2 → ℕ} (inb : ∀ a, off a + S1024x128.size a ≤ S8192x256.size a)
    (h : off = ![T.val * 1024, 128 * e.val]) (r : Fin 1024) (l : Fin 128) :
    (View.ld x0 (Rect.unit (s := S8192x256) off S1024x128.size inb) (ix2 r l) : EReal) = x0 (ix2 (rowOf T r) (lane e l)) := by
  subst h
  exact View.ld_unit_apply_of _ _ _ _ _ (ix2 (rowOf T r) (lane e l)) (Fin.forall_fin_two.mpr ⟨rfl, rfl⟩)

theorem drows_at (x : Vec Ideal S8192x128 .f32) {off : Fin 2 → ℕ} (inb : ∀ a, off a + S1024x128.size a ≤ S8192x128.size a)
    (h : off = ![T.val * 1024, 0]) (r : Fin 1024) (l : Fin 128) :
    (View.ld x (Rect.unit (s := S8192x128) off S1024x128.size inb) (ix2 r l) : EReal) = x (ix2 (rowOf T r) l) := by
  subst h
  exact View.ld_unit_apply_of _ _ _ _ _ (ix2 (rowOf T r) l) (Fin.forall_fin_two.mpr ⟨rfl, (Nat.zero_add _).symm⟩)

theorem stat_at (s : Fin 8) {off : Fin 3 → ℕ} (inb : ∀ a, off a + S1x1x1024.size a ≤ S1x8x8192.size a)
    (h : off = ![0, s.val, T.val * 1024]) (c : Fin 1024) :
    (View.ld x2 (Rect.unit (s := S1x8x8192) off S1x1x1024.size inb) (ix3 0 0 c) : EReal) = x2 (ix3 0 s (rowOf T c)) := by
  subst h
  exact View.ld_unit_apply_of _ _ _ _ _ (ix3 0 s (rowOf T c)) fun a => match a with | 0 => rfl | 1 => rfl | 2 => rfl

end Cert.FoxKernelIdeal.Tile
-- ==== Proof.FoxTrip.lean ====
module

public import proofs.«01_k».proof.Proof.FoxKernelIdealLoops
public import proofs.«01_k».proof.Proof.FoxGlobal
public import Idealize.ShloMosaic.Lib.WritesUnit

@[expose] public section

/-!
  One trip of the kernel's loop over query tiles: the six accumulators it yields and the one store it makes into the query
  gradient, written with the tile formulas of the loaded vectors.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.FoxKernelIdeal.Tile

variable {F : FTy → Type} [FloatOps F] [Named F]

/-- The accumulators after a trip. -/
theorem tripR_eq (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (k : Fin (k0_t1_loop i).trips) (acc : FVec F S1024x128 .f32 × FVec F S1024x128 .f32 × FVec F S1024x1 .f32 × FVec F S1024x128 .f32 × FVec F S1024x128 .f32 × FVec F S1024x1 .f32) (f : BufTy.Contents (Elt F) arg7.view.ty) :
    tripR_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k acc f
      = (k0_pay10 v5 v9 acc.1 (View.readAt (Elt F) arg2.view (Rect.unit (s := S8192x256) (k0_off10 i k) S1024x128.size (k0_off10_inb i k)).toLoadRect X_arg2) (View.readAt (Elt F) arg3.view (Rect.unit (s := S8192x256) (k0_off10 i k) S1024x128.size (k0_off10_inb i k)).toLoadRect X_arg3) (View.readAt (Elt F) arg4.view (Rect.unit (s := S1x8x8192) (k0_off11 i k) S1x1x1024.size (k0_off11_inb i k)).toLoadRect X_arg4) (View.readAt (Elt F) arg4.view (Rect.unit (s := S1x8x8192) (k0_off12 i k) S1x1x1024.size (k0_off12_inb i k)).toLoadRect X_arg4) (View.readAt (Elt F) arg4.view (Rect.unit (s := S1x8x8192) (k0_off13 i k) S1x1x1024.size (k0_off13_inb i k)).toLoadRect X_arg4),
        k0_pay9 v5 acc.2.1 (View.readAt (Elt F) arg2.view (Rect.unit (s := S8192x256) (k0_off10 i k) S1024x128.size (k0_off10_inb i k)).toLoadRect X_arg2) (View.readAt (Elt F) arg3.view (Rect.unit (s := S8192x256) (k0_off10 i k) S1024x128.size (k0_off10_inb i k)).toLoadRect X_arg3) (View.readAt (Elt F) arg4.view (Rect.unit (s := S1x8x8192) (k0_off11 i k) S1x1x1024.size (k0_off11_inb i k)).toLoadRect X_arg4) (View.readAt (Elt F) arg4.view (Rect.unit (s := S1x8x8192) (k0_off12 i k) S1x1x1024.size (k0_off12_inb i k)).toLoadRect X_arg4),
        k0_pay8 v5 v9 acc.2.2.1 (View.readAt (Elt F) arg2.view (Rect.unit (s := S8192x256) (k0_off10 i k) S1024x128.size (k0_off10_inb i k)).toLoadRect X_arg2) (View.readAt (Elt F) arg3.view (Rect.unit (s := S8192x256) (k0_off10 i k) S1024x128.size (k0_off10_inb i k)).toLoadRect X_arg3) (View.readAt (Elt F) arg4.view (Rect.unit (s := S1x8x8192) (k0_off11 i k) S1x1x1024.size (k0_off11_inb i k)).toLoadRect X_arg4) (View.readAt (Elt F) arg4.view (Rect.unit (s := S1x8x8192) (k0_off12 i k) S1x1x1024.size (k0_off12_inb i k)).toLoadRect X_arg4) (View.readAt (Elt F) arg4.view (Rect.unit (s := S1x8x8192) (k0_off13 i k) S1x1x1024.size (k0_off13_inb i k)).toLoadRect X_arg4),
        k0_pay71 acc.2.2.2.1 (k0_pay13 (View.readAt (Elt F) arg2.view (Rect.unit (s := S8192x256) (k0_off14 i k) S1024x128.size (k0_off14_inb i k)).toLoadRect X_arg2)) (k0_pay17 v7 v11 (View.readAt (Elt F) arg2.view (Rect.unit (s := S8192x256) (k0_off14 i k) S1024x128.size (k0_off14_inb i k)).toLoadRect X_arg2) (View.readAt (Elt F) arg3.view (Rect.unit (s := S8192x256) (k0_off14 i k) S1024x128.size (k0_off14_inb i k)).toLoadRect X_arg3) (View.readAt (Elt F) arg4.view (Rect.unit (s := S1x8x8192) (k0_off15 i k) S1x1x1024.size (k0_off15_inb i k)).toLoadRect X_arg4) (View.readAt (Elt F) arg4.view (Rect.unit (s := S1x8x8192) (k0_off16 i k) S1x1x1024.size (k0_off16_inb i k)).toLoadRect X_arg4) (View.readAt (Elt F) arg4.view (Rect.unit (s := S1x8x8192) (k0_off17 i k) S1x1x1024.size (k0_off17_inb i k)).toLoadRect X_arg4)),
        k0_pay70 acc.2.2.2.2.1 (k0_pay19 v7 (View.readAt (Elt F) arg2.view (Rect.unit (s := S8192x256) (k0_off14 i k) S1024x128.size (k0_off14_inb i k)).toLoadRect X_arg2) (View.readAt (Elt F) arg3.view (Rect.unit (s := S8192x256) (k0_off14 i k) S1024x128.size (k0_off14_inb i k)).toLoadRect X_arg3) (View.readAt (Elt F) arg4.view (Rect.unit (s := S1x8x8192) (k0_off15 i k) S1x1x1024.size (k0_off15_inb i k)).toLoadRect X_arg4) (View.readAt (Elt F) arg4.view (Rect.unit (s := S1x8x8192) (k0_off16 i k) S1x1x1024.size (k0_off16_inb i k)).toLoadRect X_arg4)),
        k0_pay18 v7 v11 acc.2.2.2.2.2 (View.readAt (Elt F) arg2.view (Rect.unit (s := S8192x256) (k0_off14 i k) S1024x128.size (k0_off14_inb i k)).toLoadRect X_arg2) (View.readAt (Elt F) arg3.view (Rect.unit (s := S8192x256) (k0_off14 i k) S1024x128.size (k0_off14_inb i k)).toLoadRect X_arg3) (View.readAt (Elt F) arg4.view (Rect.unit (s := S1x8x8192) (k0_off15 i k) S1x1x1024.size (k0_off15_inb i k)).toLoadRect X_arg4) (View.readAt (Elt F) arg4.view (Rect.unit (s := S1x8x8192) (k0_off16 i k) S1x1x1024.size (k0_off16_inb i k)).toLoadRect X_arg4) (View.readAt (Elt F) arg4.view (Rect.unit (s := S1x8x8192) (k0_off17 i k) S1x1x1024.size (k0_off17_inb i k)).toLoadRect X_arg4)) := by
  unfold tripR_k0_t1 trip_k0_t1
  dsimp only
  sl_unfold_words
  rfl

/-- What a trip stores: the rows of its query tile, with the tile's part added. -/
theorem tripL_eq (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (X_arg2 : BufTy.Contents (Elt F) arg2.view.ty) (X_arg3 : BufTy.Contents (Elt F) arg3.view.ty) (X_arg4 : BufTy.Contents (Elt F) arg4.view.ty) (k : Fin (k0_t1_loop i).trips) (acc : FVec F S1024x128 .f32 × FVec F S1024x128 .f32 × FVec F S1024x1 .f32 × FVec F S1024x128 .f32 × FVec F S1024x128 .f32 × FVec F S1024x1 .f32) (f : BufTy.Contents (Elt F) arg7.view.ty) :
    tripL_k0_t1 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k acc f
      = [⟨Rect.unit (s := S8192x128) (k0_off18 i k) S1024x128.size (k0_off18_inb i k),
          k0_pay72 v17 (k0_pay12 k0_pay2 (k0_pay11 v5 v9 v14 (View.readAt (Elt F) arg2.view (Rect.unit (s := S8192x256) (k0_off10 i k) S1024x128.size (k0_off10_inb i k)).toLoadRect X_arg2) (View.readAt (Elt F) arg3.view (Rect.unit (s := S8192x256) (k0_off10 i k) S1024x128.size (k0_off10_inb i k)).toLoadRect X_arg3) (View.readAt (Elt F) arg4.view (Rect.unit (s := S1x8x8192) (k0_off11 i k) S1x1x1024.size (k0_off11_inb i k)).toLoadRect X_arg4) (View.readAt (Elt F) arg4.view (Rect.unit (s := S1x8x8192) (k0_off12 i k) S1x1x1024.size (k0_off12_inb i k)).toLoadRect X_arg4) (View.readAt (Elt F) arg4.view (Rect.unit (s := S1x8x8192) (k0_off13 i k) S1x1x1024.size (k0_off13_inb i k)).toLoadRect X_arg4)))
            (k0_pay17 v7 v11 (View.readAt (Elt F) arg2.view (Rect.unit (s := S8192x256) (k0_off14 i k) S1024x128.size (k0_off14_inb i k)).toLoadRect X_arg2) (View.readAt (Elt F) arg3.view (Rect.unit (s := S8192x256) (k0_off14 i k) S1024x128.size (k0_off14_inb i k)).toLoadRect X_arg3) (View.readAt (Elt F) arg4.view (Rect.unit (s := S1x8x8192) (k0_off15 i k) S1x1x1024.size (k0_off15_inb i k)).toLoadRect X_arg4) (View.readAt (Elt F) arg4.view (Rect.unit (s := S1x8x8192) (k0_off16 i k) S1x1x1024.size (k0_off16_inb i k)).toLoadRect X_arg4) (View.readAt (Elt F) arg4.view (Rect.unit (s := S1x8x8192) (k0_off17 i k) S1x1x1024.size (k0_off17_inb i k)).toLoadRect X_arg4)) (View.readAt (Elt F) arg7.view (Rect.unit (s := S8192x128) (k0_off18 i k) S1024x128.size (k0_off18_inb i k)).toLoadRect f)⟩] := by
  unfold tripL_k0_t1 trip_k0_t1
  dsimp only
  sl_unfold_words
  rfl

end Cert.FoxKernelIdeal.Body
-- ==== Proof.FoxLoop.lean ====
module

public import proofs.«01_k».proof.Proof.FoxTrip

@[expose] public section

/-!
  The kernel's loop over query tiles over the extended reals: after `n` trips the accumulators hold what they began with
  plus the sums over the next `n` query tiles, and the query gradient has the key tile's part added on those rows.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.FoxKernelIdeal.Tile

/-- The loop runs over the query tiles after the key tile. -/
theorem trips_eq : ∀ i : grid0.Coords, (k0_t1_loop i).trips = 7 - (i 1).val := by decide +kernel

/-- The loop over the tiles that do not divide the grid evenly has none. -/
theorem trips2_eq : ∀ i : grid0.Coords, (k0_t2_loop i).trips = 0 := by decide +kernel

theorem off2 {a b a' b' : ℕ} (ha : a = a') (hb : b = b') : (![a, b] : Fin 2 → ℕ) = ![a', b'] := by rw [ha, hb]

theorem off3 {a b c c' : ℕ} (hc : c = c') : (![a, b, c] : Fin 3 → ℕ) = ![a, b, c'] := by rw [hc]

/-- What a key tile adds to the query gradient before its scale: each half of the lanes belongs to one head. -/
def cdqs (j : Fin 8) (K0 K1 V0 V1 : Rows) (x0 x1 : Pair) (x2 : Stats) (C : Fin 8192) (l : Fin 128) : EReal :=
  if l.val < 64 then cdq j 0 K0 V0 x0 x1 x2 C l else cdq j 1 K1 V1 x0 x1 x2 C l

theorem halves (l : Fin 128) (a b : EReal) :
    ((0 : EReal) + if l.val < 64 then a else 0) + (if l.val < 64 then 0 else b) = if l.val < 64 then a else b := by
  split <;> simp

theorem loads0 (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec Ideal S1024x128 .bf16) (v7 : FVec Ideal S1024x128 .bf16) (v9 : FVec Ideal S1024x128 .bf16) (v11 : FVec Ideal S1024x128 .bf16) (v14 : FVec Ideal S128x1024 .bf16) (v17 : FVec Ideal S128x1024 .bf16) (v21 : BitVec 32) (v60 : FVec Ideal S1024x1 .f32) (v63 : FVec Ideal S1024x128 .f32) (v65 : FVec Ideal S1024x128 .f32) (v75 : FVec Ideal S128x1024 .f32) (v113 : FVec Ideal S1024x1 .f32) (v116 : FVec Ideal S1024x128 .f32) (v118 : FVec Ideal S1024x128 .f32) (v119 : FVec Ideal S128x1024 .f32) (v124 : IVec S128x1024 1) (v125 : FVec Ideal S128x1024 .f32) (v137 : BitVec 32) (X_arg2 : BufTy.Contents (Elt Ideal) arg2.view.ty) (X_arg3 : BufTy.Contents (Elt Ideal) arg3.view.ty) (X_arg4 : BufTy.Contents (Elt Ideal) arg4.view.ty) (k : Fin (k0_t1_loop i).trips) (T : Fin 8) (hT : T.val = (i 1).val + 1 + k.val) :
    Loads T 0 (arg2.view.read (Elt Ideal) X_arg2) (arg3.view.read (Elt Ideal) X_arg3) (arg4.view.read (Elt Ideal) X_arg4) (View.readAt (Elt Ideal) arg2.view (Rect.unit (s := S8192x256) (k0_off10 i k) S1024x128.size (k0_off10_inb i k)).toLoadRect X_arg2) (View.readAt (Elt Ideal) arg3.view (Rect.unit (s := S8192x256) (k0_off10 i k) S1024x128.size (k0_off10_inb i k)).toLoadRect X_arg3) (View.readAt (Elt Ideal) arg4.view (Rect.unit (s := S1x8x8192) (k0_off11 i k) S1x1x1024.size (k0_off11_inb i k)).toLoadRect X_arg4) (View.readAt (Elt Ideal) arg4.view (Rect.unit (s := S1x8x8192) (k0_off12 i k) S1x1x1024.size (k0_off12_inb i k)).toLoadRect X_arg4) (View.readAt (Elt Ideal) arg4.view (Rect.unit (s := S1x8x8192) (k0_off13 i k) S1x1x1024.size (k0_off13_inb i k)).toLoadRect X_arg4) :=
  ⟨fun r l => rows_at T 0 _ _ (by rw [k0_off10_eq]; exact off2 (by omega) rfl) r l, fun r l => rows_at T 0 _ _ (by rw [k0_off10_eq]; exact off2 (by omega) rfl) r l,
    fun r => stat_at T _ (srow 0 0) _ (by rw [k0_off11_eq]; exact off3 (by omega)) r, fun r => stat_at T _ (srow 1 0) _ (by rw [k0_off13_eq]; exact off3 (by omega)) r,
    fun r => stat_at T _ (srow 2 0) _ (by rw [k0_off12_eq]; exact off3 (by omega)) r⟩

theorem loads1 (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec Ideal S1024x128 .bf16) (v7 : FVec Ideal S1024x128 .bf16) (v9 : FVec Ideal S1024x128 .bf16) (v11 : FVec Ideal S1024x128 .bf16) (v14 : FVec Ideal S128x1024 .bf16) (v17 : FVec Ideal S128x1024 .bf16) (v21 : BitVec 32) (v60 : FVec Ideal S1024x1 .f32) (v63 : FVec Ideal S1024x128 .f32) (v65 : FVec Ideal S1024x128 .f32) (v75 : FVec Ideal S128x1024 .f32) (v113 : FVec Ideal S1024x1 .f32) (v116 : FVec Ideal S1024x128 .f32) (v118 : FVec Ideal S1024x128 .f32) (v119 : FVec Ideal S128x1024 .f32) (v124 : IVec S128x1024 1) (v125 : FVec Ideal S128x1024 .f32) (v137 : BitVec 32) (X_arg2 : BufTy.Contents (Elt Ideal) arg2.view.ty) (X_arg3 : BufTy.Contents (Elt Ideal) arg3.view.ty) (X_arg4 : BufTy.Contents (Elt Ideal) arg4.view.ty) (k : Fin (k0_t1_loop i).trips) (T : Fin 8) (hT : T.val = (i 1).val + 1 + k.val) :
    Loads T 1 (arg2.view.read (Elt Ideal) X_arg2) (arg3.view.read (Elt Ideal) X_arg3) (arg4.view.read (Elt Ideal) X_arg4) (View.readAt (Elt Ideal) arg2.view (Rect.unit (s := S8192x256) (k0_off14 i k) S1024x128.size (k0_off14_inb i k)).toLoadRect X_arg2) (View.readAt (Elt Ideal) arg3.view (Rect.unit (s := S8192x256) (k0_off14 i k) S1024x128.size (k0_off14_inb i k)).toLoadRect X_arg3) (View.readAt (Elt Ideal) arg4.view (Rect.unit (s := S1x8x8192) (k0_off15 i k) S1x1x1024.size (k0_off15_inb i k)).toLoadRect X_arg4) (View.readAt (Elt Ideal) arg4.view (Rect.unit (s := S1x8x8192) (k0_off16 i k) S1x1x1024.size (k0_off16_inb i k)).toLoadRect X_arg4) (View.readAt (Elt Ideal) arg4.view (Rect.unit (s := S1x8x8192) (k0_off17 i k) S1x1x1024.size (k0_off17_inb i k)).toLoadRect X_arg4) :=
  ⟨fun r l => rows_at T 1 _ _ (by rw [k0_off14_eq]; exact off2 (by omega) rfl) r l, fun r l => rows_at T 1 _ _ (by rw [k0_off14_eq]; exact off2 (by omega) rfl) r l,
    fun r => stat_at T _ (srow 0 1) _ (by rw [k0_off15_eq]; exact off3 (by omega)) r, fun r => stat_at T _ (srow 1 1) _ (by rw [k0_off17_eq]; exact off3 (by omega)) r,
    fun r => stat_at T _ (srow 2 1) _ (by rw [k0_off16_eq]; exact off3 (by omega)) r⟩

/-- A trip adds its query tile to the accumulators. -/
theorem tripR_at (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec Ideal S1024x128 .bf16) (v7 : FVec Ideal S1024x128 .bf16) (v9 : FVec Ideal S1024x128 .bf16) (v11 : FVec Ideal S1024x128 .bf16) (v14 : FVec Ideal S128x1024 .bf16) (v17 : FVec Ideal S128x1024 .bf16) (v21 : BitVec 32) (v60 : FVec Ideal S1024x1 .f32) (v63 : FVec Ideal S1024x128 .f32) (v65 : FVec Ideal S1024x128 .f32) (v75 : FVec Ideal S128x1024 .f32) (v113 : FVec Ideal S1024x1 .f32) (v116 : FVec Ideal S1024x128 .f32) (v118 : FVec Ideal S1024x128 .f32) (v119 : FVec Ideal S128x1024 .f32) (v124 : IVec S128x1024 1) (v125 : FVec Ideal S128x1024 .f32) (v137 : BitVec 32) (X_arg2 : BufTy.Contents (Elt Ideal) arg2.view.ty) (X_arg3 : BufTy.Contents (Elt Ideal) arg3.view.ty) (X_arg4 : BufTy.Contents (Elt Ideal) arg4.view.ty) (k : Fin (k0_t1_loop i).trips) (acc : FVec Ideal S1024x128 .f32 × FVec Ideal S1024x128 .f32 × FVec Ideal S1024x1 .f32 × FVec Ideal S1024x128 .f32 × FVec Ideal S1024x128 .f32 × FVec Ideal S1024x1 .f32) (f : BufTy.Contents (Elt Ideal) arg7.view.ty)
    (j : Fin 8) (hj : (i 1).val = j.val) (T : Fin 8) (hT : T.val = j.val + 1 + k.val) (R : FVec Ideal S1024x128 .f32 × FVec Ideal S1024x128 .f32 × FVec Ideal S1024x1 .f32 × FVec Ideal S1024x128 .f32 × FVec Ideal S1024x128 .f32 × FVec Ideal S1024x1 .f32)
    (hR : R = tripR_k0_t1 (F := Ideal) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k acc f) :
    (∀ r l, (R.1 (ix2 r l) : EReal) = acc.1 (ix2 r l) + tileSum (cdk j 0 v5 v9 (arg2.view.read (Elt Ideal) X_arg2) (arg3.view.read (Elt Ideal) X_arg3) (arg4.view.read (Elt Ideal) X_arg4) r l) T.val)
    ∧ (∀ r l, (R.2.1 (ix2 r l) : EReal) = acc.2.1 (ix2 r l) + tileSum (cdv j 0 v5 (arg2.view.read (Elt Ideal) X_arg2) (arg3.view.read (Elt Ideal) X_arg3) (arg4.view.read (Elt Ideal) X_arg4) r l) T.val)
    ∧ (∀ r, (R.2.2.1 (ix2 r 0) : EReal) = acc.2.2.1 (ix2 r 0) + tileSum (gD j 0 v5 v9 (arg2.view.read (Elt Ideal) X_arg2) (arg3.view.read (Elt Ideal) X_arg3) (arg4.view.read (Elt Ideal) X_arg4) r) T.val)
    ∧ (∀ r l, (R.2.2.2.1 (ix2 r l) : EReal) = acc.2.2.2.1 (ix2 r l) + tileSum (cdk j 1 v7 v11 (arg2.view.read (Elt Ideal) X_arg2) (arg3.view.read (Elt Ideal) X_arg3) (arg4.view.read (Elt Ideal) X_arg4) r l) T.val)
    ∧ (∀ r l, (R.2.2.2.2.1 (ix2 r l) : EReal) = acc.2.2.2.2.1 (ix2 r l) + tileSum (cdv j 1 v7 (arg2.view.read (Elt Ideal) X_arg2) (arg3.view.read (Elt Ideal) X_arg3) (arg4.view.read (Elt Ideal) X_arg4) r l) T.val)
    ∧ (∀ r, (R.2.2.2.2.2 (ix2 r 0) : EReal) = acc.2.2.2.2.2 (ix2 r 0) + tileSum (gD j 1 v7 v11 (arg2.view.read (Elt Ideal) X_arg2) (arg3.view.read (Elt Ideal) X_arg3) (arg4.view.read (Elt Ideal) X_arg4) r) T.val) := by
  have H0 := loads0 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k T (by omega)
  have H1 := loads1 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k T (by omega)
  have hlt : j < T := Fin.lt_def.mpr (by omega)
  rw [tripR_eq] at hR
  subst hR
  refine ⟨fun r l => ?_, fun r l => ?_, fun r => ?_, fun r l => ?_, fun r l => ?_, fun r => ?_⟩
  · exact (pay10_at _ _ _ _ _ _ _ _ r l).trans (congrArg (_ + ·) (H0.dk_lt hlt r l))
  · exact (pay9_at _ _ _ _ _ _ r l).trans (congrArg (_ + ·) (H0.dv_lt hlt r l))
  · exact (pay8_at _ _ _ _ _ _ _ _ r).trans (congrArg (_ + ·) (H0.dc_lt hlt r))
  · refine (pay71_at _ _ _ r l).trans (congrArg (_ + ·) ?_)
    rw [← H1.dk_lt hlt r l]
    exact Finset.sum_congr rfl fun c _ => by rw [pay17_at, pay13_eq]
  · refine (pay70_at _ _ r l).trans (congrArg (_ + ·) ?_)
    exact (pay19_at _ _ _ _ _ r l).trans (H1.dv_lt hlt r l)
  · exact (pay18_at _ _ _ _ _ _ _ _ r).trans (congrArg (_ + ·) (H1.dc_lt hlt r))

/-- A trip adds its part to the query gradient on its rows and changes no other. -/
theorem tripL_at (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec Ideal S1024x128 .bf16) (v7 : FVec Ideal S1024x128 .bf16) (v9 : FVec Ideal S1024x128 .bf16) (v11 : FVec Ideal S1024x128 .bf16) (v14 : FVec Ideal S128x1024 .bf16) (v17 : FVec Ideal S128x1024 .bf16) (v21 : BitVec 32) (v60 : FVec Ideal S1024x1 .f32) (v63 : FVec Ideal S1024x128 .f32) (v65 : FVec Ideal S1024x128 .f32) (v75 : FVec Ideal S128x1024 .f32) (v113 : FVec Ideal S1024x1 .f32) (v116 : FVec Ideal S1024x128 .f32) (v118 : FVec Ideal S1024x128 .f32) (v119 : FVec Ideal S128x1024 .f32) (v124 : IVec S128x1024 1) (v125 : FVec Ideal S128x1024 .f32) (v137 : BitVec 32) (X_arg2 : BufTy.Contents (Elt Ideal) arg2.view.ty) (X_arg3 : BufTy.Contents (Elt Ideal) arg3.view.ty) (X_arg4 : BufTy.Contents (Elt Ideal) arg4.view.ty) (k : Fin (k0_t1_loop i).trips) (acc : FVec Ideal S1024x128 .f32 × FVec Ideal S1024x128 .f32 × FVec Ideal S1024x1 .f32 × FVec Ideal S1024x128 .f32 × FVec Ideal S1024x128 .f32 × FVec Ideal S1024x1 .f32) (f : BufTy.Contents (Elt Ideal) arg7.view.ty)
    (j : Fin 8) (hj : (i 1).val = j.val) (T : Fin 8) (hT : T.val = j.val + 1 + k.val)
    (h14 : ∀ l r, (v14 (ix2 l r) : EReal) = v5 (ix2 r l)) (h17 : ∀ l r, (v17 (ix2 l r) : EReal) = v7 (ix2 r l))
    (G : BufTy.Contents (Elt Ideal) arg7.view.ty) (L : List (View.Piece (Elt Ideal) S8192x128 .f32)) (hf : f = arg7.view.writes (Elt Ideal) G L)
    (C : Fin 8192) (l : Fin 128) :
    (arg7.view.read (Elt Ideal) (arg7.view.writes (Elt Ideal) G (tripL_k0_t1 (F := Ideal) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k acc f ++ L)) (ix2 C l) : EReal)
      = arg7.view.read (Elt Ideal) f (ix2 C l)
        + if T.val * 1024 ≤ C.val ∧ C.val < (T.val + 1) * 1024 then cdqs j v5 v7 v9 v11 (arg2.view.read (Elt Ideal) X_arg2) (arg3.view.read (Elt Ideal) X_arg3) (arg4.view.read (Elt Ideal) X_arg4) C l * eighth else 0 := by
  have H0 := loads0 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k T (by omega)
  have H1 := loads1 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 k T (by omega)
  have hlt : j < T := Fin.lt_def.mpr (by omega)
  have hoff : k0_off18 i k = ![T.val * 1024, 0] := by rw [k0_off18_eq]; exact off2 (by omega) rfl
  rw [tripL_eq, List.cons_append, List.nil_append]
  by_cases hC : T.val * 1024 ≤ C.val ∧ C.val < (T.val + 1) * 1024
  · obtain ⟨c, rfl⟩ : ∃ c : Fin 1024, C = rowOf T c := ⟨⟨C.val - T.val * 1024, by omega⟩, Fin.ext (by simp only [rowOf]; omega)⟩
    rw [if_pos hC]
    refine (View.read_writes_cons_rows_of_mem _ _ _ _ L _ (ix2 c l) hoff rfl rfl).trans ?_
    refine (pay72_at _ _ _ _ c l).trans ?_
    congr 1
    · exact drows_at T _ _ hoff c l
    · have e1 := H1.dq_lt (V := v11) hlt h17 l c
      simp only [← pay17_at] at e1
      rw [pay12_at, pay2_at, pay11_at, H0.dq_lt hlt h14 l c, e1, halves]
      rfl
  · rw [if_neg hC, add_zero, hf]
    exact View.read_writes_cons_rows_of_not_mem _ _ _ _ L _ hoff rfl (by
      have : S1024x128.size 0 = 1024 := rfl
      show C.val < _ ∨ _ ≤ C.val
      omega)

/-- The loop after `n` trips. -/
theorem st_at (𝒱 : Variants) (c : Dev nD) (bd : Option 𝒱.V) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v5 : FVec Ideal S1024x128 .bf16) (v7 : FVec Ideal S1024x128 .bf16) (v9 : FVec Ideal S1024x128 .bf16) (v11 : FVec Ideal S1024x128 .bf16) (v14 : FVec Ideal S128x1024 .bf16) (v17 : FVec Ideal S128x1024 .bf16) (v21 : BitVec 32) (v60 : FVec Ideal S1024x1 .f32) (v63 : FVec Ideal S1024x128 .f32) (v65 : FVec Ideal S1024x128 .f32) (v75 : FVec Ideal S128x1024 .f32) (v113 : FVec Ideal S1024x1 .f32) (v116 : FVec Ideal S1024x128 .f32) (v118 : FVec Ideal S1024x128 .f32) (v119 : FVec Ideal S128x1024 .f32) (v124 : IVec S128x1024 1) (v125 : FVec Ideal S128x1024 .f32) (v137 : BitVec 32) (X_arg2 : BufTy.Contents (Elt Ideal) arg2.view.ty) (X_arg3 : BufTy.Contents (Elt Ideal) arg3.view.ty) (X_arg4 : BufTy.Contents (Elt Ideal) arg4.view.ty) (G : BufTy.Contents (Elt Ideal) arg7.view.ty) (init : FVec Ideal S1024x128 .f32 × FVec Ideal S1024x128 .f32 × FVec Ideal S1024x1 .f32 × FVec Ideal S1024x128 .f32 × FVec Ideal S1024x128 .f32 × FVec Ideal S1024x1 .f32)
    (j : Fin 8) (hj : (i 1).val = j.val)
    (h14 : ∀ l r, (v14 (ix2 l r) : EReal) = v5 (ix2 r l)) (h17 : ∀ l r, (v17 (ix2 l r) : EReal) = v7 (ix2 r l)) :
    ∀ n : ℕ, n ≤ 7 - j.val → ∀ R, R = st_k0_t1 (F := Ideal) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G init n →
    ((∀ r l, (R.1.1 (ix2 r l) : EReal) = init.1 (ix2 r l) + ∑ k ∈ Finset.range n, tileSum (cdk j 0 v5 v9 (arg2.view.read (Elt Ideal) X_arg2) (arg3.view.read (Elt Ideal) X_arg3) (arg4.view.read (Elt Ideal) X_arg4) r l) (j.val + 1 + k))
    ∧ (∀ r l, (R.1.2.1 (ix2 r l) : EReal) = init.2.1 (ix2 r l) + ∑ k ∈ Finset.range n, tileSum (cdv j 0 v5 (arg2.view.read (Elt Ideal) X_arg2) (arg3.view.read (Elt Ideal) X_arg3) (arg4.view.read (Elt Ideal) X_arg4) r l) (j.val + 1 + k))
    ∧ (∀ r, (R.1.2.2.1 (ix2 r 0) : EReal) = init.2.2.1 (ix2 r 0) + ∑ k ∈ Finset.range n, tileSum (gD j 0 v5 v9 (arg2.view.read (Elt Ideal) X_arg2) (arg3.view.read (Elt Ideal) X_arg3) (arg4.view.read (Elt Ideal) X_arg4) r) (j.val + 1 + k))
    ∧ (∀ r l, (R.1.2.2.2.1 (ix2 r l) : EReal) = init.2.2.2.1 (ix2 r l) + ∑ k ∈ Finset.range n, tileSum (cdk j 1 v7 v11 (arg2.view.read (Elt Ideal) X_arg2) (arg3.view.read (Elt Ideal) X_arg3) (arg4.view.read (Elt Ideal) X_arg4) r l) (j.val + 1 + k))
    ∧ (∀ r l, (R.1.2.2.2.2.1 (ix2 r l) : EReal) = init.2.2.2.2.1 (ix2 r l) + ∑ k ∈ Finset.range n, tileSum (cdv j 1 v7 (arg2.view.read (Elt Ideal) X_arg2) (arg3.view.read (Elt Ideal) X_arg3) (arg4.view.read (Elt Ideal) X_arg4) r l) (j.val + 1 + k))
    ∧ (∀ r, (R.1.2.2.2.2.2 (ix2 r 0) : EReal) = init.2.2.2.2.2 (ix2 r 0) + ∑ k ∈ Finset.range n, tileSum (gD j 1 v7 v11 (arg2.view.read (Elt Ideal) X_arg2) (arg3.view.read (Elt Ideal) X_arg3) (arg4.view.read (Elt Ideal) X_arg4) r) (j.val + 1 + k)))
    ∧ (∀ C l, (arg7.view.read (Elt Ideal) (arg7.view.writes (Elt Ideal) G R.2) (ix2 C l) : EReal)
        = arg7.view.read (Elt Ideal) G (ix2 C l)
          + if (j.val + 1) * 1024 ≤ C.val ∧ C.val < (j.val + 1 + n) * 1024 then cdqs j v5 v7 v9 v11 (arg2.view.read (Elt Ideal) X_arg2) (arg3.view.read (Elt Ideal) X_arg3) (arg4.view.read (Elt Ideal) X_arg4) C l * eighth else 0) := by
  intro n
  induction n with
  | zero =>
    intro _ R hR
    subst hR
    simp only [Finset.range_zero, Finset.sum_empty, add_zero]
    refine ⟨⟨fun _ _ => rfl, fun _ _ => rfl, fun _ => rfl, fun _ _ => rfl, fun _ _ => rfl, fun _ => rfl⟩, fun C l => ?_⟩
    rw [if_neg (by omega), add_zero]
    rfl
  | succ n ih =>
    intro hn R hR
    obtain ⟨⟨a1, a2, a3, a4, a5, a6⟩, a7⟩ := ih (by omega) _ rfl
    have hk : n < (k0_t1_loop i).trips := by rw [trips_eq, hj]; omega
    have e := st_k0_t1_succ (F := Ideal) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 G init ⟨n, hk⟩
    rw [e] at hR
    subst hR
    have hT : ((⟨j.val + 1 + n, by omega⟩ : Fin 8)).val = j.val + 1 + (⟨n, hk⟩ : Fin (k0_t1_loop i).trips).val := rfl
    obtain ⟨b1, b2, b3, b4, b5, b6⟩ := tripR_at 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 ⟨n, hk⟩ _ _ j hj _ hT _ rfl
    refine ⟨⟨fun r l => ?_, fun r l => ?_, fun r => ?_, fun r l => ?_, fun r l => ?_, fun r => ?_⟩, fun C l => ?_⟩
    · rw [Finset.sum_range_succ, ← add_assoc, ← a1]; exact b1 r l
    · rw [Finset.sum_range_succ, ← add_assoc, ← a2]; exact b2 r l
    · rw [Finset.sum_range_succ, ← add_assoc, ← a3]; exact b3 r
    · rw [Finset.sum_range_succ, ← add_assoc, ← a4]; exact b4 r l
    · rw [Finset.sum_range_succ, ← add_assoc, ← a5]; exact b5 r l
    · rw [Finset.sum_range_succ, ← add_assoc, ← a6]; exact b6 r
    · refine (tripL_at 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v137 X_arg2 X_arg3 X_arg4 ⟨n, hk⟩ _ _ j hj _ hT h14 h17 G _ rfl C l).trans ?_
      rw [a7, add_assoc]
      congr 1
      simp only
      by_cases h1 : (j.val + 1) * 1024 ≤ C.val ∧ C.val < (j.val + 1 + n) * 1024
      · rw [if_pos h1, if_neg (by omega), if_pos (by omega), add_zero]
      · rw [if_neg h1, zero_add]
        by_cases h2 : (j.val + 1 + n) * 1024 ≤ C.val ∧ C.val < (j.val + 1 + n + 1) * 1024
        · rw [if_pos h2, if_pos (by omega)]
        · rw [if_neg h2, if_neg (by omega)]

end Cert.FoxKernelIdeal.Body
-- ==== Proof.FoxRun.lean ====
module

public import proofs.«01_k».proof.Proof.FoxKernelIdealFrame
public import proofs.«01_k».proof.Proof.FoxLoop
public import Idealize.ShloMosaic.Lib.Pipeline.ValueKit
public import Idealize.ShloMosaic.Lib.WritesUnit

@[expose] public section

/-!
  What one grid point of the kernel does, put together: the vectors it loads, the diagonal tile, the store of the diagonal
  tile's part of the query gradient, then the loop over the later query tiles. The run of the body is this, whether or not
  the point is the first of its pair of heads.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.FoxKernelIdeal.Tile

variable {F : FTy → Type} [FloatOps F] [Named F]

-- Types of the kernel's operands and of the loop's accumulators.
local notation "𝕄Q" => Memref sig Kind.tc Space.vmem S8192x256 EltTy.bf16
local notation "𝕄S" => Memref sig Kind.tc Space.vmem S1x8x8192 EltTy.f32
local notation "𝕄D" => Memref sig Kind.tc Space.vmem S8192x128 EltTy.f32
local notation "𝕄K" => Memref sig Kind.tc Space.vmem S1024x256 EltTy.bf16
local notation "𝕄O" => Memref sig Kind.tc Space.vmem S1024x128 EltTy.bf16
local notation "𝕄C" => Memref sig Kind.tc Space.vmem S1024x128 EltTy.f32
local notation "𝕄Acc" => FVec F S1024x128 FTy.f32 × FVec F S1024x128 FTy.f32 × FVec F S1024x1 FTy.f32 × FVec F S1024x128 FTy.f32 × FVec F S1024x128 FTy.f32 × FVec F S1024x1 FTy.f32

/-- The keys of head 0. -/
def pK0 (arg5 : 𝕄K) (harg5 : arg5.IsWhole) (x3 : Vec F S1024x256 .bf16) : FVec F S1024x128 .bf16 :=
  (View.readAt (Elt F) arg5.view (Rect.unit (s := S1024x256) ![0, 0] S1024x128.size inb_S1024x256_S1024x128_0_0).toLoadRect (harg5.unread x3))

/-- The keys of head 1. -/
def pK1 (arg5 : 𝕄K) (harg5 : arg5.IsWhole) (x3 : Vec F S1024x256 .bf16) : FVec F S1024x128 .bf16 :=
  (View.readAt (Elt F) arg5.view (Rect.unit (s := S1024x256) ![0, 128] S1024x128.size inb_S1024x256_S1024x128_0_128).toLoadRect (harg5.unread x3))

/-- The values of head 0. -/
def pV0 (arg6 : 𝕄K) (harg6 : arg6.IsWhole) (x4 : Vec F S1024x256 .bf16) : FVec F S1024x128 .bf16 :=
  (View.readAt (Elt F) arg6.view (Rect.unit (s := S1024x256) ![0, 0] S1024x128.size inb_S1024x256_S1024x128_0_0).toLoadRect (harg6.unread x4))

/-- The values of head 1. -/
def pV1 (arg6 : 𝕄K) (harg6 : arg6.IsWhole) (x4 : Vec F S1024x256 .bf16) : FVec F S1024x128 .bf16 :=
  (View.readAt (Elt F) arg6.view (Rect.unit (s := S1024x256) ![0, 128] S1024x128.size inb_S1024x256_S1024x128_0_128).toLoadRect (harg6.unread x4))

/-- The diagonal tile's queries of head 0. -/
def pQ0 (i : grid0.Coords) (arg2 : 𝕄Q) (harg2 : arg2.IsWhole) (x0 : Vec F S8192x256 .bf16) : FVec F S1024x128 .bf16 :=
  (View.readAt (Elt F) arg2.view (Rect.unit (s := S8192x256) (k0_off1 i) S1024x128.size (k0_off1_inb i)).toLoadRect (harg2.unread x0))

/-- The diagonal tile's output gradients of head 0. -/
def pO0 (i : grid0.Coords) (arg3 : 𝕄Q) (harg3 : arg3.IsWhole) (x1 : Vec F S8192x256 .bf16) : FVec F S1024x128 .bf16 :=
  (View.readAt (Elt F) arg3.view (Rect.unit (s := S8192x256) (k0_off1 i) S1024x128.size (k0_off1_inb i)).toLoadRect (harg3.unread x1))

/-- The diagonal tile's shifts of head 0. -/
def psh0 (i : grid0.Coords) (arg4 : 𝕄S) (harg4 : arg4.IsWhole) (x2 : Vec F S1x8x8192 .f32) : Vec F S1x1x1024 .f32 :=
  (View.readAt (Elt F) arg4.view (Rect.unit (s := S1x8x8192) (k0_off2 i) S1x1x1024.size (k0_off2_inb i)).toLoadRect (harg4.unread x2))

/-- The diagonal tile's inverse row sums of head 0. -/
def pil0 (i : grid0.Coords) (arg4 : 𝕄S) (harg4 : arg4.IsWhole) (x2 : Vec F S1x8x8192 .f32) : Vec F S1x1x1024 .f32 :=
  (View.readAt (Elt F) arg4.view (Rect.unit (s := S1x8x8192) (k0_off3 i) S1x1x1024.size (k0_off3_inb i)).toLoadRect (harg4.unread x2))

/-- The diagonal tile's row sums `delta` of head 0. -/
def pde0 (i : grid0.Coords) (arg4 : 𝕄S) (harg4 : arg4.IsWhole) (x2 : Vec F S1x8x8192 .f32) : Vec F S1x1x1024 .f32 :=
  (View.readAt (Elt F) arg4.view (Rect.unit (s := S1x8x8192) (k0_off4 i) S1x1x1024.size (k0_off4_inb i)).toLoadRect (harg4.unread x2))

/-- The diagonal tile's queries of head 1. -/
def pQ1 (i : grid0.Coords) (arg2 : 𝕄Q) (harg2 : arg2.IsWhole) (x0 : Vec F S8192x256 .bf16) : FVec F S1024x128 .bf16 :=
  (View.readAt (Elt F) arg2.view (Rect.unit (s := S8192x256) (k0_off5 i) S1024x128.size (k0_off5_inb i)).toLoadRect (harg2.unread x0))

/-- The diagonal tile's output gradients of head 1. -/
def pO1 (i : grid0.Coords) (arg3 : 𝕄Q) (harg3 : arg3.IsWhole) (x1 : Vec F S8192x256 .bf16) : FVec F S1024x128 .bf16 :=
  (View.readAt (Elt F) arg3.view (Rect.unit (s := S8192x256) (k0_off5 i) S1024x128.size (k0_off5_inb i)).toLoadRect (harg3.unread x1))

/-- The diagonal tile's shifts of head 1. -/
def psh1 (i : grid0.Coords) (arg4 : 𝕄S) (harg4 : arg4.IsWhole) (x2 : Vec F S1x8x8192 .f32) : Vec F S1x1x1024 .f32 :=
  (View.readAt (Elt F) arg4.view (Rect.unit (s := S1x8x8192) (k0_off6 i) S1x1x1024.size (k0_off6_inb i)).toLoadRect (harg4.unread x2))

/-- The diagonal tile's inverse row sums of head 1. -/
def pil1 (i : grid0.Coords) (arg4 : 𝕄S) (harg4 : arg4.IsWhole) (x2 : Vec F S1x8x8192 .f32) : Vec F S1x1x1024 .f32 :=
  (View.readAt (Elt F) arg4.view (Rect.unit (s := S1x8x8192) (k0_off7 i) S1x1x1024.size (k0_off7_inb i)).toLoadRect (harg4.unread x2))

/-- The diagonal tile's row sums `delta` of head 1. -/
def pde1 (i : grid0.Coords) (arg4 : 𝕄S) (harg4 : arg4.IsWhole) (x2 : Vec F S1x8x8192 .f32) : Vec F S1x1x1024 .f32 :=
  (View.readAt (Elt F) arg4.view (Rect.unit (s := S1x8x8192) (k0_off8 i) S1x1x1024.size (k0_off8_inb i)).toLoadRect (harg4.unread x2))

/-- The store of the diagonal tile's part of the query gradient. -/
def diag  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (x0 : Vec F S8192x256 .bf16) (x1 : Vec F S8192x256 .bf16) (x2 : Vec F S1x8x8192 .f32) (x3 : Vec F S1024x256 .bf16) (x4 : Vec F S1024x256 .bf16) (G : BufTy.Contents (Elt F) arg7.view.ty) : View.Piece (Elt F) S8192x128 .f32 :=
  ⟨Rect.unit (s := S8192x128) (k0_off9 i) S1024x128.size (k0_off9_inb i),
    k0_pay69 (k0_pay57 (k0_pay41 (pV0 arg6 harg6 x4)) (k0_pay43 (pK0 arg5 harg5 x3)) k0_pay47 (k0_pay49 (pO0 i arg3 harg3 x1)) (k0_pay50 (pK0 arg5 harg5 x3) (pQ0 i arg2 harg2 x0)) (psh0 i arg4 harg4 x2) (pil0 i arg4 harg4 x2) (pde0 i arg4 harg4 x2))
      (k0_pay66 (k0_pay40 (pK1 arg5 harg5 x3)) (k0_pay42 (pV1 arg6 harg6 x4)) (k0_pay44 (pK1 arg5 harg5 x3)) (k0_pay58 (pQ1 i arg2 harg2 x0)) (k0_pay59 (pO1 i arg3 harg3 x1)) (psh1 i arg4 harg4 x2) (pil1 i arg4 harg4 x2) (pde1 i arg4 harg4 x2)) k0_pay67 k0_pay68
      (View.readAt (Elt F) arg7.view (Rect.unit (s := S8192x128) (k0_off9 i) S1024x128.size (k0_off9_inb i)).toLoadRect G)⟩

/-- The accumulators after the diagonal tile. -/
def diagAcc  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (x0 : Vec F S8192x256 .bf16) (x1 : Vec F S8192x256 .bf16) (x2 : Vec F S1x8x8192 .f32) (x3 : Vec F S1024x256 .bf16) (x4 : Vec F S1024x256 .bf16) : 𝕄Acc :=
  ((k0_pay56 (k0_pay41 (pV0 arg6 harg6 x4)) k0_pay45 (k0_pay48 (pQ0 i arg2 harg2 x0)) (k0_pay49 (pO0 i arg3 harg3 x1)) (k0_pay50 (pK0 arg5 harg5 x3) (pQ0 i arg2 harg2 x0)) (psh0 i arg4 harg4 x2) (pil0 i arg4 harg4 x2) (pde0 i arg4 harg4 x2)),
    (k0_pay55 k0_pay45 (k0_pay49 (pO0 i arg3 harg3 x1)) (k0_pay50 (pK0 arg5 harg5 x3) (pQ0 i arg2 harg2 x0)) (psh0 i arg4 harg4 x2) (pil0 i arg4 harg4 x2)),
    (k0_pay54 (k0_pay41 (pV0 arg6 harg6 x4)) k0_pay46 (k0_pay49 (pO0 i arg3 harg3 x1)) (k0_pay50 (pK0 arg5 harg5 x3) (pQ0 i arg2 harg2 x0)) (psh0 i arg4 harg4 x2) (pil0 i arg4 harg4 x2) (pde0 i arg4 harg4 x2)),
    (k0_pay65 (k0_pay40 (pK1 arg5 harg5 x3)) (k0_pay42 (pV1 arg6 harg6 x4)) k0_pay45 (k0_pay58 (pQ1 i arg2 harg2 x0)) (k0_pay59 (pO1 i arg3 harg3 x1)) (psh1 i arg4 harg4 x2) (pil1 i arg4 harg4 x2) (pde1 i arg4 harg4 x2)),
    (k0_pay64 (k0_pay40 (pK1 arg5 harg5 x3)) k0_pay45 (k0_pay58 (pQ1 i arg2 harg2 x0)) (k0_pay59 (pO1 i arg3 harg3 x1)) (psh1 i arg4 harg4 x2) (pil1 i arg4 harg4 x2)),
    (k0_pay63 (k0_pay40 (pK1 arg5 harg5 x3)) (k0_pay42 (pV1 arg6 harg6 x4)) k0_pay46 (k0_pay58 (pQ1 i arg2 harg2 x0)) (k0_pay59 (pO1 i arg3 harg3 x1)) (psh1 i arg4 harg4 x2) (pil1 i arg4 harg4 x2) (pde1 i arg4 harg4 x2)))

/-- The loop over the later query tiles, begun with the query gradient `G` before the point. -/
def later  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (x0 : Vec F S8192x256 .bf16) (x1 : Vec F S8192x256 .bf16) (x2 : Vec F S1x8x8192 .f32) (x3 : Vec F S1024x256 .bf16) (x4 : Vec F S1024x256 .bf16) (G : BufTy.Contents (Elt F) arg7.view.ty) (n : ℕ) : (𝕄Acc) × List (View.Piece (Elt F) S8192x128 .f32) :=
  st_k0_t1 (F := F) Variants.none c none i arg2 harg2 arg3 harg3 arg4 harg4 arg5 harg5 arg6 harg6 arg7 harg7 arg8 harg8 arg9 harg9 arg10 harg10 (BitVec.ofNat 32 (i 1).val) lanes
    (k0_pay39 (pK0 arg5 harg5 x3)) (k0_pay40 (pK1 arg5 harg5 x3)) (k0_pay41 (pV0 arg6 harg6 x4)) (k0_pay42 (pV1 arg6 harg6 x4)) (k0_pay43 (pK0 arg5 harg5 x3)) (k0_pay44 (pK1 arg5 harg5 x3)) (Scalar.muli (BitVec.ofNat 32 (i 1).val) 1024#32)
    (k0_pay54 (k0_pay41 (pV0 arg6 harg6 x4)) k0_pay46 (k0_pay49 (pO0 i arg3 harg3 x1)) (k0_pay50 (pK0 arg5 harg5 x3) (pQ0 i arg2 harg2 x0)) (psh0 i arg4 harg4 x2) (pil0 i arg4 harg4 x2) (pde0 i arg4 harg4 x2))
    (k0_pay55 k0_pay45 (k0_pay49 (pO0 i arg3 harg3 x1)) (k0_pay50 (pK0 arg5 harg5 x3) (pQ0 i arg2 harg2 x0)) (psh0 i arg4 harg4 x2) (pil0 i arg4 harg4 x2))
    (k0_pay56 (k0_pay41 (pV0 arg6 harg6 x4)) k0_pay45 (k0_pay48 (pQ0 i arg2 harg2 x0)) (k0_pay49 (pO0 i arg3 harg3 x1)) (k0_pay50 (pK0 arg5 harg5 x3) (pQ0 i arg2 harg2 x0)) (psh0 i arg4 harg4 x2) (pil0 i arg4 harg4 x2) (pde0 i arg4 harg4 x2))
    (k0_pay57 (k0_pay41 (pV0 arg6 harg6 x4)) (k0_pay43 (pK0 arg5 harg5 x3)) k0_pay47 (k0_pay49 (pO0 i arg3 harg3 x1)) (k0_pay50 (pK0 arg5 harg5 x3) (pQ0 i arg2 harg2 x0)) (psh0 i arg4 harg4 x2) (pil0 i arg4 harg4 x2) (pde0 i arg4 harg4 x2))
    (k0_pay63 (k0_pay40 (pK1 arg5 harg5 x3)) (k0_pay42 (pV1 arg6 harg6 x4)) k0_pay46 (k0_pay58 (pQ1 i arg2 harg2 x0)) (k0_pay59 (pO1 i arg3 harg3 x1)) (psh1 i arg4 harg4 x2) (pil1 i arg4 harg4 x2) (pde1 i arg4 harg4 x2))
    (k0_pay64 (k0_pay40 (pK1 arg5 harg5 x3)) k0_pay45 (k0_pay58 (pQ1 i arg2 harg2 x0)) (k0_pay59 (pO1 i arg3 harg3 x1)) (psh1 i arg4 harg4 x2) (pil1 i arg4 harg4 x2))
    (k0_pay65 (k0_pay40 (pK1 arg5 harg5 x3)) (k0_pay42 (pV1 arg6 harg6 x4)) k0_pay45 (k0_pay58 (pQ1 i arg2 harg2 x0)) (k0_pay59 (pO1 i arg3 harg3 x1)) (psh1 i arg4 harg4 x2) (pil1 i arg4 harg4 x2) (pde1 i arg4 harg4 x2))
    (k0_pay66 (k0_pay40 (pK1 arg5 harg5 x3)) (k0_pay42 (pV1 arg6 harg6 x4)) (k0_pay44 (pK1 arg5 harg5 x3)) (k0_pay58 (pQ1 i arg2 harg2 x0)) (k0_pay59 (pO1 i arg3 harg3 x1)) (psh1 i arg4 harg4 x2) (pil1 i arg4 harg4 x2) (pde1 i arg4 harg4 x2)) k0_pay67 k0_pay68 (Scalar.addi (BitVec.ofNat 32 (i 1).val) 1#32)
    (harg2.unread x0) (harg3.unread x1) (harg4.unread x2) (arg7.view.writes (Elt F) G [diag c i arg2 harg2 arg3 harg3 arg4 harg4 arg5 harg5 arg6 harg6 arg7 harg7 arg8 harg8 arg9 harg9 arg10 harg10 x0 x1 x2 x3 x4 G]) (diagAcc c i arg2 harg2 arg3 harg3 arg4 harg4 arg5 harg5 arg6 harg6 arg7 harg7 arg8 harg8 arg9 harg9 arg10 harg10 x0 x1 x2 x3 x4) n

/-- The query gradient's zero fill. -/
def fill  : List (View.Piece (Elt F) S8192x128 .f32) :=
  [⟨Rect.unit (s := S8192x128) ![0, 0] S8192x128.size inb_S8192x128_S8192x128_0_0, k0_pay38⟩]

/-- The loop that would take what is left over has no trips. -/
theorem left_over (i : grid0.Coords) : Scf.trips (Scalar.addi (Scalar.addi (BitVec.ofNat 32 (i 1).val) 1#32)
    (Scalar.muli (Scalar.divsi (Scalar.subi (8#32) (Scalar.addi (BitVec.ofNat 32 (i 1).val) 1#32)) 1#32) 1#32))
    (Scalar.addi (Scalar.addi (BitVec.ofNat 32 (i 1).val) 1#32) (Scalar.subi (8#32) (Scalar.addi (BitVec.ofNat 32 (i 1).val) 1#32))) 1#32 = 0 :=
  trips2_eq i

/-- Before its first trip it has stored nothing. -/
theorem left_zero (𝒱 : Variants) (c : Dev nD) (bd : Option 𝒱.V) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (arg1 : BitVec 32) (v0 : IVec S1x128 32) (v5 : FVec F S1024x128 .bf16) (v7 : FVec F S1024x128 .bf16) (v9 : FVec F S1024x128 .bf16) (v11 : FVec F S1024x128 .bf16) (v14 : FVec F S128x1024 .bf16) (v17 : FVec F S128x1024 .bf16) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v142 : BitVec 32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) (init : 𝕄Acc) :
    (st_k0_t2 (F := F) 𝒱 c bd i arg2 harg2 arg3 harg3 arg4 harg4 arg5 harg5 arg6 harg6 arg7 harg7 arg8 harg8 arg9 harg9 arg10 harg10 arg1 v0 v5 v7 v9 v11 v14 v17 v21 v60 v63 v65 v75 v113 v116 v118 v119 v124 v125 v142 X_arg2 X_arg3 X_arg4 G_arg7 init 0) = (init, []) := rfl

/-- The trips of the loop over the later tiles. -/
theorem later_trips (i : grid0.Coords) : Scf.trips (Scalar.addi (BitVec.ofNat 32 (i 1).val) 1#32)
    (Scalar.addi (Scalar.addi (BitVec.ofNat 32 (i 1).val) 1#32)
      (Scalar.muli (Scalar.divsi (Scalar.subi (8#32) (Scalar.addi (BitVec.ofNat 32 (i 1).val) 1#32)) 1#32) 1#32)) 1#32 = (k0_t1_loop i).trips := rfl

attribute [local irreducible] st_k0_t1 st_k0_t2

/-- What a pair's first point stores into result 0. -/
theorem runA_5  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : cond0_0 i) (x0 : Vec F S8192x256 .bf16) (x1 : Vec F S8192x256 .bf16) (x2 : Vec F S1x8x8192 .f32) (x3 : Vec F S1024x256 .bf16) (x4 : Vec F S1024x256 .bf16) :
    (kernelRun0_A (F := F) c i arg2 harg2 arg3 harg3 arg4 harg4 arg5 harg5 arg6 harg6 arg7 harg7 arg8 harg8 arg9 harg9 arg10 harg10 hc0 x0 x1 x2 x3 x4).1
      = (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).2 ++ (diag c i arg2 harg2 arg3 harg3 arg4 harg4 arg5 harg5 arg6 harg6 arg7 harg7 arg8 harg8 arg9 harg9 arg10 harg10 x0 x1 x2 x3 x4 (arg7.view.writes (Elt F) arg7.view.junk fill) :: fill) := by
  unfold kernelRun0_A
  dsimp only
  sl_unfold_run_names
  unfold later diag diagAcc pK0 pK1 pV0 pV1 pQ0 pO0 psh0 pil0 pde0 pQ1 pO1 psh1 pil1 pde1
  simp only [left_over, left_zero, later_trips, fill, View.writes_cons, View.writes_nil, List.nil_append]

/-- What a pair's first point stores into result 1. -/
theorem runA_6  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : cond0_0 i) (x0 : Vec F S8192x256 .bf16) (x1 : Vec F S8192x256 .bf16) (x2 : Vec F S1x8x8192 .f32) (x3 : Vec F S1024x256 .bf16) (x4 : Vec F S1024x256 .bf16) :
    (kernelRun0_A (F := F) c i arg2 harg2 arg3 harg3 arg4 harg4 arg5 harg5 arg6 harg6 arg7 harg7 arg8 harg8 arg9 harg9 arg10 harg10 hc0 x0 x1 x2 x3 x4).2.1
      = [⟨Rect.unit (s := S1024x128) ![0, 0] S1024x128.size inb_S1024x128_S1024x128_0_0, k0_pay76 (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).1.1 (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).1.2.2.2.1⟩] := by
  unfold kernelRun0_A
  dsimp only
  sl_unfold_run_names
  unfold later diag diagAcc pK0 pK1 pV0 pV1 pQ0 pO0 psh0 pil0 pde0 pQ1 pO1 psh1 pil1 pde1
  simp only [left_over, left_zero, later_trips, fill, View.writes_cons, View.writes_nil, List.nil_append]

/-- What a pair's first point stores into result 2. -/
theorem runA_7  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : cond0_0 i) (x0 : Vec F S8192x256 .bf16) (x1 : Vec F S8192x256 .bf16) (x2 : Vec F S1x8x8192 .f32) (x3 : Vec F S1024x256 .bf16) (x4 : Vec F S1024x256 .bf16) :
    (kernelRun0_A (F := F) c i arg2 harg2 arg3 harg3 arg4 harg4 arg5 harg5 arg6 harg6 arg7 harg7 arg8 harg8 arg9 harg9 arg10 harg10 hc0 x0 x1 x2 x3 x4).2.2.1
      = [⟨Rect.unit (s := S1024x128) ![0, 0] S1024x128.size inb_S1024x128_S1024x128_0_0, k0_pay77 (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).1.2.1 (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).1.2.2.2.2.1⟩] := by
  unfold kernelRun0_A
  dsimp only
  sl_unfold_run_names
  unfold later diag diagAcc pK0 pK1 pV0 pV1 pQ0 pO0 psh0 pil0 pde0 pQ1 pO1 psh1 pil1 pde1
  simp only [left_over, left_zero, later_trips, fill, View.writes_cons, View.writes_nil, List.nil_append]

/-- What a pair's first point stores into result 3. -/
theorem runA_8  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : cond0_0 i) (x0 : Vec F S8192x256 .bf16) (x1 : Vec F S8192x256 .bf16) (x2 : Vec F S1x8x8192 .f32) (x3 : Vec F S1024x256 .bf16) (x4 : Vec F S1024x256 .bf16) :
    (kernelRun0_A (F := F) c i arg2 harg2 arg3 harg3 arg4 harg4 arg5 harg5 arg6 harg6 arg7 harg7 arg8 harg8 arg9 harg9 arg10 harg10 hc0 x0 x1 x2 x3 x4).2.2.2.1
      = [⟨Rect.unit (s := S1024x128) ![0, 0] S1024x128.size inb_S1024x128_S1024x128_0_0, k0_pay1 lanes (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).1.2.2.2.2.2 (k0_pay78 lanes) (k0_pay79 (later c i arg2 harg2 arg3 harg3 arg4 harg4 arg5 harg5 arg6 harg6 arg7 harg7 arg8 harg8 arg9 harg9 arg10 harg10 x0 x1 x2 x3 x4 (arg7.view.writes (Elt F) arg7.view.junk fill) (k0_t1_loop i).trips).1.2.2.1) k0_pay80⟩] := by
  unfold kernelRun0_A
  dsimp only
  sl_unfold_run_names
  unfold later diag diagAcc pK0 pK1 pV0 pV1 pQ0 pO0 psh0 pil0 pde0 pQ1 pO1 psh1 pil1 pde1
  simp only [left_over, left_zero, later_trips, fill, View.writes_cons, View.writes_nil, List.nil_append]

/-- What a pair's later point stores into result 0. -/
theorem runB_5  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : ¬cond0_0 i) (x0 : Vec F S8192x256 .bf16) (x1 : Vec F S8192x256 .bf16) (x2 : Vec F S1x8x8192 .f32) (x3 : Vec F S1024x256 .bf16) (x4 : Vec F S1024x256 .bf16) (xo5 : Vec F S8192x128 .f32) :
    (kernelRun0_B (F := F) c i arg2 harg2 arg3 harg3 arg4 harg4 arg5 harg5 arg6 harg6 arg7 harg7 arg8 harg8 arg9 harg9 arg10 harg10 hc0 x0 x1 x2 x3 x4 xo5).1
      = (later c i arg2 harg2 arg3 harg3 arg4 harg4 arg5 harg5 arg6 harg6 arg7 harg7 arg8 harg8 arg9 harg9 arg10 harg10 x0 x1 x2 x3 x4 (harg7.unread xo5) (k0_t1_loop i).trips).2 ++ (diag c i arg2 harg2 arg3 harg3 arg4 harg4 arg5 harg5 arg6 harg6 arg7 harg7 arg8 harg8 arg9 harg9 arg10 harg10 x0 x1 x2 x3 x4 (harg7.unread xo5) :: []) := by
  unfold kernelRun0_B
  dsimp only
  sl_unfold_run_names
  unfold later diag diagAcc pK0 pK1 pV0 pV1 pQ0 pO0 psh0 pil0 pde0 pQ1 pO1 psh1 pil1 pde1
  simp only [left_over, left_zero, later_trips, List.nil_append]

/-- What a pair's later point stores into result 1. -/
theorem runB_6  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : ¬cond0_0 i) (x0 : Vec F S8192x256 .bf16) (x1 : Vec F S8192x256 .bf16) (x2 : Vec F S1x8x8192 .f32) (x3 : Vec F S1024x256 .bf16) (x4 : Vec F S1024x256 .bf16) (xo5 : Vec F S8192x128 .f32) :
    (kernelRun0_B (F := F) c i arg2 harg2 arg3 harg3 arg4 harg4 arg5 harg5 arg6 harg6 arg7 harg7 arg8 harg8 arg9 harg9 arg10 harg10 hc0 x0 x1 x2 x3 x4 xo5).2.1
      = [⟨Rect.unit (s := S1024x128) ![0, 0] S1024x128.size inb_S1024x128_S1024x128_0_0, k0_pay76 (later c i arg2 harg2 arg3 harg3 arg4 harg4 arg5 harg5 arg6 harg6 arg7 harg7 arg8 harg8 arg9 harg9 arg10 harg10 x0 x1 x2 x3 x4 (harg7.unread xo5) (k0_t1_loop i).trips).1.1 (later c i arg2 harg2 arg3 harg3 arg4 harg4 arg5 harg5 arg6 harg6 arg7 harg7 arg8 harg8 arg9 harg9 arg10 harg10 x0 x1 x2 x3 x4 (harg7.unread xo5) (k0_t1_loop i).trips).1.2.2.2.1⟩] := by
  unfold kernelRun0_B
  dsimp only
  sl_unfold_run_names
  unfold later diag diagAcc pK0 pK1 pV0 pV1 pQ0 pO0 psh0 pil0 pde0 pQ1 pO1 psh1 pil1 pde1
  simp only [left_over, left_zero, later_trips, List.nil_append]

/-- What a pair's later point stores into result 2. -/
theorem runB_7  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : ¬cond0_0 i) (x0 : Vec F S8192x256 .bf16) (x1 : Vec F S8192x256 .bf16) (x2 : Vec F S1x8x8192 .f32) (x3 : Vec F S1024x256 .bf16) (x4 : Vec F S1024x256 .bf16) (xo5 : Vec F S8192x128 .f32) :
    (kernelRun0_B (F := F) c i arg2 harg2 arg3 harg3 arg4 harg4 arg5 harg5 arg6 harg6 arg7 harg7 arg8 harg8 arg9 harg9 arg10 harg10 hc0 x0 x1 x2 x3 x4 xo5).2.2.1
      = [⟨Rect.unit (s := S1024x128) ![0, 0] S1024x128.size inb_S1024x128_S1024x128_0_0, k0_pay77 (later c i arg2 harg2 arg3 harg3 arg4 harg4 arg5 harg5 arg6 harg6 arg7 harg7 arg8 harg8 arg9 harg9 arg10 harg10 x0 x1 x2 x3 x4 (harg7.unread xo5) (k0_t1_loop i).trips).1.2.1 (later c i arg2 harg2 arg3 harg3 arg4 harg4 arg5 harg5 arg6 harg6 arg7 harg7 arg8 harg8 arg9 harg9 arg10 harg10 x0 x1 x2 x3 x4 (harg7.unread xo5) (k0_t1_loop i).trips).1.2.2.2.2.1⟩] := by
  unfold kernelRun0_B
  dsimp only
  sl_unfold_run_names
  unfold later diag diagAcc pK0 pK1 pV0 pV1 pQ0 pO0 psh0 pil0 pde0 pQ1 pO1 psh1 pil1 pde1
  simp only [left_over, left_zero, later_trips, List.nil_append]

/-- What a pair's later point stores into result 3. -/
theorem runB_8  (c : Dev nD) (i : grid0.Coords) (arg2 : 𝕄Q) (harg2 : arg2.IsWhole) (arg3 : 𝕄Q) (harg3 : arg3.IsWhole) (arg4 : 𝕄S) (harg4 : arg4.IsWhole) (arg5 : 𝕄K) (harg5 : arg5.IsWhole) (arg6 : 𝕄K) (harg6 : arg6.IsWhole) (arg7 : 𝕄D) (harg7 : arg7.IsWhole) (arg8 : 𝕄O) (harg8 : arg8.IsWhole) (arg9 : 𝕄O) (harg9 : arg9.IsWhole) (arg10 : 𝕄C) (harg10 : arg10.IsWhole) (hc0 : ¬cond0_0 i) (x0 : Vec F S8192x256 .bf16) (x1 : Vec F S8192x256 .bf16) (x2 : Vec F S1x8x8192 .f32) (x3 : Vec F S1024x256 .bf16) (x4 : Vec F S1024x256 .bf16) (xo5 : Vec F S8192x128 .f32) :
    (kernelRun0_B (F := F) c i arg2 harg2 arg3 harg3 arg4 harg4 arg5 harg5 arg6 harg6 arg7 harg7 arg8 harg8 arg9 harg9 arg10 harg10 hc0 x0 x1 x2 x3 x4 xo5).2.2.2.1
      = [⟨Rect.unit (s := S1024x128) ![0, 0] S1024x128.size inb_S1024x128_S1024x128_0_0, k0_pay1 lanes (later c i arg2 harg2 arg3 harg3 arg4 harg4 arg5 harg5 arg6 harg6 arg7 harg7 arg8 harg8 arg9 harg9 arg10 harg10 x0 x1 x2 x3 x4 (harg7.unread xo5) (k0_t1_loop i).trips).1.2.2.2.2.2 (k0_pay78 lanes) (k0_pay79 (later c i arg2 harg2 arg3 harg3 arg4 harg4 arg5 harg5 arg6 harg6 arg7 harg7 arg8 harg8 arg9 harg9 arg10 harg10 x0 x1 x2 x3 x4 (harg7.unread xo5) (k0_t1_loop i).trips).1.2.2.1) k0_pay80⟩] := by
  unfold kernelRun0_B
  dsimp only
  sl_unfold_run_names
  unfold later diag diagAcc pK0 pK1 pV0 pV1 pQ0 pO0 psh0 pil0 pde0 pQ1 pO1 psh1 pil1 pde1
  simp only [left_over, left_zero, later_trips, List.nil_append]

end Cert.FoxKernelIdeal.Body
-- ==== Proof.FoxPoint.lean ====
module

public import proofs.«01_k».proof.Proof.FoxRun

@[expose] public section

/-!
  One grid point of the kernel over the extended reals: the gradients of its tile of keys and values are sums over all
  queries, and the query gradient has the tile's part added on every row.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.FoxKernelIdeal.Tile

/-- Head `e` of a tile of a pair's rows. -/
def half (e : Fin 2) (x : Vec Ideal S1024x256 .bf16) : Rows := fun y => x (ix2 (y 0) (lane e (y 1)))

/-- A pair's part of the query gradient that a tile of keys adds, scaled. -/
def cdqT (j : Fin 8) (x0 x1 : Pair) (x2 : Stats) (x3 x4 : Vec Ideal S1024x256 .bf16) (C : Fin 8192) (l : Fin 128) : EReal :=
  cdqs j (half 0 x3) (half 1 x3) (half 0 x4) (half 1 x4) x0 x1 x2 C l * eighth

theorem pK0_eq (arg5 : Memref sig .tc .vmem S1024x256 .bf16) (harg5 : arg5.IsWhole) (x3 : Vec Ideal S1024x256 .bf16) :
    pK0 (F := Ideal) arg5 harg5 x3 = half 0 x3 := by
  funext y
  unfold pK0
  rw [View.readAt_eq_ld, harg5.read_unread]
  exact View.ld_unit_apply_of _ _ _ _ _ (ix2 (y 0) (lane 0 (y 1))) (Fin.forall_fin_two.mpr ⟨(Nat.zero_add _).symm, rfl⟩)

theorem pK1_eq (arg5 : Memref sig .tc .vmem S1024x256 .bf16) (harg5 : arg5.IsWhole) (x3 : Vec Ideal S1024x256 .bf16) :
    pK1 (F := Ideal) arg5 harg5 x3 = half 1 x3 := by
  funext y
  unfold pK1
  rw [View.readAt_eq_ld, harg5.read_unread]
  exact View.ld_unit_apply_of _ _ _ _ _ (ix2 (y 0) (lane 1 (y 1))) (Fin.forall_fin_two.mpr ⟨(Nat.zero_add _).symm, rfl⟩)

theorem pV0_eq (arg6 : Memref sig .tc .vmem S1024x256 .bf16) (harg6 : arg6.IsWhole) (x4 : Vec Ideal S1024x256 .bf16) :
    pV0 (F := Ideal) arg6 harg6 x4 = half 0 x4 := by
  funext y
  unfold pV0
  rw [View.readAt_eq_ld, harg6.read_unread]
  exact View.ld_unit_apply_of _ _ _ _ _ (ix2 (y 0) (lane 0 (y 1))) (Fin.forall_fin_two.mpr ⟨(Nat.zero_add _).symm, rfl⟩)

theorem pV1_eq (arg6 : Memref sig .tc .vmem S1024x256 .bf16) (harg6 : arg6.IsWhole) (x4 : Vec Ideal S1024x256 .bf16) :
    pV1 (F := Ideal) arg6 harg6 x4 = half 1 x4 := by
  funext y
  unfold pV1
  rw [View.readAt_eq_ld, harg6.read_unread]
  exact View.ld_unit_apply_of _ _ _ _ _ (ix2 (y 0) (lane 1 (y 1))) (Fin.forall_fin_two.mpr ⟨(Nat.zero_add _).symm, rfl⟩)

/-- The diagonal tile's loads, head 0. -/
theorem diagLoads0  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) :
    Loads j 0 x0 x1 x2 (pQ0 i arg2 harg2 x0) (pO0 i arg3 harg3 x1) (psh0 i arg4 harg4 x2) (pil0 i arg4 harg4 x2) (pde0 i arg4 harg4 x2) :=
  ⟨fun r l => by unfold pQ0; rw [View.readAt_eq_ld, harg2.read_unread]; exact rows_at j 0 x0 _ (by rw [k0_off1_eq]; exact off2 (by omega) rfl) r l,
    fun r l => by unfold pO0; rw [View.readAt_eq_ld, harg3.read_unread]; exact rows_at j 0 x1 _ (by rw [k0_off1_eq]; exact off2 (by omega) rfl) r l,
    fun c => by unfold psh0; rw [View.readAt_eq_ld, harg4.read_unread]; exact stat_at j x2 (srow 0 0) _ (by rw [k0_off2_eq]; exact off3 (by omega)) c,
    fun c => by unfold pde0; rw [View.readAt_eq_ld, harg4.read_unread]; exact stat_at j x2 (srow 1 0) _ (by rw [k0_off4_eq]; exact off3 (by omega)) c,
    fun c => by unfold pil0; rw [View.readAt_eq_ld, harg4.read_unread]; exact stat_at j x2 (srow 2 0) _ (by rw [k0_off3_eq]; exact off3 (by omega)) c⟩

/-- The diagonal tile's loads, head 1. -/
theorem diagLoads1  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) :
    Loads j 1 x0 x1 x2 (pQ1 i arg2 harg2 x0) (pO1 i arg3 harg3 x1) (psh1 i arg4 harg4 x2) (pil1 i arg4 harg4 x2) (pde1 i arg4 harg4 x2) :=
  ⟨fun r l => by unfold pQ1; rw [View.readAt_eq_ld, harg2.read_unread]; exact rows_at j 1 x0 _ (by rw [k0_off5_eq]; exact off2 (by omega) rfl) r l,
    fun r l => by unfold pO1; rw [View.readAt_eq_ld, harg3.read_unread]; exact rows_at j 1 x1 _ (by rw [k0_off5_eq]; exact off2 (by omega) rfl) r l,
    fun c => by unfold psh1; rw [View.readAt_eq_ld, harg4.read_unread]; exact stat_at j x2 (srow 0 1) _ (by rw [k0_off6_eq]; exact off3 (by omega)) c,
    fun c => by unfold pde1; rw [View.readAt_eq_ld, harg4.read_unread]; exact stat_at j x2 (srow 1 1) _ (by rw [k0_off8_eq]; exact off3 (by omega)) c,
    fun c => by unfold pil1; rw [View.readAt_eq_ld, harg4.read_unread]; exact stat_at j x2 (srow 2 1) _ (by rw [k0_off7_eq]; exact off3 (by omega)) c⟩

/-- The query gradient after the diagonal tile. -/
theorem diag_at  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (x0 : Vec Ideal S8192x256 .bf16) (x1 : Vec Ideal S8192x256 .bf16) (x2 : Vec Ideal S1x8x8192 .f32) (x3 : Vec Ideal S1024x256 .bf16) (x4 : Vec Ideal S1024x256 .bf16) (G : BufTy.Contents (Elt Ideal) arg7.view.ty) (j : Fin 8) (hj : (i 1).val = j.val) (C : Fin 8192) (l : Fin 128) :
    (arg7.view.read (Elt Ideal) (arg7.view.writes (Elt Ideal) G [diag (F := Ideal) c i arg2 harg2 arg3 harg3 arg4 harg4 arg5 harg5 arg6 harg6 arg7 harg7 arg8 harg8 arg9 harg9 arg10 harg10 x0 x1 x2 x3 x4 G]) (ix2 C l) : EReal)
      = arg7.view.read (Elt Ideal) G (ix2 C l)
        + if j.val * 1024 ≤ C.val ∧ C.val < (j.val + 1) * 1024 then cdqT j x0 x1 x2 x3 x4 C l else 0 := by
  have H0 := diagLoads0 c i arg2 harg2 arg3 harg3 arg4 harg4 arg5 harg5 arg6 harg6 arg7 harg7 arg8 harg8 arg9 harg9 arg10 harg10 x0 x1 x2 x3 x4 j hj
  have H1 := diagLoads1 c i arg2 harg2 arg3 harg3 arg4 harg4 arg5 harg5 arg6 harg6 arg7 harg7 arg8 harg8 arg9 harg9 arg10 harg10 x0 x1 x2 x3 x4 j hj
  have hoff : k0_off9 i = ![j.val * 1024, 0] := by rw [k0_off9_eq]; exact off2 (by omega) rfl
  unfold diag
  by_cases hC : j.val * 1024 ≤ C.val ∧ C.val < (j.val + 1) * 1024
  · rw [if_pos hC]
    obtain ⟨c, rfl⟩ : ∃ c : Fin 1024, C = rowOf j c :=
      ⟨⟨C.val - j.val * 1024, by omega⟩, Fin.ext (show C.val = j.val * 1024 + (C.val - j.val * 1024) by omega)⟩
    refine (View.read_writes_cons_rows_of_mem _ _ _ _ _ (ix2 (rowOf j c) l) (ix2 c l) hoff rfl rfl).trans ?_
    rw [pay69_at, pay57_at, pay47_at, pay66_at, pay49_eq, pay41_eq, pay42_eq, pay40_eq, pay58_eq, pay59_eq,
      H0.dq_eq rfl (pay43_at _) l c, H1.dq_eq rfl (pay44_at _) l c, pK0_eq, pK1_eq, pV0_eq, pV1_eq, halves]
    refine congrArg (· + _) ?_
    exact drows_at j _ _ hoff c l
  · rw [if_neg hC, add_zero]
    exact View.read_writes_cons_rows_of_not_mem _ _ _ _ [] _ hoff rfl (by
      have : S1024x128.size 0 = 1024 := rfl
      show C.val < _ ∨ _ ≤ C.val
      omega)

/-- The accumulators after the diagonal tile. -/
theorem diagAcc_at  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) :
    (∀ r l, (((diagAcc (F := Ideal) c i arg2 harg2 arg3 harg3 arg4 harg4 arg5 harg5 arg6 harg6 arg7 harg7 arg8 harg8 arg9 harg9 arg10 harg10 x0 x1 x2 x3 x4).1) (ix2 r l) : EReal) = tileSum (cdk j 0 (half 0 x3) (half 0 x4) x0 x1 x2 r l) j.val)
    ∧ (∀ r l, (((diagAcc (F := Ideal) c i arg2 harg2 arg3 harg3 arg4 harg4 arg5 harg5 arg6 harg6 arg7 harg7 arg8 harg8 arg9 harg9 arg10 harg10 x0 x1 x2 x3 x4).2.1) (ix2 r l) : EReal) = tileSum (cdv j 0 (half 0 x3) x0 x1 x2 r l) j.val)
    ∧ (∀ r, (((diagAcc (F := Ideal) c i arg2 harg2 arg3 harg3 arg4 harg4 arg5 harg5 arg6 harg6 arg7 harg7 arg8 harg8 arg9 harg9 arg10 harg10 x0 x1 x2 x3 x4).2.2.1) (ix2 r 0) : EReal) = tileSum (gD j 0 (half 0 x3) (half 0 x4) x0 x1 x2 r) j.val)
    ∧ (∀ r l, (((diagAcc (F := Ideal) c i arg2 harg2 arg3 harg3 arg4 harg4 arg5 harg5 arg6 harg6 arg7 harg7 arg8 harg8 arg9 harg9 arg10 harg10 x0 x1 x2 x3 x4).2.2.2.1) (ix2 r l) : EReal) = tileSum (cdk j 1 (half 1 x3) (half 1 x4) x0 x1 x2 r l) j.val)
    ∧ (∀ r l, (((diagAcc (F := Ideal) c i arg2 harg2 arg3 harg3 arg4 harg4 arg5 harg5 arg6 harg6 arg7 harg7 arg8 harg8 arg9 harg9 arg10 harg10 x0 x1 x2 x3 x4).2.2.2.2.1) (ix2 r l) : EReal) = tileSum (cdv j 1 (half 1 x3) x0 x1 x2 r l) j.val)
    ∧ (∀ r, (((diagAcc (F := Ideal) c i arg2 harg2 arg3 harg3 arg4 harg4 arg5 harg5 arg6 harg6 arg7 harg7 arg8 harg8 arg9 harg9 arg10 harg10 x0 x1 x2 x3 x4).2.2.2.2.2) (ix2 r 0) : EReal) = tileSum (gD j 1 (half 1 x3) (half 1 x4) x0 x1 x2 r) j.val) := by
  have H0 := diagLoads0 c i arg2 harg2 arg3 harg3 arg4 harg4 arg5 harg5 arg6 harg6 arg7 harg7 arg8 harg8 arg9 harg9 arg10 harg10 x0 x1 x2 x3 x4 j hj
  have H1 := diagLoads1 c i arg2 harg2 arg3 harg3 arg4 harg4 arg5 harg5 arg6 harg6 arg7 harg7 arg8 harg8 arg9 harg9 arg10 harg10 x0 x1 x2 x3 x4 j hj
  unfold diagAcc
  refine ⟨fun r l => ?_, fun r l => ?_, fun r => ?_, fun r l => ?_, fun r l => ?_, fun r => ?_⟩
  · refine (pay56_at _ _ _ _ _ _ _ _ _ r l).trans ?_
    simp only [pay49_eq, pay41_eq, pay48_eq]
    rw [pay45_at, zero_add, H0.dk_eq rfl r l]
    simp only [pK0_eq, pV0_eq]
  · refine (pay55_at _ _ _ _ _ _ r l).trans ?_
    simp only [pay49_eq, pay41_eq, pay48_eq]
    rw [pay45_at, zero_add, H0.dv_eq rfl r l]
    simp only [pK0_eq, pV0_eq]
  · refine (pay54_at _ _ _ _ _ _ _ _ r).trans ?_
    simp only [pay49_eq, pay41_eq, pay48_eq]
    rw [pay46_at, zero_add, H0.dc_eq rfl r]
    simp only [pK0_eq, pV0_eq]
  · refine (pay65_at _ _ _ _ _ _ _ _ r l).trans ?_
    simp only [pay40_eq, pay42_eq, pay58_eq, pay59_eq]
    rw [pay45_at, zero_add, H1.dk_eq rfl r l]
    simp only [pK1_eq, pV1_eq]
  · refine (pay64_at _ _ _ _ _ _ r l).trans ?_
    simp only [pay40_eq, pay42_eq, pay58_eq, pay59_eq]
    rw [pay45_at, zero_add, H1.dv_eq rfl r l]
    simp only [pK1_eq, pV1_eq]
  · refine (pay63_at _ _ _ _ _ _ _ _ r).trans ?_
    simp only [pay40_eq, pay42_eq, pay58_eq, pay59_eq]
    rw [pay46_at, zero_add, H1.dc_eq rfl r]
    simp only [pK1_eq, pV1_eq]

/-- The accumulators after all tiles, and the query gradient. -/
theorem later_at  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (x0 : Vec Ideal S8192x256 .bf16) (x1 : Vec Ideal S8192x256 .bf16) (x2 : Vec Ideal S1x8x8192 .f32) (x3 : Vec Ideal S1024x256 .bf16) (x4 : Vec Ideal S1024x256 .bf16) (G : BufTy.Contents (Elt Ideal) arg7.view.ty) (j : Fin 8) (hj : (i 1).val = j.val) :
    ((∀ r l, ((later (F := Ideal) c i arg2 harg2 arg3 harg3 arg4 harg4 arg5 harg5 arg6 harg6 arg7 harg7 arg8 harg8 arg9 harg9 arg10 harg10 x0 x1 x2 x3 x4 G (k0_t1_loop i).trips).1.1 (ix2 r l) : EReal) = ∑ C, cdk j 0 (half 0 x3) (half 0 x4) x0 x1 x2 r l C)
    ∧ (∀ r l, ((later (F := Ideal) c i arg2 harg2 arg3 harg3 arg4 harg4 arg5 harg5 arg6 harg6 arg7 harg7 arg8 harg8 arg9 harg9 arg10 harg10 x0 x1 x2 x3 x4 G (k0_t1_loop i).trips).1.2.1 (ix2 r l) : EReal) = ∑ C, cdv j 0 (half 0 x3) x0 x1 x2 r l C)
    ∧ (∀ r, ((later (F := Ideal) c i arg2 harg2 arg3 harg3 arg4 harg4 arg5 harg5 arg6 harg6 arg7 harg7 arg8 harg8 arg9 harg9 arg10 harg10 x0 x1 x2 x3 x4 G (k0_t1_loop i).trips).1.2.2.1 (ix2 r 0) : EReal) = ∑ C, gD j 0 (half 0 x3) (half 0 x4) x0 x1 x2 r C)
    ∧ (∀ r l, ((later (F := Ideal) c i arg2 harg2 arg3 harg3 arg4 harg4 arg5 harg5 arg6 harg6 arg7 harg7 arg8 harg8 arg9 harg9 arg10 harg10 x0 x1 x2 x3 x4 G (k0_t1_loop i).trips).1.2.2.2.1 (ix2 r l) : EReal) = ∑ C, cdk j 1 (half 1 x3) (half 1 x4) x0 x1 x2 r l C)
    ∧ (∀ r l, ((later (F := Ideal) c i arg2 harg2 arg3 harg3 arg4 harg4 arg5 harg5 arg6 harg6 arg7 harg7 arg8 harg8 arg9 harg9 arg10 harg10 x0 x1 x2 x3 x4 G (k0_t1_loop i).trips).1.2.2.2.2.1 (ix2 r l) : EReal) = ∑ C, cdv j 1 (half 1 x3) x0 x1 x2 r l C)
    ∧ (∀ r, ((later (F := Ideal) c i arg2 harg2 arg3 harg3 arg4 harg4 arg5 harg5 arg6 harg6 arg7 harg7 arg8 harg8 arg9 harg9 arg10 harg10 x0 x1 x2 x3 x4 G (k0_t1_loop i).trips).1.2.2.2.2.2 (ix2 r 0) : EReal) = ∑ C, gD j 1 (half 1 x3) (half 1 x4) x0 x1 x2 r C))
    ∧ (∀ C l, (arg7.view.read (Elt Ideal) (arg7.view.writes (Elt Ideal) (arg7.view.writes (Elt Ideal) G [diag (F := Ideal) c i arg2 harg2 arg3 harg3 arg4 harg4 arg5 harg5 arg6 harg6 arg7 harg7 arg8 harg8 arg9 harg9 arg10 harg10 x0 x1 x2 x3 x4 G]) (later (F := Ideal) c i arg2 harg2 arg3 harg3 arg4 harg4 arg5 harg5 arg6 harg6 arg7 harg7 arg8 harg8 arg9 harg9 arg10 harg10 x0 x1 x2 x3 x4 G (k0_t1_loop i).trips).2) (ix2 C l) : EReal)
        = arg7.view.read (Elt Ideal) G (ix2 C l) + cdqT j x0 x1 x2 x3 x4 C l) := by
  have hn : (k0_t1_loop i).trips = 7 - j.val := by rw [trips_eq, hj]
  obtain ⟨d1, d2, d3, d4, d5, d6⟩ := diagAcc_at c i arg2 harg2 arg3 harg3 arg4 harg4 arg5 harg5 arg6 harg6 arg7 harg7 arg8 harg8 arg9 harg9 arg10 harg10 x0 x1 x2 x3 x4 j hj
  obtain ⟨⟨a1, a2, a3, a4, a5, a6⟩, a7⟩ := st_at Variants.none c none i arg2 harg2 arg3 harg3 arg4 harg4 arg5 harg5 arg6 harg6 arg7 harg7 arg8 harg8 arg9 harg9 arg10 harg10 (BitVec.ofNat 32 (i 1).val) lanes
    (k0_pay39 (pK0 arg5 harg5 x3)) (k0_pay40 (pK1 arg5 harg5 x3)) (k0_pay41 (pV0 arg6 harg6 x4)) (k0_pay42 (pV1 arg6 harg6 x4))
    (k0_pay43 (pK0 arg5 harg5 x3)) (k0_pay44 (pK1 arg5 harg5 x3)) _ _ _ _ _ _ _ _ _ _ _ _ (harg2.unread x0) (harg3.unread x1) (harg4.unread x2)
    (arg7.view.writes (Elt Ideal) G [diag (F := Ideal) c i arg2 harg2 arg3 harg3 arg4 harg4 arg5 harg5 arg6 harg6 arg7 harg7 arg8 harg8 arg9 harg9 arg10 harg10 x0 x1 x2 x3 x4 G]) (diagAcc (F := Ideal) c i arg2 harg2 arg3 harg3 arg4 harg4 arg5 harg5 arg6 harg6 arg7 harg7 arg8 harg8 arg9 harg9 arg10 harg10 x0 x1 x2 x3 x4) j hj (fun l r => by rw [pay39_eq]; exact pay43_at _ l r) (fun l r => by rw [pay40_eq]; exact pay44_at _ l r)
    (k0_t1_loop i).trips (le_of_eq hn) (later (F := Ideal) c i arg2 harg2 arg3 harg3 arg4 harg4 arg5 harg5 arg6 harg6 arg7 harg7 arg8 harg8 arg9 harg9 arg10 harg10 x0 x1 x2 x3 x4 G (k0_t1_loop i).trips) rfl
  simp only [pay39_eq, pay40_eq, pay41_eq, pay42_eq, pK0_eq, pK1_eq, pV0_eq, pV1_eq, harg2.read_unread, harg3.read_unread, harg4.read_unread] at a1 a2 a3 a4 a5 a6 a7
  refine ⟨⟨fun r l => ?_, fun r l => ?_, fun r => ?_, fun r l => ?_, fun r l => ?_, fun r => ?_⟩, fun C l => ?_⟩
  · rw [a1 r l, d1 r l, hn]; exact (sum_from j _ fun T hT => cdk_before (h := hT) ..).symm
  · rw [a2 r l, d2 r l, hn]; exact (sum_from j _ fun T hT => cdv_before (h := hT) ..).symm
  · rw [a3 r, d3 r, hn]; exact (sum_from j _ fun T hT => gD_before (h := hT) ..).symm
  · rw [a4 r l, d4 r l, hn]; exact (sum_from j _ fun T hT => cdk_before (h := hT) ..).symm
  · rw [a5 r l, d5 r l, hn]; exact (sum_from j _ fun T hT => cdv_before (h := hT) ..).symm
  · rw [a6 r, d6 r, hn]; exact (sum_from j _ fun T hT => gD_before (h := hT) ..).symm
  · rw [a7 C l, diag_at (hj := hj), add_assoc]
    congr 1
    rw [hn]
    by_cases h1 : C.val < j.val * 1024
    · have e : cdqT j x0 x1 x2 x3 x4 C l = 0 := by
        unfold cdqT cdqs
        rw [cdq_before _ _ _ _ _ _ _ _ _ h1, cdq_before _ _ _ _ _ _ _ _ _ h1, ite_self, zero_mul]
      rw [if_neg (by omega), if_neg (by omega), e, add_zero]
    · by_cases h2 : C.val < (j.val + 1) * 1024
      · rw [if_pos (by omega), if_neg (by omega), add_zero]
      · rw [if_neg (by omega), if_pos (by omega), zero_add]
        rfl

end Cert.FoxKernelIdeal.Body
-- ==== Proof.FoxBlock.lean ====
module

public import proofs.«01_k».proof.Proof.FoxPoint

@[expose] public section

/-!
  The arrays the kernel leaves: every tile of the key, value and gate gradients is written by one grid point, and the
  query gradient of a pair of heads is the sum of the eight points of the pair.
-/
set_option maxRecDepth 16384

noncomputable section

open Idealize.ShloMosaic Idealize.ShloMosaic.TcCoe Idealize.SL.Sem
open Idealize.ShloMosaic.Pipeline (Dat)

namespace Cert.FoxKernelIdeal.Body

open Cert.FoxKernelIdeal Cert.FoxKernelIdeal.Gen Cert.FoxKernelIdeal.Tile

/-- The two heads of a pair. -/
def byHead (l : Fin 128) (a b : EReal) : EReal := if l.val < 64 then a else b

/-- The gradients of a tile of keys, of values and of the gate, from the pair's arrays and the tile. -/
def dkT (j : Fin 8) (x0 x1 : Pair) (x2 : Stats) (x3 x4 : Vec Ideal S1024x256 .bf16) (r : Fin 1024) (l : Fin 128) : EReal :=
  byHead l (∑ C, cdk j 0 (half 0 x3) (half 0 x4) x0 x1 x2 r l C) (∑ C, cdk j 1 (half 1 x3) (half 1 x4) x0 x1 x2 r l C)

def dvT (j : Fin 8) (x0 x1 : Pair) (x2 : Stats) (x3 : Vec Ideal S1024x256 .bf16) (r : Fin 1024) (l : Fin 128) : EReal :=
  byHead l (∑ C, cdv j 0 (half 0 x3) x0 x1 x2 r l C) (∑ C, cdv j 1 (half 1 x3) x0 x1 x2 r l C)

def dcT (j : Fin 8) (x0 x1 : Pair) (x2 : Stats) (x3 x4 : Vec Ideal S1024x256 .bf16) (r : Fin 1024) (l : Fin 128) : EReal :=
  if l.val = 0 then 0 - ∑ C, gD j 0 (half 0 x3) (half 0 x4) x0 x1 x2 r C
  else if l.val = 1 then 0 - ∑ C, gD j 1 (half 1 x3) (half 1 x4) x0 x1 x2 r C else 0

theorem zeros2 : (![0, 0] : Fin 2 → ℕ) = fun _ => 0 := by decide

theorem pay38_at (i : S8192x128.Idx) : (k0_pay38 (F := Ideal) i : EReal) = 0 := by
  unfold k0_pay38
  pointwise

/-- The query gradient a point leaves. -/
theorem outA_5  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) (C : Fin 8192) (l : Fin 128) :
    (out0_A_5 (F := Ideal) c i arg2 harg2 arg3 harg3 arg4 harg4 arg5 harg5 arg6 harg6 arg7 harg7 arg8 harg8 arg9 harg9 arg10 harg10 hc0 x0 x1 x2 x3 x4 (ix2 C l) : EReal) = cdqT j x0 x1 x2 x3 x4 C l := by
  have h := (later_at c i arg2 harg2 arg3 harg3 arg4 harg4 arg5 harg5 arg6 harg6 arg7 harg7 arg8 harg8 arg9 harg9 arg10 harg10 x0 x1 x2 x3 x4 (arg7.view.writes (Elt Ideal) arg7.view.junk fill) j hj).2 C l
  unfold out0_A_5
  rw [View.read_writes_eq_canon VO0_5 _ _ (cover0_A_5 c i arg2 harg2 arg3 harg3 arg4 harg4 arg5 harg5 arg6 harg6 arg7 harg7 arg8 harg8 arg9 harg9 arg10 harg10 hc0 x0 x1 x2 x3 x4),
    ← View.read_writes_eq_canon arg7.view arg7.view.junk _ (cover0_A_5 c i arg2 harg2 arg3 harg3 arg4 harg4 arg5 harg5 arg6 harg6 arg7 harg7 arg8 harg8 arg9 harg9 arg10 harg10 hc0 x0 x1 x2 x3 x4), runA_5, View.writes_append]
  refine h.trans ?_
  unfold fill
  rw [View.read_writes_eq_canon _ _ _ (fun y => View.cover_of_wholeMem _ (by sl_whole_mem) y), View.canon_unit_zero zeros2, pay38_at, zero_add]

theorem outA_6  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) (r : Fin 1024) (l : Fin 128) :
    (out0_A_6 (F := Ideal) c i arg2 harg2 arg3 harg3 arg4 harg4 arg5 harg5 arg6 harg6 arg7 harg7 arg8 harg8 arg9 harg9 arg10 harg10 hc0 x0 x1 x2 x3 x4 (ix2 r l) : EReal) = dkT j x0 x1 x2 x3 x4 r l := by
  obtain ⟨a0, a1, a2, a3, a4, a5⟩ := (later_at c i arg2 harg2 arg3 harg3 arg4 harg4 arg5 harg5 arg6 harg6 arg7 harg7 arg8 harg8 arg9 harg9 arg10 harg10 x0 x1 x2 x3 x4 (arg7.view.writes (Elt Ideal) arg7.view.junk fill) j hj).1
  unfold out0_A_6
  rw [View.read_writes_eq_canon VO0_6 _ _ (cover0_A_6 c i arg2 harg2 arg3 harg3 arg4 harg4 arg5 harg5 arg6 harg6 arg7 harg7 arg8 harg8 arg9 harg9 arg10 harg10 hc0 x0 x1 x2 x3 x4), runA_6, View.canon_unit_zero zeros2,
    pay76_at, a0 r l, a3 r l]
  rfl

theorem outA_7  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) (r : Fin 1024) (l : Fin 128) :
    (out0_A_7 (F := Ideal) c i arg2 harg2 arg3 harg3 arg4 harg4 arg5 harg5 arg6 harg6 arg7 harg7 arg8 harg8 arg9 harg9 arg10 harg10 hc0 x0 x1 x2 x3 x4 (ix2 r l) : EReal) = dvT j x0 x1 x2 x3 r l := by
  obtain ⟨a0, a1, a2, a3, a4, a5⟩ := (later_at c i arg2 harg2 arg3 harg3 arg4 harg4 arg5 harg5 arg6 harg6 arg7 harg7 arg8 harg8 arg9 harg9 arg10 harg10 x0 x1 x2 x3 x4 (arg7.view.writes (Elt Ideal) arg7.view.junk fill) j hj).1
  unfold out0_A_7
  rw [View.read_writes_eq_canon VO0_7 _ _ (cover0_A_7 c i arg2 harg2 arg3 harg3 arg4 harg4 arg5 harg5 arg6 harg6 arg7 harg7 arg8 harg8 arg9 harg9 arg10 harg10 hc0 x0 x1 x2 x3 x4), runA_7, View.canon_unit_zero zeros2,
    pay77_at, a1 r l, a4 r l]
  rfl

theorem outA_8  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (j : Fin 8) (hj : (i 1).val = j.val) (r : Fin 1024) (l : Fin 128) :
    (out0_A_8 (F := Ideal) c i arg2 harg2 arg3 harg3 arg4 harg4 arg5 harg5 arg6 harg6 arg7 harg7 arg8 harg8 arg9 harg9 arg10 harg10 hc0 x0 x1 x2 x3 x4 (ix2 r l) : EReal) = dcT j x0 x1 x2 x3 x4 r l := by
  obtain ⟨a0, a1, a2, a3, a4, a5⟩ := (later_at c i arg2 harg2 arg3 harg3 arg4 harg4 arg5 harg5 arg6 harg6 arg7 harg7 arg8 harg8 arg9 harg9 arg10 harg10 x0 x1 x2 x3 x4 (arg7.view.writes (Elt Ideal) arg7.view.junk fill) j hj).1
  unfold out0_A_8
  rw [View.read_writes_eq_canon VO0_8 _ _ (cover0_A_8 c i arg2 harg2 arg3 harg3 arg4 harg4 arg5 harg5 arg6 harg6 arg7 harg7 arg8 harg8 arg9 harg9 arg10 harg10 hc0 x0 x1 x2 x3 x4), runA_8, View.canon_unit_zero zeros2,
    pay1_at, a2 r, a5 r]
  rfl

/-- The query gradient a point leaves. -/
theorem outB_5  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : ¬cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (xo5 : Vec Ideal S8192x128 .f32) (j : Fin 8) (hj : (i 1).val = j.val) (C : Fin 8192) (l : Fin 128) :
    (out0_B_5 (F := Ideal) c i arg2 harg2 arg3 harg3 arg4 harg4 arg5 harg5 arg6 harg6 arg7 harg7 arg8 harg8 arg9 harg9 arg10 harg10 hc0 x0 x1 x2 x3 x4 xo5 (ix2 C l) : EReal) = xo5 (ix2 C l) + cdqT j x0 x1 x2 x3 x4 C l := by
  have h := (later_at c i arg2 harg2 arg3 harg3 arg4 harg4 arg5 harg5 arg6 harg6 arg7 harg7 arg8 harg8 arg9 harg9 arg10 harg10 x0 x1 x2 x3 x4 (harg7.unread xo5) j hj).2 C l
  unfold out0_B_5
  rw [runB_5, View.writes_append]
  refine h.trans ?_
  rw [harg7.read_unread]

theorem outB_6  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : ¬cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (xo5 : Vec Ideal S8192x128 .f32) (j : Fin 8) (hj : (i 1).val = j.val) (r : Fin 1024) (l : Fin 128) :
    (out0_B_6 (F := Ideal) c i arg2 harg2 arg3 harg3 arg4 harg4 arg5 harg5 arg6 harg6 arg7 harg7 arg8 harg8 arg9 harg9 arg10 harg10 hc0 x0 x1 x2 x3 x4 xo5 (ix2 r l) : EReal) = dkT j x0 x1 x2 x3 x4 r l := by
  obtain ⟨a0, a1, a2, a3, a4, a5⟩ := (later_at c i arg2 harg2 arg3 harg3 arg4 harg4 arg5 harg5 arg6 harg6 arg7 harg7 arg8 harg8 arg9 harg9 arg10 harg10 x0 x1 x2 x3 x4 (harg7.unread xo5) j hj).1
  unfold out0_B_6
  rw [View.read_writes_eq_canon VO0_6 _ _ (cover0_B_6 c i arg2 harg2 arg3 harg3 arg4 harg4 arg5 harg5 arg6 harg6 arg7 harg7 arg8 harg8 arg9 harg9 arg10 harg10 hc0 x0 x1 x2 x3 x4 xo5), runB_6, View.canon_unit_zero zeros2,
    pay76_at, a0 r l, a3 r l]
  rfl

theorem outB_7  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : ¬cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (xo5 : Vec Ideal S8192x128 .f32) (j : Fin 8) (hj : (i 1).val = j.val) (r : Fin 1024) (l : Fin 128) :
    (out0_B_7 (F := Ideal) c i arg2 harg2 arg3 harg3 arg4 harg4 arg5 harg5 arg6 harg6 arg7 harg7 arg8 harg8 arg9 harg9 arg10 harg10 hc0 x0 x1 x2 x3 x4 xo5 (ix2 r l) : EReal) = dvT j x0 x1 x2 x3 r l := by
  obtain ⟨a0, a1, a2, a3, a4, a5⟩ := (later_at c i arg2 harg2 arg3 harg3 arg4 harg4 arg5 harg5 arg6 harg6 arg7 harg7 arg8 harg8 arg9 harg9 arg10 harg10 x0 x1 x2 x3 x4 (harg7.unread xo5) j hj).1
  unfold out0_B_7
  rw [View.read_writes_eq_canon VO0_7 _ _ (cover0_B_7 c i arg2 harg2 arg3 harg3 arg4 harg4 arg5 harg5 arg6 harg6 arg7 harg7 arg8 harg8 arg9 harg9 arg10 harg10 hc0 x0 x1 x2 x3 x4 xo5), runB_7, View.canon_unit_zero zeros2,
    pay77_at, a1 r l, a4 r l]
  rfl

theorem outB_8  (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc0 : ¬cond0_0 i) (x0 : Vec Ideal S8192x256 .bf16) (x1 : Vec Ideal S8192x256 .bf16) (x2 : Vec Ideal S1x8x8192 .f32) (x3 : Vec Ideal S1024x256 .bf16) (x4 : Vec Ideal S1024x256 .bf16) (xo5 : Vec Ideal S8192x128 .f32) (j : Fin 8) (hj : (i 1).val = j.val) (r : Fin 1024) (l : Fin 128) :
    (out0_B_8 (F := Ideal) c i arg2 harg2 arg3 harg3 arg4 harg4 arg5 harg5 arg6 harg6 arg7 harg7 arg8 harg8 arg9 harg9 arg10 harg10 hc0 x0 x1 x2 x3 x4 xo5 (ix2 r l) : EReal) = dcT j x0 x1 x2 x3 x4 r l := by
  obtain ⟨a0, a1, a2, a3, a4, a5⟩ := (later_at c i arg2 harg2 arg3 harg3 arg4 harg4 arg5 harg5 arg6 harg6 arg7 harg7 arg8 harg8 arg9 harg9 arg10 harg10 x0 x1 x2 x3 x4 (harg7.unread xo5) j hj).1
  unfold out0_B_8
  rw [View.read_writes_eq_canon VO0_8 _ _ (cover0_B_8 c i arg2 harg2 arg3 harg3 arg4 harg4 arg5 harg5 arg6 harg6 arg7 harg7 arg8 harg8 arg9 harg9 arg10 harg10 hc0 x0 x1 x2 x3 x4 xo5), runB_8, View.canon_unit_zero zeros2,
    pay1_at, a2 r, a5 r]
  rfl

variable (m : (ℓ : Loc nD τ sig) → Buf (Elt Ideal) ℓ)

/-- Which block each window holds at grid point `t`: the pair of heads is `t / 8`, the tile of keys `t % 8`. -/
theorem idx : ∀ t : Fin cfg0.N, t.val < 32 ∧ win0_0.index t = ![0, t.val / 8] ∧ win0_1.index t = ![0, t.val / 8] ∧
    win0_2.index t = ![t.val / 8, 0, 0] ∧ win0_3.index t = ![t.val % 8, t.val / 8] ∧ win0_4.index t = ![t.val % 8, t.val / 8] ∧
    win0_5.index t = ![0, t.val / 8] ∧ win0_6.index t = ![t.val % 8, t.val / 8] ∧ win0_7.index t = ![t.val % 8, t.val / 8] ∧
    win0_8.index t = ![t.val % 8, t.val / 8] ∧ (grid0.coords t 1).val = t.val % 8 :=
  (by decide +kernel : ∀ t : Fin grid0.N, _)

/-- The pair and the tile of a grid point. -/
abbrev pr (t : Fin cfg0.N) : Fin 4 := ⟨t.val / 8, by have := (idx t).1; omega⟩
abbrev tl (t : Fin cfg0.N) : Fin 8 := ⟨t.val % 8, by omega⟩

theorem at_tile (t : Fin cfg0.N) : (grid0.coords t 1).val = (tl t).val := (idx t).2.2.2.2.2.2.2.2.2.2

/-- A pair's rows of an array of all heads; its statistics; a tile of its rows. -/
def pairRows (X : Vec Ideal S8192x1024 .bf16) (p : Fin 4) : Pair := fun y => X (ix2 (y 0) (⟨p.val * 256 + (y 1).val, by have := (y 1).isLt; have : S8192x256.size 1 = 256 := rfl; omega⟩ : Fin 1024))
def pairStats (X : Vec Ideal S4x8x8192 .f32) (p : Fin 4) : Stats := fun y => X (ix3 p (y 1) (y 2))
def tileRows (X : Vec Ideal S8192x1024 .bf16) (p : Fin 4) (j : Fin 8) : Vec Ideal S1024x256 .bf16 := fun y => X (ix2 (rowOf j (y 0)) (⟨p.val * 256 + (y 1).val, by have := (y 1).isLt; have : S1024x256.size 1 = 256 := rfl; omega⟩ : Fin 1024))

variable (c : Dev nD) (t : Fin cfg0.N)

theorem blk0 : iblk m c 0 t = pairRows (V m c main_v74) (pr t) := by
  funext y
  show iblk m c 0 t y = V m c main_v74 _
  blk_ext [iblk, V, idx t]

theorem blk1 : iblk m c 1 t = pairRows (V m c main_v114) (pr t) := by
  funext y
  show iblk m c 1 t y = V m c main_v114 _
  blk_ext [iblk, V, idx t]

theorem blk2 : iblk m c 2 t = pairStats (V m c main_v46) (pr t) := by
  funext y
  show iblk m c 2 t y = V m c main_v46 _
  blk_ext [iblk, V, idx t]

theorem blk3 : iblk m c 3 t = tileRows (V m c main_v89) (pr t) (tl t) := by
  funext y
  show iblk m c 3 t y = V m c main_v89 _
  blk_ext [iblk, V, idx t]
  rfl

theorem blk4 : iblk m c 4 t = tileRows (V m c main_v102) (pr t) (tl t) := by
  funext y
  show iblk m c 4 t y = V m c main_v102 _
  blk_ext [iblk, V, idx t]
  rfl

/-- The parts of the four gradients of pair `p` and tile `j`. -/
def dqP (p : Fin 4) (j : Fin 8) : Fin 8192 → Fin 128 → EReal := cdqT j (pairRows (V m c main_v74) p) (pairRows (V m c main_v114) p) (pairStats (V m c main_v46) p) (tileRows (V m c main_v89) p j) (tileRows (V m c main_v102) p j)
def dkP (p : Fin 4) (j : Fin 8) : Fin 1024 → Fin 128 → EReal := dkT j (pairRows (V m c main_v74) p) (pairRows (V m c main_v114) p) (pairStats (V m c main_v46) p) (tileRows (V m c main_v89) p j) (tileRows (V m c main_v102) p j)
def dvP (p : Fin 4) (j : Fin 8) : Fin 1024 → Fin 128 → EReal := dvT j (pairRows (V m c main_v74) p) (pairRows (V m c main_v114) p) (pairStats (V m c main_v46) p) (tileRows (V m c main_v89) p j)
def dcP (p : Fin 4) (j : Fin 8) : Fin 1024 → Fin 128 → EReal := dcT j (pairRows (V m c main_v74) p) (pairRows (V m c main_v114) p) (pairStats (V m c main_v46) p) (tileRows (V m c main_v89) p j) (tileRows (V m c main_v102) p j)

theorem step_A (h : t.val % 8 = 0) (y : S8192x128.Idx) :
    ((outsAt0 m c t.val t.isLt).1 y : EReal) = 0 + dqP m c (pr t) (tl t) (y 0) (y 1) := by
  rw [outsAt0_A m c t h, zero_add]
  dsimp only
  have e := outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (iblk m c 0 t) (iblk m c 1 t) (iblk m c 2 t) (iblk m c 3 t) (iblk m c 4 t) (tl t) (at_tile t) (y 0) (y 1)
  rw [← eq_ix2 y] at e
  refine e.trans ?_
  rw [blk0, blk1, blk2, blk3, blk4]
  rfl

theorem step_B (h : ¬t.val % 8 = 0) (y : S8192x128.Idx) :
    ((outsAt0 m c t.val t.isLt).1 y : EReal) = (outsAt0 m c (t.val - 1) (Nat.lt_of_le_of_lt (Nat.sub_le _ _) t.isLt)).1 y + dqP m c (pr t) (tl t) (y 0) (y 1) := by
  rw [outsAt0_B m c t h]
  dsimp only
  have e := outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (iblk m c 0 t) (iblk m c 1 t) (iblk m c 2 t) (iblk m c 3 t) (iblk m c 4 t) (outsAt0 m c (t.val - 1) (Nat.lt_of_le_of_lt (Nat.sub_le _ _) t.isLt)).1 (tl t) (at_tile t) (y 0) (y 1)
  rw [← eq_ix2 y] at e
  refine e.trans ?_
  rw [blk0, blk1, blk2, blk3, blk4]
  rfl

theorem outs_6 (y : S1024x128.Idx) : ((outsAt0 m c t.val t.isLt).2.1 y : EReal) = dkP m c (pr t) (tl t) (y 0) (y 1) := by
  by_cases h : t.val % 8 = 0
  · rw [outsAt0_A m c t h]
    dsimp only
    have e := outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (iblk m c 0 t) (iblk m c 1 t) (iblk m c 2 t) (iblk m c 3 t) (iblk m c 4 t) (tl t) (at_tile t) (y 0) (y 1)
    rw [← eq_ix2 y] at e
    refine e.trans ?_
    simp only [blk0, blk1, blk2, blk3, blk4]
    rfl
  · rw [outsAt0_B m c t h]
    dsimp only
    have e := outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (iblk m c 0 t) (iblk m c 1 t) (iblk m c 2 t) (iblk m c 3 t) (iblk m c 4 t) (outsAt0 m c (t.val - 1) (Nat.lt_of_le_of_lt (Nat.sub_le _ _) t.isLt)).1 (tl t) (at_tile t) (y 0) (y 1)
    rw [← eq_ix2 y] at e
    refine e.trans ?_
    simp only [blk0, blk1, blk2, blk3, blk4]
    rfl

theorem outs_7 (y : S1024x128.Idx) : ((outsAt0 m c t.val t.isLt).2.2.1 y : EReal) = dvP m c (pr t) (tl t) (y 0) (y 1) := by
  by_cases h : t.val % 8 = 0
  · rw [outsAt0_A m c t h]
    dsimp only
    have e := outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (iblk m c 0 t) (iblk m c 1 t) (iblk m c 2 t) (iblk m c 3 t) (iblk m c 4 t) (tl t) (at_tile t) (y 0) (y 1)
    rw [← eq_ix2 y] at e
    refine e.trans ?_
    simp only [blk0, blk1, blk2, blk3, blk4]
    rfl
  · rw [outsAt0_B m c t h]
    dsimp only
    have e := outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (iblk m c 0 t) (iblk m c 1 t) (iblk m c 2 t) (iblk m c 3 t) (iblk m c 4 t) (outsAt0 m c (t.val - 1) (Nat.lt_of_le_of_lt (Nat.sub_le _ _) t.isLt)).1 (tl t) (at_tile t) (y 0) (y 1)
    rw [← eq_ix2 y] at e
    refine e.trans ?_
    simp only [blk0, blk1, blk2, blk3, blk4]
    rfl

theorem outs_8 (y : S1024x128.Idx) : ((outsAt0 m c t.val t.isLt).2.2.2 y : EReal) = dcP m c (pr t) (tl t) (y 0) (y 1) := by
  by_cases h : t.val % 8 = 0
  · rw [outsAt0_A m c t h]
    dsimp only
    have e := outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (iblk m c 0 t) (iblk m c 1 t) (iblk m c 2 t) (iblk m c 3 t) (iblk m c 4 t) (tl t) (at_tile t) (y 0) (y 1)
    rw [← eq_ix2 y] at e
    refine e.trans ?_
    simp only [blk0, blk1, blk2, blk3, blk4]
    rfl
  · rw [outsAt0_B m c t h]
    dsimp only
    have e := outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (iblk m c 0 t) (iblk m c 1 t) (iblk m c 2 t) (iblk m c 3 t) (iblk m c 4 t) (outsAt0 m c (t.val - 1) (Nat.lt_of_le_of_lt (Nat.sub_le _ _) t.isLt)).1 (tl t) (at_tile t) (y 0) (y 1)
    rw [← eq_ix2 y] at e
    refine e.trans ?_
    simp only [blk0, blk1, blk2, blk3, blk4]
    rfl

/-- The pair and lane of a column of a result; the tile and row of a row. -/
abbrev colPair (q : Fin 512) : Fin 4 := ⟨q.val / 128, by omega⟩
abbrev colLane (q : Fin 512) : Fin 128 := ⟨q.val % 128, by omega⟩
abbrev rowTile (q : Fin 8192) : Fin 8 := ⟨q.val / 1024, by omega⟩
abbrev rowIn (q : Fin 8192) : Fin 1024 := ⟨q.val % 1024, by omega⟩

/-- The arrays of the four gradients. -/
def dqK (c : Dev nD) : S8192x512.Idx → EReal := fun y => ∑ j : Fin 8, dqP m c (colPair (y 1)) j (y 0) (colLane (y 1))
def dkK (c : Dev nD) : S8192x512.Idx → EReal := fun y => dkP m c (colPair (y 1)) (rowTile (y 0)) (rowIn (y 0)) (colLane (y 1))
def dvK (c : Dev nD) : S8192x512.Idx → EReal := fun y => dvP m c (colPair (y 1)) (rowTile (y 0)) (rowIn (y 0)) (colLane (y 1))
def dcK (c : Dev nD) : S8192x512.Idx → EReal := fun y => dcP m c (colPair (y 1)) (rowTile (y 0)) (rowIn (y 0)) (colLane (y 1))

/-- Column `l` of pair `p`. -/
def colOf (p : Fin 4) (l : Fin 128) : Fin 512 := ⟨p.val * 128 + l.val, by omega⟩

/-- An array's value at a tile's row and a pair's lane. -/
theorem place (f : Fin 4 → Fin 8 → Fin 1024 → Fin 128 → EReal) (p : Fin 4) (j : Fin 8) (r : Fin 1024) (l : Fin 128) (R : Fin 8192) (q : Fin 512)
    (hR : R.val = j.val * 1024 + r.val) (hq : q.val = p.val * 128 + l.val) : f p j r l = f (colPair q) (rowTile R) (rowIn R) (colLane q) := by
  congr 1
  all_goals exact Fin.ext (by simp only [colPair, colLane, rowTile, rowIn]; omega)

theorem final6 (i : S8192x512.Idx) : ((dats m 0 c).arrAt 6 cfg0.N i : EReal) = dkK m c i := by
  refine congrFun ((dats m 0 c).arrAt_eq_of_covers 6 (dkK m c) (by decide +kernel) fun t hf y => ?_) i
  blk_simp
  rw [after0_6]
  refine (outs_6 m c t y).trans ?_
  have e : (win0_6.blk t).view.emb y = (ix2 (rowOf (tl t) (y 0)) (colOf (pr t) (y 1)) : S8192x512.Idx) := by
    blk_ext [idx t]
    all_goals rfl
  rw [e]
  exact place (dkP m c) _ _ _ _ _ _ rfl rfl

theorem final7 (i : S8192x512.Idx) : ((dats m 0 c).arrAt 7 cfg0.N i : EReal) = dvK m c i := by
  refine congrFun ((dats m 0 c).arrAt_eq_of_covers 7 (dvK m c) (by decide +kernel) fun t hf y => ?_) i
  blk_simp
  rw [after0_7]
  refine (outs_7 m c t y).trans ?_
  have e : (win0_7.blk t).view.emb y = (ix2 (rowOf (tl t) (y 0)) (colOf (pr t) (y 1)) : S8192x512.Idx) := by
    blk_ext [idx t]
    all_goals rfl
  rw [e]
  exact place (dvP m c) _ _ _ _ _ _ rfl rfl

theorem final8 (i : S8192x512.Idx) : ((dats m 0 c).arrAt 8 cfg0.N i : EReal) = dcK m c i := by
  refine congrFun ((dats m 0 c).arrAt_eq_of_covers 8 (dcK m c) (by decide +kernel) fun t hf y => ?_) i
  blk_simp
  rw [after0_8]
  refine (outs_8 m c t y).trans ?_
  have e : (win0_8.blk t).view.emb y = (ix2 (rowOf (tl t) (y 0)) (colOf (pr t) (y 1)) : S8192x512.Idx) := by
    blk_ext [idx t]
    all_goals rfl
  rw [e]
  exact place (dcP m c) _ _ _ _ _ _ rfl rfl

theorem final5 (i : S8192x512.Idx) : ((dats m 0 c).arrAt 5 cfg0.N i : EReal) = dqK m c i := by
  refine congrFun ((dats m 0 c).arrAt_eq_of_covers 5 (dqK m c) (by decide +kernel) fun t hf y => ?_) i
  blk_simp
  rw [after0_5]
  refine (Pipeline.eq_sum_fin_of_reset_step_apply_of_flush (fun n h => (outsAt0 m c n h).1) 8 (fun _ => (0 : EReal))
    (fun s y => dqP m c (pr s) (tl s) (y 0) (y 1)) (fun t h y => step_A m c t h y) (fun t h y => step_B m c t h y) t ((flush0_5 t).mp hf) y).trans ?_
  rw [zero_add]
  have e : (win0_5.blk t).view.emb y = (ix2 (y 0) (colOf (pr t) (y 1)) : S8192x512.Idx) := by
    blk_ext [idx t]
    all_goals rfl
  rw [e]
  have hp : colPair (colOf (pr t) (y 1)) = pr t := Fin.ext (by have h : (y 1).val < 128 := (y 1).isLt; simp only [colPair, colOf]; omega)
  have hl : colLane (colOf (pr t) (y 1)) = y 1 := Fin.ext (by have h : (y 1).val < 128 := (y 1).isLt; simp only [colLane, colOf]; omega)
  show _ = ∑ j : Fin 8, dqP m c (colPair (colOf (pr t) (y 1))) j (y 0) (colLane (colOf (pr t) (y 1)))
  rw [hp, hl]
  refine Finset.sum_congr rfl fun s _ => ?_
  have h1 : pr ⟨8 * (t.val / 8) + s.val, Pipeline.run_point_lt_of_flush t ((flush0_5 t).mp hf) s⟩ = pr t := Fin.ext (by simp only [pr]; omega)
  have h2 : tl ⟨8 * (t.val / 8) + s.val, Pipeline.run_point_lt_of_flush t ((flush0_5 t).mp hf) s⟩ = s := Fin.ext (by simp only [tl]; omega)
  rw [h1, h2]

end Cert.FoxKernelIdeal.Body
-- ==== Proof.FoxHost.lean ====
module

public import proofs.«01_k».proof.Proof.FoxBlock

@[expose] public section

/-!
  The arrays that the region finds, as terms over the arguments: the scores, the statistics of their rows, and the
  operands with their feature columns.
-/
set_option maxRecDepth 16384

noncomputable section

open Idealize.ShloMosaic Idealize.ShloMosaic.TcCoe Idealize.SL.Sem

namespace Cert.FoxKernelIdeal.Body

open Cert.FoxKernelIdeal Cert.FoxKernelIdeal.Gen

section Join

variable {α : Type} {s₁ s₂ s₃ s₄ s₅ s₆ s₇ : Shape}

/-- Two pieces joined. -/
def cat2 (t : Shape) (a : Fin t.rank) (h : Shape.Concatenates [s₁, s₂] t a) (x₁ : s₁.Idx → α) (x₂ : s₂.Idx → α) : t.Idx → α :=
  concatenate t a [⟨s₁, x₁⟩, ⟨s₂, x₂⟩] h
/-- Four pieces joined. -/
def cat4 (t : Shape) (a : Fin t.rank) (h : Shape.Concatenates [s₁, s₂, s₃, s₄] t a) (x₁ : s₁.Idx → α) (x₂ : s₂.Idx → α)
    (x₃ : s₃.Idx → α) (x₄ : s₄.Idx → α) : t.Idx → α :=
  concatenate t a [⟨s₁, x₁⟩, ⟨s₂, x₂⟩, ⟨s₃, x₃⟩, ⟨s₄, x₄⟩] h
/-- Seven pieces joined. -/
def cat7 (t : Shape) (a : Fin t.rank) (h : Shape.Concatenates [s₁, s₂, s₃, s₄, s₅, s₆, s₇] t a) (x₁ : s₁.Idx → α)
    (x₂ : s₂.Idx → α) (x₃ : s₃.Idx → α) (x₄ : s₄.Idx → α) (x₅ : s₅.Idx → α) (x₆ : s₆.Idx → α) (x₇ : s₇.Idx → α) : t.Idx → α :=
  concatenate t a [⟨s₁, x₁⟩, ⟨s₂, x₂⟩, ⟨s₃, x₃⟩, ⟨s₄, x₄⟩, ⟨s₅, x₅⟩, ⟨s₆, x₆⟩, ⟨s₇, x₇⟩] h

theorem cat2_eq {t : Shape} (a : Fin t.rank) (h) (x₁ : s₁.Idx → α) (x₂ : s₂.Idx → α) :
    concatenate t a [⟨s₁, x₁⟩, ⟨s₂, x₂⟩] h = cat2 t a h x₁ x₂ := rfl

theorem cat4_congr {t : Shape} {a : Fin t.rank} {h} {x₁ y₁ : s₁.Idx → α} {x₂ y₂ : s₂.Idx → α} {x₃ y₃ : s₃.Idx → α}
    {x₄ y₄ : s₄.Idx → α} (e₁ : x₁ = y₁) (e₂ : x₂ = y₂) (e₃ : x₃ = y₃) (e₄ : x₄ = y₄) :
    cat4 t a h x₁ x₂ x₃ x₄ = cat4 t a h y₁ y₂ y₃ y₄ := by
  rw [e₁, e₂, e₃, e₄]

end Join

/-- The joining operation of `stats`, its pieces as arguments. -/
theorem stats_op : ((StableHlo.nary ![main_v42, main_v43, main_v44, main_v45] main_v46 (fun u => (concatenate S4x8x8192 1 [⟨S4x2x8192, (u 0 : (⟨S4x2x8192, .f32⟩ : BufTy).Contents (Elt Ideal))⟩, ⟨S4x2x8192, (u 1 : (⟨S4x2x8192, .f32⟩ : BufTy).Contents (Elt Ideal))⟩, ⟨S4x2x8192, (u 2 : (⟨S4x2x8192, .f32⟩ : BufTy).Contents (Elt Ideal))⟩, ⟨S4x2x8192, (u 3 : (⟨S4x2x8192, .f32⟩ : BufTy).Contents (Elt Ideal))⟩] concatenates_S4x2x8192_S4x2x8192_S4x2x8192_S4x2x8192_S4x8x8192_d1 : (⟨S4x8x8192, .f32⟩ : BufTy).Contents (Elt Ideal)))) : HloOp τ sig (Elt Ideal)) =
    StableHlo.nary ![main_v42, main_v43, main_v44, main_v45] main_v46 (fun u => (cat4 S4x8x8192 1 concatenates_S4x2x8192_S4x2x8192_S4x2x8192_S4x2x8192_S4x8x8192_d1 (u 0 : (⟨S4x2x8192, .f32⟩ : BufTy).Contents (Elt Ideal)) (u 1 : (⟨S4x2x8192, .f32⟩ : BufTy).Contents (Elt Ideal)) (u 2 : (⟨S4x2x8192, .f32⟩ : BufTy).Contents (Elt Ideal)) (u 3 : (⟨S4x2x8192, .f32⟩ : BufTy).Contents (Elt Ideal)) : (⟨S4x8x8192, .f32⟩ : BufTy).Contents (Elt Ideal))) := rfl

/-- The joining operation of `qfeat`, its pieces as arguments. -/
theorem qfeat_op : ((StableHlo.nary ![main_v50, main_v54, main_v58, main_v59, main_v59, main_v59, main_v60] main_v63 (fun u => (concatenate S8192x8x64 2 [⟨S8192x8x1, (u 0 : (⟨S8192x8x1, .f32⟩ : BufTy).Contents (Elt Ideal))⟩, ⟨S8192x8x1, (u 1 : (⟨S8192x8x1, .f32⟩ : BufTy).Contents (Elt Ideal))⟩, ⟨S8192x8x1, (u 2 : (⟨S8192x8x1, .f32⟩ : BufTy).Contents (Elt Ideal))⟩, ⟨S8192x8x1, (u 3 : (⟨S8192x8x1, .f32⟩ : BufTy).Contents (Elt Ideal))⟩, ⟨S8192x8x1, (u 4 : (⟨S8192x8x1, .f32⟩ : BufTy).Contents (Elt Ideal))⟩, ⟨S8192x8x1, (u 5 : (⟨S8192x8x1, .f32⟩ : BufTy).Contents (Elt Ideal))⟩, ⟨S8192x8x58, (u 6 : (⟨S8192x8x58, .f32⟩ : BufTy).Contents (Elt Ideal))⟩] concatenates_S8192x8x1_S8192x8x1_S8192x8x1_S8192x8x1_S8192x8x1_S8192x8x1_S8192x8x58_S8192x8x64_d2 : (⟨S8192x8x64, .f32⟩ : BufTy).Contents (Elt Ideal)))) : HloOp τ sig (Elt Ideal)) =
    StableHlo.nary ![main_v50, main_v54, main_v58, main_v59, main_v59, main_v59, main_v60] main_v63 (fun u => (cat7 S8192x8x64 2 concatenates_S8192x8x1_S8192x8x1_S8192x8x1_S8192x8x1_S8192x8x1_S8192x8x1_S8192x8x58_S8192x8x64_d2 (u 0 : (⟨S8192x8x1, .f32⟩ : BufTy).Contents (Elt Ideal)) (u 1 : (⟨S8192x8x1, .f32⟩ : BufTy).Contents (Elt Ideal)) (u 2 : (⟨S8192x8x1, .f32⟩ : BufTy).Contents (Elt Ideal)) (u 3 : (⟨S8192x8x1, .f32⟩ : BufTy).Contents (Elt Ideal)) (u 4 : (⟨S8192x8x1, .f32⟩ : BufTy).Contents (Elt Ideal)) (u 5 : (⟨S8192x8x1, .f32⟩ : BufTy).Contents (Elt Ideal)) (u 6 : (⟨S8192x8x58, .f32⟩ : BufTy).Contents (Elt Ideal)) : (⟨S8192x8x64, .f32⟩ : BufTy).Contents (Elt Ideal))) := rfl

/-- The joining operation of `kfeat`, its pieces as arguments. -/
theorem kfeat_op : ((StableHlo.nary ![main_v59, main_v59, main_v59, main_v75, main_v76, main_v77, main_v60] main_v78 (fun u => (concatenate S8192x8x64 2 [⟨S8192x8x1, (u 0 : (⟨S8192x8x1, .f32⟩ : BufTy).Contents (Elt Ideal))⟩, ⟨S8192x8x1, (u 1 : (⟨S8192x8x1, .f32⟩ : BufTy).Contents (Elt Ideal))⟩, ⟨S8192x8x1, (u 2 : (⟨S8192x8x1, .f32⟩ : BufTy).Contents (Elt Ideal))⟩, ⟨S8192x8x1, (u 3 : (⟨S8192x8x1, .f32⟩ : BufTy).Contents (Elt Ideal))⟩, ⟨S8192x8x1, (u 4 : (⟨S8192x8x1, .f32⟩ : BufTy).Contents (Elt Ideal))⟩, ⟨S8192x8x1, (u 5 : (⟨S8192x8x1, .f32⟩ : BufTy).Contents (Elt Ideal))⟩, ⟨S8192x8x58, (u 6 : (⟨S8192x8x58, .f32⟩ : BufTy).Contents (Elt Ideal))⟩] concatenates_S8192x8x1_S8192x8x1_S8192x8x1_S8192x8x1_S8192x8x1_S8192x8x1_S8192x8x58_S8192x8x64_d2 : (⟨S8192x8x64, .f32⟩ : BufTy).Contents (Elt Ideal)))) : HloOp τ sig (Elt Ideal)) =
    StableHlo.nary ![main_v59, main_v59, main_v59, main_v75, main_v76, main_v77, main_v60] main_v78 (fun u => (cat7 S8192x8x64 2 concatenates_S8192x8x1_S8192x8x1_S8192x8x1_S8192x8x1_S8192x8x1_S8192x8x1_S8192x8x58_S8192x8x64_d2 (u 0 : (⟨S8192x8x1, .f32⟩ : BufTy).Contents (Elt Ideal)) (u 1 : (⟨S8192x8x1, .f32⟩ : BufTy).Contents (Elt Ideal)) (u 2 : (⟨S8192x8x1, .f32⟩ : BufTy).Contents (Elt Ideal)) (u 3 : (⟨S8192x8x1, .f32⟩ : BufTy).Contents (Elt Ideal)) (u 4 : (⟨S8192x8x1, .f32⟩ : BufTy).Contents (Elt Ideal)) (u 5 : (⟨S8192x8x1, .f32⟩ : BufTy).Contents (Elt Ideal)) (u 6 : (⟨S8192x8x58, .f32⟩ : BufTy).Contents (Elt Ideal)) : (⟨S8192x8x64, .f32⟩ : BufTy).Contents (Elt Ideal))) := rfl

/-- The eight heads of 64. -/
def heads (x : FVec Ideal S8192x512 .f32) : FVec Ideal S8192x8x64 .f32 := shapeCast S8192x8x64 x shapeCasts_S8192x512_S8192x8x64

/-- Where the key's position is not after the query's. -/
def causal : IVec S8x8192x8192 1 :=
  broadcastInDim S8x8192x8192 ![0, 1, 2] bcast_S1x8192x8192_S8x8192x8192_0_1_2
    (broadcastInDim S1x8192x8192 ![1, 2] bcast_S8192x8192_S1x8192x8192_1_2
      (cmpi CmpIPredicate.sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

/-- The scores before the mask. -/
def scores (x0 x1 : FVec Ideal S8192x512 .f32) (x3 : FVec Ideal S8192x8 .f32) : FVec Ideal S8x8192x8192 .f32 :=
  subf (addf (mulf (Host.dotGeneral dot_S8192x8x64_S8192x8x64_S8x8192x8192_2_2_0_0_1_1 none (heads x0) (heads x1))
        (broadcastInDim S8x8192x8192 ![] bcast_S_S8x8192x8192 (constant S_ .f32 0x3E000000#32)))
      (broadcastInDim S8x8192x8192 ![0, 1, 2] bcast_S8x8192x1_S8x8192x8192_0_1_2
        (broadcastInDim S8x8192x1 ![0, 1] bcast_S8x8192_S8x8192x1_0_1 (transpose S8x8192 [1, 0] x3 transposes_S8192x8_S8x8192_1_0))))
    (broadcastInDim S8x8192x8192 ![0, 1, 2] bcast_S8x1x8192_S8x8192x8192_0_1_2
      (broadcastInDim S8x1x8192 ![0, 2] bcast_S8x8192_S8x1x8192_0_2 (transpose S8x8192 [1, 0] x3 transposes_S8192x8_S8x8192_1_0)))

/-- The scores. -/
def masked (x0 x1 : FVec Ideal S8192x512 .f32) (x3 : FVec Ideal S8192x8 .f32) : FVec Ideal S8x8192x8192 .f32 :=
  select causal (scores x0 x1 x3) (broadcastInDim S8x8192x8192 ![] bcast_S_S8x8192x8192 (id (constant S_ .f32 0xFF800000#32)))

/-- The largest score of each row. -/
def rowMax (s : FVec Ideal S8x8192x8192 .f32) : FVec Ideal S8x8192 .f32 :=
  Host.reduce FloatOps.maximumf s (constant S_ .f32 0xFF800000#32) reducesTo_S8x8192x8192_S8x8192_d2 h_S_

/-- One number for each row, at every entry of the row. -/
def alongRow (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)

/-- The exponentials of a row's scores less its largest. -/
def weights (s : FVec Ideal S8x8192x8192 .f32) : FVec Ideal S8x8192x8192 .f32 := Host.exp (subf s (alongRow (rowMax s)))

/-- The sum of a row's exponentials. -/
def rowSum (s : FVec Ideal S8x8192x8192 .f32) : FVec Ideal S8x8192 .f32 :=
  Host.reduceAdd (weights s) (constant S_ .f32 0x00000000#32) reducesTo_S8x8192x8192_S8x8192_d2 h_S_

/-- The attention's weights. -/
def probs (s : FVec Ideal S8x8192x8192 .f32) : FVec Ideal S8x8192x8192 .f32 := Host.divf (weights s) (alongRow (rowSum s))

/-- The attention's output. -/
def output (s : FVec Ideal S8x8192x8192 .f32) (x2 : FVec Ideal S8192x512 .f32) : FVec Ideal S8192x8x64 .f32 :=
  transpose S8192x8x64 [2, 0, 1] (Host.dotGeneral dot_S8192x8x64_S8x8192x8192_S8x64x8192_0_2_2_1_1_0 none (heads x2) (probs s)) transposes_S8x64x8192_S8192x8x64_2_0_1

/-- The products of each row of the output with the incoming gradient. -/
def delta (s : FVec Ideal S8x8192x8192 .f32) (x2 x4 : FVec Ideal S8192x512 .f32) : FVec Ideal S8x8192 .f32 :=
  transpose S8x8192 [1, 0] (Host.reduceAdd (mulf (output s x2) (heads x4)) (constant S_ .f32 0x00000000#32) reducesTo_S8192x8x64_S8192x8_d2 h_S_) transposes_S8192x8_S8x8192_1_0

/-- The largest score in units of the logarithm of two. -/
def shift (s : FVec Ideal S8x8192x8192 .f32) : FVec Ideal S8x8192 .f32 :=
  Host.divf (rowMax s) (broadcastInDim S8x8192 ![] bcast_S_S8x8192 (Host.log (constant S_ .f32 0x40000000#32)))

/-- The reciprocal of the sum of a row's exponentials. -/
def recip (s : FVec Ideal S8x8192x8192 .f32) : FVec Ideal S8x8192 .f32 :=
  Host.divf (broadcastInDim S8x8192 ![] bcast_S_S8x8192 (constant S_ .f32 0x3F800000#32)) (rowSum s)

/-- Two heads to a pair. -/
def inPairs (x : FVec Ideal S8x8192 .f32) : FVec Ideal S4x2x8192 .f32 := shapeCast S4x2x8192 x shapeCasts_S8x8192_S4x2x8192

/-- The statistics. -/
def stats (s : FVec Ideal S8x8192x8192 .f32) (x2 x4 : FVec Ideal S8192x512 .f32) : FVec Ideal S4x8x8192 .f32 :=
  cat4 S4x8x8192 1 concatenates_S4x2x8192_S4x2x8192_S4x2x8192_S4x2x8192_S4x8x8192_d1 (inPairs (shift s)) (inPairs (delta s x2 x4))
    (inPairs (recip s)) (broadcastInDim S4x2x8192 ![] bcast_S_S4x2x8192 (constant S_ .f32 0x00000000#32))

/-- A number rounded and taken back. -/
def narrow (x : FVec Ideal S8192x8 .f32) : FVec Ideal S8192x8 .f32 := extf .f32 (truncf .bf16 x bitsLt_bf16_f32) bitsLt_bf16_f32

/-- One column for each head. -/
def column (x : FVec Ideal S8192x8 .f32) : FVec Ideal S8192x8x1 .f32 := broadcastInDim S8192x8x1 ![0, 1] bcast_S8192x8_S8192x8x1_0_1 x

/-- The three parts that the gate is split into. -/
def part1 (x3 : FVec Ideal S8192x8 .f32) : FVec Ideal S8192x8x1 .f32 := column (narrow x3)
def part2 (x3 : FVec Ideal S8192x8 .f32) : FVec Ideal S8192x8x1 .f32 := column (narrow (subf x3 (narrow x3)))
def part3 (x3 : FVec Ideal S8192x8 .f32) : FVec Ideal S8192x8x1 .f32 :=
  column (narrow (subf (subf x3 (narrow x3)) (narrow (subf x3 (narrow x3)))))

/-- A column of ones; columns of zeros. -/
def ones : FVec Ideal S8192x8x1 .f32 := broadcastInDim S8192x8x1 ![] bcast_S_S8192x8x1 (constant S_ .f32 0x3F800000#32)
def zeros58 : FVec Ideal S8192x8x58 .f32 := broadcastInDim S8192x8x58 ![] bcast_S_S8192x8x58 (constant S_ .f32 0x00000000#32)
def zeros63 : FVec Ideal S8192x8x63 .f32 := broadcastInDim S8192x8x63 ![] bcast_S_S8192x8x63 (constant S_ .f32 0x00000000#32)
def zeros64 : FVec Ideal S8192x8x64 .f32 := broadcastInDim S8192x8x64 ![] bcast_S_S8192x8x64 (constant S_ .f32 0x00000000#32)
def eighths : FVec Ideal S8192x8x64 .f32 := broadcastInDim S8192x8x64 ![] bcast_S_S8192x8x64 (constant S_ .f32 0x3E000000#32)

/-- The feature columns of the queries, of the keys and of the values. -/
def qFeat (x3 : FVec Ideal S8192x8 .f32) : FVec Ideal S8192x8x64 .f32 :=
  cat7 S8192x8x64 2 concatenates_S8192x8x1_S8192x8x1_S8192x8x1_S8192x8x1_S8192x8x1_S8192x8x1_S8192x8x58_S8192x8x64_d2
    (part1 x3) (part2 x3) (part3 x3) ones ones ones zeros58
def kFeat (x3 : FVec Ideal S8192x8 .f32) : FVec Ideal S8192x8x64 .f32 :=
  cat7 S8192x8x64 2 concatenates_S8192x8x1_S8192x8x1_S8192x8x1_S8192x8x1_S8192x8x1_S8192x8x1_S8192x8x58_S8192x8x64_d2
    ones ones ones (Host.negf (part1 x3)) (Host.negf (part2 x3)) (Host.negf (part3 x3)) zeros58
def vFeat : FVec Ideal S8192x8x64 .f32 := cat2 S8192x8x64 2 concatenates_S8192x8x1_S8192x8x63_S8192x8x64_d2 ones zeros63

/-- The even heads, and the odd heads. -/
def evens (x : FVec Ideal S8192x8x64 .f32) : FVec Ideal S8192x4x64 .f32 :=
  Host.slice S8192x4x64 ![0, 0, 0] ![1, 2, 1] x slicesBy_S8192x8x64_S8192x4x64_0s1_0s2_0s1
def odds (x : FVec Ideal S8192x8x64 .f32) : FVec Ideal S8192x4x64 .f32 :=
  Host.slice S8192x4x64 ![0, 1, 0] ![1, 2, 1] x slicesBy_S8192x8x64_S8192x4x64_0s1_1s2_0s1

/-- Two blocks of 64 columns side by side. -/
def beside (x y : FVec Ideal S8192x4x64 .f32) : FVec Ideal S8192x4x128 .f32 :=
  cat2 S8192x4x128 2 concatenates_S8192x4x64_S8192x4x64_S8192x4x128_d2 x y

/-- The even heads' columns and the odd heads' in turn. -/
def inTurn (x y : FVec Ideal S8192x4x128 .f32) : FVec Ideal S8192x1024 .bf16 :=
  truncf .bf16 (shapeCast S8192x1024
    (cat2 S8192x4x2x128 2 concatenates_S8192x4x1x128_S8192x4x1x128_S8192x4x2x128_d2
      (broadcastInDim S8192x4x1x128 ![0, 1, 3] bcast_S8192x4x128_S8192x4x1x128_0_1_3 x)
      (broadcastInDim S8192x4x1x128 ![0, 1, 3] bcast_S8192x4x128_S8192x4x1x128_0_1_3 y)) shapeCasts_S8192x4x2x128_S8192x1024) bitsLt_bf16_f32

/-- The heads beside their feature columns. -/
def twoHalves (own feat : FVec Ideal S8192x8x64 .f32) : FVec Ideal S8192x1024 .bf16 :=
  inTurn (beside (evens own) (evens feat)) (beside (odds feat) (odds own))

variable (m : (ℓ : Loc nD τ sig) → Buf (Elt Ideal) ℓ) (c : Dev nD)

theorem entry_q : V m c main_v74 = twoHalves (mulf (heads (m ((c.tc : Thread nD τ).loc main_arg0))) eighths) (qFeat (m ((c.tc : Thread nD τ).loc main_arg3))) := by
  simp only [V, hostOps0, hostOps0_1, hostOps0_2, stats_op, qfeat_op, kfeat_op, cat2_eq, List.flatten_cons, List.flatten_nil, List.cons_append, List.nil_append, List.append_nil, StableHlo.TRef.unary, StableHlo.TRef.binary, StableHlo.TRef.toBuf, StableHlo.TRef.ofBuf, cast_eq]
  after_results_simp
  rfl

theorem entry_k : V m c main_v89 = twoHalves (heads (m ((c.tc : Thread nD τ).loc main_arg1))) (kFeat (m ((c.tc : Thread nD τ).loc main_arg3))) := by
  simp only [V, hostOps0, hostOps0_1, hostOps0_2, stats_op, qfeat_op, kfeat_op, cat2_eq, List.flatten_cons, List.flatten_nil, List.cons_append, List.nil_append, List.append_nil, StableHlo.TRef.unary, StableHlo.TRef.binary, StableHlo.TRef.toBuf, StableHlo.TRef.ofBuf, cast_eq]
  after_results_simp
  rfl

theorem entry_v : V m c main_v102 = twoHalves (heads (m ((c.tc : Thread nD τ).loc main_arg2))) vFeat := by
  simp only [V, hostOps0, hostOps0_1, hostOps0_2, stats_op, qfeat_op, kfeat_op, cat2_eq, List.flatten_cons, List.flatten_nil, List.cons_append, List.nil_append, List.append_nil, StableHlo.TRef.unary, StableHlo.TRef.binary, StableHlo.TRef.toBuf, StableHlo.TRef.ofBuf, cast_eq]
  after_results_simp
  rfl

theorem entry_do : V m c main_v114 = twoHalves (heads (m ((c.tc : Thread nD τ).loc main_arg4))) zeros64 := by
  simp only [V, hostOps0, hostOps0_1, hostOps0_2, stats_op, qfeat_op, kfeat_op, cat2_eq, List.flatten_cons, List.flatten_nil, List.cons_append, List.nil_append, List.append_nil, StableHlo.TRef.unary, StableHlo.TRef.binary, StableHlo.TRef.toBuf, StableHlo.TRef.ofBuf, cast_eq]
  after_results_simp
  rfl

theorem entry_stats : V m c main_v46 = stats (masked (m ((c.tc : Thread nD τ).loc main_arg0)) (m ((c.tc : Thread nD τ).loc main_arg1)) (m ((c.tc : Thread nD τ).loc main_arg3))) (m ((c.tc : Thread nD τ).loc main_arg2)) (m ((c.tc : Thread nD τ).loc main_arg4)) := by
  simp only [V, hostOps0, hostOps0_1, hostOps0_2, stats_op, qfeat_op, kfeat_op, cat2_eq, List.flatten_cons, List.flatten_nil, List.cons_append, List.nil_append, List.append_nil, StableHlo.TRef.unary, StableHlo.TRef.binary, StableHlo.TRef.toBuf, StableHlo.TRef.ofBuf, cast_eq]
  after_results_simp
  unfold stats
  refine cat4_congr ?_ ?_ ?_ ?_
  all_goals dsimp only [Matrix.cons_val]
  all_goals after_results_simp
  all_goals rfl

end Cert.FoxKernelIdeal.Body

end
-- ==== Proof.FoxLanes.lean ====
module

public import proofs.«01_k».proof.Proof.FoxHost

@[expose] public section

/-!
  The operands of the region, entry by entry: each head's own 64 columns and its 64 feature columns, and the statistics
  of a pair of heads.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.FoxKernelIdeal.Tile

theorem heads_at (x : FVec Ideal S8192x512 .f32) (R : Fin 8192) (h : Fin 8) (d : Fin 64) :
    (heads x (ix3 R h d) : EReal) = x (ix2 R (⟨h.val * 64 + d.val, by omega⟩ : Fin 512)) := by
  unfold heads
  refine shapeCast_apply x _ _ _ ?_
  rw [Shape.rowMajor_val_two, Shape.rowMajor_val_three]
  show R.val * 512 + (h.val * 64 + d.val) = (R.val * 8 + h.val) * 64 + d.val
  omega

/-- The two heads of a pair. -/
def headOf (p : Fin 4) (e : Fin 2) : Fin 8 := ⟨2 * p.val + e.val, by omega⟩

theorem evens_at (x : FVec Ideal S8192x8x64 .f32) (R : Fin 8192) (p : Fin 4) (d : Fin 64) :
    (evens x (ix3 R p d) : EReal) = x (ix3 R (headOf p 0) d) := by
  unfold evens
  pointwise [headOf]

theorem odds_at (x : FVec Ideal S8192x8x64 .f32) (R : Fin 8192) (p : Fin 4) (d : Fin 64) :
    (odds x (ix3 R p d) : EReal) = x (ix3 R (headOf p 1) d) := by
  unfold odds
  pointwise [headOf]
  exact congrArg (fun q : Fin 8 => x (ix3 R q d)) (Fin.ext (Nat.add_comm _ _))

theorem beside_lo (x y : FVec Ideal S8192x4x64 .f32) (R : Fin 8192) (p : Fin 4) (d : Fin 64) :
    (beside x y (ix3 R p (⟨d.val, by omega⟩ : Fin 128)) : EReal) = x (ix3 R p d) := by
  unfold beside cat2
  pointwise

theorem beside_hi (x y : FVec Ideal S8192x4x64 .f32) (R : Fin 8192) (p : Fin 4) (d : Fin 64) :
    (beside x y (ix3 R p (⟨64 + d.val, by omega⟩ : Fin 128)) : EReal) = y (ix3 R p d) := by
  unfold beside cat2
  pointwise

theorem inTurn_at (x y : FVec Ideal S8192x4x128 .f32) (R : Fin 8192) (p : Fin 4) (e : Fin 2) (l : Fin 128) (q : Fin 1024)
    (hq : q.val = p.val * 256 + (lane e l).val) :
    (inTurn x y (ix2 R q) : EReal) = if e.val = 0 then x (ix3 R p l) else y (ix3 R p l) := by
  have hs : ∀ z : FVec Ideal S8192x4x2x128 .f32,
      shapeCast S8192x1024 z shapeCasts_S8192x4x2x128_S8192x1024 (ix2 R q) = z (ix4 R p e l) := by
    intro z
    refine shapeCast_apply z _ _ _ ?_
    rw [Shape.rowMajor_val_two, Shape.rowMajor_val_four]
    show ((R.val * 4 + p.val) * 2 + e.val) * 128 + l.val = R.val * 1024 + q.val
    rw [hq]
    simp only [lane]
    omega
  have ht : ∀ z : FVec Ideal S8192x1024 .f32, (truncf .bf16 z bitsLt_bf16_f32 (ix2 R q) : EReal) = z (ix2 R q) := fun z => rfl
  unfold inTurn
  rw [ht, hs]
  unfold cat2
  pointwise
  have he : e.val < 2 := e.isLt
  by_cases h : e.val = 0
  · rw [if_pos h]
    exact dif_pos (by omega)
  · rw [if_neg h]
    exact dif_neg (by omega)

section Halves

variable (own feat : FVec Ideal S8192x8x64 .f32) (R : Fin 8192) (p : Fin 4) (d : Fin 64)

theorem two_own_even : (twoHalves own feat (ix2 R (⟨p.val * 256 + (lane 0 ⟨d.val, by omega⟩).val, by simp only [lane]; omega⟩ : Fin 1024)) : EReal)
    = own (ix3 R (headOf p 0) d) := by
  unfold twoHalves
  rw [inTurn_at _ _ R p 0 ⟨d.val, by omega⟩ _ rfl, if_pos (by rfl), beside_lo, evens_at]

theorem two_feat_even : (twoHalves own feat (ix2 R (⟨p.val * 256 + (lane 0 ⟨64 + d.val, by omega⟩).val, by simp only [lane]; omega⟩ : Fin 1024)) : EReal)
    = feat (ix3 R (headOf p 0) d) := by
  unfold twoHalves
  rw [inTurn_at _ _ R p 0 ⟨64 + d.val, by omega⟩ _ rfl, if_pos (by rfl), beside_hi, evens_at]

theorem two_feat_odd : (twoHalves own feat (ix2 R (⟨p.val * 256 + (lane 1 ⟨d.val, by omega⟩).val, by simp only [lane]; omega⟩ : Fin 1024)) : EReal)
    = feat (ix3 R (headOf p 1) d) := by
  unfold twoHalves
  rw [inTurn_at _ _ R p 1 ⟨d.val, by omega⟩ _ rfl, if_neg (by decide), beside_lo, odds_at]

theorem two_own_odd : (twoHalves own feat (ix2 R (⟨p.val * 256 + (lane 1 ⟨64 + d.val, by omega⟩).val, by simp only [lane]; omega⟩ : Fin 1024)) : EReal)
    = own (ix3 R (headOf p 1) d) := by
  unfold twoHalves
  rw [inTurn_at _ _ R p 1 ⟨64 + d.val, by omega⟩ _ rfl, if_neg (by decide), beside_hi, odds_at]

end Halves

/-- The statistics' rows. -/
theorem inPairs_at (x : FVec Ideal S8x8192 .f32) (p : Fin 4) (e : Fin 2) (C : Fin 8192) :
    (inPairs x (ix3 p e C) : EReal) = x (ix2 (headOf p e) C) := by
  unfold inPairs
  refine shapeCast_apply x _ _ _ ?_
  rw [Shape.rowMajor_val_two, Shape.rowMajor_val_three]
  show (2 * p.val + e.val) * 8192 + C.val = (p.val * 2 + e.val) * 8192 + C.val
  omega

theorem cat4_at (x y z w : FVec Ideal S4x2x8192 .f32) (p : Fin 4) (s : Fin 3) (e : Fin 2) (C : Fin 8192) :
    (cat4 S4x8x8192 1 concatenates_S4x2x8192_S4x2x8192_S4x2x8192_S4x2x8192_S4x8x8192_d1 x y z w (ix3 p (srow s e) C) : EReal)
      = if s.val = 0 then x (ix3 p e C) else if s.val = 1 then y (ix3 p e C) else z (ix3 p e C) := by
  unfold cat4 srow
  pointwise
  have he : e.val < 2 := e.isLt
  have hs : s.val < 3 := s.isLt
  by_cases h0 : s.val = 0
  · rw [if_pos h0]
    refine (dif_pos (by omega)).trans ?_
    exact congrArg (fun q : Fin 2 => x (ix3 p q C)) (Fin.ext (by show 2 * s.val + e.val = e.val; omega))
  by_cases h1 : s.val = 1
  · rw [if_neg h0, if_pos h1]
    refine (dif_neg (by omega)).trans ((dif_pos (by omega)).trans ?_)
    exact congrArg (fun q : Fin 2 => y (ix3 p q C)) (Fin.ext (by show 2 * s.val + e.val - 2 = e.val; omega))
  · rw [if_neg h0, if_neg h1]
    refine (dif_neg (by omega)).trans ((dif_neg (by omega)).trans ((dif_pos (by omega)).trans ?_))
    exact congrArg (fun q : Fin 2 => z (ix3 p q C)) (Fin.ext (by show 2 * s.val + e.val - 2 - 2 = e.val; omega))

/-- The feature columns of a query, and of a key, whose gate is `r`. -/
def qf (r : ℝ) (d : Fin 64) : ℝ := if d.val = 0 then r else if d.val < 3 then 0 else if d.val < 6 then 1 else 0
def kf (r : ℝ) (d : Fin 64) : ℝ := if d.val < 3 then 1 else if d.val = 3 then -r else 0
def vf (d : Fin 64) : ℝ := if d.val = 0 then 1 else 0

/-- The product of a key's feature columns with a query's is the difference of their gates. -/
theorem feat_dot (rk rq : ℝ) : ∑ d : Fin 64, kf rk d * qf rq d = rq - rk := by
  have h : ∀ d : Fin 64, kf rk d * qf rq d = (if d = 0 then rq else 0) + (if d = 3 then -rk else 0) := by
    intro d
    have e0 : d = 0 ↔ d.val = 0 := Fin.ext_iff
    have e3 : d = 3 ↔ d.val = 3 := Fin.ext_iff
    simp only [kf, qf, e0, e3]
    by_cases h0 : d.val = 0
    · rw [h0]; norm_num
    by_cases h3 : d.val = 3
    · rw [h3]; norm_num
    by_cases h2 : d.val < 3
    · simp [h0, h3, h2]
    · simp [h0, h3, h2]
  rw [Finset.sum_congr rfl fun d _ => h d, Finset.sum_add_distrib, Finset.sum_ite_eq', Finset.sum_ite_eq', if_pos (Finset.mem_univ _),
    if_pos (Finset.mem_univ _)]
  ring

theorem one_bits : Ideal.ofBits .f32 0x3F800000#32 = ((1 : ℝ) : EReal) := by
  simp [Ideal.ofBits, Ideal.ieee, -EReal.coe_mul]; norm_num
theorem zero_bits : Ideal.ofBits .f32 0x00000000#32 = ((0 : ℝ) : EReal) := by
  simp [Ideal.ofBits, Ideal.ieee]
theorem eighth_bits : Ideal.ofBits .f32 0x3E000000#32 = ((1 / 8 : ℝ) : EReal) := by
  simp [Ideal.ofBits, Ideal.ieee, -EReal.coe_mul]; norm_num

theorem ones_at (R : Fin 8192) (h : Fin 8) (d : Fin 1) : (ones (ix3 R h d) : EReal) = ((1 : ℝ) : EReal) := by
  unfold ones; pointwise; exact EReal.coe_one.symm
theorem zeros58_at (R : Fin 8192) (h : Fin 8) (d : Fin 58) : (zeros58 (ix3 R h d) : EReal) = ((0 : ℝ) : EReal) := by
  unfold zeros58; pointwise; exact EReal.coe_zero.symm
theorem zeros63_at (R : Fin 8192) (h : Fin 8) (d : Fin 63) : (zeros63 (ix3 R h d) : EReal) = ((0 : ℝ) : EReal) := by
  unfold zeros63; pointwise; exact EReal.coe_zero.symm
theorem zeros64_at (R : Fin 8192) (h : Fin 8) (d : Fin 64) : (zeros64 (ix3 R h d) : EReal) = ((0 : ℝ) : EReal) := by
  unfold zeros64; pointwise; exact EReal.coe_zero.symm

section Gate

variable (x3 : FVec Ideal S8192x8 .f32) (R : Fin 8192) (h : Fin 8) {r : ℝ} (hr : (x3 (ix2 R h) : EReal) = r)

include hr in
theorem part1_at (d : Fin 1) : (part1 x3 (ix3 R h d) : EReal) = r := by
  unfold part1 column narrow; pointwise; exact hr
include hr in
theorem part2_at (d : Fin 1) : (part2 x3 (ix3 R h d) : EReal) = ((0 : ℝ) : EReal) := by
  unfold part2 column narrow; pointwise
  rw [hr, ← EReal.coe_sub, sub_self]
include hr in
theorem part3_at (d : Fin 1) : (part3 x3 (ix3 R h d) : EReal) = ((0 : ℝ) : EReal) := by
  unfold part3 column narrow; pointwise
  rw [hr, ← EReal.coe_sub, sub_self, ← EReal.coe_sub, sub_self]

include hr in
theorem qFeat_at (d : Fin 64) : (qFeat x3 (ix3 R h d) : EReal) = (qf r d : ℝ) := by
  unfold qFeat cat7
  pointwise
  simp only [part1_at x3 R h hr, part2_at x3 R h hr, part3_at x3 R h hr, ones_at, zeros58_at]
  unfold qf
  split_ifs <;> first | rfl | (exfalso; omega)

include hr in
theorem kFeat_at (d : Fin 64) : (kFeat x3 (ix3 R h d) : EReal) = (kf r d : ℝ) := by
  unfold kFeat cat7
  pointwise
  simp only [part1_at x3 R h hr, part2_at x3 R h hr, part3_at x3 R h hr, ones_at, zeros58_at, ← EReal.coe_neg, neg_zero]
  unfold kf
  split_ifs <;> first | rfl | (exfalso; omega)

end Gate

theorem vFeat_at (R : Fin 8192) (h : Fin 8) (d : Fin 64) : (vFeat (ix3 R h d) : EReal) = (vf d : ℝ) := by
  unfold vFeat cat2
  pointwise
  simp only [ones_at, zeros63_at]
  unfold vf
  split_ifs <;> first | rfl | (exfalso; omega)

end Cert.FoxKernelIdeal.Body

end
-- ==== Proof.FoxReal.lean ====
module

public import Mathlib.Analysis.SpecialFunctions.Pow.Real
public import Mathlib.Algebra.BigOperators.Field
public import Mathlib.Data.EReal.Operations

@[expose] public section

/-!
  One head of the forgetting attention over the real numbers: its scores, the weights of each row, and the gradients.
-/

noncomputable section

namespace Cert.Fox

/-- One head: queries, keys, values, the gate, and the incoming gradient. -/
structure Head where
  q : Fin 8192 → Fin 64 → ℝ
  k : Fin 8192 → Fin 64 → ℝ
  v : Fin 8192 → Fin 64 → ℝ
  c : Fin 8192 → ℝ
  g : Fin 8192 → Fin 64 → ℝ

namespace Head

variable (H : Head)

/-- The score of key `r` for query `C`, before the mask. -/
def a (C r : Fin 8192) : ℝ := (∑ d, H.q C d * H.k r d) * (1 / 8) + H.c C - H.c r

/-- The score. -/
def s (C r : Fin 8192) : EReal := if r.val ≤ C.val then (H.a C r : EReal) else ⊥

/-- The largest score of a row. -/
def m (C : Fin 8192) : EReal := Finset.univ.fold max ⊥ fun r => H.s C r

/-- The same as a real number. -/
def M (C : Fin 8192) : ℝ := (H.m C).toReal

theorem m_eq (C : Fin 8192) : H.m C = (H.M C : EReal) := by
  have hb : H.m C ≠ ⊥ := by
    have h : H.s C C ≤ H.m C := (Finset.le_fold_max _).mpr (Or.inr ⟨C, Finset.mem_univ _, le_refl _⟩)
    intro e
    rw [e, s, if_pos (le_refl _)] at h
    exact absurd (le_bot_iff.mp h) (EReal.coe_ne_bot _)
  have ht : H.m C ≠ ⊤ := by
    have h : H.m C < ⊤ := by
      unfold m
      rw [Finset.fold_max_lt]
      refine ⟨bot_lt_top, fun r _ => ?_⟩
      unfold s
      split
      · exact EReal.coe_lt_top _
      · exact bot_lt_top
    exact h.ne
  exact (EReal.coe_toReal ht hb).symm

/-- The exponential of a score less the row's largest. -/
def w (C r : Fin 8192) : ℝ := if r.val ≤ C.val then Real.exp (H.a C r - H.M C) else 0

theorem w_nonneg (C r : Fin 8192) : 0 ≤ H.w C r := by
  unfold w
  split
  · exact (Real.exp_pos _).le
  · exact le_refl _

/-- The sum of a row. -/
def L (C : Fin 8192) : ℝ := ∑ r, H.w C r

theorem L_pos (C : Fin 8192) : 0 < H.L C := by
  have h : H.w C C ≤ H.L C := Finset.single_le_sum (fun r _ => H.w_nonneg C r) (Finset.mem_univ C)
  refine lt_of_lt_of_le ?_ h
  unfold w
  rw [if_pos (le_refl _)]
  exact Real.exp_pos _

/-- The attention's weight. -/
def p (C r : Fin 8192) : ℝ := H.w C r / H.L C

theorem p_sum (C : Fin 8192) : ∑ r, H.p C r = 1 := by
  unfold p
  rw [← Finset.sum_div]
  exact div_self (H.L_pos C).ne'

/-- The gradient at a weight. -/
def dp (C r : Fin 8192) : ℝ := ∑ d, H.g C d * H.v r d

/-- The row's mean gradient. -/
def δ (C : Fin 8192) : ℝ := ∑ r, H.p C r * H.dp C r

/-- The gradient at a score. -/
def ds (C r : Fin 8192) : ℝ := H.p C r * (H.dp C r - H.δ C)

/-- The gradients at the scores of a row add to zero. -/
theorem ds_sum (C : Fin 8192) : ∑ r, H.ds C r = 0 := by
  unfold ds
  simp only [mul_sub, Finset.sum_sub_distrib, ← Finset.sum_mul, H.p_sum, one_mul]
  exact sub_self _

theorem ds_of_after (C r : Fin 8192) (h : ¬ r.val ≤ C.val) : H.ds C r = 0 := by
  unfold ds p w
  rw [if_neg h, zero_div, zero_mul]

/-- The output times the incoming gradient is the row's mean gradient. -/
theorem delta_eq (C : Fin 8192) : ∑ d, (∑ r, H.v r d * H.p C r) * H.g C d = H.δ C := by
  unfold δ dp
  simp only [Finset.sum_mul, Finset.mul_sum]
  rw [Finset.sum_comm]
  refine Finset.sum_congr rfl fun r _ => Finset.sum_congr rfl fun d _ => by ring

/-- The gradient at a score from the unscaled exponentials. -/
theorem ds_eq (C r : Fin 8192) :
    (H.dp C r / H.L C + -∑ r', H.dp C r' * (1 / (H.L C * H.L C)) * H.w C r') * H.w C r = H.ds C r := by
  have hL := (H.L_pos C).ne'
  have e : ∑ r', H.dp C r' * (1 / (H.L C * H.L C)) * H.w C r' = H.δ C / H.L C := by
    unfold δ p
    rw [Finset.sum_div]
    refine Finset.sum_congr rfl fun r' _ => ?_
    field_simp
  rw [e]
  unfold ds p
  field_simp
  ring

/-- The gradients. -/
def dq (C : Fin 8192) (d : Fin 64) : ℝ := ∑ r, H.ds C r * (1 / 8) * H.k r d
def dk (r : Fin 8192) (d : Fin 64) : ℝ := ∑ C, H.ds C r * (1 / 8) * H.q C d
def dv (r : Fin 8192) (d : Fin 64) : ℝ := ∑ C, H.g C d * H.p C r
def dc (r : Fin 8192) : ℝ := ∑ C, -H.ds C r

end Head

/-- A sum of real numbers among the extended real numbers. -/
theorem coe_sum {ι : Type} (s : Finset ι) (f : ι → ℝ) : ((∑ i ∈ s, f i : ℝ) : EReal) = ∑ i ∈ s, (f i : EReal) := by
  induction s using Finset.cons_induction with
  | empty => simp
  | cons i s hi ih => rw [Finset.sum_cons, Finset.sum_cons, EReal.coe_add, ih]

/-- A power of two is an exponential. -/
theorem pow_two (a M : ℝ) : Real.rpow 2 (a * (Real.log 2)⁻¹ - M / Real.log 2) = Real.exp (a - M) := by
  have h : Real.log 2 ≠ 0 := (Real.log_pos one_lt_two).ne'
  show (2 : ℝ) ^ (a * (Real.log 2)⁻¹ - M / Real.log 2) = _
  rw [Real.rpow_def_of_pos two_pos]
  congr 1
  field_simp

end Cert.Fox

end
-- ==== Proof.FoxRows.lean ====
module

public import proofs.«01_k».proof.Proof.FoxLanes
public import proofs.«01_k».proof.Proof.FoxReal

@[expose] public section

/-!
  The host's scores and statistics when the arguments are real numbers: they are each head's.
-/
set_option maxRecDepth 16384

noncomputable section

open Idealize.ShloMosaic Idealize.ShloMosaic.TcCoe Idealize.SL.Sem

namespace Cert.Fox

/-- Head `h` of arrays of real numbers. -/
def hd (y0 y1 y2 : (⟨2, ![8192, 512]⟩ : Shape).Idx → ℝ) (y3 : (⟨2, ![8192, 8]⟩ : Shape).Idx → ℝ)
    (y4 : (⟨2, ![8192, 512]⟩ : Shape).Idx → ℝ) (h : Fin 8) : Head where
  q R d := y0 (ix2 R (⟨h.val * 64 + d.val, by omega⟩ : Fin 512))
  k R d := y1 (ix2 R (⟨h.val * 64 + d.val, by omega⟩ : Fin 512))
  v R d := y2 (ix2 R (⟨h.val * 64 + d.val, by omega⟩ : Fin 512))
  c R := y3 (ix2 R h)
  g R d := y4 (ix2 R (⟨h.val * 64 + d.val, by omega⟩ : Fin 512))

/-- An array of real numbers as extended real numbers. -/
def co {s : Shape} (y : s.Idx → ℝ) : FVec Ideal s .f32 := fun i => ((y i : ℝ) : EReal)

theorem co_at {s : Shape} (y : s.Idx → ℝ) (i : s.Idx) : (co y i : EReal) = (y i : ℝ) := rfl

end Cert.Fox

namespace Cert.FoxKernelIdeal.Body

open Cert.FoxKernelIdeal Cert.FoxKernelIdeal.Gen Cert.Fox

variable (y0 y1 y2 y4 : S8192x512.Idx → ℝ) (y3 : S8192x8.Idx → ℝ) (h : Fin 8)

theorem toInt_pos : ∀ n : Fin 8192, (BitVec.ofNat 32 n.val).toInt = (n.val : ℤ) := by decide +kernel

theorem not_after (C r : Fin 8192) :
    IntOp.cmpi CmpIPredicate.sle (BitVec.ofNat 32 r.val) (BitVec.ofNat 32 C.val) = if r.val ≤ C.val then 1#1 else 0#1 := by
  have e : (BitVec.ofNat 32 r.val).sle (BitVec.ofNat 32 C.val) = decide (r.val ≤ C.val) := by
    rw [BitVec.sle_eq_decide, toInt_pos, toInt_pos, decide_eq_decide]
    exact Int.ofNat_le
  show BitVec.ofBool ((BitVec.ofNat 32 r.val).sle (BitVec.ofNat 32 C.val)) = _
  rw [e]
  by_cases hh : r.val ≤ C.val
  · rw [if_pos hh, decide_eq_true hh]; rfl
  · rw [if_neg hh, decide_eq_false hh]; rfl

theorem causal_at (C r : Fin 8192) : causal (ix3 h C r) = if r.val ≤ C.val then 1#1 else 0#1 := by
  unfold causal
  pointwise
  exact not_after C r

theorem bot_bits : Ideal.ofBits .f32 0xFF800000#32 = (⊥ : EReal) := by
  simp [Ideal.ofBits, Ideal.ieee]

theorem two_bits : Ideal.ofBits .f32 0x40000000#32 = ((2 : ℝ) : EReal) := by
  simp [Ideal.ofBits, Ideal.ieee, -EReal.coe_mul]; norm_num

theorem scores_at (C r : Fin 8192) : (scores (co y0) (co y1) (co y3) (ix3 h C r) : EReal) = ((hd y0 y1 y2 y3 y4 h).a C r : ℝ) := by
  unfold scores
  pointwise
  have e : (∑ x : Fin 64, heads (co y0) (ix3 C h x) * heads (co y1) (ix3 r h x) : EReal)
      = ((∑ x : Fin 64, (hd y0 y1 y2 y3 y4 h).q C x * (hd y0 y1 y2 y3 y4 h).k r x : ℝ) : EReal) := by
    rw [coe_sum]
    refine Finset.sum_congr rfl fun x _ => ?_
    rw [heads_at, heads_at, EReal.coe_mul]
    rfl
  rw [eighth_bits]
  refine (congrArg (fun z : EReal => z * ((1 / 8 : ℝ) : EReal) + co y3 (ix2 C h) - co y3 (ix2 r h)) e).trans ?_
  unfold Head.a
  rw [EReal.coe_sub, EReal.coe_add, EReal.coe_mul]
  rfl

theorem masked_at (C r : Fin 8192) : (masked (co y0) (co y1) (co y3) (ix3 h C r) : EReal) = (hd y0 y1 y2 y3 y4 h).s C r := by
  unfold masked
  pointwise
  rw [causal_at, scores_at y0 y1 y2 y4 y3]
  unfold Head.s
  by_cases hh : r.val ≤ C.val
  · rw [if_pos hh, if_pos hh]; rfl
  · rw [if_neg hh, if_neg hh]; exact bot_bits

section Any

variable (s : FVec Ideal S8x8192x8192 .f32)

theorem lift_row (hr : S8x8192x8192.Reduces [2] S8x8192) (C : Fin 8192) (k : Fin (S8x8192x8192.size 2)) :
    hr.lift (ix2 h C) k = ix3 h C (⟨k.val, k.isLt⟩ : Fin 8192) := by
  funext c; apply Fin.ext
  fin_cases c <;> rfl

theorem rowMax_at (C : Fin 8192) :
    (rowMax s (ix2 h C) : EReal) = Finset.univ.fold max ⊥ fun r : Fin 8192 => (s (ix3 h C r) : EReal) := by
  have hr : S8x8192x8192.Reduces [2] S8x8192 := by decide
  unfold rowMax
  rw [Host.reduce_eq_fold_single (FloatOps.maximumf : Ideal .f32 → Ideal .f32 → Ideal .f32) s _ reducesTo_S8x8192x8192_S8x8192_d2 hr h_S_]
  have hf : (s ∘ hr.lift (ix2 h C)) = fun k : Fin 8192 => s (ix3 h C k) := funext fun k => congrArg s (lift_row h hr C k)
  refine (congrArg (fun f => Finset.fold max (Ideal.ofBits .f32 0xFF800000#32) f (Finset.univ : Finset (Fin 8192))) hf).trans ?_
  rw [bot_bits]

theorem output_at (x2 : FVec Ideal S8192x512 .f32) (C : Fin 8192) (d : Fin 64) :
    (output s x2 (ix3 C h d) : EReal) = ∑ x : Fin 8192, (heads x2 (ix3 x h d) * probs s (ix3 h C x) : EReal) := by
  unfold output
  pointwise

theorem rowSum_at (C : Fin 8192) : (rowSum s (ix2 h C) : EReal) = ∑ x : Fin 8192, (weights s (ix3 h C x) : EReal) := by
  unfold rowSum
  pointwise

theorem weights_at (C r : Fin 8192) : (weights s (ix3 h C r) : EReal) = Ideal.exp (s (ix3 h C r) - rowMax s (ix2 h C)) := by
  unfold weights alongRow
  pointwise

theorem probs_at (C r : Fin 8192) : (probs s (ix3 h C r) : EReal) = Ideal.div (weights s (ix3 h C r)) (rowSum s (ix2 h C)) := by
  unfold probs alongRow
  pointwise

theorem recip_at (C : Fin 8192) : (recip s (ix2 h C) : EReal) = Ideal.div 1 (rowSum s (ix2 h C)) := by
  unfold recip
  pointwise

theorem shift_at (C : Fin 8192) :
    (shift s (ix2 h C) : EReal) = Ideal.div (rowMax s (ix2 h C)) (Ideal.log (Ideal.ofBits .f32 0x40000000#32)) := by
  unfold shift
  pointwise

theorem delta_at (x2 x4 : FVec Ideal S8192x512 .f32) (C : Fin 8192) :
    (delta s x2 x4 (ix2 h C) : EReal) = ∑ x : Fin 64, (output s x2 (ix3 C h x) * heads x4 (ix3 C h x) : EReal) := by
  unfold delta
  pointwise

end Any

/-- The exponential of a score less the row's largest is the head's. -/
theorem exp_score (H : Head) (C r : Fin 8192) : Ideal.exp (H.s C r - (H.M C : EReal)) = (H.w C r : ℝ) := by
  unfold Head.s Head.w
  by_cases hh : r.val ≤ C.val
  · rw [if_pos hh, if_pos hh, ← EReal.coe_sub]; rfl
  · rw [if_neg hh, if_neg hh]; rfl

section Of

theorem rowMax_real (C : Fin 8192) : (rowMax (masked (co y0) (co y1) (co y3)) (ix2 h C) : EReal) = ((hd y0 y1 y2 y3 y4 h).M C : ℝ) := by
  rw [rowMax_at, ← Head.m_eq]
  unfold Head.m
  exact congrArg (fun f => Finset.fold max ⊥ f Finset.univ) (funext fun r => masked_at y0 y1 y2 y4 y3 h C r)

theorem weights_real (C r : Fin 8192) :
    (weights (masked (co y0) (co y1) (co y3)) (ix3 h C r) : EReal) = ((hd y0 y1 y2 y3 y4 h).w C r : ℝ) := by
  rw [weights_at, rowMax_real y0 y1 y2 y4 y3, masked_at y0 y1 y2 y4 y3]
  exact exp_score _ C r

theorem rowSum_real (C : Fin 8192) : (rowSum (masked (co y0) (co y1) (co y3)) (ix2 h C) : EReal) = ((hd y0 y1 y2 y3 y4 h).L C : ℝ) := by
  rw [rowSum_at]
  unfold Head.L
  rw [coe_sum]
  exact Finset.sum_congr rfl fun r _ => weights_real y0 y1 y2 y4 y3 h C r

/-- A quotient of real numbers. -/
theorem div_real {x y : ℝ} (hy : y ≠ 0) : Ideal.div (x : EReal) (y : EReal) = ((x / y : ℝ) : EReal) := by
  rw [Ideal.div_coe hy, ← EReal.coe_mul, mul_one_div]

theorem probs_real (C r : Fin 8192) :
    (probs (masked (co y0) (co y1) (co y3)) (ix3 h C r) : EReal) = ((hd y0 y1 y2 y3 y4 h).p C r : ℝ) := by
  rw [probs_at, rowSum_real y0 y1 y2 y4 y3, weights_real y0 y1 y2 y4 y3, div_real (Head.L_pos _ C).ne']
  rfl

theorem recip_real (C : Fin 8192) :
    (recip (masked (co y0) (co y1) (co y3)) (ix2 h C) : EReal) = ((1 / (hd y0 y1 y2 y3 y4 h).L C : ℝ) : EReal) := by
  rw [recip_at, rowSum_real y0 y1 y2 y4 y3, ← EReal.coe_one, div_real (Head.L_pos _ C).ne']

theorem shift_real (C : Fin 8192) :
    (shift (masked (co y0) (co y1) (co y3)) (ix2 h C) : EReal) = (((hd y0 y1 y2 y3 y4 h).M C / Real.log 2 : ℝ) : EReal) := by
  have e : Ideal.log ((2 : ℝ) : EReal) = ((Real.log 2 : ℝ) : EReal) := by
    rw [Ideal.log_coe, if_neg (by norm_num)]
  rw [shift_at, rowMax_real y0 y1 y2 y4 y3, two_bits, e, div_real (Real.log_pos one_lt_two).ne']

theorem output_real (C : Fin 8192) (d : Fin 64) : (output (masked (co y0) (co y1) (co y3)) (co y2) (ix3 C h d) : EReal)
    = ((∑ r, (hd y0 y1 y2 y3 y4 h).v r d * (hd y0 y1 y2 y3 y4 h).p C r : ℝ) : EReal) := by
  rw [output_at, coe_sum]
  refine Finset.sum_congr rfl fun r _ => ?_
  rw [probs_real y0 y1 y2 y4 y3, heads_at, EReal.coe_mul]
  rfl

theorem delta_real (C : Fin 8192) : (delta (masked (co y0) (co y1) (co y3)) (co y2) (co y4) (ix2 h C) : EReal)
    = ((hd y0 y1 y2 y3 y4 h).δ C : ℝ) := by
  rw [delta_at, ← Head.delta_eq, coe_sum]
  refine Finset.sum_congr rfl fun d _ => ?_
  rw [output_real y0 y1 y2 y4 y3, heads_at, EReal.coe_mul]
  rfl

end Of

end Cert.FoxKernelIdeal.Body

end
-- ==== Proof.FoxGrad.lean ====
module

public import proofs.«01_k».proof.Proof.FoxRows

@[expose] public section

/-!
  The kernel's four results when the arguments are real numbers: they are each head's gradients.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.FoxKernelIdeal.Tile Cert.Fox

/-- The lanes that hold a head's own columns, and those that hold its feature columns. -/
def ow (e : Fin 2) (d : Fin 64) : Fin 128 := if e.val = 0 then ⟨d.val, by omega⟩ else ⟨64 + d.val, by omega⟩
def ft (e : Fin 2) (d : Fin 64) : Fin 128 := if e.val = 0 then ⟨64 + d.val, by omega⟩ else ⟨d.val, by omega⟩

theorem two_cases {P : Fin 2 → Prop} (h0 : P 0) (h1 : P 1) : ∀ e, P e
  | ⟨0, _⟩ => h0
  | ⟨1, _⟩ => h1

theorem sum_lanes (f : Fin 128 → EReal) : ∀ e : Fin 2, ∑ l, f l = ∑ d, f (ow e d) + ∑ d, f (ft e d) := by
  have h : ∑ l, f l = ∑ d : Fin 64, f ⟨d.val, by omega⟩ + ∑ d : Fin 64, f ⟨64 + d.val, by omega⟩ := by
    exact Fin.sum_univ_add (a := 64) (b := 64) f
  exact two_cases h (h.trans (add_comm _ _))

/-- What the region's operands of head `e` of a pair, at tile `j` of its keys, say of a head. -/
structure Holds (e : Fin 2) (j : Fin 8) (x0 x1 : Pair) (x2 : Stats) (K V : Rows) (H : Head) : Prop where
  q : ∀ C d, (x0 (ix2 C (lane e (ow e d))) : EReal) = ((H.q C d * (1 / 8) : ℝ) : EReal)
  qf : ∀ C d, (x0 (ix2 C (lane e (ft e d))) : EReal) = (qf (H.c C) d : ℝ)
  g : ∀ C d, (x1 (ix2 C (lane e (ow e d))) : EReal) = (H.g C d : ℝ)
  gf : ∀ C d, (x1 (ix2 C (lane e (ft e d))) : EReal) = ((0 : ℝ) : EReal)
  k : ∀ r d, (K (ix2 r (ow e d)) : EReal) = (H.k (rowOf j r) d : ℝ)
  kf : ∀ r d, (K (ix2 r (ft e d)) : EReal) = (kf (H.c (rowOf j r)) d : ℝ)
  v : ∀ r d, (V (ix2 r (ow e d)) : EReal) = (H.v (rowOf j r) d : ℝ)
  vf : ∀ r d, (V (ix2 r (ft e d)) : EReal) = (vf d : ℝ)
  sh : ∀ C, (x2 (ix3 0 (srow 0 e) C) : EReal) = ((H.M C / Real.log 2 : ℝ) : EReal)
  de : ∀ C, (x2 (ix3 0 (srow 1 e) C) : EReal) = (H.δ C : ℝ)
  il : ∀ C, (x2 (ix3 0 (srow 2 e) C) : EReal) = ((1 / H.L C : ℝ) : EReal)

namespace Holds

variable {e : Fin 2} {j : Fin 8} {x0 x1 : Pair} {x2 : Stats} {K V : Rows} {H : Head} (hH : Holds e j x0 x1 x2 K V H)

include hH

theorem score (r : Fin 1024) (C : Fin 8192) : gdot e K x0 r C = (H.a C (rowOf j r) : ℝ) := by
  unfold gdot
  rw [sum_lanes _ e]
  simp only [hH.q, hH.qf, hH.k, hH.kf, ← EReal.coe_mul, ← coe_sum]
  rw [feat_dot, ← EReal.coe_add]
  refine congrArg _ ?_
  unfold Head.a
  rw [Finset.sum_mul, add_sub_assoc]
  congr 1
  exact Finset.sum_congr rfl fun d _ => by ring

theorem grad (r : Fin 1024) (C : Fin 8192) : gdot e V x1 r C = (H.dp C (rowOf j r) : ℝ) := by
  unfold gdot
  rw [sum_lanes _ e]
  simp only [hH.g, hH.gf, hH.v, hH.vf, ← EReal.coe_mul, ← coe_sum, mul_zero, Finset.sum_const_zero]
  rw [← EReal.coe_add, add_zero]
  refine congrArg _ ?_
  unfold Head.dp
  exact Finset.sum_congr rfl fun d _ => by ring

theorem weight (r : Fin 1024) (C : Fin 8192) : gP j e K x0 x2 r C = (H.p C (rowOf j r) : ℝ) := by
  unfold gP Head.p Head.w
  by_cases h : (rowOf j r).val ≤ C.val
  · have hl : log2e = ((Real.log 2)⁻¹ : ℝ) := rfl
    rw [if_pos h, if_pos h, hH.score, hH.sh, hH.il, hl, ← EReal.coe_mul, ← EReal.coe_sub, Ideal.exp2_coe, pow_two, ← EReal.coe_mul, mul_one_div]
  · rw [if_neg h, if_neg h, zero_div, EReal.coe_zero]

theorem scoreGrad (r : Fin 1024) (C : Fin 8192) : gD j e K V x0 x1 x2 r C = (H.ds C (rowOf j r) : ℝ) := by
  unfold gD Head.ds
  rw [hH.weight, hH.grad, hH.de, ← EReal.coe_sub, ← EReal.coe_mul]

theorem keyGrad (r : Fin 1024) (d : Fin 64) : ∑ C, cdk j e K V x0 x1 x2 r (ow e d) C = (H.dk (rowOf j r) d : ℝ) := by
  unfold cdk Head.dk
  simp only [hH.scoreGrad, hH.q, ← EReal.coe_mul, ← coe_sum]
  exact congrArg _ (Finset.sum_congr rfl fun C _ => by ring)

theorem valueGrad (r : Fin 1024) (d : Fin 64) : ∑ C, cdv j e K x0 x1 x2 r (ow e d) C = (H.dv (rowOf j r) d : ℝ) := by
  unfold cdv Head.dv
  simp only [hH.weight, hH.g, ← EReal.coe_mul, ← coe_sum]
  exact congrArg _ (Finset.sum_congr rfl fun C _ => by ring)

theorem queryGrad (C : Fin 8192) (d : Fin 64) : cdq j e K V x0 x1 x2 C (ow e d) * eighth
    = ((∑ r : Fin 1024, H.ds C (rowOf j r) * (1 / 8) * H.k (rowOf j r) d : ℝ) : EReal) := by
  have he : eighth = ((1 / 8 : ℝ) : EReal) := eighth_bits
  unfold cdq
  simp only [hH.scoreGrad, hH.k, ← EReal.coe_mul, ← coe_sum, he]
  refine congrArg _ ?_
  rw [Finset.sum_mul]
  exact Finset.sum_congr rfl fun r _ => by ring

theorem gateGrad (r : Fin 1024) : 0 - ∑ C, gD j e K V x0 x1 x2 r C = (H.dc (rowOf j r) : ℝ) := by
  unfold Head.dc
  simp only [hH.scoreGrad, ← coe_sum]
  rw [← EReal.coe_zero, ← EReal.coe_sub, zero_sub, Finset.sum_neg_distrib]

end Holds

section Two

variable (own feat : FVec Ideal S8192x8x64 .f32) (R : Fin 8192) (p : Fin 4) (d : Fin 64)

theorem two_own : ∀ e : Fin 2, (pairRows (twoHalves own feat) p (ix2 R (lane e (ow e d))) : EReal) = own (ix3 R (headOf p e) d) :=
  two_cases (two_own_even own feat R p d) (two_own_odd own feat R p d)

theorem two_feat : ∀ e : Fin 2, (pairRows (twoHalves own feat) p (ix2 R (lane e (ft e d))) : EReal) = feat (ix3 R (headOf p e) d) :=
  two_cases (two_feat_even own feat R p d) (two_feat_odd own feat R p d)

theorem tile_own (j : Fin 8) (r : Fin 1024) : ∀ e : Fin 2,
    (half e (tileRows (twoHalves own feat) p j) (ix2 r (ow e d)) : EReal) = own (ix3 (rowOf j r) (headOf p e) d) :=
  two_cases (two_own_even own feat (rowOf j r) p d) (two_own_odd own feat (rowOf j r) p d)

theorem tile_feat (j : Fin 8) (r : Fin 1024) : ∀ e : Fin 2,
    (half e (tileRows (twoHalves own feat) p j) (ix2 r (ft e d)) : EReal) = feat (ix3 (rowOf j r) (headOf p e) d) :=
  two_cases (two_feat_even own feat (rowOf j r) p d) (two_feat_odd own feat (rowOf j r) p d)

end Two

section Of

variable (y0 y1 y2 y4 : S8192x512.Idx → ℝ) (y3 : S8192x8.Idx → ℝ)

theorem scaled_at (R : Fin 8192) (h : Fin 8) (d : Fin 64) :
    (mulf (heads (co y0)) eighths (ix3 R h d) : EReal) = ((y0 (ix2 R (⟨h.val * 64 + d.val, by omega⟩ : Fin 512)) * (1 / 8) : ℝ) : EReal) := by
  have e : (mulf (heads (co y0)) eighths (ix3 R h d) : EReal) = heads (co y0) (ix3 R h d) * Ideal.ofBits .f32 0x3E000000#32 := by
    unfold eighths
    pointwise
  rw [e, heads_at, eighth_bits, EReal.coe_mul]
  rfl

theorem holds (p : Fin 4) (e : Fin 2) (j : Fin 8) :
    Holds e j (pairRows (twoHalves (mulf (heads (co y0)) eighths) (qFeat (co y3))) p) (pairRows (twoHalves (heads (co y4)) zeros64) p)
      (pairStats (stats (masked (co y0) (co y1) (co y3)) (co y2) (co y4)) p)
      (half e (tileRows (twoHalves (heads (co y1)) (kFeat (co y3))) p j)) (half e (tileRows (twoHalves (heads (co y2)) vFeat) p j))
      (hd y0 y1 y2 y3 y4 (headOf p e)) where
  q C d := (two_own _ _ C p d e).trans (scaled_at y0 C (headOf p e) d)
  qf C d := (two_feat _ _ C p d e).trans (qFeat_at (co y3) C (headOf p e) rfl d)
  g C d := (two_own _ _ C p d e).trans (heads_at (co y4) C (headOf p e) d)
  gf C d := (two_feat _ _ C p d e).trans (zeros64_at C (headOf p e) d)
  k r d := (tile_own _ _ p d j r e).trans (heads_at (co y1) (rowOf j r) (headOf p e) d)
  kf r d := (tile_feat _ _ p d j r e).trans (kFeat_at (co y3) (rowOf j r) (headOf p e) rfl d)
  v r d := (tile_own _ _ p d j r e).trans (heads_at (co y2) (rowOf j r) (headOf p e) d)
  vf r d := (tile_feat _ _ p d j r e).trans (vFeat_at (rowOf j r) (headOf p e) d)
  sh C := (cat4_at _ _ _ _ p 0 e C).trans ((if_pos rfl).trans ((inPairs_at _ p e C).trans (shift_real y0 y1 y2 y4 y3 (headOf p e) C)))
  de C := (cat4_at _ _ _ _ p 1 e C).trans ((if_neg (by decide)).trans ((if_pos rfl).trans
    ((inPairs_at _ p e C).trans (delta_real y0 y1 y2 y4 y3 (headOf p e) C))))
  il C := (cat4_at _ _ _ _ p 2 e C).trans ((if_neg (by decide)).trans ((if_neg (by decide)).trans
    ((inPairs_at _ p e C).trans (recip_real y0 y1 y2 y4 y3 (headOf p e) C))))

end Of

section Final

variable (m : (ℓ : Loc nD τ sig) → Buf (Elt Ideal) ℓ) (c : Dev nD)
variable {y0 y1 y2 y4 : S8192x512.Idx → ℝ} {y3 : S8192x8.Idx → ℝ}

/-- The arguments are these real numbers. -/
structure Reals (y0 y1 y2 y4 : S8192x512.Idx → ℝ) (y3 : S8192x8.Idx → ℝ) : Prop where
  a0 : (m ((c.tc : Thread nD τ).loc main_arg0) : FVec Ideal S8192x512 .f32) = co y0
  a1 : (m ((c.tc : Thread nD τ).loc main_arg1) : FVec Ideal S8192x512 .f32) = co y1
  a2 : (m ((c.tc : Thread nD τ).loc main_arg2) : FVec Ideal S8192x512 .f32) = co y2
  a3 : (m ((c.tc : Thread nD τ).loc main_arg3) : FVec Ideal S8192x8 .f32) = co y3
  a4 : (m ((c.tc : Thread nD τ).loc main_arg4) : FVec Ideal S8192x512 .f32) = co y4

variable (hy : Reals m c y0 y1 y2 y4 y3)

include hy in
theorem holds_at (p : Fin 4) (e : Fin 2) (j : Fin 8) :
    Holds e j (pairRows (V m c main_v74) p) (pairRows (V m c main_v114) p) (pairStats (V m c main_v46) p)
      (half e (tileRows (V m c main_v89) p j)) (half e (tileRows (V m c main_v102) p j)) (hd y0 y1 y2 y3 y4 (headOf p e)) := by
  rw [entry_q, entry_k, entry_v, entry_do, entry_stats, hy.a0, hy.a1, hy.a2, hy.a3, hy.a4]
  exact holds y0 y1 y2 y4 y3 p e j

theorem byHead_ow (d : Fin 64) (f : Fin 2 → EReal) : ∀ e : Fin 2, byHead (ow e d) (f 0) (f 1) = f e :=
  two_cases (if_pos d.isLt) (if_neg (by show ¬ 64 + d.val < 64; omega))

/-- The column of head `e` of pair `p`. -/
def colH (h : Fin 8) (d : Fin 64) : Fin 512 := ⟨h.val * 64 + d.val, by omega⟩

theorem colPair_at (p : Fin 4) (d : Fin 64) : ∀ e : Fin 2, colPair (colH (headOf p e) d) = p :=
  two_cases (Fin.ext (by simp only [colPair, colH, headOf]; show ((2 * p.val + 0) * 64 + d.val) / 128 = p.val; omega))
    (Fin.ext (by simp only [colPair, colH, headOf]; show ((2 * p.val + 1) * 64 + d.val) / 128 = p.val; omega))

theorem colLane_at (p : Fin 4) (d : Fin 64) : ∀ e : Fin 2, colLane (colH (headOf p e) d) = ow e d :=
  two_cases (Fin.ext (by simp only [colLane, colH, headOf]; show ((2 * p.val + 0) * 64 + d.val) % 128 = d.val; omega))
    (Fin.ext (by simp only [colLane, colH, headOf]; show ((2 * p.val + 1) * 64 + d.val) % 128 = 64 + d.val; omega))

theorem row_at (R : Fin 8192) : rowOf (rowTile R) (rowIn R) = R :=
  Fin.ext (by simp only [rowOf, rowTile, rowIn]; omega)

include hy in
theorem dk_real (R : Fin 8192) (p : Fin 4) (e : Fin 2) (d : Fin 64) :
    dkK m c (ix2 R (colH (headOf p e) d)) = ((hd y0 y1 y2 y3 y4 (headOf p e)).dk R d : ℝ) := by
  show dkP m c (colPair (colH (headOf p e) d)) (rowTile R) (rowIn R) (colLane (colH (headOf p e) d)) = _
  rw [colPair_at, colLane_at]
  unfold dkP dkT
  refine (byHead_ow d (fun e' => ∑ C, cdk (rowTile R) e' (half e' (tileRows (V m c main_v89) p (rowTile R)))
    (half e' (tileRows (V m c main_v102) p (rowTile R))) (pairRows (V m c main_v74) p) (pairRows (V m c main_v114) p)
    (pairStats (V m c main_v46) p) (rowIn R) (ow e d) C) e).trans ?_
  rw [(holds_at m c hy p e (rowTile R)).keyGrad, row_at]

include hy in
theorem dv_real (R : Fin 8192) (p : Fin 4) (e : Fin 2) (d : Fin 64) :
    dvK m c (ix2 R (colH (headOf p e) d)) = ((hd y0 y1 y2 y3 y4 (headOf p e)).dv R d : ℝ) := by
  show dvP m c (colPair (colH (headOf p e) d)) (rowTile R) (rowIn R) (colLane (colH (headOf p e) d)) = _
  rw [colPair_at, colLane_at]
  unfold dvP dvT
  refine (byHead_ow d (fun e' => ∑ C, cdv (rowTile R) e' (half e' (tileRows (V m c main_v89) p (rowTile R)))
    (pairRows (V m c main_v74) p) (pairRows (V m c main_v114) p)
    (pairStats (V m c main_v46) p) (rowIn R) (ow e d) C) e).trans ?_
  rw [(holds_at m c hy p e (rowTile R)).valueGrad, row_at]

include hy in
theorem dq_real (R : Fin 8192) (p : Fin 4) (e : Fin 2) (d : Fin 64) :
    dqK m c (ix2 R (colH (headOf p e) d)) = ((hd y0 y1 y2 y3 y4 (headOf p e)).dq R d : ℝ) := by
  show ∑ j : Fin 8, dqP m c (colPair (colH (headOf p e) d)) j R (colLane (colH (headOf p e) d)) = _
  rw [colPair_at, colLane_at]
  have h : ∀ j : Fin 8, dqP m c p j R (ow e d) = ((∑ r : Fin 1024, (hd y0 y1 y2 y3 y4 (headOf p e)).ds R (rowOf j r) * (1 / 8)
      * (hd y0 y1 y2 y3 y4 (headOf p e)).k (rowOf j r) d : ℝ) : EReal) := by
    intro j
    unfold dqP cdqT cdqs
    refine (congrArg (· * eighth) (byHead_ow d (fun e' => cdq j e' (half e' (tileRows (V m c main_v89) p j))
      (half e' (tileRows (V m c main_v102) p j)) (pairRows (V m c main_v74) p) (pairRows (V m c main_v114) p)
      (pairStats (V m c main_v46) p) R (ow e d)) e)).trans ?_
    exact (holds_at m c hy p e j).queryGrad R d
  rw [Finset.sum_congr rfl fun j _ => h j, ← coe_sum]
  refine congrArg _ ?_
  unfold Head.dq
  exact (Fin.sum_univ_tiles 8 1024 rfl fun r => (hd y0 y1 y2 y3 y4 (headOf p e)).ds R r * (1 / 8)
      * (hd y0 y1 y2 y3 y4 (headOf p e)).k r d).symm

include hy in
theorem dc_real (R : Fin 8192) (p : Fin 4) (l : Fin 128) :
    dcK m c (ix2 R (⟨p.val * 128 + l.val, by omega⟩ : Fin 512)) = if h : l.val < 2 then
      ((hd y0 y1 y2 y3 y4 (headOf p ⟨l.val, h⟩)).dc R : EReal) else 0 := by
  show dcP m c (colPair ⟨p.val * 128 + l.val, by omega⟩) (rowTile R) (rowIn R) (colLane ⟨p.val * 128 + l.val, by omega⟩) = _
  have hp : colPair ⟨p.val * 128 + l.val, by omega⟩ = p := Fin.ext (by simp only [colPair]; omega)
  have hl : colLane ⟨p.val * 128 + l.val, by omega⟩ = l := Fin.ext (by simp only [colLane]; omega)
  rw [hp, hl]
  unfold dcP dcT
  by_cases h0 : l.val = 0
  · have hh : l.val < 2 := by omega
    have hf : (⟨l.val, hh⟩ : Fin 2) = 0 := Fin.ext h0
    rw [if_pos h0, dif_pos hh, hf, (holds_at m c hy p 0 (rowTile R)).gateGrad, row_at]
  by_cases h1 : l.val = 1
  · have hh : l.val < 2 := by omega
    have hf : (⟨l.val, hh⟩ : Fin 2) = 1 := Fin.ext h1
    rw [if_neg h0, if_pos h1, dif_pos hh, hf, (holds_at m c hy p 1 (rowTile R)).gateGrad, row_at]
  · rw [if_neg h0, if_neg h1, dif_neg (by omega)]

end Final

end Cert.FoxKernelIdeal.Body

end
-- ==== Proof.FoxRef.lean ====
module

public import proofs.«01_k».proof.Proof.FoxRows
public import proofs.«01_k».proof.Proof.Gen.FoxReferenceIdeal.Read

@[expose] public section

/-!
  The reference's four results when the arguments are real numbers: they are each head's gradients.
-/
set_option maxRecDepth 16384

noncomputable section

open Idealize.ShloMosaic Idealize.ShloMosaic.TcCoe Idealize.SL.Sem

namespace Cert.FoxReferenceIdeal.Grad

open Cert.FoxReferenceIdeal Cert.FoxReferenceIdeal.Gen Cert.FoxReferenceIdeal.Read Cert.Fox
open Cert.FoxKernelIdeal.Body (not_after bot_bits div_real exp_score)
open Cert.FoxKernelIdeal.Body (eighth_bits headOf)

theorem heads_at (x : FVec Ideal S8192x512 .f32) (R : Fin 8192) (h : Fin 8) (d : Fin 64) :
    (shapeCast S8192x8x64 x shapeCasts_S8192x512_S8192x8x64 (ix3 R h d) : EReal) = x (ix2 R (⟨h.val * 64 + d.val, by omega⟩ : Fin 512)) := by
  refine shapeCast_apply x _ _ _ ?_
  rw [Shape.rowMajor_val_two, Shape.rowMajor_val_three]
  show R.val * 512 + (h.val * 64 + d.val) = (R.val * 8 + h.val) * 64 + d.val
  omega

theorem flat_at (x : FVec Ideal S8192x8x64 .f32) (R : Fin 8192) (h : Fin 8) (d : Fin 64) :
    (shapeCast S8192x512 x shapeCasts_S8192x8x64_S8192x512 (ix2 R (⟨h.val * 64 + d.val, by omega⟩ : Fin 512)) : EReal) = x (ix3 R h d) := by
  refine shapeCast_apply x _ _ _ ?_
  rw [Shape.rowMajor_val_two, Shape.rowMajor_val_three]
  show (R.val * 8 + h.val) * 64 + d.val = R.val * 512 + (h.val * 64 + d.val)
  omega

theorem last_at (x : FVec Ideal S8x8192 .f32) (h : Fin 8) (C : Fin 8192) (u : Fin 1) :
    (shapeCast S8x8192x1 x shapeCasts_S8x8192_S8x8192x1 (ix3 h C u) : EReal) = x (ix2 h C) := by
  refine shapeCast_apply x _ _ _ ?_
  rw [Shape.rowMajor_val_two, Shape.rowMajor_val_three]
  show h.val * 8192 + C.val = (h.val * 8192 + C.val) * 1 + u.val
  omega

theorem middle_at (x : FVec Ideal S8x8192 .f32) (h : Fin 8) (C : Fin 8192) (u : Fin 1) :
    (shapeCast S8x1x8192 x shapeCasts_S8x8192_S8x1x8192 (ix3 h u C) : EReal) = x (ix2 h C) := by
  refine shapeCast_apply x _ _ _ ?_
  rw [Shape.rowMajor_val_two, Shape.rowMajor_val_three]
  show h.val * 8192 + C.val = (h.val * 1 + u.val) * 8192 + C.val
  omega

/-- The real arguments as the reference's arrays. -/
abbrev A (y : (⟨2, ![8192, 512]⟩ : Shape).Idx → ℝ) : (⟨S8192x512, .f32⟩ : BufTy).Contents (Elt Ideal) := (co y : FVec Ideal S8192x512 .f32)
abbrev A8 (y : (⟨2, ![8192, 8]⟩ : Shape).Idx → ℝ) : (⟨S8192x8, .f32⟩ : BufTy).Contents (Elt Ideal) := (co y : FVec Ideal S8192x8 .f32)

variable (y0 y1 y2 y4 : (⟨2, ![8192, 512]⟩ : Shape).Idx → ℝ) (y3 : (⟨2, ![8192, 8]⟩ : Shape).Idx → ℝ) (h : Fin 8) (C r : Fin 8192)

theorem causal_at : (val_main_v21_1 (F := Ideal) (ix3 h C r)) = if r.val ≤ C.val then 1#1 else 0#1 := by
  pointwise [val_main_v21_1, val_main_v20, val_main_v19, val_main_v18, val_main_v17, val_main_v16, val_main_v15, val_main_v14]
  exact not_after C r

theorem dot_at (C r : Fin 8192) : (val_main_v3 (A y0) (A y1) (ix3 h C r) : EReal)
    = ((∑ d, (hd y0 y1 y2 y3 y4 h).q C d * (hd y0 y1 y2 y3 y4 h).k r d : ℝ) : EReal) := by
  pointwise [val_main_v3, val_main_v0, val_main_v1]
  rw [coe_sum]
  refine Finset.sum_congr (M := EReal) rfl fun x _ => ?_
  rw [EReal.coe_mul]
  rfl

theorem scores_at (C r : Fin 8192) : (val_main_v13 (A y0) (A y1) (A8 y3) (ix3 h C r) : EReal) = ((hd y0 y1 y2 y3 y4 h).a C r : ℝ) := by
  pointwise [val_main_v13, val_main_v12, val_main_v11, val_main_v10, val_main_v9, val_main_v8, val_main_v7, val_main_v6, val_main_v5, val_main_v4, val_main_cst]
  rw [eighth_bits]
  refine (congrArg (fun z : EReal => z * ((1 / 8 : ℝ) : EReal) + A8 y3 (ix2 C h) - A8 y3 (ix2 r h)) (dot_at y0 y1 y2 y4 y3 h C r)).trans ?_
  unfold Head.a
  rw [EReal.coe_sub, EReal.coe_add, EReal.coe_mul]
  rfl

theorem masked_at (C r : Fin 8192) : (val_main_v21_0 (A y0) (A y1) (A8 y3) (ix3 h C r) : EReal) = (hd y0 y1 y2 y3 y4 h).s C r := by
  pointwise [val_main_v21_0, val_main_call0_v2, val_main_call0_v0, val_main_cst_0]
  rw [causal_at, scores_at y0 y1 y2 y4 y3]
  unfold Head.s
  by_cases hh : r.val ≤ C.val
  · rw [if_pos hh, if_pos hh]; rfl
  · rw [if_neg hh, if_neg hh]; exact bot_bits

/-- The largest entry of each row. -/
def rowTop (s : FVec Ideal S8x8192x8192 .f32) : FVec Ideal S8x8192 .f32 :=
  Host.reduce FloatOps.maximumf s (constant S_ .f32 0xFF800000#32) reducesTo_S8x8192x8192_S8x8192_d2 h_S_

theorem fold_at (s : FVec Ideal S8x8192x8192 .f32) :
    (rowTop s (ix2 h C) : EReal) = Finset.univ.fold max ⊥ fun r : Fin 8192 => (s (ix3 h C r) : EReal) := by
  unfold rowTop
  have hr : S8x8192x8192.Reduces [2] S8x8192 := by decide
  rw [Host.reduce_eq_fold_single (FloatOps.maximumf : Ideal .f32 → Ideal .f32 → Ideal .f32) s _ reducesTo_S8x8192x8192_S8x8192_d2 hr h_S_]
  have hl : ∀ k : Fin 8192, hr.lift (ix2 h C) k = ix3 h C k := by
    intro k
    funext c; apply Fin.ext
    fin_cases c <;> rfl
  have hf : (s ∘ hr.lift (ix2 h C)) = fun k : Fin 8192 => s (ix3 h C k) := funext fun k => congrArg s (hl k)
  refine (congrArg (fun f => Finset.fold max (Ideal.ofBits .f32 0xFF800000#32) f (Finset.univ : Finset (Fin 8192))) hf).trans ?_
  rw [bot_bits]

theorem top_at : (val_main_v22 (A y0) (A y1) (A8 y3) (ix2 h C) : EReal) = ((hd y0 y1 y2 y3 y4 h).M C : ℝ) := by
  rw [← Head.m_eq]
  unfold Head.m
  have e := fold_at h C (val_main_v21_0 (A y0) (A y1) (A8 y3))
  refine Eq.trans ?_ (e.trans (congrArg (fun f => Finset.fold max ⊥ f Finset.univ) (funext fun r => masked_at y0 y1 y2 y4 y3 h C r)))
  rfl

theorem max_at : (val_main_v29 (A y0) (A y1) (A8 y3) (ix2 h C) : EReal) = ((hd y0 y1 y2 y3 y4 h).M C : ℝ) := by
  rw [val_main_v29_apply, val_main_v28_apply, val_main_cst_3_apply, top_at y0 y1 y2 y4 y3]
  show max (Ideal.ofBits .f32 0xFF800000#32) (((hd y0 y1 y2 y3 y4 h).M C : ℝ) : EReal) = _
  rw [bot_bits]
  exact max_eq_right bot_le

theorem weights_at (C r : Fin 8192) : (val_main_v42 (A y0) (A y1) (A8 y3) (ix3 h C r) : EReal) = ((hd y0 y1 y2 y3 y4 h).w C r : ℝ) := by
  pointwise [val_main_v42, val_main_v41, val_main_v40, val_main_v39]
  rw [masked_at y0 y1 y2 y4 y3, max_at y0 y1 y2 y4 y3]
  exact exp_score _ C r

theorem sum_at (C : Fin 8192) : (val_main_v43 (A y0) (A y1) (A8 y3) (ix2 h C) : EReal) = ((hd y0 y1 y2 y3 y4 h).L C : ℝ) := by
  pointwise [val_main_v43, val_main_cst_9]
  unfold Head.L
  rw [coe_sum]
  exact Finset.sum_congr (M := EReal) rfl fun r _ => weights_at y0 y1 y2 y4 y3 h C r

theorem probs_at (C r : Fin 8192) : (val_main_v46 (A y0) (A y1) (A8 y3) (ix3 h C r) : EReal) = ((hd y0 y1 y2 y3 y4 h).p C r : ℝ) := by
  pointwise [val_main_v46, val_main_v45, val_main_v44]
  rw [sum_at y0 y1 y2 y4 y3, weights_at y0 y1 y2 y4 y3, div_real (Head.L_pos _ C).ne']
  rfl

theorem dp_at (C r : Fin 8192) : (val_main_v54 (A y2) (A y4) (ix3 h C r) : EReal) = ((hd y0 y1 y2 y3 y4 h).dp C r : ℝ) := by
  pointwise [val_main_v54, val_main_v53, val_main_v52, val_main_v2]
  unfold Head.dp
  rw [coe_sum]
  refine Finset.sum_congr (M := EReal) rfl fun x _ => ?_
  rw [EReal.coe_mul]
  rfl

theorem mean_at (C : Fin 8192) : (val_main_v60 (A y0) (A y1) (A y2) (A8 y3) (A y4) (ix2 h C) : EReal)
    = ((∑ r, (hd y0 y1 y2 y3 y4 h).dp C r * (1 / ((hd y0 y1 y2 y3 y4 h).L C * (hd y0 y1 y2 y3 y4 h).L C)) * (hd y0 y1 y2 y3 y4 h).w C r : ℝ) : EReal) := by
  pointwise [val_main_v60, val_main_v59, val_main_v58, val_main_v57, val_main_v49, val_main_v48, val_main_v47, val_main_v44, val_main_cst_10, val_main_cst_11]
  rw [coe_sum]
  refine Finset.sum_congr (M := EReal) rfl fun r _ => ?_
  have hL := (Head.L_pos (hd y0 y1 y2 y3 y4 h) C).ne'
  rw [sum_at y0 y1 y2 y4 y3, dp_at y0 y1 y2 y4 y3, weights_at y0 y1 y2 y4 y3, ← EReal.coe_mul, ← EReal.coe_one, div_real (mul_ne_zero hL hL),
    ← EReal.coe_mul, ← EReal.coe_mul]

theorem back_at (C : Fin 8192) : (val_main_v65 (A y0) (A y1) (A y2) (A8 y3) (A y4) (ix2 h C) : EReal)
    = ((-∑ r, (hd y0 y1 y2 y3 y4 h).dp C r * (1 / ((hd y0 y1 y2 y3 y4 h).L C * (hd y0 y1 y2 y3 y4 h).L C)) * (hd y0 y1 y2 y3 y4 h).w C r : ℝ) : EReal) := by
  pointwise [val_main_v65, val_main_v62, val_main_v61, val_main_cst_12]
  rw [mean_at y0 y1 y2 y4 y3, EReal.coe_neg]
  exact Fin.sum_univ_one (M := EReal) _

theorem ds_at (C r : Fin 8192) : (val_main_v69 (A y0) (A y1) (A y2) (A8 y3) (A y4) (ix3 h C r) : EReal) = ((hd y0 y1 y2 y3 y4 h).ds C r : ℝ) := by
  pointwise [val_main_v69, val_main_v68, val_main_v67, val_main_v66, val_main_v64, val_main_v63, val_main_v44, val_main_call1_v0, val_main_call1_cst]
  rw [causal_at, back_at y0 y1 y2 y4 y3, sum_at y0 y1 y2 y4 y3, dp_at y0 y1 y2 y4 y3, weights_at y0 y1 y2 y4 y3, div_real (Head.L_pos _ C).ne',
    ← EReal.coe_add, ← EReal.coe_mul, Head.ds_eq]
  by_cases hh : r.val ≤ C.val
  · rw [if_pos hh]; rfl
  · rw [if_neg hh, Head.ds_of_after _ C r hh]; rfl

theorem dc_at (R : Fin 8192) : (val_main_v79 (A y0) (A y1) (A y2) (A8 y3) (A y4) (ix2 R h) : EReal) = ((hd y0 y1 y2 y3 y4 h).dc R : ℝ) := by
  pointwise [val_main_v79, val_main_v78, val_main_v77, val_main_v76, val_main_v75, val_main_v74, val_main_v73, val_main_v72, val_main_v71, val_main_v70,
    val_main_cst_13, val_main_cst_14, val_main_cst_15, val_main_cst_16]
  have e1 : (∑ C : Fin 8192, -val_main_v69 (A y0) (A y1) (A y2) (A8 y3) (A y4) (ix3 h C R) : EReal) = ((hd y0 y1 y2 y3 y4 h).dc R : ℝ) := by
    unfold Head.dc
    rw [coe_sum]
    refine Finset.sum_congr (M := EReal) rfl fun C _ => ?_
    rw [ds_at y0 y1 y2 y4 y3, EReal.coe_neg]
  have e2 : (∑ r : Fin 8192, val_main_v69 (A y0) (A y1) (A y2) (A8 y3) (A y4) (ix3 h R r) : EReal) = ((0 : ℝ) : EReal) := by
    rw [← Head.ds_sum (hd y0 y1 y2 y3 y4 h) R, coe_sum]
    exact Finset.sum_congr (M := EReal) rfl fun r _ => ds_at y0 y1 y2 y4 y3 h R r
  refine (congrArg₂ (fun a b : EReal => a + b) ((Fin.sum_univ_one (M := EReal) _).trans e1) ((Fin.sum_univ_one (M := EReal) _).trans e2)).trans ?_
  rw [← EReal.coe_add, add_zero]

theorem dq_at (C : Fin 8192) (d : Fin 64) : (val_main_v85 (A y0) (A y1) (A y2) (A8 y3) (A y4) (ix3 C h d) : EReal) = ((hd y0 y1 y2 y3 y4 h).dq C d : ℝ) := by
  pointwise [val_main_v85, val_main_v84, val_main_v81, val_main_v80, val_main_cst_17, val_main_v1]
  unfold Head.dq
  rw [coe_sum]
  refine Finset.sum_congr (M := EReal) rfl fun r _ => ?_
  rw [ds_at y0 y1 y2 y4 y3, eighth_bits, EReal.coe_mul, EReal.coe_mul]
  rfl

theorem dk_at (r : Fin 8192) (d : Fin 64) : (val_main_v83 (A y0) (A y1) (A y2) (A8 y3) (A y4) (ix3 r h d) : EReal) = ((hd y0 y1 y2 y3 y4 h).dk r d : ℝ) := by
  pointwise [val_main_v83, val_main_v82, val_main_v81, val_main_v80, val_main_cst_17, val_main_v0]
  unfold Head.dk
  rw [coe_sum]
  refine Finset.sum_congr (M := EReal) rfl fun C _ => ?_
  rw [ds_at y0 y1 y2 y4 y3, eighth_bits, EReal.coe_mul, EReal.coe_mul]
  rfl

theorem dv_at (r : Fin 8192) (d : Fin 64) : (val_main_v56 (A y0) (A y1) (A8 y3) (A y4) (ix3 r h d) : EReal) = ((hd y0 y1 y2 y3 y4 h).dv r d : ℝ) := by
  pointwise [val_main_v56, val_main_v55, val_main_v53, val_main_v52]
  unfold Head.dv
  rw [coe_sum]
  refine Finset.sum_congr (M := EReal) rfl fun C _ => ?_
  rw [probs_at y0 y1 y2 y4 y3, EReal.coe_mul]
  rfl

/-! The four results. -/

theorem result_q (R : Fin 8192) (d : Fin 64) : (val_main_v89 (A y0) (A y1) (A y2) (A8 y3) (A y4)
    (ix2 R (⟨h.val * 64 + d.val, by omega⟩ : Fin 512)) : EReal) = ((hd y0 y1 y2 y3 y4 h).dq R d : ℝ) := by
  unfold val_main_v89
  exact (flat_at _ R h d).trans (dq_at y0 y1 y2 y4 y3 h R d)

theorem result_k (R : Fin 8192) (d : Fin 64) : (val_main_v91 (A y0) (A y1) (A y2) (A8 y3) (A y4)
    (ix2 R (⟨h.val * 64 + d.val, by omega⟩ : Fin 512)) : EReal) = ((hd y0 y1 y2 y3 y4 h).dk R d : ℝ) := by
  unfold val_main_v91 val_main_v90
  exact (flat_at _ R h d).trans (dk_at y0 y1 y2 y4 y3 h R d)

theorem result_v (R : Fin 8192) (d : Fin 64) : (val_main_v93 (A y0) (A y1) (A8 y3) (A y4)
    (ix2 R (⟨h.val * 64 + d.val, by omega⟩ : Fin 512)) : EReal) = ((hd y0 y1 y2 y3 y4 h).dv R d : ℝ) := by
  unfold val_main_v93 val_main_v92
  exact (flat_at _ R h d).trans (dv_at y0 y1 y2 y4 y3 h R d)

theorem pairs_at (x : FVec Ideal S8192x8 .f32) (R : Fin 8192) (p : Fin 4) (e : Fin 2) :
    (shapeCast S8192x4x2 x shapeCasts_S8192x8_S8192x4x2 (ix3 R p e) : EReal) = x (ix2 R (headOf p e)) := by
  refine shapeCast_apply x _ _ _ ?_
  rw [Shape.rowMajor_val_two, Shape.rowMajor_val_three]
  show R.val * 8 + (2 * p.val + e.val) = (R.val * 4 + p.val) * 2 + e.val
  omega

theorem wide_at (x : FVec Ideal S8192x4x128 .f32) (R : Fin 8192) (p : Fin 4) (l : Fin 128) :
    (shapeCast S8192x512 x shapeCasts_S8192x4x128_S8192x512 (ix2 R (⟨p.val * 128 + l.val, by omega⟩ : Fin 512)) : EReal) = x (ix3 R p l) := by
  refine shapeCast_apply x _ _ _ ?_
  rw [Shape.rowMajor_val_two, Shape.rowMajor_val_three]
  show (R.val * 4 + p.val) * 128 + l.val = R.val * 512 + (p.val * 128 + l.val)
  omega

theorem gate_at (R : Fin 8192) (p : Fin 4) (l : Fin 128) : (val_main_v88 (A y0) (A y1) (A y2) (A8 y3) (A y4) (ix3 R p l) : EReal)
    = if hl : l.val < 2 then ((hd y0 y1 y2 y3 y4 (headOf p ⟨l.val, hl⟩)).dc R : EReal) else 0 := by
  unfold val_main_v88
  pointwise
  by_cases hl : l.val < 2
  · rw [dif_pos hl, dif_pos hl]
    unfold val_main_v86
    exact (pairs_at _ R p ⟨l.val, hl⟩).trans (dc_at y0 y1 y2 y4 y3 (headOf p ⟨l.val, hl⟩) R)
  · rw [dif_neg hl, dif_neg hl]
    pointwise [val_main_v87, val_main_cst_18]

theorem result_c (R : Fin 8192) (p : Fin 4) (l : Fin 128) : (val_main_v94 (A y0) (A y1) (A y2) (A8 y3) (A y4)
    (ix2 R (⟨p.val * 128 + l.val, by omega⟩ : Fin 512)) : EReal)
    = if hl : l.val < 2 then ((hd y0 y1 y2 y3 y4 (headOf p ⟨l.val, hl⟩)).dc R : EReal) else 0 := by
  unfold val_main_v94
  exact (wide_at _ R p l).trans (gate_at y0 y1 y2 y4 y3 R p l)

end Cert.FoxReferenceIdeal.Grad

end
-- ==== Proof.FoxEquation.lean ====
module

public import proofs.«01_k».proof.Proof.FoxGrad
public import proofs.«01_k».proof.Proof.FoxRef
public import proofs.«01_k».proof.Proof.Finite
public import proofs.«01_k».proof.Proof.Gen.Pre_finite_heads

@[expose] public section

/-!
  Kernel and reference of the forgetting attention's backward pass compute the same four arrays.
-/
set_option maxRecDepth 16384

noncomputable section

open Idealize.ShloMosaic Idealize.ShloMosaic.TcCoe Idealize.SL.Sem

namespace Cert.FoxKernelIdeal.Body

open Cert.FoxKernelIdeal Cert.FoxKernelIdeal.Gen Cert.Fox Cert.FoxReferenceIdeal.Read
open Cert.FoxReferenceIdeal.Grad (A A8 result_q result_k result_v result_c)

section Run

variable {F : FTy → Type} [FloatOps F] [Named F]
variable (m : (ℓ : Loc nD τ sig) → Buf (Elt F) ℓ) (ρ : Dev nD → PrngReg)

/-- The run, its four result arrays named, the arguments unchanged. -/
theorem run_results : θ_run defs (onTc (τ := τ) (main (F := F))) ⟨m, fun _ => 0, ρ⟩ fun r => ∀ c : Dev nD,
      r.2.mem ((c : Thread nD τ).loc main_v115_0) = (dats m 0 c).arrAt 5 cfg0.N
      ∧ r.2.mem ((c : Thread nD τ).loc main_v115_1) = (dats m 0 c).arrAt 6 cfg0.N
      ∧ r.2.mem ((c : Thread nD τ).loc main_v115_2) = (dats m 0 c).arrAt 7 cfg0.N
      ∧ r.2.mem ((c : Thread nD τ).loc main_v115_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Run

/-- A column is a head's. -/
theorem col_head (q : Fin 512) : ∃ (p : Fin 4) (e : Fin 2) (d : Fin 64), q = colH (headOf p e) d := by
  refine ⟨⟨q.val / 128, by omega⟩, ⟨q.val / 64 % 2, by omega⟩, ⟨q.val % 64, by omega⟩, Fin.ext ?_⟩
  show q.val = (2 * (q.val / 128) + q.val / 64 % 2) * 64 + q.val % 64
  omega

theorem col_lane (q : Fin 512) : ∃ (p : Fin 4) (l : Fin 128), q = ⟨p.val * 128 + l.val, by omega⟩ := by
  refine ⟨⟨q.val / 128, by omega⟩, ⟨q.val % 128, by omega⟩, Fin.ext ?_⟩
  show q.val = q.val / 128 * 128 + q.val % 128
  omega

section Equal

variable (m : (ℓ : Loc nD τ sig) → Buf (Elt Ideal) ℓ) (c : Dev nD)
variable {y0 y1 y2 y4 : S8192x512.Idx → ℝ} {y3 : S8192x8.Idx → ℝ} (hy : Reals m c y0 y1 y2 y4 y3)

include hy in
theorem query_at (R : Fin 8192) (q : Fin 512) : dqK m c (ix2 R q) = val_main_v89 (A y0) (A y1) (A y2) (A8 y3) (A y4) (ix2 R q) := by
  obtain ⟨p, e, d, rfl⟩ := col_head q
  exact (dq_real m c hy R p e d).trans (result_q y0 y1 y2 y4 y3 (headOf p e) R d).symm

include hy in
theorem key_at (R : Fin 8192) (q : Fin 512) : dkK m c (ix2 R q) = val_main_v91 (A y0) (A y1) (A y2) (A8 y3) (A y4) (ix2 R q) := by
  obtain ⟨p, e, d, rfl⟩ := col_head q
  exact (dk_real m c hy R p e d).trans (result_k y0 y1 y2 y4 y3 (headOf p e) R d).symm

include hy in
theorem value_at (R : Fin 8192) (q : Fin 512) : dvK m c (ix2 R q) = val_main_v93 (A y0) (A y1) (A8 y3) (A y4) (ix2 R q) := by
  obtain ⟨p, e, d, rfl⟩ := col_head q
  exact (dv_real m c hy R p e d).trans (result_v y0 y1 y2 y4 y3 (headOf p e) R d).symm

include hy in
theorem gate_at (R : Fin 8192) (q : Fin 512) : dcK m c (ix2 R q) = val_main_v94 (A y0) (A y1) (A y2) (A8 y3) (A y4) (ix2 R q) := by
  obtain ⟨p, l, rfl⟩ := col_lane q
  exact (dc_real m c hy R p l).trans (result_c y0 y1 y2 y4 y3 R p l).symm

include hy in
/-- The four arrays. -/
theorem arrays_eq : (dats m 0 c).arrAt 5 cfg0.N = val_main_v89 (A y0) (A y1) (A y2) (A8 y3) (A y4)
    ∧ (dats m 0 c).arrAt 6 cfg0.N = val_main_v91 (A y0) (A y1) (A y2) (A8 y3) (A y4)
    ∧ (dats m 0 c).arrAt 7 cfg0.N = val_main_v93 (A y0) (A y1) (A8 y3) (A y4)
    ∧ (dats m 0 c).arrAt 8 cfg0.N = val_main_v94 (A y0) (A y1) (A y2) (A8 y3) (A y4) :=
  ⟨funext fun i : S8192x512.Idx => (final5 m c i).trans ((congrArg (dqK m c) (eq_ix2 i)).trans ((query_at m c hy _ _).trans
      (congrArg (val_main_v89 (A y0) (A y1) (A y2) (A8 y3) (A y4)) (eq_ix2 i)).symm)),
    funext fun i : S8192x512.Idx => (final6 m c i).trans ((congrArg (dkK m c) (eq_ix2 i)).trans ((key_at m c hy _ _).trans
      (congrArg (val_main_v91 (A y0) (A y1) (A y2) (A8 y3) (A y4)) (eq_ix2 i)).symm)),
    funext fun i : S8192x512.Idx => (final7 m c i).trans ((congrArg (dvK m c) (eq_ix2 i)).trans ((value_at m c hy _ _).trans
      (congrArg (val_main_v93 (A y0) (A y1) (A8 y3) (A y4)) (eq_ix2 i)).symm)),
    funext fun i : S8192x512.Idx => (final8 m c i).trans ((congrArg (dcK m c) (eq_ix2 i)).trans ((gate_at m c hy _ _).trans
      (congrArg (val_main_v94 (A y0) (A y1) (A y2) (A8 y3) (A y4)) (eq_ix2 i)).symm))⟩

end Equal

/-- An array whose entries give zero when taken from themselves is an array of real numbers. -/
theorem real_array {s : Shape} (x : FVec Ideal s .f32) (h : ∀ i, Ideal.cmp .oeq ((x i : EReal) - x i) (Ideal.ofBits .f32 0#32) = 1#1) :
    ∃ y : s.Idx → ℝ, x = co y := by
  choose y hy using fun i => Cert.ReferenceIdeal.ConvValue.real_of_sub_self (h i)
  exact ⟨y, funext hy⟩

variable (m : (ℓ : Loc nD τ sig) → Buf (Elt Ideal) ℓ) (c : Dev nD)

/-- With the precondition the kernel's arrays are the reference's. -/
theorem results_eq (x0 x1 x2 x4 : FVec Ideal S8192x512 .f32) (x3 : FVec Ideal S8192x8 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4)
    (p0 : (Cert.Pre_finite_heads.fn (F := Ideal) x0 x1 x2 x3 x4).1 = fun _ => 1#1)
    (p1 : (Cert.Pre_finite_heads.fn (F := Ideal) x0 x1 x2 x3 x4).2.1 = fun _ => 1#1)
    (p2 : (Cert.Pre_finite_heads.fn (F := Ideal) x0 x1 x2 x3 x4).2.2.1 = fun _ => 1#1)
    (p3 : (Cert.Pre_finite_heads.fn (F := Ideal) x0 x1 x2 x3 x4).2.2.2.1 = fun _ => 1#1)
    (p4 : (Cert.Pre_finite_heads.fn (F := Ideal) x0 x1 x2 x3 x4).2.2.2.2 = fun _ => 1#1) :
    (dats m 0 c).arrAt 5 cfg0.N = val_main_v89 (F := Ideal) x0 x1 x2 x3 x4
    ∧ (dats m 0 c).arrAt 6 cfg0.N = val_main_v91 (F := Ideal) x0 x1 x2 x3 x4
    ∧ (dats m 0 c).arrAt 7 cfg0.N = val_main_v93 (F := Ideal) x0 x1 x3 x4
    ∧ (dats m 0 c).arrAt 8 cfg0.N = val_main_v94 (F := Ideal) x0 x1 x2 x3 x4 := by
  obtain ⟨y0, e0⟩ := real_array x0 fun i => congrFun p0 i
  obtain ⟨y1, e1⟩ := real_array x1 fun i => congrFun p1 i
  obtain ⟨y2, e2⟩ := real_array x2 fun i => congrFun p2 i
  obtain ⟨y3, e3⟩ := real_array x3 fun i => congrFun p3 i
  obtain ⟨y4, e4⟩ := real_array x4 fun i => congrFun p4 i
  rw [e0, e1, e2, e3, e4]
  exact arrays_eq m c ⟨h0.trans e0, h1.trans e1, h2.trans e2, h3.trans e3, h4.trans e4⟩

end Cert.FoxKernelIdeal.Body

end
-- ==== Proof.InGradValue.lean ====
module

public import proofs.«01_k».proof.Proof.Gen.InGradIdeal.Value
public import proofs.«01_k».proof.Proof.Gen.InGradReferenceIdeal.Read
public import Idealize.ShloMosaic.Lib.Pipeline.ValueKit

@[expose] public section

/-!
  The gradient of the feed-forward input weights: an eighth of the columns per grid row, the sum over the tokens in two
  halves.
-/
set_option maxRecDepth 16384

noncomputable section

open Idealize.ShloMosaic Idealize.ShloMosaic.TcCoe Idealize.SL.Sem
open Idealize.ShloMosaic.Pipeline (Dat)

namespace Cert.InGradIdeal.Product

open Cert.InGradIdeal Cert.InGradIdeal.Gen
open Cert.InGradReferenceIdeal.Read (val_main_v4)

variable (m : (ℓ : Loc nD τ sig) → Buf (Elt Ideal) ℓ) (c : Dev nD)

/-- Which block each window holds at grid point `t`. -/
theorem idx : ∀ t : Fin cfg0.N, t.val < 16 ∧ win0_0.index t = ![t.val % 2, 0] ∧
    win0_1.index t = ![t.val / 2 % 4, t.val / 2 / 4, t.val % 2, 0] ∧ win0_2.index t = ![t.val / 2, 0, 0] :=
  (by decide +kernel : ∀ t : Fin grid0.N, _)

/-- The zero fill. -/
theorem zero_at (y : S704x1024.Idx) : (k0_pay1 (F := Ideal) y : EReal) = 0 := by
  rw [← ix2_eta y]
  pointwise [k0_pay1]

/-- A point adds the product of its rows to what it finds. -/
theorem product_at (A : FVec Ideal S704x1024 .f32) (G : FVec Ideal S1x1x4096x704 .bf16) (H : FVec Ideal S4096x1024 .bf16)
    (r : Fin 704) (d : Fin 1024) :
    (k0_pay2 (F := Ideal) A G H (ix2 r d) : EReal) =
      A (ix2 r d) + ∑ k : Fin 4096, (G (ix4 (0 : Fin 1) (0 : Fin 1) k r) : EReal) * H (ix2 k d) := by
  pointwise [k0_pay2]

/-- What point `t` adds. -/
def part (t : Fin cfg0.N) (y : S704x1024.Idx) : EReal :=
  ∑ k : Fin 4096, (show EReal from iblk m c 1 t (ix4 (0 : Fin 1) (0 : Fin 1) k (y 0))) * (show EReal from iblk m c 0 t (ix2 k (y 1)))

theorem scratch_A (t : Fin cfg0.N) (y : S704x1024.Idx) (h : t.val % 2 = 0) :
    ((outsAt0 m c t.val t.isLt).2 y : EReal) = 0 + part m c t y := by
  rw [outsAt0_A m c t h (by omega)]
  frame_out
  refine (congrArg _ (ix2_eta y).symm).trans ((product_at _ _ _ (y 0) (y 1)).trans ?_)
  rw [zero_at]
  rfl

theorem scratch_B (t : Fin cfg0.N) (y : S704x1024.Idx) (h : ¬ t.val % 2 = 0) :
    ((outsAt0 m c t.val t.isLt).2 y : EReal) = ((outsAt0 m c (t.val - 1) (by omega)).2 y : EReal) + part m c t y := by
  rw [outsAt0_B m c t h (by omega)]
  frame_out
  refine (congrArg _ (ix2_eta y).symm).trans ((product_at _ _ _ (y 0) (y 1)).trans ?_)
  refine congrArg₂ (fun p q : EReal => p + q) ((congrFun (Memref.IsWhole.read_unread (Memref.isWhole_whole cc0_scratch0) _) _).trans ?_) rfl
  exact congrArg _ (ix2_eta y)

theorem out_B (t : Fin cfg0.N) (z : S1x704x1024.Idx) (h : ¬ t.val % 2 = 0) :
    ((outsAt0 m c t.val t.isLt).1 z : EReal) = (outsAt0 m c t.val t.isLt).2 (ix2 (z 1) (z 2)) := by
  rw [outsAt0_B m c t h (by omega)]
  frame_out
  generalize k0_pay2 (F := Ideal) _ _ _ = A
  refine (congrArg _ (ix3_eta z).symm).trans ?_
  pointwise [k0_pay3]

/-- The array of the weights' gradient. -/
def gradK : S8x704x1024.Idx → EReal := fun y =>
  ∑ s : Fin 2, ∑ k : Fin 4096, (show EReal from V m c main_v2 (ix4 (⟨(y 0).val % 4, Nat.mod_lt _ (by decide)⟩ : Fin 4)
      (⟨(y 0).val / 4, Nat.div_lt_of_lt_mul (y 0).isLt⟩ : Fin 2) (⟨s.val * 4096 + k.val, by omega⟩ : Fin 8192) (y 1))) *
    (show EReal from V m c main_v3 (ix2 (⟨s.val * 4096 + k.val, by omega⟩ : Fin 8192) (y 2)))

theorem final2 (i : S8x704x1024.Idx) : ((dats m 0 c).arrAt 2 cfg0.N i : EReal) = gradK m c i := by
  refine congrFun ((dats m 0 c).arrAt_eq_of_covers 2 (gradK m c) (by decide +kernel) fun t hf z => ?_) i
  blk_simp
  rw [after0_2]
  have hm := (flush0_2 t).mp hf
  refine (out_B m c t _ (by omega)).trans ?_
  refine (Pipeline.eq_sum_fin_of_reset_step_apply_of_flush (fun n h => (outsAt0 m c n h).2) 2 (fun _ => (0 : EReal))
    (fun s y => part m c s y) (fun t h y => scratch_A m c t y h) (fun t h y => scratch_B m c t y h) t hm _).trans ?_
  rw [zero_add]
  unfold gradK part
  refine Finset.sum_congr (M := EReal) rfl fun s _ => Finset.sum_congr (M := EReal) rfl fun k _ => ?_
  refine congrArg₂ (fun p q : EReal => p * q) ?_ ?_
  · blk_ext [iblk, V, idx t, idx ⟨_, Pipeline.run_point_lt_of_flush t hm s⟩]
  · blk_ext [iblk, V, idx t, idx ⟨_, Pipeline.run_point_lt_of_flush t hm s⟩]

/-- The incoming gradient by chunks. -/
theorem entry_dz (e : Fin 4) (p : Fin 2) (R : Fin 8192) (l : Fin 704) :
    (V m c main_v2 (ix4 e p R l) : EReal) = m ((c.tc : Thread nD τ).loc main_arg1) (ix2 R ⟨p.val * 2816 + e.val * 704 + l.val, by omega⟩) := by
  simp only [V, hostOps0]
  after_results_simp
  pointwise

theorem entry_h (R : Fin 8192) (d : Fin 1024) :
    (V m c main_v3 (ix2 R d) : EReal) = m ((c.tc : Thread nD τ).loc main_arg0) (ix2 R d) := by
  simp only [V, hostOps0]
  after_results_simp
  pointwise

/-- The reference's gradient. -/
theorem reference_at (x0 : (⟨S8192x1024, .f32⟩ : BufTy).Contents (Elt Ideal)) (x1 : (⟨S8192x5632, .f32⟩ : BufTy).Contents (Elt Ideal))
    (e : Fin 8) (l : Fin 704) (d : Fin 1024) :
    (val_main_v4 x0 x1 (ix3 e l d) : EReal) =
      ∑ R : Fin 8192, (x1 (ix2 R ⟨e.val * 704 + l.val, by omega⟩) : EReal) * x0 (ix2 R d) := by
  unfold val_main_v4
  pointwise [Cert.InGradReferenceIdeal.Read.val_main_v3, Cert.InGradReferenceIdeal.Read.val_main_v2, Cert.InGradReferenceIdeal.Read.val_main_v1, Cert.InGradReferenceIdeal.Read.val_main_v0]

variable {x0 : (⟨S8192x1024, .f32⟩ : BufTy).Contents (Elt Ideal)} {x1 : (⟨S8192x5632, .f32⟩ : BufTy).Contents (Elt Ideal)}
  (h0 : m ((c.tc : Thread nD τ).loc main_arg0) = x0) (h1 : m ((c.tc : Thread nD τ).loc main_arg1) = x1)

include h0 h1 in
theorem grad_at (e : Fin 8) (l : Fin 704) (d : Fin 1024) : gradK m c (ix3 e l d) = val_main_v4 x0 x1 (ix3 e l d) := by
  refine Eq.trans ?_ (reference_at x0 x1 e l d).symm
  rw [Fin.sum_univ_tiles 2 4096 rfl]
  refine Finset.sum_congr (M := EReal) rfl fun s _ => Finset.sum_congr (M := EReal) rfl fun k _ => ?_
  refine congrArg₂ (fun p q : EReal => p * q) ?_ ((entry_h m c _ _).trans (congrFun h0 _))
  refine (entry_dz m c _ _ _ _).trans ((congrFun h1 _).trans (congrArg (fun q => x1 (ix2 _ q)) (Fin.ext ?_)))
  show e.val / 4 * 2816 + e.val % 4 * 704 + l.val = e.val * 704 + l.val
  omega

include h0 h1 in
/-- The gradient of the weights: kernel and reference. -/
theorem grad_eq : (dats m 0 c).arrAt 2 cfg0.N = val_main_v4 x0 x1 :=
  funext fun i : S8x704x1024.Idx => (final2 m c i).trans
    ((congrArg (gradK m c) (eq_ix3 i)).trans ((grad_at m c h0 h1 _ _ _).trans
      (congrArg (val_main_v4 x0 x1) (eq_ix3 i)).symm))

end Cert.InGradIdeal.Product

end
-- ==== Proof.OutGradValue.lean ====
module

public import proofs.«01_k».proof.Proof.Gen.OutGradIdeal.Value
public import proofs.«01_k».proof.Proof.Gen.OutGradReferenceIdeal.Read
public import Idealize.ShloMosaic.Lib.Pipeline.ValueKit

@[expose] public section

/-!
  The gradient of the feed-forward output weights: a quarter of the rows per grid row, the sum over the tokens in four
  parts.
-/
set_option maxRecDepth 16384

noncomputable section

open Idealize.ShloMosaic Idealize.ShloMosaic.TcCoe Idealize.SL.Sem
open Idealize.ShloMosaic.Pipeline (Dat)

namespace Cert.OutGradIdeal.Product

open Cert.OutGradIdeal Cert.OutGradIdeal.Gen
open Cert.OutGradReferenceIdeal.Read (val_main_v3)

variable (m : (ℓ : Loc nD τ sig) → Buf (Elt Ideal) ℓ) (c : Dev nD)

/-- Which block each window holds at grid point `t`. -/
theorem idx : ∀ t : Fin cfg0.N, t.val < 16 ∧ win0_0.index t = ![t.val / 4, t.val % 4, 0] ∧
    win0_1.index t = ![t.val % 4, 0] ∧ win0_2.index t = ![t.val / 4, 0, 0] :=
  (by decide +kernel : ∀ t : Fin grid0.N, _)

/-- The zero fill. -/
theorem zero_at (y : S704x1024.Idx) : (k0_pay1 (F := Ideal) y : EReal) = 0 := by
  rw [← ix2_eta y]
  pointwise [k0_pay1]

/-- A point adds the product of its rows to what it finds. -/
theorem product_at (A : FVec Ideal S704x1024 .f32) (G : FVec Ideal S1x2048x704 .bf16) (H : FVec Ideal S2048x1024 .f32)
    (r : Fin 704) (d : Fin 1024) :
    (k0_pay2 (F := Ideal) A G H (ix2 r d) : EReal) =
      A (ix2 r d) + ∑ k : Fin 2048, (G (ix3 (0 : Fin 1) k r) : EReal) * H (ix2 k d) := by
  pointwise [k0_pay2]

/-- What point `t` adds. -/
def part (t : Fin cfg0.N) (y : S704x1024.Idx) : EReal :=
  ∑ k : Fin 2048, (show EReal from iblk m c 0 t (ix3 (0 : Fin 1) k (y 0))) * (show EReal from iblk m c 1 t (ix2 k (y 1)))

theorem scratch_A (t : Fin cfg0.N) (y : S704x1024.Idx) (h : t.val % 4 = 0) :
    ((outsAt0 m c t.val t.isLt).2 y : EReal) = 0 + part m c t y := by
  rw [outsAt0_A m c t h (by omega)]
  frame_out
  refine (congrArg _ (ix2_eta y).symm).trans ((product_at _ _ _ (y 0) (y 1)).trans ?_)
  rw [zero_at]
  rfl

theorem scratch_B (t : Fin cfg0.N) (y : S704x1024.Idx) (h : ¬ t.val % 4 = 0) :
    ((outsAt0 m c t.val t.isLt).2 y : EReal) = ((outsAt0 m c (t.val - 1) (by omega)).2 y : EReal) + part m c t y := by
  by_cases h1 : t.val % 4 = 3
  · rw [outsAt0_C m c t h h1]
    frame_out
    refine (congrArg _ (ix2_eta y).symm).trans ((product_at _ _ _ (y 0) (y 1)).trans ?_)
    refine congrArg₂ (fun p q : EReal => p + q) ((congrFun (Memref.IsWhole.read_unread (Memref.isWhole_whole cc0_scratch0) _) _).trans ?_) rfl
    exact congrArg _ (ix2_eta y)
  · rw [outsAt0_B m c t h h1]
    frame_out
    refine (congrArg _ (ix2_eta y).symm).trans ((product_at _ _ _ (y 0) (y 1)).trans ?_)
    refine congrArg₂ (fun p q : EReal => p + q) ((congrFun (Memref.IsWhole.read_unread (Memref.isWhole_whole cc0_scratch0) _) _).trans ?_) rfl
    exact congrArg _ (ix2_eta y)

theorem out_C (t : Fin cfg0.N) (z : S1x704x1024.Idx) (h : t.val % 4 = 3) :
    ((outsAt0 m c t.val t.isLt).1 z : EReal) = (outsAt0 m c t.val t.isLt).2 (ix2 (z 1) (z 2)) := by
  rw [outsAt0_C m c t (by omega) h]
  frame_out
  generalize k0_pay2 (F := Ideal) _ _ _ = A
  refine (congrArg _ (ix3_eta z).symm).trans ?_
  pointwise [k0_pay3]

/-- The array of the weights' gradient. -/
def gradK : S4x704x1024.Idx → EReal := fun y =>
  ∑ s : Fin 4, ∑ k : Fin 2048, (show EReal from V m c main_v2 (ix3 (y 0) (⟨s.val * 2048 + k.val, by omega⟩ : Fin 8192) (y 1))) *
    (show EReal from V m c main_arg1 (ix2 (⟨s.val * 2048 + k.val, by omega⟩ : Fin 8192) (y 2)))

theorem final2 (i : S4x704x1024.Idx) : ((dats m 0 c).arrAt 2 cfg0.N i : EReal) = gradK m c i := by
  refine congrFun ((dats m 0 c).arrAt_eq_of_covers 2 (gradK m c) (by decide +kernel) fun t hf z => ?_) i
  blk_simp
  rw [after0_2]
  have hm := (flush0_2 t).mp hf
  refine (out_C m c t _ hm).trans ?_
  refine (Pipeline.eq_sum_fin_of_reset_step_apply_of_flush (fun n h => (outsAt0 m c n h).2) 4 (fun _ => (0 : EReal))
    (fun s y => part m c s y) (fun t h y => scratch_A m c t y h) (fun t h y => scratch_B m c t y h) t hm _).trans ?_
  rw [zero_add]
  unfold gradK part
  refine Finset.sum_congr (M := EReal) rfl fun s _ => Finset.sum_congr (M := EReal) rfl fun k _ => ?_
  refine congrArg₂ (fun p q : EReal => p * q) ?_ ?_
  · blk_ext [iblk, V, idx t, idx ⟨_, Pipeline.run_point_lt_of_flush t hm s⟩]
  · blk_ext [iblk, V, idx t, idx ⟨_, Pipeline.run_point_lt_of_flush t hm s⟩]

/-- The activations by chunks of channels. -/
theorem entry_act (e : Fin 4) (R : Fin 8192) (l : Fin 704) :
    (V m c main_v2 (ix3 e R l) : EReal) = m ((c.tc : Thread nD τ).loc main_arg0) (ix2 R ⟨e.val * 704 + l.val, by omega⟩) := by
  simp only [V, hostOps0]
  after_results_simp
  pointwise

theorem entry_du (R : Fin 8192) (d : Fin 1024) :
    (V m c main_arg1 (ix2 R d) : EReal) = m ((c.tc : Thread nD τ).loc main_arg1) (ix2 R d) := by
  simp only [V, hostOps0]
  after_results_simp

/-- The reference's gradient. -/
theorem reference_at (x0 : (⟨S8192x2816, .f32⟩ : BufTy).Contents (Elt Ideal)) (x1 : (⟨S8192x1024, .f32⟩ : BufTy).Contents (Elt Ideal))
    (e : Fin 4) (l : Fin 704) (d : Fin 1024) :
    (val_main_v3 x0 x1 (ix3 e l d) : EReal) =
      ∑ R : Fin 8192, (x1 (ix2 R d) : EReal) * x0 (ix2 R ⟨e.val * 704 + l.val, by omega⟩) := by
  unfold val_main_v3
  pointwise [Cert.OutGradReferenceIdeal.Read.val_main_v2, Cert.OutGradReferenceIdeal.Read.val_main_v1, Cert.OutGradReferenceIdeal.Read.val_main_v0]

variable {x0 : (⟨S8192x2816, .f32⟩ : BufTy).Contents (Elt Ideal)} {x1 : (⟨S8192x1024, .f32⟩ : BufTy).Contents (Elt Ideal)}
  (h0 : m ((c.tc : Thread nD τ).loc main_arg0) = x0) (h1 : m ((c.tc : Thread nD τ).loc main_arg1) = x1)

include h0 h1 in
theorem grad_at (e : Fin 4) (l : Fin 704) (d : Fin 1024) : gradK m c (ix3 e l d) = val_main_v3 x0 x1 (ix3 e l d) := by
  refine Eq.trans ?_ (reference_at x0 x1 e l d).symm
  rw [Fin.sum_univ_tiles 4 2048 rfl]
  refine Finset.sum_congr (M := EReal) rfl fun s _ => Finset.sum_congr (M := EReal) rfl fun k _ => ?_
  refine (congrArg₂ (fun p q : EReal => p * q) ((entry_act m c _ _ _).trans (congrFun h0 _)) ((entry_du m c _ _).trans (congrFun h1 _))).trans ?_
  exact mul_comm (G := EReal) _ _

include h0 h1 in
/-- The gradient of the weights: kernel and reference. -/
theorem grad_eq : (dats m 0 c).arrAt 2 cfg0.N = val_main_v3 x0 x1 :=
  funext fun i : S4x704x1024.Idx => (final2 m c i).trans
    ((congrArg (gradK m c) (eq_ix3 i)).trans ((grad_at m c h0 h1 _ _ _).trans
      (congrArg (val_main_v3 x0 x1) (eq_ix3 i)).symm))

end Cert.OutGradIdeal.Product

end
-- ==== Proof.GradColumns.lean ====
module

public import Idealize.ShloMosaic.Lib.Pipeline.ValueKit

@[expose] public section

/-!
  The order in which the projection's columns are laid out for the kernels: the heads' 2304 columns, the gates' 2048, the
  forgetting heads' 8, and 248 columns of zeros.
-/
set_option maxRecDepth 16384

noncomputable section

open Idealize.ShloMosaic

namespace Cert.Columns

/-- A row of 4360 entries in the kernels' order, with zeros after it. -/
def padded (f : Fin 4360 → EReal) (j : Fin 4608) : EReal :=
  if h : j.val < 2304 then f ⟨j.val, by omega⟩
  else if h : j.val < 4352 then f ⟨j.val + 8, by omega⟩
  else if h : j.val < 4360 then f ⟨j.val - 2048, by omega⟩
  else 0

theorem padded_heads (f : Fin 4360 → EReal) (a : Fin 2304) : padded f ⟨a.val, by omega⟩ = f ⟨a.val, by omega⟩ :=
  dif_pos (c := a.val < 2304) a.isLt

theorem padded_gates (f : Fin 4360 → EReal) (b : Fin 2048) : padded f ⟨2304 + b.val, by omega⟩ = f ⟨2312 + b.val, by omega⟩ := by
  unfold padded
  rw [dif_neg (show ¬ 2304 + b.val < 2304 by omega), dif_pos (show 2304 + b.val < 4352 by omega)]
  exact congrArg f (Fin.ext (show 2304 + b.val + 8 = 2312 + b.val by omega))

theorem padded_forget (f : Fin 4360 → EReal) (e : Fin 8) : padded f ⟨4352 + e.val, by omega⟩ = f ⟨2304 + e.val, by omega⟩ := by
  unfold padded
  rw [dif_neg (show ¬ 4352 + e.val < 2304 by omega), dif_neg (show ¬ 4352 + e.val < 4352 by omega), dif_pos (show 4352 + e.val < 4360 by omega)]
  exact congrArg f (Fin.ext (show 4352 + e.val - 2048 = 2304 + e.val by omega))

theorem padded_zero (f : Fin 4360 → EReal) (z : Fin 248) : padded f ⟨4360 + z.val, by omega⟩ = 0 := by
  unfold padded
  rw [dif_neg (show ¬ 4360 + z.val < 2304 by omega), dif_neg (show ¬ 4360 + z.val < 4352 by omega), dif_neg (show ¬ 4360 + z.val < 4360 by omega)]

/-- The four kinds joined one after another are the padded row. -/
theorem joined (f : Fin 4360 → EReal) (j : Fin 4608) :
    (if h : j.val < 2304 then f ⟨j.val, by omega⟩
      else if h : j.val - 2304 < 2048 then f ⟨2312 + (j.val - 2304), by omega⟩
      else if h : j.val - 2304 - 2048 < 8 then f ⟨2304 + (j.val - 2304 - 2048), by omega⟩
      else 0) = padded f j := by
  unfold padded
  by_cases h1 : j.val < 2304
  · rw [dif_pos h1, dif_pos h1]
  by_cases h2 : j.val < 4352
  · rw [dif_neg h1, dif_neg h1, dif_pos (show j.val - 2304 < 2048 by omega), dif_pos h2]
    exact congrArg f (Fin.ext (show 2312 + (j.val - 2304) = j.val + 8 by omega))
  by_cases h3 : j.val < 4360
  · rw [dif_neg h1, dif_neg h1, dif_neg (show ¬ j.val - 2304 < 2048 by omega), dif_neg h2,
      dif_pos (show j.val - 2304 - 2048 < 8 by omega), dif_pos h3]
    exact congrArg f (Fin.ext (show 2304 + (j.val - 2304 - 2048) = j.val - 2048 by omega))
  · rw [dif_neg h1, dif_neg h1, dif_neg (show ¬ j.val - 2304 < 2048 by omega), dif_neg h2,
      dif_neg (show ¬ j.val - 2304 - 2048 < 8 by omega), dif_neg h3]

/-- A sum over the padded columns, by kinds. -/
theorem sum_wide (f : Fin 4608 → EReal) : ∑ j, f j =
    ∑ a : Fin 2304, f ⟨a.val, by omega⟩ + (∑ b : Fin 2048, f ⟨2304 + b.val, by omega⟩ +
      (∑ e : Fin 8, f ⟨4352 + e.val, by omega⟩ + ∑ z : Fin 248, f ⟨4360 + z.val, by omega⟩)) := by
  refine (Fin.sum_univ_add (M := EReal) (a := 2304) (b := 2304) f).trans (congrArg₂ (fun p q : EReal => p + q) rfl ?_)
  refine (Fin.sum_univ_add (M := EReal) (a := 2048) (b := 256) fun j => f (Fin.natAdd 2304 j)).trans (congrArg₂ (fun p q : EReal => p + q) rfl ?_)
  refine (Fin.sum_univ_add (M := EReal) (a := 8) (b := 248) fun j => f (Fin.natAdd 2304 (Fin.natAdd 2048 j))).trans (congrArg₂ (fun p q : EReal => p + q) ?_ ?_)
  · exact Finset.sum_congr (M := EReal) rfl fun e _ => congrArg f (Fin.ext (show 2304 + (2048 + e.val) = 4352 + e.val by omega))
  · exact Finset.sum_congr (M := EReal) rfl fun e _ => congrArg f (Fin.ext (show 2304 + (2048 + (8 + e.val)) = 4360 + e.val by omega))

/-- A sum over the projection's columns, by kinds. -/
theorem sum_narrow (f : Fin 4360 → EReal) : ∑ j, f j =
    ∑ a : Fin 2304, f ⟨a.val, by omega⟩ + (∑ e : Fin 8, f ⟨2304 + e.val, by omega⟩ + ∑ b : Fin 2048, f ⟨2312 + b.val, by omega⟩) := by
  refine (Fin.sum_univ_add (M := EReal) (a := 2304) (b := 2056) f).trans (congrArg₂ (fun p q : EReal => p + q) rfl ?_)
  refine (Fin.sum_univ_add (M := EReal) (a := 8) (b := 2048) fun j => f (Fin.natAdd 2304 j)).trans (congrArg₂ (fun p q : EReal => p + q) rfl ?_)
  exact Finset.sum_congr (M := EReal) rfl fun e _ => congrArg f (Fin.ext (show 2304 + (8 + e.val) = 2312 + e.val by omega))

/-- The zeros add nothing to a product of two rows laid out alike. -/
theorem sum_padded (f g : Fin 4360 → EReal) : ∑ j : Fin 4608, padded f j * padded g j = ∑ q : Fin 4360, f q * g q := by
  rw [sum_wide, sum_narrow]
  simp only [padded_heads, padded_gates, padded_forget, padded_zero, mul_zero, Finset.sum_const_zero, add_zero]
  rw [add_comm (∑ b : Fin 2048, _ : EReal)]

/-- A sum of products in the kernels' order. -/
theorem padded_sum (f : Fin 8192 → Fin 4360 → EReal) (g : Fin 8192 → EReal) (j : Fin 4608) :
    padded (fun q => ∑ R : Fin 8192, f R q * g R) j = ∑ R : Fin 8192, padded (f R) j * g R := by
  unfold padded
  split_ifs
  · rfl
  · rfl
  · rfl
  · simp only [zero_mul, Finset.sum_const_zero]

/-- A sum of rows in the kernels' order. -/
theorem padded_rows (f : Fin 8192 → Fin 4360 → EReal) (j : Fin 4608) :
    padded (fun q => ∑ R : Fin 8192, f R q) j = ∑ R : Fin 8192, padded (f R) j := by
  unfold padded
  split_ifs
  · rfl
  · rfl
  · rfl
  · simp only [Finset.sum_const_zero]

section Join

variable {α : Type} {s₁ s₂ s₃ s₄ : Shape}

/-- Four pieces joined. -/
def cat4 (t : Shape) (a : Fin t.rank) (h : Shape.Concatenates [s₁, s₂, s₃, s₄] t a) (x₁ : s₁.Idx → α) (x₂ : s₂.Idx → α)
    (x₃ : s₃.Idx → α) (x₄ : s₄.Idx → α) : t.Idx → α :=
  concatenate t a [⟨s₁, x₁⟩, ⟨s₂, x₂⟩, ⟨s₃, x₃⟩, ⟨s₄, x₄⟩] h

end Join

end Cert.Columns

end
-- ==== Proof.ZGradValue.lean ====
module

public import proofs.«01_k».proof.Proof.Gen.ZGradIdeal.Value
public import proofs.«01_k».proof.Proof.Gen.ZGradReferenceIdeal.Read
public import proofs.«01_k».proof.Proof.GradColumns
public import Idealize.ShloMosaic.Lib.Pipeline.ValueKit

@[expose] public section

/-!
  The gradients of the projection's weights and of its bias: 768 columns per grid row, the sums over the tokens in two
  halves.
-/
set_option maxRecDepth 16384

noncomputable section

open Idealize.ShloMosaic Idealize.ShloMosaic.TcCoe Idealize.SL.Sem
open Idealize.ShloMosaic.Pipeline (Dat)

namespace Cert.ZGradIdeal.Product

open Cert.ZGradIdeal Cert.ZGradIdeal.Gen Cert.Columns
open Cert.ZGradReferenceIdeal.Read (val_main_v23 val_main_v24)

variable (m : (ℓ : Loc nD τ sig) → Buf (Elt Ideal) ℓ) (c : Dev nD)

/-- Which block each window holds at grid point `t`. -/
theorem idx : ∀ t : Fin cfg0.N, t.val < 12 ∧ win0_0.index t = ![t.val % 2, t.val / 2] ∧
    win0_1.index t = ![t.val % 2, 0] ∧ win0_2.index t = ![t.val / 2, 0] ∧ win0_3.index t = ![0, t.val / 2] :=
  (by decide +kernel : ∀ t : Fin grid0.N, _)

/-- The zero fills. -/
theorem zero_at (y : S768x1024.Idx) : (k0_pay1 (F := Ideal) y : EReal) = 0 := by
  rw [← ix2_eta y]
  pointwise [k0_pay1]

theorem zero_row_at (y : S1x768.Idx) : (k0_pay2 (F := Ideal) y : EReal) = 0 := by
  rw [← ix2_eta y]
  pointwise [k0_pay2]

/-- A point adds the product of its rows to what it finds. -/
theorem product_at (G : FVec Ideal S4096x768 .bf16) (A : FVec Ideal S768x1024 .f32) (H : FVec Ideal S4096x1024 .bf16)
    (r : Fin 768) (d : Fin 1024) :
    (k0_pay4 (F := Ideal) G A H (ix2 r d) : EReal) =
      A (ix2 r d) + ∑ k : Fin 4096, (G (ix2 k r) : EReal) * H (ix2 k d) := by
  pointwise [k0_pay4, k0_pay3]

/-- A point adds the sums of its columns to what it finds. -/
theorem columns_at (G : FVec Ideal S4096x768 .bf16) (A : FVec Ideal S1x768 .f32) (o : Fin 1) (r : Fin 768) :
    (k0_pay5 (F := Ideal) G A (ix2 o r) : EReal) = A (ix2 o r) + ∑ k : Fin 4096, (G (ix2 k r) : EReal) := by
  pointwise [k0_pay5, k0_pay3]

/-- What point `t` adds to the product. -/
def part (t : Fin cfg0.N) (y : S768x1024.Idx) : EReal :=
  ∑ k : Fin 4096, (show EReal from iblk m c 0 t (ix2 k (y 0))) * (show EReal from iblk m c 1 t (ix2 k (y 1)))

/-- What point `t` adds to the column sums. -/
def partRow (t : Fin cfg0.N) (y : S1x768.Idx) : EReal := ∑ k : Fin 4096, (show EReal from iblk m c 0 t (ix2 k (y 1)))

theorem scratch_A (t : Fin cfg0.N) (y : S768x1024.Idx) (h : t.val % 2 = 0) :
    ((outsAt0 m c t.val t.isLt).2.2 y : EReal) = 0 + part m c t y := by
  rw [outsAt0_A m c t h (by omega)]
  frame_out
  refine (congrArg _ (ix2_eta y).symm).trans ((product_at _ _ _ (y 0) (y 1)).trans ?_)
  rw [zero_at]
  rfl

theorem scratch_B (t : Fin cfg0.N) (y : S768x1024.Idx) (h : ¬ t.val % 2 = 0) :
    ((outsAt0 m c t.val t.isLt).2.2 y : EReal) = ((outsAt0 m c (t.val - 1) (by omega)).2.2 y : EReal) + part m c t y := by
  rw [outsAt0_B m c t h (by omega)]
  frame_out
  refine (congrArg _ (ix2_eta y).symm).trans ((product_at _ _ _ (y 0) (y 1)).trans ?_)
  refine congrArg₂ (fun p q : EReal => p + q) ((congrFun (Memref.IsWhole.read_unread (Memref.isWhole_whole cc0_scratch0) _) _).trans ?_) rfl
  exact congrArg _ (ix2_eta y)

theorem row_A (t : Fin cfg0.N) (y : S1x768.Idx) (h : t.val % 2 = 0) :
    ((outsAt0 m c t.val t.isLt).2.1 y : EReal) = 0 + partRow m c t y := by
  rw [outsAt0_A m c t h (by omega)]
  frame_out
  refine (congrArg _ (ix2_eta y).symm).trans ((columns_at _ _ (y 0) (y 1)).trans ?_)
  rw [zero_row_at]
  rfl

theorem row_B (t : Fin cfg0.N) (y : S1x768.Idx) (h : ¬ t.val % 2 = 0) :
    ((outsAt0 m c t.val t.isLt).2.1 y : EReal) = ((outsAt0 m c (t.val - 1) (by omega)).2.1 y : EReal) + partRow m c t y := by
  rw [outsAt0_B m c t h (by omega)]
  frame_out
  refine (congrArg _ (ix2_eta y).symm).trans ((columns_at _ _ (y 0) (y 1)).trans ?_)
  refine congrArg₂ (fun p q : EReal => p + q) ?_ rfl
  exact congrArg _ (ix2_eta y)

theorem out_B (t : Fin cfg0.N) (z : S768x1024.Idx) (h : ¬ t.val % 2 = 0) :
    ((outsAt0 m c t.val t.isLt).1 z : EReal) = (outsAt0 m c t.val t.isLt).2.2 z := by
  rw [outsAt0_B m c t h (by omega)]
  frame_out
  generalize k0_pay4 (F := Ideal) _ _ _ = A
  rw [← ix2_eta z]
  pointwise [k0_pay6]

/-- The array of the weights' gradient. -/
def gradK : S4608x1024.Idx → EReal := fun y =>
  ∑ s : Fin 2, ∑ k : Fin 4096, (show EReal from V m c main_v5 (ix2 (⟨s.val * 4096 + k.val, by omega⟩ : Fin 8192) (y 0))) *
    (show EReal from V m c main_v6 (ix2 (⟨s.val * 4096 + k.val, by omega⟩ : Fin 8192) (y 1)))

/-- The array of the bias's gradient. -/
def biasK : S1x4608.Idx → EReal := fun y =>
  ∑ s : Fin 2, ∑ k : Fin 4096, (show EReal from V m c main_v5 (ix2 (⟨s.val * 4096 + k.val, by omega⟩ : Fin 8192) (y 1)))

theorem final2 (i : S4608x1024.Idx) : ((dats m 0 c).arrAt 2 cfg0.N i : EReal) = gradK m c i := by
  refine congrFun ((dats m 0 c).arrAt_eq_of_covers 2 (gradK m c) (by decide +kernel) fun t hf z => ?_) i
  blk_simp
  rw [after0_2]
  have hm := (flush0_2 t).mp hf
  refine (out_B m c t _ (by omega)).trans ?_
  refine (Pipeline.eq_sum_fin_of_reset_step_apply_of_flush (fun n h => (outsAt0 m c n h).2.2) 2 (fun _ => (0 : EReal))
    (fun s y => part m c s y) (fun t h y => scratch_A m c t y h) (fun t h y => scratch_B m c t y h) t hm _).trans ?_
  rw [zero_add]
  unfold gradK part
  refine Finset.sum_congr (M := EReal) rfl fun s _ => Finset.sum_congr (M := EReal) rfl fun k _ => ?_
  refine congrArg₂ (fun p q : EReal => p * q) ?_ ?_
  · blk_ext [iblk, V, idx t, idx ⟨_, Pipeline.run_point_lt_of_flush t hm s⟩]
  · blk_ext [iblk, V, idx t, idx ⟨_, Pipeline.run_point_lt_of_flush t hm s⟩]

theorem final3 (i : S1x4608.Idx) : ((dats m 0 c).arrAt 3 cfg0.N i : EReal) = biasK m c i := by
  refine congrFun ((dats m 0 c).arrAt_eq_of_covers 3 (biasK m c) (by decide +kernel) fun t hf z => ?_) i
  blk_simp
  rw [after0_3]
  have hm := (flush0_3 t).mp hf
  refine (Pipeline.eq_sum_fin_of_reset_step_apply_of_flush (fun n h => (outsAt0 m c n h).2.1) 2 (fun _ => (0 : EReal))
    (fun s y => partRow m c s y) (fun t h y => row_A m c t y h) (fun t h y => row_B m c t y h) t hm _).trans ?_
  rw [zero_add]
  unfold biasK partRow
  refine Finset.sum_congr (M := EReal) rfl fun s _ => Finset.sum_congr (M := EReal) rfl fun k _ => ?_
  blk_ext [iblk, V, idx t, idx ⟨_, Pipeline.run_point_lt_of_flush t hm s⟩]

/-- The joining of the incoming gradient's columns, its pieces as arguments. -/
theorem dz_op : ((StableHlo.nary ![main_v0, main_v1, main_v2, main_v3] main_v4 (fun u => (concatenate S8192x4608 1 [⟨S8192x2304, (u 0 : (⟨S8192x2304, .f32⟩ : BufTy).Contents (Elt Ideal))⟩, ⟨S8192x2048, (u 1 : (⟨S8192x2048, .f32⟩ : BufTy).Contents (Elt Ideal))⟩, ⟨S8192x8, (u 2 : (⟨S8192x8, .f32⟩ : BufTy).Contents (Elt Ideal))⟩, ⟨S8192x248, (u 3 : (⟨S8192x248, .f32⟩ : BufTy).Contents (Elt Ideal))⟩] concatenates_S8192x2304_S8192x2048_S8192x8_S8192x248_S8192x4608_d1 : (⟨S8192x4608, .f32⟩ : BufTy).Contents (Elt Ideal)))) : HloOp τ sig (Elt Ideal)) =
    StableHlo.nary ![main_v0, main_v1, main_v2, main_v3] main_v4 (fun u => (cat4 S8192x4608 1 concatenates_S8192x2304_S8192x2048_S8192x8_S8192x248_S8192x4608_d1 (u 0 : (⟨S8192x2304, .f32⟩ : BufTy).Contents (Elt Ideal)) (u 1 : (⟨S8192x2048, .f32⟩ : BufTy).Contents (Elt Ideal)) (u 2 : (⟨S8192x8, .f32⟩ : BufTy).Contents (Elt Ideal)) (u 3 : (⟨S8192x248, .f32⟩ : BufTy).Contents (Elt Ideal)) : (⟨S8192x4608, .f32⟩ : BufTy).Contents (Elt Ideal))) := rfl

theorem entry_dz (R : Fin 8192) (j : Fin 4608) :
    (V m c main_v5 (ix2 R j) : EReal) = padded (fun q => m ((c.tc : Thread nD τ).loc main_arg1) (ix2 R q)) j := by
  simp only [V, hostOps0, dz_op]
  after_results_simp
  dsimp only [Matrix.cons_val]
  after_results_simp
  generalize m ((c.tc : Thread nD τ).loc main_arg1) = x
  pointwise [cat4]
  exact joined (fun q => x (ix2 R q)) j

theorem entry_h (R : Fin 8192) (d : Fin 1024) :
    (V m c main_v6 (ix2 R d) : EReal) = m ((c.tc : Thread nD τ).loc main_arg0) (ix2 R d) := by
  simp only [V, hostOps0, dz_op]
  after_results_simp
  pointwise

open Cert.ZGradReferenceIdeal.Read in
/-- The reference's gradient of the weights, one column of the projection per row. -/
theorem weights_at (x0 : (⟨S8192x1024, .f32⟩ : BufTy).Contents (Elt Ideal)) (x1 : (⟨S8192x4360, .f32⟩ : BufTy).Contents (Elt Ideal))
    (q : Fin 4360) (d : Fin 1024) :
    (val_main_v12 x0 x1 (ix2 q d) : EReal) = ∑ R : Fin 8192, (x1 (ix2 R q) : EReal) * x0 (ix2 R d) := by
  pointwise [val_main_v12, val_main_v11, val_main_v10, val_main_v6]

open Cert.ZGradReferenceIdeal.Read in
/-- The reference's gradient of the bias. -/
theorem bias_at (x1 : (⟨S8192x4360, .f32⟩ : BufTy).Contents (Elt Ideal)) (q : Fin 4360) :
    (val_main_v9 x1 (ix1 q) : EReal) = ∑ R : Fin 8192, (x1 (ix2 R q) : EReal) := by
  pointwise [val_main_v9, val_main_v8, val_main_v7, val_main_cst_1, val_main_cst_2]
  simp only [Finset.univ_unique, Finset.sum_singleton]

open Cert.ZGradReferenceIdeal.Read in
theorem reference_at (x0 : (⟨S8192x1024, .f32⟩ : BufTy).Contents (Elt Ideal)) (x1 : (⟨S8192x4360, .f32⟩ : BufTy).Contents (Elt Ideal))
    (j : Fin 4608) (d : Fin 1024) :
    (val_main_v23 x0 x1 (ix2 j d) : EReal) =
      padded (fun q => ∑ R : Fin 8192, (x1 (ix2 R q) : EReal) * x0 (ix2 R d)) j := by
  rw [← funext fun q => weights_at x0 x1 q d]
  simp only [val_main_v23, val_main_v20, val_main_v13, val_main_v14, val_main_v15]
  generalize val_main_v12 x0 x1 = w
  pointwise [val_main_v19, val_main_cst_3]
  exact joined (fun q => w (ix2 q d)) j

open Cert.ZGradReferenceIdeal.Read in
theorem reference_bias_at (x1 : (⟨S8192x4360, .f32⟩ : BufTy).Contents (Elt Ideal)) (o : Fin 1) (j : Fin 4608) :
    (val_main_v24 x1 (ix2 o j) : EReal) = padded (fun q => ∑ R : Fin 8192, (x1 (ix2 R q) : EReal)) j := by
  rw [← funext fun q => bias_at x1 q]
  simp only [val_main_v24, val_main_v22, val_main_v16, val_main_v17, val_main_v18]
  generalize val_main_v9 x1 = w
  pointwise [val_main_v21, val_main_cst_4]
  exact joined (fun q => w (ix1 q)) j

variable {x0 : (⟨S8192x1024, .f32⟩ : BufTy).Contents (Elt Ideal)} {x1 : (⟨S8192x4360, .f32⟩ : BufTy).Contents (Elt Ideal)}
  (h0 : m ((c.tc : Thread nD τ).loc main_arg0) = x0) (h1 : m ((c.tc : Thread nD τ).loc main_arg1) = x1)

include h0 h1 in
theorem grad_at (j : Fin 4608) (d : Fin 1024) : gradK m c (ix2 j d) = val_main_v23 x0 x1 (ix2 j d) := by
  refine Eq.trans ?_ ((reference_at x0 x1 j d).trans (padded_sum (fun R q => x1 (ix2 R q)) (fun R => x0 (ix2 R d)) j)).symm
  rw [Fin.sum_univ_tiles 2 4096 rfl]
  refine Finset.sum_congr (M := EReal) rfl fun s _ => Finset.sum_congr (M := EReal) rfl fun k _ => ?_
  refine congrArg₂ (fun p q : EReal => p * q) ((entry_dz m c _ _).trans ?_) ((entry_h m c _ _).trans (congrFun h0 _))
  rw [h1]
  rfl

include h0 h1 in
/-- The gradient of the weights: kernel and reference. -/
theorem grad_eq : (dats m 0 c).arrAt 2 cfg0.N = val_main_v23 x0 x1 :=
  funext fun i : S4608x1024.Idx => (final2 m c i).trans
    ((congrArg (gradK m c) (eq_ix2 i)).trans ((grad_at m c h0 h1 _ _).trans
      (congrArg (val_main_v23 x0 x1) (eq_ix2 i)).symm))

include h1 in
theorem bias_grad_at (o : Fin 1) (j : Fin 4608) : biasK m c (ix2 o j) = val_main_v24 x1 (ix2 o j) := by
  refine Eq.trans ?_ ((reference_bias_at x1 o j).trans (padded_rows (fun R q => x1 (ix2 R q)) j)).symm
  rw [Fin.sum_univ_tiles 2 4096 rfl]
  refine Finset.sum_congr (M := EReal) rfl fun s _ => Finset.sum_congr (M := EReal) rfl fun k _ => ?_
  refine (entry_dz m c _ _).trans ?_
  rw [h1]
  rfl

include h1 in
/-- The gradient of the bias: kernel and reference. -/
theorem bias_grad_eq : (dats m 0 c).arrAt 3 cfg0.N = val_main_v24 x1 :=
  funext fun i : S1x4608.Idx => (final3 m c i).trans
    ((congrArg (biasK m c) (eq_ix2 i)).trans ((bias_grad_at m c h1 _ _).trans
      (congrArg (val_main_v24 x1) (eq_ix2 i)).symm))

end Cert.ZGradIdeal.Product

end
-- ==== Proof.HGradValue.lean ====
module

public import proofs.«01_k».proof.Proof.Gen.HGradIdeal.Value
public import proofs.«01_k».proof.Proof.Gen.HGradReferenceIdeal.Read
public import proofs.«01_k».proof.Proof.GradColumns
public import proofs.«01_k».proof.Proof.RefResults
public import Idealize.ShloMosaic.Lib.Pipeline.ValueKit

@[expose] public section

/-!
  The gradient at the layer's input: the incoming gradient of the projection times the weights, and the gradient that comes
  past the layer times the root of two.
-/
set_option maxRecDepth 16384

noncomputable section

open Idealize.ShloMosaic Idealize.ShloMosaic.TcCoe Idealize.SL.Sem
open Idealize.ShloMosaic.Pipeline (Dat)

namespace Cert.HGradIdeal.Product

open Cert.HGradIdeal Cert.HGradIdeal.Gen Cert.Columns
open Cert.HGradReferenceIdeal.Read (val_main_v4)

variable (m : (ℓ : Loc nD τ sig) → Buf (Elt Ideal) ℓ) (c : Dev nD)

/-- Which block each window holds at grid point `t`. -/
theorem idx : ∀ t : Fin cfg0.N, t.val < 16 ∧ win0_0.index t = ![t.val, 0] ∧
    win0_1.index t = ![0, 0] ∧ win0_2.index t = ![t.val, 0] ∧ win0_3.index t = ![t.val, 0] :=
  (by decide +kernel : ∀ t : Fin grid0.N, _)

/-- A point's rows. -/
theorem product_at (A : FVec Ideal S512x1024 .f32) (G : FVec Ideal S512x4608 .bf16) (W : FVec Ideal S4608x1024 .bf16)
    (r : Fin 512) (d : Fin 1024) :
    (k0_pay1 (F := Ideal) A G W (ix2 r d) : EReal) =
      ((Real.sqrt 2 : ℝ) : EReal) * A (ix2 r d) + ∑ k : Fin 4608, (G (ix2 r k) : EReal) * W (ix2 k d) := by
  have e : (Named.named κ "alpha" 0x3FB504F3#32 : Ideal .f32) = ((Real.sqrt 2 : ℝ) : EReal) := rfl
  rw [← e]
  generalize hq : (Named.named κ "alpha" 0x3FB504F3#32 : Ideal .f32) = q
  pointwise [k0_pay1]
  rw [hq]

/-- The array of the gradient. -/
def gradK : S8192x1024.Idx → EReal := fun y =>
  ((Real.sqrt 2 : ℝ) : EReal) * (show EReal from V m c main_arg2 (ix2 (y 0) (y 1))) +
    ∑ k : Fin 4608, (show EReal from V m c main_v5 (ix2 (y 0) k)) * (show EReal from V m c main_v12 (ix2 k (y 1)))

theorem final3 (i : S8192x1024.Idx) : ((dats m 0 c).arrAt 3 cfg0.N i : EReal) = gradK m c i := by
  refine congrFun ((dats m 0 c).arrAt_eq_of_covers 3 (gradK m c) (by decide +kernel) fun t hf z => ?_) i
  blk_simp
  rw [after0_3]
  frame_out
  refine (congrArg _ (ix2_eta z).symm).trans ((product_at _ _ _ (z 0) (z 1)).trans ?_)
  unfold gradK
  refine congrArg₂ (fun p q : EReal => p + q) (congrArg (fun q : EReal => _ * q) ?_)
    (Finset.sum_congr (M := EReal) rfl fun k _ => congrArg₂ (fun p q : EReal => p * q) ?_ ?_)
  · blk_ext [iblk, V, idx t]
  · blk_ext [iblk, V, idx t]
  · blk_ext [iblk, V, idx t]

/-- The joining of the incoming gradient's columns, its pieces as arguments. -/
theorem dz_op : ((StableHlo.nary ![main_v0, main_v1, main_v2, main_v3] main_v4 (fun u => (concatenate S8192x4608 1 [⟨S8192x2304, (u 0 : (⟨S8192x2304, .f32⟩ : BufTy).Contents (Elt Ideal))⟩, ⟨S8192x2048, (u 1 : (⟨S8192x2048, .f32⟩ : BufTy).Contents (Elt Ideal))⟩, ⟨S8192x8, (u 2 : (⟨S8192x8, .f32⟩ : BufTy).Contents (Elt Ideal))⟩, ⟨S8192x248, (u 3 : (⟨S8192x248, .f32⟩ : BufTy).Contents (Elt Ideal))⟩] concatenates_S8192x2304_S8192x2048_S8192x8_S8192x248_S8192x4608_d1 : (⟨S8192x4608, .f32⟩ : BufTy).Contents (Elt Ideal)))) : HloOp τ sig (Elt Ideal)) =
    StableHlo.nary ![main_v0, main_v1, main_v2, main_v3] main_v4 (fun u => (cat4 S8192x4608 1 concatenates_S8192x2304_S8192x2048_S8192x8_S8192x248_S8192x4608_d1 (u 0 : (⟨S8192x2304, .f32⟩ : BufTy).Contents (Elt Ideal)) (u 1 : (⟨S8192x2048, .f32⟩ : BufTy).Contents (Elt Ideal)) (u 2 : (⟨S8192x8, .f32⟩ : BufTy).Contents (Elt Ideal)) (u 3 : (⟨S8192x248, .f32⟩ : BufTy).Contents (Elt Ideal)) : (⟨S8192x4608, .f32⟩ : BufTy).Contents (Elt Ideal))) := rfl

/-- The joining of the weights' rows, its pieces as arguments. -/
theorem w_op : ((StableHlo.nary ![main_v7, main_v8, main_v9, main_v10] main_v11 (fun u => (concatenate S4608x1024 0 [⟨S2304x1024, (u 0 : (⟨S2304x1024, .f32⟩ : BufTy).Contents (Elt Ideal))⟩, ⟨S2048x1024, (u 1 : (⟨S2048x1024, .f32⟩ : BufTy).Contents (Elt Ideal))⟩, ⟨S8x1024, (u 2 : (⟨S8x1024, .f32⟩ : BufTy).Contents (Elt Ideal))⟩, ⟨S248x1024, (u 3 : (⟨S248x1024, .f32⟩ : BufTy).Contents (Elt Ideal))⟩] concatenates_S2304x1024_S2048x1024_S8x1024_S248x1024_S4608x1024_d0 : (⟨S4608x1024, .f32⟩ : BufTy).Contents (Elt Ideal)))) : HloOp τ sig (Elt Ideal)) =
    StableHlo.nary ![main_v7, main_v8, main_v9, main_v10] main_v11 (fun u => (cat4 S4608x1024 0 concatenates_S2304x1024_S2048x1024_S8x1024_S248x1024_S4608x1024_d0 (u 0 : (⟨S2304x1024, .f32⟩ : BufTy).Contents (Elt Ideal)) (u 1 : (⟨S2048x1024, .f32⟩ : BufTy).Contents (Elt Ideal)) (u 2 : (⟨S8x1024, .f32⟩ : BufTy).Contents (Elt Ideal)) (u 3 : (⟨S248x1024, .f32⟩ : BufTy).Contents (Elt Ideal)) : (⟨S4608x1024, .f32⟩ : BufTy).Contents (Elt Ideal))) := rfl

theorem entry_dz (R : Fin 8192) (j : Fin 4608) :
    (V m c main_v5 (ix2 R j) : EReal) = padded (fun q => m ((c.tc : Thread nD τ).loc main_arg0) (ix2 R q)) j := by
  simp only [V, hostOps0, dz_op, w_op]
  after_results_simp
  dsimp only [Matrix.cons_val]
  after_results_simp
  generalize m ((c.tc : Thread nD τ).loc main_arg0) = x
  pointwise [cat4]
  exact joined (fun q => x (ix2 R q)) j

theorem entry_w (j : Fin 4608) (d : Fin 1024) :
    (V m c main_v12 (ix2 j d) : EReal) = padded (fun q => m ((c.tc : Thread nD τ).loc main_arg1) (ix2 d q)) j := by
  simp only [V, hostOps0, dz_op, w_op]
  after_results_simp
  dsimp only [Matrix.cons_val]
  after_results_simp
  generalize m ((c.tc : Thread nD τ).loc main_arg1) = x
  pointwise [cat4]
  exact joined (fun q => x (ix2 d q)) j

theorem entry_du (R : Fin 8192) (d : Fin 1024) :
    (V m c main_arg2 (ix2 R d) : EReal) = m ((c.tc : Thread nD τ).loc main_arg2) (ix2 R d) := by
  simp only [V, hostOps0, dz_op, w_op]
  after_results_simp

/-- The reference's gradient. -/
theorem reference_at (x0 : (⟨S8192x4360, .f32⟩ : BufTy).Contents (Elt Ideal)) (x1 : (⟨S1024x4360, .f32⟩ : BufTy).Contents (Elt Ideal))
    (x2 : (⟨S8192x1024, .f32⟩ : BufTy).Contents (Elt Ideal)) (R : Fin 8192) (d : Fin 1024) :
    (val_main_v4 x0 x1 x2 (ix2 R d) : EReal) =
      ((Real.sqrt 2 : ℝ) : EReal) * x2 (ix2 R d) + ∑ q : Fin 4360, (x0 (ix2 R q) : EReal) * x1 (ix2 d q) := by
  rw [← Cert.ReferenceIdeal.ConvValue.alpha_pow]
  unfold val_main_v4
  pointwise [Cert.HGradReferenceIdeal.Read.val_main_v3, Cert.HGradReferenceIdeal.Read.val_main_v2, Cert.HGradReferenceIdeal.Read.val_main_v1,
    Cert.HGradReferenceIdeal.Read.val_main_cst, Cert.HGradReferenceIdeal.Read.val_main_cst_0, Cert.HGradReferenceIdeal.Read.val_main_v0]

variable {x0 : (⟨S8192x4360, .f32⟩ : BufTy).Contents (Elt Ideal)} {x1 : (⟨S1024x4360, .f32⟩ : BufTy).Contents (Elt Ideal)}
  {x2 : (⟨S8192x1024, .f32⟩ : BufTy).Contents (Elt Ideal)} (h0 : m ((c.tc : Thread nD τ).loc main_arg0) = x0)
  (h1 : m ((c.tc : Thread nD τ).loc main_arg1) = x1) (h2 : m ((c.tc : Thread nD τ).loc main_arg2) = x2)

include h0 h1 h2 in
theorem grad_at (R : Fin 8192) (d : Fin 1024) : gradK m c (ix2 R d) = val_main_v4 x0 x1 x2 (ix2 R d) := by
  refine Eq.trans ?_ (reference_at x0 x1 x2 R d).symm
  refine congrArg₂ (fun p q : EReal => p + q) (congrArg (fun q : EReal => _ * q) ((entry_du m c R d).trans (congrFun h2 _))) ?_
  refine Eq.trans (Finset.sum_congr (M := EReal) rfl fun k _ => congrArg₂ (fun p q : EReal => p * q) (entry_dz m c R k) (entry_w m c k d)) ?_
  rw [h0, h1]
  exact sum_padded _ _

include h0 h1 h2 in
/-- The gradient at the layer's input: kernel and reference. -/
theorem grad_eq : (dats m 0 c).arrAt 3 cfg0.N = val_main_v4 x0 x1 x2 :=
  funext fun i : S8192x1024.Idx => (final3 m c i).trans
    ((congrArg (gradK m c) (eq_ix2 i)).trans ((grad_at m c h0 h1 h2 _ _).trans
      (congrArg (val_main_v4 x0 x1 x2) (eq_ix2 i)).symm))

end Cert.HGradIdeal.Product

end
-- ==== Proof.ZProjValue.lean ====
module

public import proofs.«01_k».proof.Proof.Gen.ZProjIdeal.Value
public import proofs.«01_k».proof.Proof.Gen.ZProjReferenceIdeal.Read
public import proofs.«01_k».proof.Proof.GradColumns
public import Idealize.ShloMosaic.Lib.Pipeline.ValueKit

@[expose] public section

/-!
  The projection: the layer's input times the weights, plus the bias. The heads' columns are one result, the gates' and the
  forgetting heads' with the zeros after them another; the third is the input itself.
-/
set_option maxRecDepth 16384

noncomputable section

open Idealize.ShloMosaic Idealize.ShloMosaic.TcCoe Idealize.SL.Sem
open Idealize.ShloMosaic.Pipeline (Dat)

namespace Cert.ZProjIdeal.Product

open Cert.ZProjIdeal Cert.ZProjIdeal.Gen Cert.Columns
open Cert.ZProjReferenceIdeal.Read

variable (m : (ℓ : Loc nD τ sig) → Buf (Elt Ideal) ℓ) (c : Dev nD)

/-- Which block each window holds at grid point `t`. -/
theorem idx : ∀ t : Fin cfg0.N, t.val < 16 ∧ win0_0.index t = ![t.val, 0] ∧ win0_1.index t = ![0, 0] ∧
    win0_2.index t = ![0, 0] ∧ win0_3.index t = ![t.val, 0] ∧ win0_4.index t = ![t.val, 0] ∧ win0_5.index t = ![t.val, 0] :=
  (by decide +kernel : ∀ t : Fin grid0.N, _)

/-- A point's rows, at the heads' columns. -/
theorem heads_at (A : FVec Ideal S512x1024 .f32) (W : FVec Ideal S2304x1024 .bf16) (B : FVec Ideal S1x2304 .f32)
    (r : Fin 512) (d : Fin 2304) :
    (k0_pay2 (F := Ideal) A W B (ix2 r d) : EReal) =
      (∑ k : Fin 1024, (A (ix2 r k) : EReal) * W (ix2 d k)) + B (ix2 (0 : Fin 1) d) := by
  pointwise [k0_pay2, k0_pay1]

/-- A point's rows, at the other columns. -/
theorem gates_at (A : FVec Ideal S512x1024 .f32) (W : FVec Ideal S2304x1024 .bf16) (B : FVec Ideal S1x2304 .f32)
    (r : Fin 512) (d : Fin 2304) :
    (k0_pay3 (F := Ideal) A W B (ix2 r d) : EReal) =
      (∑ k : Fin 1024, (A (ix2 r k) : EReal) * W (ix2 d k)) + B (ix2 (0 : Fin 1) d) := by
  pointwise [k0_pay3, k0_pay1]

/-- One entry of the projection, from the arrays at the call. -/
def entryK (R : Fin 8192) (j : Fin 4608) : EReal :=
  (∑ k : Fin 1024, (show EReal from V m c main_arg0 (ix2 R k)) * (show EReal from V m c main_v6 (ix2 j k))) +
    (show EReal from V m c main_v12 (ix2 (0 : Fin 1) j))

/-- The row of the array a point's row is. -/
def rowOf (t : Fin cfg0.N) (r : Fin 512) : Fin 8192 := ⟨t.val * 512 + r.val, by have := (idx t).1; omega⟩

/-- A point's entry, its operands read off the arrays. -/
theorem entry_of (t : Fin cfg0.N) (r : Fin 512) (d : Fin 2304) (j : Fin 4608) (A : FVec Ideal S512x1024 .f32) (W : FVec Ideal S2304x1024 .bf16)
    (B : FVec Ideal S1x2304 .f32) (hA : ∀ k, (A (ix2 r k) : EReal) = iblk m c 0 t (ix2 r k))
    (hW : ∀ k, (W (ix2 d k) : EReal) = iblk m c 1 t (ix2 j k)) (hB : (B (ix2 (0 : Fin 1) d) : EReal) = iblk m c 2 t (ix2 (0 : Fin 1) j)) :
    (∑ k : Fin 1024, (A (ix2 r k) : EReal) * W (ix2 d k)) + B (ix2 (0 : Fin 1) d) = entryK m c (rowOf t r) j := by
  unfold entryK
  refine congrArg₂ (fun p q : EReal => p + q)
    (Finset.sum_congr (M := EReal) rfl fun k _ => congrArg₂ (fun p q : EReal => p * q) ((hA k).trans ?_) ((hW k).trans ?_)) (hB.trans ?_)
  · blk_ext [iblk, V, idx t, rowOf]
  · blk_ext [iblk, V, idx t]
  · blk_ext [iblk, V, idx t]

/-- The heads' columns among all. -/
def headCol (d : Fin 2304) : Fin 4608 := ⟨d.val, by omega⟩

/-- The other columns among all. -/
def restCol (d : Fin 2304) : Fin 4608 := ⟨2304 + d.val, by omega⟩

theorem final3 (i : S8192x2304.Idx) : ((dats m 0 c).arrAt 3 cfg0.N i : EReal) = entryK m c (i 0) (headCol (i 1)) := by
  refine congrFun ((dats m 0 c).arrAt_eq_of_covers 3 (fun i : S8192x2304.Idx => entryK m c (i 0) (headCol (i 1))) (by decide +kernel) fun t hf z => ?_) i
  blk_simp
  rw [after0_3]
  frame_out
  refine (congrArg _ (ix2_eta z).symm).trans ((heads_at _ _ _ (z 0) (z 1)).trans ((entry_of m c t (z 0) (z 1) (headCol (z 1)) _ _ _ ?_ ?_ ?_).trans ?_))
  · intro k; rfl
  · intro k
    exact View.ld_unit_apply_of _ _ _ _ _ (ix2 (headCol (z 1)) k) (Fin.forall_fin_two.mpr ⟨(Nat.zero_add _).symm, (Nat.zero_add _).symm⟩)
  · exact View.ld_unit_apply_of _ _ _ _ _ (ix2 (0 : Fin 1) (headCol (z 1))) (Fin.forall_fin_two.mpr ⟨rfl, (Nat.zero_add _).symm⟩)
  · refine congrArg₂ (entryK m c) (Fin.ext ?_) (Fin.ext ?_)
    · blk_ext [rowOf, idx t]
    · blk_ext [headCol, idx t]

theorem final4 (i : S8192x2304.Idx) : ((dats m 0 c).arrAt 4 cfg0.N i : EReal) = entryK m c (i 0) (restCol (i 1)) := by
  refine congrFun ((dats m 0 c).arrAt_eq_of_covers 4 (fun i : S8192x2304.Idx => entryK m c (i 0) (restCol (i 1))) (by decide +kernel) fun t hf z => ?_) i
  blk_simp
  rw [after0_4]
  frame_out
  refine (congrArg _ (ix2_eta z).symm).trans ((gates_at _ _ _ (z 0) (z 1)).trans ((entry_of m c t (z 0) (z 1) (restCol (z 1)) _ _ _ ?_ ?_ ?_).trans ?_))
  · intro k; rfl
  · intro k
    exact View.ld_unit_apply_of _ _ _ _ _ (ix2 (restCol (z 1)) k) (Fin.forall_fin_two.mpr ⟨rfl, (Nat.zero_add _).symm⟩)
  · exact View.ld_unit_apply_of _ _ _ _ _ (ix2 (0 : Fin 1) (restCol (z 1))) (Fin.forall_fin_two.mpr ⟨rfl, rfl⟩)
  · refine congrArg₂ (entryK m c) (Fin.ext ?_) (Fin.ext ?_)
    · blk_ext [rowOf, idx t]
    · blk_ext [restCol, idx t]

theorem final5 (i : S8192x1024.Idx) : ((dats m 0 c).arrAt 5 cfg0.N i : EReal) = V m c main_arg0 i := by
  refine congrFun ((dats m 0 c).arrAt_eq_of_covers 5 (fun i : S8192x1024.Idx => (show EReal from V m c main_arg0 i)) (by decide +kernel) fun t hf z => ?_) i
  blk_simp
  rw [after0_5]
  frame_out
  refine (congrArg _ (ix2_eta z).symm).trans ?_
  pointwise [k0_pay1]
  blk_ext [iblk, V, idx t]

/-- The joining of the weights' rows, its pieces as arguments. -/
theorem w_op : ((StableHlo.nary ![main_v1, main_v2, main_v3, main_v4] main_v5 (fun u => (concatenate S4608x1024 0 [⟨S2304x1024, (u 0 : (⟨S2304x1024, .f32⟩ : BufTy).Contents (Elt Ideal))⟩, ⟨S2048x1024, (u 1 : (⟨S2048x1024, .f32⟩ : BufTy).Contents (Elt Ideal))⟩, ⟨S8x1024, (u 2 : (⟨S8x1024, .f32⟩ : BufTy).Contents (Elt Ideal))⟩, ⟨S248x1024, (u 3 : (⟨S248x1024, .f32⟩ : BufTy).Contents (Elt Ideal))⟩] concatenates_S2304x1024_S2048x1024_S8x1024_S248x1024_S4608x1024_d0 : (⟨S4608x1024, .f32⟩ : BufTy).Contents (Elt Ideal)))) : HloOp τ sig (Elt Ideal)) =
    StableHlo.nary ![main_v1, main_v2, main_v3, main_v4] main_v5 (fun u => (cat4 S4608x1024 0 concatenates_S2304x1024_S2048x1024_S8x1024_S248x1024_S4608x1024_d0 (u 0 : (⟨S2304x1024, .f32⟩ : BufTy).Contents (Elt Ideal)) (u 1 : (⟨S2048x1024, .f32⟩ : BufTy).Contents (Elt Ideal)) (u 2 : (⟨S8x1024, .f32⟩ : BufTy).Contents (Elt Ideal)) (u 3 : (⟨S248x1024, .f32⟩ : BufTy).Contents (Elt Ideal)) : (⟨S4608x1024, .f32⟩ : BufTy).Contents (Elt Ideal))) := rfl

/-- The joining of the bias, its pieces as arguments. -/
theorem b_op : ((StableHlo.nary ![main_v8, main_v9, main_v10, main_v11] main_v12 (fun u => (concatenate S1x4608 1 [⟨S1x2304, (u 0 : (⟨S1x2304, .f32⟩ : BufTy).Contents (Elt Ideal))⟩, ⟨S1x2048, (u 1 : (⟨S1x2048, .f32⟩ : BufTy).Contents (Elt Ideal))⟩, ⟨S1x8, (u 2 : (⟨S1x8, .f32⟩ : BufTy).Contents (Elt Ideal))⟩, ⟨S1x248, (u 3 : (⟨S1x248, .f32⟩ : BufTy).Contents (Elt Ideal))⟩] concatenates_S1x2304_S1x2048_S1x8_S1x248_S1x4608_d1 : (⟨S1x4608, .f32⟩ : BufTy).Contents (Elt Ideal)))) : HloOp τ sig (Elt Ideal)) =
    StableHlo.nary ![main_v8, main_v9, main_v10, main_v11] main_v12 (fun u => (cat4 S1x4608 1 concatenates_S1x2304_S1x2048_S1x8_S1x248_S1x4608_d1 (u 0 : (⟨S1x2304, .f32⟩ : BufTy).Contents (Elt Ideal)) (u 1 : (⟨S1x2048, .f32⟩ : BufTy).Contents (Elt Ideal)) (u 2 : (⟨S1x8, .f32⟩ : BufTy).Contents (Elt Ideal)) (u 3 : (⟨S1x248, .f32⟩ : BufTy).Contents (Elt Ideal)) : (⟨S1x4608, .f32⟩ : BufTy).Contents (Elt Ideal))) := rfl

theorem entry_h (R : Fin 8192) (k : Fin 1024) :
    (V m c main_arg0 (ix2 R k) : EReal) = m ((c.tc : Thread nD τ).loc main_arg0) (ix2 R k) := by
  simp only [V, hostOps0, w_op, b_op]
  after_results_simp

theorem entry_w (j : Fin 4608) (k : Fin 1024) :
    (V m c main_v6 (ix2 j k) : EReal) = padded (fun q => m ((c.tc : Thread nD τ).loc main_arg1) (ix2 k q)) j := by
  simp only [V, hostOps0, w_op, b_op]
  after_results_simp
  dsimp only [Matrix.cons_val]
  after_results_simp
  generalize m ((c.tc : Thread nD τ).loc main_arg1) = x
  pointwise [cat4]
  exact joined (fun q => x (ix2 k q)) j

theorem entry_b (j : Fin 4608) :
    (V m c main_v12 (ix2 (0 : Fin 1) j) : EReal) = padded (fun q => m ((c.tc : Thread nD τ).loc main_arg2) (ix1 q)) j := by
  simp only [V, hostOps0, w_op, b_op]
  after_results_simp
  dsimp only [Matrix.cons_val]
  after_results_simp
  generalize m ((c.tc : Thread nD τ).loc main_arg2) = x
  pointwise [cat4]
  exact joined (fun q => x (ix1 q)) j

/-- A product plus a bias, in the kernels' order. -/
theorem padded_affine (h : Fin 1024 → EReal) (w : Fin 1024 → Fin 4360 → EReal) (b : Fin 4360 → EReal) (j : Fin 4608) :
    (∑ k : Fin 1024, h k * padded (w k) j) + padded b j = padded (fun q => (∑ k : Fin 1024, h k * w k q) + b q) j := by
  unfold padded
  split_ifs
  · rfl
  · rfl
  · rfl
  · simp only [mul_zero, Finset.sum_const_zero, add_zero]

/-- The gates' columns, the forgetting heads' and the zeros joined are the padded row after the heads' columns. -/
theorem joined_rest (f : Fin 4360 → EReal) (d : Fin 2304) :
    (if h : d.val < 2048 then f ⟨2312 + d.val, by omega⟩
      else if h : d.val - 2048 < 8 then f ⟨2304 + (d.val - 2048), by omega⟩
      else 0) = padded f (restCol d) := by
  unfold padded restCol
  rw [dif_neg (show ¬ 2304 + d.val < 2304 by omega)]
  by_cases h2 : d.val < 2048
  · rw [dif_pos h2, dif_pos (show 2304 + d.val < 4352 by omega)]
    exact congrArg f (Fin.ext (show 2312 + d.val = 2304 + d.val + 8 by omega))
  by_cases h3 : d.val < 2056
  · rw [dif_neg h2, dif_pos (show d.val - 2048 < 8 by omega), dif_neg (show ¬ 2304 + d.val < 4352 by omega), dif_pos (show 2304 + d.val < 4360 by omega)]
    exact congrArg f (Fin.ext (show 2304 + (d.val - 2048) = 2304 + d.val - 2048 by omega))
  · rw [dif_neg h2, dif_neg (show ¬ d.val - 2048 < 8 by omega), dif_neg (show ¬ 2304 + d.val < 4352 by omega), dif_neg (show ¬ 2304 + d.val < 4360 by omega)]

section Reference

variable (x0 : (⟨S8192x1024, .f32⟩ : BufTy).Contents (Elt Ideal)) (x1 : (⟨S1024x4360, .f32⟩ : BufTy).Contents (Elt Ideal))
  (x2 : (⟨S4360, .f32⟩ : BufTy).Contents (Elt Ideal))

/-- A row of the reference's projection. -/
def row (R : Fin 8192) (q : Fin 4360) : EReal := (∑ k : Fin 1024, (x0 (ix2 R k) : EReal) * x1 (ix2 k q)) + x2 (ix1 q)

theorem row_ref (R : Fin 8192) (q : Fin 4360) : (val_main_v3 x0 x1 x2 (ix2 R q) : EReal) = row x0 x1 x2 R q := by
  unfold val_main_v3 row
  pointwise [val_main_v0, val_main_v1, val_main_v2]

/-- The reference's heads. -/
theorem heads_ref (R : Fin 8192) (d : Fin 2304) : (val_main_v7 x0 x1 x2 (ix2 R d) : EReal) = row x0 x1 x2 R ⟨d.val, by omega⟩ := by
  rw [← row_ref]
  unfold val_main_v7 val_main_v4
  generalize val_main_v3 x0 x1 x2 = z
  pointwise

/-- The reference's gates, forgetting heads and zeros. -/
theorem rest_ref (R : Fin 8192) (d : Fin 2304) : (val_main_v9 x0 x1 x2 (ix2 R d) : EReal) = padded (row x0 x1 x2 R) (restCol d) := by
  rw [← show val_main_v3 x0 x1 x2 ∘ ix2 R = row x0 x1 x2 R from funext (row_ref x0 x1 x2 R)]
  unfold val_main_v9 val_main_v6 val_main_v5
  generalize val_main_v3 x0 x1 x2 = z
  pointwise [val_main_v8, val_main_cst]
  exact joined_rest (fun q => z (ix2 R q)) d

end Reference

variable {x0 : (⟨S8192x1024, .f32⟩ : BufTy).Contents (Elt Ideal)} {x1 : (⟨S1024x4360, .f32⟩ : BufTy).Contents (Elt Ideal)}
  {x2 : (⟨S4360, .f32⟩ : BufTy).Contents (Elt Ideal)} (h0 : m ((c.tc : Thread nD τ).loc main_arg0) = x0)
  (h1 : m ((c.tc : Thread nD τ).loc main_arg1) = x1) (h2 : m ((c.tc : Thread nD τ).loc main_arg2) = x2)

include h0 h1 h2 in
theorem entry_eq (R : Fin 8192) (j : Fin 4608) : entryK m c R j = padded (row x0 x1 x2 R) j := by
  refine Eq.trans ?_ (padded_affine (fun k => x0 (ix2 R k)) (fun k q => x1 (ix2 k q)) (fun q => x2 (ix1 q)) j)
  unfold entryK
  refine congrArg₂ (fun p q : EReal => p + q)
    (Finset.sum_congr (M := EReal) rfl fun k _ => congrArg₂ (fun p q : EReal => p * q) ((entry_h m c R k).trans (congrFun h0 _)) ((entry_w m c j k).trans ?_))
    ((entry_b m c j).trans ?_)
  · rw [h1]
  · rw [h2]

include h0 h1 h2 in
/-- The heads: kernel and reference. -/
theorem heads_eq : (dats m 0 c).arrAt 3 cfg0.N = val_main_v7 x0 x1 x2 :=
  funext fun i : S8192x2304.Idx => by
    refine (final3 m c i).trans (Eq.trans ?_ (congrArg (val_main_v7 x0 x1 x2) (eq_ix2 i)).symm)
    exact (entry_eq m c h0 h1 h2 (i 0) _).trans ((padded_heads _ (i 1)).trans (heads_ref x0 x1 x2 (i 0) (i 1)).symm)

include h0 h1 h2 in
/-- The gates, the forgetting heads and the zeros: kernel and reference. -/
theorem rest_eq : (dats m 0 c).arrAt 4 cfg0.N = val_main_v9 x0 x1 x2 :=
  funext fun i : S8192x2304.Idx => by
    refine (final4 m c i).trans (Eq.trans ?_ (congrArg (val_main_v9 x0 x1 x2) (eq_ix2 i)).symm)
    exact (entry_eq m c h0 h1 h2 (i 0) _).trans (rest_ref x0 x1 x2 (i 0) (i 1)).symm

include h0 in
/-- The input in the other type: kernel and reference. -/
theorem input_eq : (dats m 0 c).arrAt 5 cfg0.N = val_main_v10 x0 :=
  funext fun i : S8192x1024.Idx => by
    refine (final5 m c i).trans (Eq.trans (congrArg (V m c main_arg0) (eq_ix2 i)) (Eq.trans ?_ (congrArg (val_main_v10 x0) (eq_ix2 i)).symm))
    refine (entry_h m c (i 0) (i 1)).trans ((congrFun h0 _).trans ?_)
    pointwise [val_main_v10]

end Cert.ZProjIdeal.Product

end
-- ==== Proof.RowNorm.lean ====
module

public import Idealize.ShloMosaic.Lib.Pipeline.ValueKit

@[expose] public section

/-!
  The layer norm of a row of 1024 entries: each entry less the row's mean, over the root of the mean square of these
  differences plus a small constant, times a gain, plus a bias.
-/

noncomputable section

open Idealize.ShloMosaic

namespace Cert.RowNorm

/-- The mean of a row. -/
def mean (u : Fin 1024 → EReal) : EReal := Ideal.div (∑ k, u k) (Ideal.ofBits .f32 0x44800000#32)

/-- An entry less the row's mean. -/
def dev (u : Fin 1024 → EReal) (d : Fin 1024) : EReal := u d - mean u

/-- The norm's entry `d`. -/
def norm (u : Fin 1024 → EReal) (g b : EReal) (d : Fin 1024) : EReal :=
  dev u d * Ideal.rsqrt (mean (fun k => dev u k * dev u k) + Ideal.ofBits .f32 0x3727C5AC#32) * g + b

end Cert.RowNorm

end
-- ==== Proof.FfnOutValue.lean ====
module

public import proofs.«01_k».proof.Proof.Gen.FfnOutIdeal.Value
public import proofs.«01_k».proof.Proof.Gen.FfnOutReferenceIdeal.Read
public import proofs.«01_k».proof.Proof.RefResults
public import proofs.«01_k».proof.Proof.RowNorm
public import Idealize.ShloMosaic.Lib.Pipeline.ValueKit

@[expose] public section

/-!
  The feed-forward's output: the activations times the weights, by four chunks of channels, added to the root of two times
  the layer's inner state; and the layer norm of that sum.
-/
set_option maxRecDepth 16384

noncomputable section

open Idealize.ShloMosaic Idealize.ShloMosaic.TcCoe Idealize.SL.Sem
open Idealize.ShloMosaic.Pipeline (Dat)

namespace Cert.FfnOutIdeal.Product

open Cert.FfnOutIdeal Cert.FfnOutIdeal.Gen Cert.RowNorm
open Cert.FfnOutReferenceIdeal.Read

variable (m : (ℓ : Loc nD τ sig) → Buf (Elt Ideal) ℓ) (c : Dev nD)

/-- Which block each window holds at grid point `t`. -/
theorem idx : ∀ t : Fin cfg0.N, t.val < 16 ∧ win0_0.index t = ![0, t.val, 0] ∧ win0_1.index t = ![0, 0, 0] ∧
    win0_2.index t = ![t.val, 0] ∧ win0_3.index t = ![0, 0] ∧ win0_4.index t = ![0, 0] ∧ win0_5.index t = ![t.val, 0] ∧
    win0_6.index t = ![t.val, 0] :=
  (by decide +kernel : ∀ t : Fin grid0.N, _)

/-- A point's rows: the four chunks' products added one after another. -/
theorem sum_at (A : FVec Ideal S512x1024 .f32) (x0 x1 x2 x3 : FVec Ideal S1x512x704 .bf16) (w0 w1 w2 w3 : FVec Ideal S1x704x1024 .bf16)
    (r : Fin 512) (d : Fin 1024) :
    (k0_pay2 (F := Ideal) A x0 w0 x1 w1 x2 w2 x3 w3 (ix2 r d) : EReal) =
      ((Real.sqrt 2 : ℝ) : EReal) * A (ix2 r d) + (∑ k : Fin 704, (x0 (ix3 (0 : Fin 1) r k) : EReal) * w0 (ix3 (0 : Fin 1) k d)) +
        (∑ k : Fin 704, (x1 (ix3 (0 : Fin 1) r k) : EReal) * w1 (ix3 (0 : Fin 1) k d)) +
        (∑ k : Fin 704, (x2 (ix3 (0 : Fin 1) r k) : EReal) * w2 (ix3 (0 : Fin 1) k d)) +
        ∑ k : Fin 704, (x3 (ix3 (0 : Fin 1) r k) : EReal) * w3 (ix3 (0 : Fin 1) k d) := by
  have e : (Named.named κ "alpha" 0x3FB504F3#32 : Ideal .f32) = ((Real.sqrt 2 : ℝ) : EReal) := rfl
  rw [← e]
  generalize hq : (Named.named κ "alpha" 0x3FB504F3#32 : Ideal .f32) = q
  pointwise [k0_pay2]
  rw [hq]

/-- A point's normed rows. -/
theorem norm_at (U : FVec Ideal S512x1024 .f32) (G B : FVec Ideal S1x1024 .f32) (r : Fin 512) (d : Fin 1024) :
    (k0_pay1 (F := Ideal) U G B (ix2 r d) : EReal) =
      RowNorm.norm (fun k => U (ix2 r k)) (G (ix2 (0 : Fin 1) d)) (B (ix2 (0 : Fin 1) d)) d := by
  unfold RowNorm.norm dev mean
  pointwise [k0_pay1]

/-- One entry of the sum, from the arrays at the call. -/
def entryK (R : Fin 8192) (d : Fin 1024) : EReal :=
  ((Real.sqrt 2 : ℝ) : EReal) * (show EReal from V m c main_arg2 (ix2 R d)) +
    ∑ e : Fin 4, ∑ k : Fin 704, (show EReal from V m c main_v2 (ix3 e R k)) * (show EReal from V m c main_v4 (ix3 e k d))

/-- The row of the array a point's row is. -/
def rowOf (t : Fin cfg0.N) (r : Fin 512) : Fin 8192 := ⟨t.val * 512 + r.val, by have := (idx t).1; omega⟩

/-- One chunk's product, its operands read off the arrays. -/
theorem chunk (t : Fin cfg0.N) (r : Fin 512) (d : Fin 1024) (e : Fin 4) (x : FVec Ideal S1x512x704 .bf16) (w : FVec Ideal S1x704x1024 .bf16)
    (hx : ∀ k, (x (ix3 (0 : Fin 1) r k) : EReal) = iblk m c 0 t (ix3 e r k))
    (hw : ∀ k, (w (ix3 (0 : Fin 1) k d) : EReal) = iblk m c 1 t (ix3 e k d)) :
    ∑ k : Fin 704, (x (ix3 (0 : Fin 1) r k) : EReal) * w (ix3 (0 : Fin 1) k d) =
      ∑ k : Fin 704, (show EReal from V m c main_v2 (ix3 e (rowOf t r) k)) * (show EReal from V m c main_v4 (ix3 e k d)) := by
  refine Finset.sum_congr (M := EReal) rfl fun k _ => congrArg₂ (fun p q : EReal => p * q) ((hx k).trans ?_) ((hw k).trans ?_)
  · blk_ext [iblk, V, idx t, rowOf]
  · blk_ext [iblk, V, idx t, rowOf]

/-- The point's sum is the array's entry. -/
theorem point_sum (t : Fin cfg0.N) (r : Fin 512) (d : Fin 1024) :
    (k0_pay2 (F := Ideal) (View.ld (iblk m c 2 t) r0_0) (View.ld (iblk m c 0 t) r0_1) (View.ld (iblk m c 1 t) r0_2) (View.ld (iblk m c 0 t) r0_3)
      (View.ld (iblk m c 1 t) r0_4) (View.ld (iblk m c 0 t) r0_5) (View.ld (iblk m c 1 t) r0_6) (View.ld (iblk m c 0 t) r0_7)
      (View.ld (iblk m c 1 t) r0_8) (ix2 r d) : EReal) = entryK m c (rowOf t r) d := by
  refine (sum_at _ _ _ _ _ _ _ _ _ r d).trans ?_
  unfold entryK
  rw [Fin.sum_univ_four]
  simp only [← add_assoc]
  refine congrArg₂ (fun p q : EReal => p + q) (congrArg₂ (fun p q : EReal => p + q) (congrArg₂ (fun p q : EReal => p + q)
    (congrArg₂ (fun p q : EReal => p + q) (congrArg (fun q : EReal => _ * q) ?_) (chunk m c t r d 0 _ _ ?_ ?_)) (chunk m c t r d 1 _ _ ?_ ?_))
    (chunk m c t r d 2 _ _ ?_ ?_)) (chunk m c t r d 3 _ _ ?_ ?_)
  · refine (View.ld_unit_apply_of _ _ _ _ _ (ix2 r d) (Fin.forall_fin_two.mpr ⟨(Nat.zero_add _).symm, (Nat.zero_add _).symm⟩)).trans ?_
    blk_ext [iblk, V, idx t, rowOf]
  all_goals
    intro k
    refine View.ld_unit_apply_of _ _ _ _ _ (ix3 _ _ _) fun a => match a with | 0 => ?_ | 1 => ?_ | 2 => ?_
    · rfl
    · exact (Nat.zero_add _).symm
    · exact (Nat.zero_add _).symm

theorem final5 (i : S8192x1024.Idx) : ((dats m 0 c).arrAt 5 cfg0.N i : EReal) = entryK m c (i 0) (i 1) := by
  refine congrFun ((dats m 0 c).arrAt_eq_of_covers 5 (fun i : S8192x1024.Idx => entryK m c (i 0) (i 1)) (by decide +kernel) fun t hf z => ?_) i
  blk_simp
  rw [after0_5]
  frame_out
  refine (congrArg _ (ix2_eta z).symm).trans ((point_sum m c t (z 0) (z 1)).trans ?_)
  refine congrArg₂ (entryK m c) (Fin.ext ?_) (Fin.ext ?_)
  · blk_ext [rowOf, idx t]
  · blk_ext [idx t]

/-- One entry of the normed rows, from the arrays at the call. -/
def normK (R : Fin 8192) (d : Fin 1024) : EReal :=
  RowNorm.norm (entryK m c R) (show EReal from V m c main_v5 (ix2 (0 : Fin 1) d)) (show EReal from V m c main_v6 (ix2 (0 : Fin 1) d)) d

theorem final6 (i : S8192x1024.Idx) : ((dats m 0 c).arrAt 6 cfg0.N i : EReal) = normK m c (i 0) (i 1) := by
  refine congrFun ((dats m 0 c).arrAt_eq_of_covers 6 (fun i : S8192x1024.Idx => normK m c (i 0) (i 1)) (by decide +kernel) fun t hf z => ?_) i
  blk_simp
  rw [after0_6]
  frame_out
  refine (congrArg _ (ix2_eta z).symm).trans ((norm_at _ _ _ (z 0) (z 1)).trans ?_)
  have hu : (fun k => (k0_pay3 (F := Ideal) (iblk m c 0 t) (iblk m c 1 t) (iblk m c 2 t) (iblk m c 3 t) (iblk m c 4 t) (ix2 (z 0) k) : EReal)) =
      entryK m c (rowOf t (z 0)) := funext fun k => point_sum m c t (z 0) k
  have hg : (iblk m c 3 t (ix2 (0 : Fin 1) (z 1)) : EReal) = V m c main_v5 (ix2 (0 : Fin 1) (z 1)) := by blk_ext [iblk, V, idx t]
  have hb : (iblk m c 4 t (ix2 (0 : Fin 1) (z 1)) : EReal) = V m c main_v6 (ix2 (0 : Fin 1) (z 1)) := by blk_ext [iblk, V, idx t]
  refine (congrArg (fun u => RowNorm.norm u _ _ _) hu).trans ?_
  refine (congrArg₂ (fun p q : EReal => RowNorm.norm _ p q (z 1)) hg hb).trans ?_
  refine congrArg₂ (normK m c) (Fin.ext ?_) (Fin.ext ?_)
  · blk_ext [rowOf, idx t]
  · blk_ext [idx t]

/-- The activations by chunks of channels. -/
theorem entry_act (e : Fin 4) (R : Fin 8192) (l : Fin 704) :
    (V m c main_v2 (ix3 e R l) : EReal) = m ((c.tc : Thread nD τ).loc main_arg0) (ix2 R ⟨e.val * 704 + l.val, by omega⟩) := by
  simp only [V, hostOps0]
  after_results_simp
  pointwise

/-- The weights by chunks of channels. -/
theorem entry_w (e : Fin 4) (l : Fin 704) (d : Fin 1024) :
    (V m c main_v4 (ix3 e l d) : EReal) = m ((c.tc : Thread nD τ).loc main_arg1) (ix2 ⟨e.val * 704 + l.val, by omega⟩ d) := by
  simp only [V, hostOps0]
  after_results_simp
  pointwise

theorem entry_h (R : Fin 8192) (d : Fin 1024) :
    (V m c main_arg2 (ix2 R d) : EReal) = m ((c.tc : Thread nD τ).loc main_arg2) (ix2 R d) := by
  simp only [V, hostOps0]
  after_results_simp

theorem entry_g (d : Fin 1024) : (V m c main_v5 (ix2 (0 : Fin 1) d) : EReal) = m ((c.tc : Thread nD τ).loc main_arg3) (ix1 d) := by
  simp only [V, hostOps0]
  after_results_simp
  pointwise

theorem entry_b (d : Fin 1024) : (V m c main_v6 (ix2 (0 : Fin 1) d) : EReal) = m ((c.tc : Thread nD τ).loc main_arg4) (ix1 d) := by
  simp only [V, hostOps0]
  after_results_simp
  pointwise

section Reference

variable (x0 : (⟨S8192x2816, .f32⟩ : BufTy).Contents (Elt Ideal)) (x1 : (⟨S2816x1024, .f32⟩ : BufTy).Contents (Elt Ideal))
  (x2 : (⟨S8192x1024, .f32⟩ : BufTy).Contents (Elt Ideal)) (x3 x4 : (⟨S1024, .f32⟩ : BufTy).Contents (Elt Ideal))

/-- The reference's sum. -/
theorem sum_ref (R : Fin 8192) (d : Fin 1024) :
    (val_main_v4 x0 x1 x2 (ix2 R d) : EReal) =
      ((Real.sqrt 2 : ℝ) : EReal) * x2 (ix2 R d) + ∑ q : Fin 2816, (x0 (ix2 R q) : EReal) * x1 (ix2 q d) := by
  rw [← Cert.ReferenceIdeal.ConvValue.alpha_pow]
  unfold val_main_v4
  pointwise [val_main_v3, val_main_v2, val_main_v1, val_main_cst, val_main_cst_0, val_main_v0]

/-- The reference's normed rows. -/
theorem norm_ref (R : Fin 8192) (d : Fin 1024) :
    (val_main_v28 x0 x1 x2 x3 x4 (ix2 R d) : EReal) =
      RowNorm.norm (fun k => val_main_v4 x0 x1 x2 (ix2 R k)) (x3 (ix1 d)) (x4 (ix1 d)) d := by
  unfold val_main_v28 val_main_v25 val_main_v22 val_main_v21 val_main_v20 val_main_v19 val_main_v17 val_main_v16 val_main_v15 val_main_v13
    val_main_v12 val_main_v11 val_main_v10 val_main_v9 val_main_v8 val_main_v6 val_main_v5
  generalize val_main_v4 x0 x1 x2 = u
  unfold RowNorm.norm dev mean
  pointwise [val_main_v27, val_main_v26, val_main_v24, val_main_v23, val_main_v18, val_main_v14, val_main_v7, val_main_cst_1, val_main_cst_2,
    val_main_cst_3, val_main_cst_4, val_main_cst_5]

end Reference

variable {x0 : (⟨S8192x2816, .f32⟩ : BufTy).Contents (Elt Ideal)} {x1 : (⟨S2816x1024, .f32⟩ : BufTy).Contents (Elt Ideal)}
  {x2 : (⟨S8192x1024, .f32⟩ : BufTy).Contents (Elt Ideal)} {x3 x4 : (⟨S1024, .f32⟩ : BufTy).Contents (Elt Ideal)}
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4)

include h0 h1 h2 in
theorem sum_eq_at (R : Fin 8192) (d : Fin 1024) : entryK m c R d = val_main_v4 x0 x1 x2 (ix2 R d) := by
  refine Eq.trans ?_ (sum_ref x0 x1 x2 R d).symm
  refine congrArg₂ (fun p q : EReal => p + q) (congrArg (fun q : EReal => _ * q) ((entry_h m c R d).trans (congrFun h2 _))) ?_
  refine Eq.trans ?_ (Fin.sum_univ_tiles 4 704 rfl _).symm
  refine Finset.sum_congr (M := EReal) rfl fun e _ => Finset.sum_congr (M := EReal) rfl fun k _ => congrArg₂ (fun p q : EReal => p * q)
    ((entry_act m c e R k).trans (congrFun h0 _)) ((entry_w m c e k d).trans (congrFun h1 _))

include h0 h1 h2 in
/-- The sum: kernel and reference. -/
theorem sum_eq : (dats m 0 c).arrAt 5 cfg0.N = val_main_v4 x0 x1 x2 :=
  funext fun i : S8192x1024.Idx => (final5 m c i).trans ((sum_eq_at m c h0 h1 h2 _ _).trans
    (congrArg (val_main_v4 x0 x1 x2) (eq_ix2 i)).symm)

include h0 h1 h2 h3 h4 in
/-- The normed rows: kernel and reference. -/
theorem norm_eq : (dats m 0 c).arrAt 6 cfg0.N = val_main_v28 x0 x1 x2 x3 x4 :=
  funext fun i : S8192x1024.Idx => by
    refine (final6 m c i).trans (Eq.trans ?_ (congrArg (val_main_v28 x0 x1 x2 x3 x4) (eq_ix2 i)).symm)
    refine Eq.trans ?_ (norm_ref x0 x1 x2 x3 x4 (i 0) (i 1)).symm
    unfold normK
    rw [show entryK m c (i 0) = _ from funext fun k => sum_eq_at m c h0 h1 h2 (i 0) k]
    exact congrArg₂ (fun p q : EReal => RowNorm.norm _ p q (i 1)) ((entry_g m c (i 1)).trans (congrFun h3 _)) ((entry_b m c (i 1)).trans (congrFun h4 _))

end Cert.FfnOutIdeal.Product

end
-- ==== Proof.MixOutValue.lean ====
module

public import proofs.«01_k».proof.Proof.Gen.MixOutIdeal.Value
public import proofs.«01_k».proof.Proof.Gen.MixOutReferenceIdeal.Read
public import proofs.«01_k».proof.Proof.RefResults
public import proofs.«01_k».proof.Proof.RowNorm
public import Idealize.ShloMosaic.Lib.Pipeline.ValueKit

@[expose] public section

/-!
  The mixer's output: the two attentions' products with their weights, each times the sigmoid of its gate, added; this times
  the output weights, added to the root of two times the layer's input; and the layer norm of that sum.
-/
set_option maxRecDepth 16384

noncomputable section

open Idealize.ShloMosaic Idealize.ShloMosaic.TcCoe Idealize.SL.Sem
open Idealize.ShloMosaic.Pipeline (Dat)

namespace Cert.MixOutIdeal.Product

open Cert.MixOutIdeal Cert.MixOutIdeal.Gen Cert.RowNorm
open Cert.MixOutReferenceIdeal.Read

variable (m : (ℓ : Loc nD τ sig) → Buf (Elt Ideal) ℓ) (c : Dev nD)

/-- Which block each window holds at grid point `t`. -/
theorem idx : ∀ t : Fin cfg0.N, t.val < 16 ∧ win0_0.index t = ![t.val, 0] ∧ win0_1.index t = ![t.val, 0] ∧
    win0_2.index t = ![t.val, 0] ∧ win0_3.index t = ![t.val, 1] ∧ win0_4.index t = ![t.val, 0] ∧ win0_5.index t = ![0, 0] ∧
    win0_6.index t = ![0, 0] ∧ win0_7.index t = ![0, 0] ∧ win0_8.index t = ![0, 0] ∧ win0_9.index t = ![0, 0] ∧
    win0_10.index t = ![t.val, 0] ∧ win0_11.index t = ![t.val, 0] ∧ win0_12.index t = ![t.val, 0] ∧ win0_13.index t = ![t.val, 0] :=
  (by decide +kernel : ∀ t : Fin grid0.N, _)

section Point

variable (xa xb : FVec Ideal S512x512 .bf16) (wa wb : FVec Ideal S512x1024 .bf16) (ga gb h : FVec Ideal S512x1024 .f32)
  (wo : FVec Ideal S1024x1024 .bf16) (G B : FVec Ideal S1x1024 .f32)

/-- A point's merged rows. -/
theorem merged_at (r : Fin 512) (d : Fin 1024) :
    (k0_pay3 (F := Ideal) xa wa xb wb ga gb (ix2 r d) : EReal) =
      Ideal.logistic (ga (ix2 r d)) * (∑ k : Fin 512, (xa (ix2 r k) : EReal) * wa (ix2 k d)) +
        Ideal.logistic (gb (ix2 r d)) * ∑ k : Fin 512, (xb (ix2 r k) : EReal) * wb (ix2 k d) := by
  pointwise [k0_pay3]

/-- A point's rows before the norm. -/
theorem sum_at (r : Fin 512) (d : Fin 1024) :
    (k0_pay4 (F := Ideal) xa wa xb wb ga gb h wo (ix2 r d) : EReal) =
      ((Real.sqrt 2 : ℝ) : EReal) * h (ix2 r d) + ∑ k : Fin 1024, (k0_pay3 (F := Ideal) xa wa xb wb ga gb (ix2 r k) : EReal) * wo (ix2 k d) := by
  unfold k0_pay4
  generalize k0_pay3 (F := Ideal) xa wa xb wb ga gb = M
  have e : (Named.named κ "alpha" 0x3FB504F3#32 : Ideal .f32) = ((Real.sqrt 2 : ℝ) : EReal) := rfl
  rw [← e]
  generalize hq : (Named.named κ "alpha" 0x3FB504F3#32 : Ideal .f32) = q
  pointwise

/-- A point's normed rows. -/
theorem norm_at (r : Fin 512) (d : Fin 1024) :
    (k0_pay1 (F := Ideal) (k0_pay4 xa wa xb wb ga gb h wo) (k0_pay5 G) (k0_pay6 B) (k0_pay7 xa wa xb wb ga gb h wo) (ix2 r d) : EReal) =
      RowNorm.norm (fun k => k0_pay4 (F := Ideal) xa wa xb wb ga gb h wo (ix2 r k)) (G (ix2 (0 : Fin 1) d)) (B (ix2 (0 : Fin 1) d)) d := by
  unfold k0_pay7
  generalize k0_pay4 (F := Ideal) xa wa xb wb ga gb h wo = U
  unfold RowNorm.norm dev mean
  pointwise [k0_pay1, k0_pay5, k0_pay6]

end Point

/-- One entry of the merged rows, from the arrays at the call. -/
def mergedK (R : Fin 8192) (d : Fin 1024) : EReal :=
  Ideal.logistic (show EReal from V m c main_arg2 (ix2 R (⟨d.val, by omega⟩ : Fin 2304))) *
      (∑ k : Fin 512, (show EReal from V m c main_v0 (ix2 R k)) * (show EReal from V m c main_v2 (ix2 k d))) +
    Ideal.logistic (show EReal from V m c main_arg2 (ix2 R (⟨1024 + d.val, by omega⟩ : Fin 2304))) *
      ∑ k : Fin 512, (show EReal from V m c main_v1 (ix2 R k)) * (show EReal from V m c main_v3 (ix2 k d))

/-- One entry of the rows before the norm. -/
def sumK (R : Fin 8192) (d : Fin 1024) : EReal :=
  ((Real.sqrt 2 : ℝ) : EReal) * (show EReal from V m c main_arg3 (ix2 R d)) +
    ∑ k : Fin 1024, mergedK m c R k * (show EReal from V m c main_v4 (ix2 k d))

/-- One entry of the normed rows. -/
def normK (R : Fin 8192) (d : Fin 1024) : EReal :=
  RowNorm.norm (sumK m c R) (show EReal from V m c main_v5 (ix2 (0 : Fin 1) d)) (show EReal from V m c main_v6 (ix2 (0 : Fin 1) d)) d

/-- The row of the array a point's row is. -/
def rowOf (t : Fin cfg0.N) (r : Fin 512) : Fin 8192 := ⟨t.val * 512 + r.val, by have := (idx t).1; omega⟩

/-- The block of the first attention's gate. -/
theorem gate_a (t : Fin cfg0.N) (r : Fin 512) (d : Fin 1024) :
    (X0_2 m c t (ix2 r d) : EReal) = V m c main_arg2 (ix2 (rowOf t r) (⟨d.val, by omega⟩ : Fin 2304)) := by
  unfold X0_2 Pipeline.Window.fill
  rw [dif_pos (moved0_2 t _)]
  blk_ext [iblk, V, idx t, rowOf]

/-- The block of the second attention's gate. -/
theorem gate_b (t : Fin cfg0.N) (r : Fin 512) (d : Fin 1024) :
    (X0_3 m c t (ix2 r d) : EReal) = V m c main_arg2 (ix2 (rowOf t r) (⟨1024 + d.val, by omega⟩ : Fin 2304)) := by
  unfold X0_3 Pipeline.Window.fill
  rw [dif_pos (moved0_3 t _)]
  blk_ext [iblk, V, idx t, rowOf]

/-- The point's merged rows are the array's. -/
theorem point_merged (t : Fin cfg0.N) (r : Fin 512) (d : Fin 1024) :
    (k0_pay3 (F := Ideal) (iblk m c 0 t) (iblk m c 5 t) (iblk m c 1 t) (iblk m c 6 t) (X0_2 m c t) (X0_3 m c t) (ix2 r d) : EReal) =
      mergedK m c (rowOf t r) d := by
  refine (merged_at _ _ _ _ _ _ r d).trans ?_
  unfold mergedK
  refine congrArg₂ (fun p q : EReal => p + q) (congrArg₂ (fun p q : EReal => p * q) (congrArg Ideal.logistic (gate_a m c t r d))
      (Finset.sum_congr (M := EReal) rfl fun k _ => congrArg₂ (fun p q : EReal => p * q) ?_ ?_))
    (congrArg₂ (fun p q : EReal => p * q) (congrArg Ideal.logistic (gate_b m c t r d))
      (Finset.sum_congr (M := EReal) rfl fun k _ => congrArg₂ (fun p q : EReal => p * q) ?_ ?_))
  all_goals blk_ext [iblk, V, idx t, rowOf]

/-- The point's rows before the norm are the array's. -/
theorem point_sum (t : Fin cfg0.N) (r : Fin 512) (d : Fin 1024) :
    (k0_pay4 (F := Ideal) (iblk m c 0 t) (iblk m c 5 t) (iblk m c 1 t) (iblk m c 6 t) (X0_2 m c t) (X0_3 m c t) (iblk m c 4 t) (iblk m c 7 t) (ix2 r d) : EReal) =
      sumK m c (rowOf t r) d := by
  refine (sum_at _ _ _ _ _ _ _ _ r d).trans ?_
  unfold sumK
  refine congrArg₂ (fun p q : EReal => p + q) (congrArg (fun q : EReal => _ * q) ?_)
    (Finset.sum_congr (M := EReal) rfl fun k _ => congrArg₂ (fun p q : EReal => p * q) (point_merged m c t r k) ?_)
  all_goals blk_ext [iblk, V, idx t, rowOf]

/-- The point's normed rows are the array's. -/
theorem point_norm (t : Fin cfg0.N) (r : Fin 512) (d : Fin 1024) :
    (k0_pay1 (F := Ideal) (k0_pay4 (iblk m c 0 t) (iblk m c 5 t) (iblk m c 1 t) (iblk m c 6 t) (X0_2 m c t) (X0_3 m c t) (iblk m c 4 t) (iblk m c 7 t))
      (k0_pay5 (iblk m c 8 t)) (k0_pay6 (iblk m c 9 t))
      (k0_pay7 (iblk m c 0 t) (iblk m c 5 t) (iblk m c 1 t) (iblk m c 6 t) (X0_2 m c t) (X0_3 m c t) (iblk m c 4 t) (iblk m c 7 t)) (ix2 r d) : EReal) =
      normK m c (rowOf t r) d := by
  refine (norm_at _ _ _ _ _ _ _ _ _ _ r d).trans ?_
  have hg : (iblk m c 8 t (ix2 (0 : Fin 1) d) : EReal) = V m c main_v5 (ix2 (0 : Fin 1) d) := by blk_ext [iblk, V, idx t]
  have hb : (iblk m c 9 t (ix2 (0 : Fin 1) d) : EReal) = V m c main_v6 (ix2 (0 : Fin 1) d) := by blk_ext [iblk, V, idx t]
  refine (congrArg (fun u => RowNorm.norm u _ _ _) (funext fun k => point_sum m c t r k)).trans ?_
  exact congrArg₂ (fun p q : EReal => RowNorm.norm _ p q d) hg hb

theorem final10 (i : S8192x1024.Idx) : ((dats m 0 c).arrAt 10 cfg0.N i : EReal) = normK m c (i 0) (i 1) := by
  refine congrFun ((dats m 0 c).arrAt_eq_of_covers 10 (fun i : S8192x1024.Idx => normK m c (i 0) (i 1)) (by decide +kernel) fun t hf z => ?_) i
  blk_simp
  rw [after0_10]
  unfold outsAt0 out0_A_10
  frame_out
  refine (congrArg _ (ix2_eta z).symm).trans ((point_norm m c t (z 0) (z 1)).trans ?_)
  refine congrArg₂ (normK m c) (Fin.ext ?_) (Fin.ext ?_)
  · blk_ext [rowOf, idx t]
  · blk_ext [idx t]

theorem final11 (i : S8192x1024.Idx) : ((dats m 0 c).arrAt 11 cfg0.N i : EReal) = sumK m c (i 0) (i 1) := by
  refine congrFun ((dats m 0 c).arrAt_eq_of_covers 11 (fun i : S8192x1024.Idx => sumK m c (i 0) (i 1)) (by decide +kernel) fun t hf z => ?_) i
  blk_simp
  rw [after0_11]
  unfold outsAt0 out0_A_11
  frame_out
  refine (congrArg _ (ix2_eta z).symm).trans ((point_sum m c t (z 0) (z 1)).trans ?_)
  refine congrArg₂ (sumK m c) (Fin.ext ?_) (Fin.ext ?_)
  · blk_ext [rowOf, idx t]
  · blk_ext [idx t]

theorem final12 (i : S8192x1024.Idx) : ((dats m 0 c).arrAt 12 cfg0.N i : EReal) = mergedK m c (i 0) (i 1) := by
  refine congrFun ((dats m 0 c).arrAt_eq_of_covers 12 (fun i : S8192x1024.Idx => mergedK m c (i 0) (i 1)) (by decide +kernel) fun t hf z => ?_) i
  blk_simp
  rw [after0_12]
  unfold outsAt0 out0_A_12
  frame_out
  refine (congrArg _ (ix2_eta z).symm).trans ((point_merged m c t (z 0) (z 1)).trans ?_)
  refine congrArg₂ (mergedK m c) (Fin.ext ?_) (Fin.ext ?_)
  · blk_ext [rowOf, idx t]
  · blk_ext [idx t]

theorem final13 (i : S8192x1024.Idx) : ((dats m 0 c).arrAt 13 cfg0.N i : EReal) = normK m c (i 0) (i 1) := by
  refine congrFun ((dats m 0 c).arrAt_eq_of_covers 13 (fun i : S8192x1024.Idx => normK m c (i 0) (i 1)) (by decide +kernel) fun t hf z => ?_) i
  blk_simp
  rw [after0_13]
  unfold outsAt0 out0_A_13
  frame_out
  refine (congrArg _ (ix2_eta z).symm).trans (Eq.trans ?_ ((point_norm m c t (z 0) (z 1)).trans ?_))
  · rfl
  refine congrArg₂ (normK m c) (Fin.ext ?_) (Fin.ext ?_)
  · blk_ext [rowOf, idx t]
  · blk_ext [idx t]

/-- The arrays at the call are the arguments. -/
theorem entry_xa (R : Fin 8192) (k : Fin 512) : (V m c main_v0 (ix2 R k) : EReal) = m ((c.tc : Thread nD τ).loc main_arg0) (ix2 R k) := by
  simp only [V, hostOps0]
  after_results_simp
  pointwise

theorem entry_xb (R : Fin 8192) (k : Fin 512) : (V m c main_v1 (ix2 R k) : EReal) = m ((c.tc : Thread nD τ).loc main_arg1) (ix2 R k) := by
  simp only [V, hostOps0]
  after_results_simp
  pointwise

theorem entry_z (R : Fin 8192) (k : Fin 2304) : (V m c main_arg2 (ix2 R k) : EReal) = m ((c.tc : Thread nD τ).loc main_arg2) (ix2 R k) := by
  simp only [V, hostOps0]
  after_results_simp

theorem entry_h (R : Fin 8192) (k : Fin 1024) : (V m c main_arg3 (ix2 R k) : EReal) = m ((c.tc : Thread nD τ).loc main_arg3) (ix2 R k) := by
  simp only [V, hostOps0]
  after_results_simp

theorem entry_wa (k : Fin 512) (d : Fin 1024) : (V m c main_v2 (ix2 k d) : EReal) = m ((c.tc : Thread nD τ).loc main_arg4) (ix2 k d) := by
  simp only [V, hostOps0]
  after_results_simp
  pointwise

theorem entry_wb (k : Fin 512) (d : Fin 1024) : (V m c main_v3 (ix2 k d) : EReal) = m ((c.tc : Thread nD τ).loc main_arg5) (ix2 k d) := by
  simp only [V, hostOps0]
  after_results_simp
  pointwise

theorem entry_wo (k : Fin 1024) (d : Fin 1024) : (V m c main_v4 (ix2 k d) : EReal) = m ((c.tc : Thread nD τ).loc main_arg6) (ix2 k d) := by
  simp only [V, hostOps0]
  after_results_simp
  pointwise

theorem entry_g (d : Fin 1024) : (V m c main_v5 (ix2 (0 : Fin 1) d) : EReal) = m ((c.tc : Thread nD τ).loc main_arg7) (ix1 d) := by
  simp only [V, hostOps0]
  after_results_simp
  pointwise

theorem entry_b (d : Fin 1024) : (V m c main_v6 (ix2 (0 : Fin 1) d) : EReal) = m ((c.tc : Thread nD τ).loc main_arg8) (ix1 d) := by
  simp only [V, hostOps0]
  after_results_simp
  pointwise

section Reference

variable (x0 x1 : (⟨S8192x512, .f32⟩ : BufTy).Contents (Elt Ideal))
  (x2 : (⟨S8192x2304, .f32⟩ : BufTy).Contents (Elt Ideal))
  (x3 : (⟨S8192x1024, .f32⟩ : BufTy).Contents (Elt Ideal))
  (x4 x5 : (⟨S512x1024, .f32⟩ : BufTy).Contents (Elt Ideal))
  (x6 : (⟨S1024x1024, .f32⟩ : BufTy).Contents (Elt Ideal))
  (x7 x8 : (⟨S1024, .f32⟩ : BufTy).Contents (Elt Ideal))

/-- The reference's first sigmoid. -/
theorem sigmoid_a (R : Fin 8192) (d : Fin 1024) :
    (val_main_v8 x2 (ix2 R d) : EReal) = Ideal.logistic (x2 (ix2 R (⟨d.val, by omega⟩ : Fin 2304))) := by
  unfold val_main_v8 val_main_v6 val_main_v4 val_main_v3
  pointwise [val_main_v7, val_main_cst_0, val_main_v5, val_main_cst, val_main_v0]
  rfl

/-- The reference's second sigmoid. -/
theorem sigmoid_b (R : Fin 8192) (d : Fin 1024) :
    (val_main_v16 x2 (ix2 R d) : EReal) = Ideal.logistic (x2 (ix2 R (⟨1024 + d.val, by omega⟩ : Fin 2304))) := by
  unfold val_main_v16 val_main_v14 val_main_v12 val_main_v11
  pointwise [val_main_v15, val_main_cst_2, val_main_v13, val_main_cst_1, val_main_v1]
  rfl

/-- The reference's merged rows. -/
theorem merged_ref (R : Fin 8192) (d : Fin 1024) :
    (val_main_v19 x0 x1 x2 x4 x5 (ix2 R d) : EReal) =
      Ideal.logistic (x2 (ix2 R (⟨d.val, by omega⟩ : Fin 2304))) * (∑ k : Fin 512, (x0 (ix2 R k) : EReal) * x4 (ix2 k d)) +
        Ideal.logistic (x2 (ix2 R (⟨1024 + d.val, by omega⟩ : Fin 2304))) * ∑ k : Fin 512, (x1 (ix2 R k) : EReal) * x5 (ix2 k d) := by
  rw [← sigmoid_a, ← sigmoid_b]
  unfold val_main_v19 val_main_v18 val_main_v10
  generalize val_main_v8 x2 = s
  generalize val_main_v16 x2 = s'
  pointwise [val_main_v9, val_main_v17]

/-- The reference's rows before the norm. -/
theorem sum_ref (R : Fin 8192) (d : Fin 1024) :
    (val_main_v24 x0 x1 x2 x3 x4 x5 x6 (ix2 R d) : EReal) =
      ((Real.sqrt 2 : ℝ) : EReal) * x3 (ix2 R d) + ∑ k : Fin 1024, (val_main_v19 x0 x1 x2 x4 x5 (ix2 R k) : EReal) * x6 (ix2 k d) := by
  rw [← Cert.ReferenceIdeal.ConvValue.alpha_pow]
  unfold val_main_v24 val_main_v23
  generalize val_main_v19 x0 x1 x2 x4 x5 = M
  pointwise [val_main_v22, val_main_v21, val_main_v20, val_main_cst_3, val_main_cst_4]

/-- The reference's normed rows. -/
theorem norm_ref (R : Fin 8192) (d : Fin 1024) :
    (val_main_v48 x0 x1 x2 x3 x4 x5 x6 x7 x8 (ix2 R d) : EReal) =
      RowNorm.norm (fun k => val_main_v24 x0 x1 x2 x3 x4 x5 x6 (ix2 R k)) (x7 (ix1 d)) (x8 (ix1 d)) d := by
  unfold val_main_v48 val_main_v45 val_main_v42 val_main_v41 val_main_v40 val_main_v39 val_main_v37 val_main_v36 val_main_v35 val_main_v33
    val_main_v32 val_main_v31 val_main_v30 val_main_v29 val_main_v28 val_main_v26 val_main_v25
  generalize val_main_v24 x0 x1 x2 x3 x4 x5 x6 = u
  unfold RowNorm.norm dev mean
  pointwise [val_main_v47, val_main_v46, val_main_v44, val_main_v43, val_main_v38, val_main_v34, val_main_v27, val_main_cst_5, val_main_cst_6,
    val_main_cst_7, val_main_cst_8, val_main_cst_9]

end Reference

variable {x0 x1 : (⟨S8192x512, .f32⟩ : BufTy).Contents (Elt Ideal)}
  {x2 : (⟨S8192x2304, .f32⟩ : BufTy).Contents (Elt Ideal)}
  {x3 : (⟨S8192x1024, .f32⟩ : BufTy).Contents (Elt Ideal)}
  {x4 x5 : (⟨S512x1024, .f32⟩ : BufTy).Contents (Elt Ideal)}
  {x6 : (⟨S1024x1024, .f32⟩ : BufTy).Contents (Elt Ideal)}
  {x7 x8 : (⟨S1024, .f32⟩ : BufTy).Contents (Elt Ideal)}
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4) (h5 : m ((c.tc : Thread nD τ).loc main_arg5) = x5)
  (h6 : m ((c.tc : Thread nD τ).loc main_arg6) = x6) (h7 : m ((c.tc : Thread nD τ).loc main_arg7) = x7)
  (h8 : m ((c.tc : Thread nD τ).loc main_arg8) = x8)

include h0 h1 h2 h4 h5 in
theorem merged_eq_at (R : Fin 8192) (d : Fin 1024) : mergedK m c R d = val_main_v19 x0 x1 x2 x4 x5 (ix2 R d) := by
  refine Eq.trans ?_ (merged_ref x0 x1 x2 x4 x5 R d).symm
  unfold mergedK
  exact congrArg₂ (fun p q : EReal => p + q)
    (congrArg₂ (fun p q : EReal => p * q) (congrArg Ideal.logistic ((entry_z m c R _).trans (congrFun h2 _)))
      (Finset.sum_congr (M := EReal) rfl fun k _ => congrArg₂ (fun p q : EReal => p * q) ((entry_xa m c R k).trans (congrFun h0 _))
        ((entry_wa m c k d).trans (congrFun h4 _))))
    (congrArg₂ (fun p q : EReal => p * q) (congrArg Ideal.logistic ((entry_z m c R _).trans (congrFun h2 _)))
      (Finset.sum_congr (M := EReal) rfl fun k _ => congrArg₂ (fun p q : EReal => p * q) ((entry_xb m c R k).trans (congrFun h1 _))
        ((entry_wb m c k d).trans (congrFun h5 _))))

include h0 h1 h2 h3 h4 h5 h6 in
theorem sum_eq_at (R : Fin 8192) (d : Fin 1024) : sumK m c R d = val_main_v24 x0 x1 x2 x3 x4 x5 x6 (ix2 R d) := by
  refine Eq.trans ?_ (sum_ref x0 x1 x2 x3 x4 x5 x6 R d).symm
  unfold sumK
  exact congrArg₂ (fun p q : EReal => p + q) (congrArg (fun q : EReal => _ * q) ((entry_h m c R d).trans (congrFun h3 _)))
    (Finset.sum_congr (M := EReal) rfl fun k _ => congrArg₂ (fun p q : EReal => p * q) (merged_eq_at m c h0 h1 h2 h4 h5 R k)
      ((entry_wo m c k d).trans (congrFun h6 _)))

include h0 h1 h2 h3 h4 h5 h6 h7 h8 in
theorem norm_eq_at (R : Fin 8192) (d : Fin 1024) : normK m c R d = val_main_v48 x0 x1 x2 x3 x4 x5 x6 x7 x8 (ix2 R d) := by
  refine Eq.trans ?_ (norm_ref x0 x1 x2 x3 x4 x5 x6 x7 x8 R d).symm
  unfold normK
  rw [show sumK m c R = _ from funext fun k => sum_eq_at m c h0 h1 h2 h3 h4 h5 h6 R k]
  exact congrArg₂ (fun p q : EReal => RowNorm.norm _ p q d) ((entry_g m c d).trans (congrFun h7 _)) ((entry_b m c d).trans (congrFun h8 _))

include h0 h1 h2 h3 h4 h5 h6 h7 h8 in
/-- The normed rows: kernel and reference. -/
theorem norm_eq : (dats m 0 c).arrAt 10 cfg0.N = val_main_v48 x0 x1 x2 x3 x4 x5 x6 x7 x8 :=
  funext fun i : S8192x1024.Idx => (final10 m c i).trans ((norm_eq_at m c h0 h1 h2 h3 h4 h5 h6 h7 h8 _ _).trans
    (congrArg (val_main_v48 x0 x1 x2 x3 x4 x5 x6 x7 x8) (eq_ix2 i)).symm)

include h0 h1 h2 h3 h4 h5 h6 in
/-- The rows before the norm: kernel and reference. -/
theorem sum_eq : (dats m 0 c).arrAt 11 cfg0.N = val_main_v24 x0 x1 x2 x3 x4 x5 x6 :=
  funext fun i : S8192x1024.Idx => (final11 m c i).trans ((sum_eq_at m c h0 h1 h2 h3 h4 h5 h6 _ _).trans
    (congrArg (val_main_v24 x0 x1 x2 x3 x4 x5 x6) (eq_ix2 i)).symm)

include h0 h1 h2 h4 h5 in
/-- The merged rows: kernel and reference. -/
theorem merged_eq : (dats m 0 c).arrAt 12 cfg0.N = val_main_v49 x0 x1 x2 x4 x5 :=
  funext fun i : S8192x1024.Idx => (final12 m c i).trans ((merged_eq_at m c h0 h1 h2 h4 h5 _ _).trans
    (congrArg (val_main_v19 x0 x1 x2 x4 x5) (eq_ix2 i)).symm)

include h0 h1 h2 h3 h4 h5 h6 h7 h8 in
/-- The normed rows in the other type: kernel and reference. -/
theorem norm_half_eq : (dats m 0 c).arrAt 13 cfg0.N = val_main_v50 x0 x1 x2 x3 x4 x5 x6 x7 x8 :=
  funext fun i : S8192x1024.Idx => (final13 m c i).trans ((norm_eq_at m c h0 h1 h2 h3 h4 h5 h6 h7 h8 _ _).trans
    (congrArg (val_main_v48 x0 x1 x2 x3 x4 x5 x6 x7 x8) (eq_ix2 i)).symm)

end Cert.MixOutIdeal.Product

end
-- ==== Proof.lean ====
module

public import proofs.«01_k».proof.Defs
public import proofs.«01_k».proof.Proof.Gen.Kernel.Frame
public import proofs.«01_k».proof.Proof.Gen.KernelIdeal.Frame
public import proofs.«01_k».proof.Proof.Gen.InGrad.Frame
public import proofs.«01_k».proof.Proof.Gen.InGradIdeal.Frame
public import proofs.«01_k».proof.Proof.Gen.InGradReferenceIdeal.Run
public import proofs.«01_k».proof.Proof.Gen.OutGrad.Frame
public import proofs.«01_k».proof.Proof.Gen.OutGradIdeal.Frame
public import proofs.«01_k».proof.Proof.Gen.OutGradReferenceIdeal.Run
public import proofs.«01_k».proof.Proof.Gen.ZGrad.Frame
public import proofs.«01_k».proof.Proof.Gen.ZGradIdeal.Frame
public import proofs.«01_k».proof.Proof.Gen.ZGradReferenceIdeal.Run
public import proofs.«01_k».proof.Proof.Gen.HGrad.Frame
public import proofs.«01_k».proof.Proof.Gen.HGradIdeal.Frame
public import proofs.«01_k».proof.Proof.Gen.HGradReferenceIdeal.Run
public import proofs.«01_k».proof.Proof.Gen.ZProj.Frame
public import proofs.«01_k».proof.Proof.Gen.ZProjIdeal.Frame
public import proofs.«01_k».proof.Proof.Gen.ZProjReferenceIdeal.Run
public import proofs.«01_k».proof.Proof.Gen.FfnOut.Frame
public import proofs.«01_k».proof.Proof.Gen.FfnOutIdeal.Frame
public import proofs.«01_k».proof.Proof.Gen.FfnOutReferenceIdeal.Run
public import proofs.«01_k».proof.Proof.Gen.MixOut.Frame
public import proofs.«01_k».proof.Proof.Gen.MixOutIdeal.Frame
public import proofs.«01_k».proof.Proof.Gen.MixOutReferenceIdeal.Run
public import proofs.«01_k».proof.Proof.Gen.Pre_finite_operands
public import proofs.«01_k».proof.Proof.Gen.Pre_finite_heads
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FoxKernel.Frame
public import proofs.«01_k».proof.Proof.Gen.FoxKernelIdeal.Frame
public import proofs.«01_k».proof.Proof.Gen.FoxReferenceIdeal.Run
public import proofs.«01_k».proof.Proof.Gen.FoxReferenceIdeal.Read
public import proofs.«01_k».proof.Proof.FoxKernelFrame
public import proofs.«01_k».proof.Proof.FoxKernelIdealFrame
public import proofs.«01_k».proof.Proof.Finite
public import proofs.«01_k».proof.Proof.Equation
public import proofs.«01_k».proof.Proof.FoxEquation
public import proofs.«01_k».proof.Proof.InGradValue
public import proofs.«01_k».proof.Proof.OutGradValue
public import proofs.«01_k».proof.Proof.ZGradValue
public import proofs.«01_k».proof.Proof.HGradValue
public import proofs.«01_k».proof.Proof.ZProjValue
public import proofs.«01_k».proof.Proof.FfnOutValue
public import proofs.«01_k».proof.Proof.MixOutValue
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite_operands.Gen.facts
  Cert.FoxKernel.Gen.facts Cert.FoxKernelIdeal.Gen.facts Cert.FoxReferenceIdeal.Gen.facts
  Cert.Pre_finite_heads.Gen.facts
  Cert.InGrad.Gen.facts Cert.InGradIdeal.Gen.facts Cert.InGradReferenceIdeal.Gen.facts
  Cert.OutGrad.Gen.facts Cert.OutGradIdeal.Gen.facts Cert.OutGradReferenceIdeal.Gen.facts
  Cert.ZGrad.Gen.facts Cert.ZGradIdeal.Gen.facts Cert.ZGradReferenceIdeal.Gen.facts
  Cert.HGrad.Gen.facts Cert.HGradIdeal.Gen.facts Cert.HGradReferenceIdeal.Gen.facts
  Cert.ZProj.Gen.facts Cert.ZProjIdeal.Gen.facts Cert.ZProjReferenceIdeal.Gen.facts
  Cert.FfnOut.Gen.facts Cert.FfnOutIdeal.Gen.facts Cert.FfnOutReferenceIdeal.Gen.facts
  Cert.MixOut.Gen.facts Cert.MixOutIdeal.Gen.facts Cert.MixOutReferenceIdeal.Gen.facts

/-- The reference runs, leaves its arguments as they were, and uses no semaphore. -/
theorem frame_reference : Cert.quiescent_ReferenceIdeal := fun m g _ =>
  (θ_run Cert.ReferenceIdeal.defs _ _).mono (fun r h => And.intro (fun c => (h c).2.2.2)
    (sem_eq_zero_of_no_sems (by decide) r.2)) (Cert.ReferenceIdeal.Value.run (F := Ideal) m g)

/-- The reference of forgetting attention runs, leaves its arguments as they were, and uses no semaphore. -/
theorem fox_frame_reference : Cert.quiescent_FoxReferenceIdeal := fun m g _ =>
  (θ_run Cert.FoxReferenceIdeal.defs _ _).mono (fun r h => And.intro (fun c => (h c).2.2.2.2)
    (sem_eq_zero_of_no_sems (by decide) r.2)) (Cert.FoxReferenceIdeal.Value.run (F := Ideal) m g)

/-- The reference of the gradient of the feed-forward input weights runs, leaves its arguments as they were, and uses no semaphore. -/
theorem in_grad_frame_reference : Cert.quiescent_InGradReferenceIdeal := fun m g _ =>
  (θ_run Cert.InGradReferenceIdeal.defs _ _).mono (fun r h => And.intro (fun c => (h c).2)
    (sem_eq_zero_of_no_sems (by decide) r.2)) (Cert.InGradReferenceIdeal.Value.run (F := Ideal) m g)

/-- The reference of the gradient of the feed-forward output weights runs, leaves its arguments as they were, and uses no semaphore. -/
theorem out_grad_frame_reference : Cert.quiescent_OutGradReferenceIdeal := fun m g _ =>
  (θ_run Cert.OutGradReferenceIdeal.defs _ _).mono (fun r h => And.intro (fun c => (h c).2)
    (sem_eq_zero_of_no_sems (by decide) r.2)) (Cert.OutGradReferenceIdeal.Value.run (F := Ideal) m g)

/-- The reference of the gradient of the projection's weights and bias runs, leaves its arguments as they were, and uses no semaphore. -/
theorem z_grad_frame_reference : Cert.quiescent_ZGradReferenceIdeal := fun m g _ =>
  (θ_run Cert.ZGradReferenceIdeal.defs _ _).mono (fun r h => And.intro (fun c => (h c).2.2)
    (sem_eq_zero_of_no_sems (by decide) r.2)) (Cert.ZGradReferenceIdeal.Value.run (F := Ideal) m g)

/-- The reference of the gradient at the layer's input runs, leaves its arguments as they were, and uses no semaphore. -/
theorem h_grad_frame_reference : Cert.quiescent_HGradReferenceIdeal := fun m g _ =>
  (θ_run Cert.HGradReferenceIdeal.defs _ _).mono (fun r h => And.intro (fun c => (h c).2)
    (sem_eq_zero_of_no_sems (by decide) r.2)) (Cert.HGradReferenceIdeal.Value.run (F := Ideal) m g)

/-- The reference of the projection runs, leaves its arguments as they were, and uses no semaphore. -/
theorem z_proj_frame_reference : Cert.quiescent_ZProjReferenceIdeal := fun m g _ =>
  (θ_run Cert.ZProjReferenceIdeal.defs _ _).mono (fun r h => And.intro (fun c => (h c).2.2.2)
    (sem_eq_zero_of_no_sems (by decide) r.2)) (Cert.ZProjReferenceIdeal.Value.run (F := Ideal) m g)

/-- The reference of the feed-forward's output runs, leaves its arguments as they were, and uses no semaphore. -/
theorem ffn_out_frame_reference : Cert.quiescent_FfnOutReferenceIdeal := fun m g _ =>
  (θ_run Cert.FfnOutReferenceIdeal.defs _ _).mono (fun r h => And.intro (fun c => (h c).2.2)
    (sem_eq_zero_of_no_sems (by decide) r.2)) (Cert.FfnOutReferenceIdeal.Value.run (F := Ideal) m g)

/-- The reference of the mixer's output runs, leaves its arguments as they were, and uses no semaphore. -/
theorem mix_out_frame_reference : Cert.quiescent_MixOutReferenceIdeal := fun m g _ =>
  (θ_run Cert.MixOutReferenceIdeal.defs _ _).mono (fun r h => And.intro (fun c => (h c).2.2.2.2)
    (sem_eq_zero_of_no_sems (by decide) r.2)) (Cert.MixOutReferenceIdeal.Value.run (F := Ideal) m g)

/-- Gradient of the gate and up values, of the taps with the bias, and of the layer's input: kernel and reference agree. -/
theorem value : Cert.algebraic_KernelIdeal_ReferenceIdeal_pre_finite_operands := by
  intro m g m' g' hp ha
  refine ⟨fun c => Cert.ReferenceIdeal.Value.res_main_v83 m' c, fun c => Cert.ReferenceIdeal.Value.res_main_v81 m' c,
    fun c => Cert.ReferenceIdeal.Value.res_main_v86 m' c, ?_, Cert.ReferenceIdeal.Value.run m' g'⟩
  refine (θ_run _ _ _).mono (fun r h c => ?_) (Cert.KernelIdeal.Value.run_blocks m g)
  obtain ⟨a0, a1, a2, a3, a4, a5⟩ := ha c
  obtain ⟨p0, p1, p2⟩ := hp c
  obtain ⟨r9, r10, r11, hargs⟩ := h c
  have hD := Cert.ReferenceIdeal.ConvValue.dconvIs_of_finite _ _ _ _ _ _ p0 p1 p2
  rw [← a0, ← a1, ← a2, ← a3, ← a4] at hD
  refine ⟨r9.trans ?_, r10.trans ?_, r11.trans ?_, hargs⟩
  · exact (Cert.KernelIdeal.ConvValue.gate_eq m c a0.symm a1.symm a2.symm a3.symm a4.symm hD).trans
      (Cert.ReferenceIdeal.Read.val_main_v83_eq m' c).symm
  · exact (Cert.KernelIdeal.ConvValue.taps_eq m c a0.symm a1.symm a2.symm a3.symm a4.symm hD).trans
      (Cert.ReferenceIdeal.Read.val_main_v81_eq m' c).symm
  · exact (Cert.KernelIdeal.ConvValue.input_eq m c a0.symm a1.symm a2.symm a3.symm a4.symm a5.symm hD).trans
      (Cert.ReferenceIdeal.Read.val_main_v86_eq m' c).symm

/-- The four gradients of the forgetting attention: kernel and reference agree. -/
theorem fox_value : Cert.algebraic_FoxKernelIdeal_FoxReferenceIdeal_pre_finite_heads := by
  intro m g m' g' hp ha
  refine ⟨fun c => Cert.FoxReferenceIdeal.Value.res_main_v89 m' c, fun c => Cert.FoxReferenceIdeal.Value.res_main_v91 m' c,
    fun c => Cert.FoxReferenceIdeal.Value.res_main_v93 m' c, fun c => Cert.FoxReferenceIdeal.Value.res_main_v94 m' c, ?_,
    Cert.FoxReferenceIdeal.Value.run m' g'⟩
  refine (θ_run _ _ _).mono (fun r h c => ?_) (Cert.FoxKernelIdeal.Body.run_results m g)
  obtain ⟨a0, a1, a2, a3, a4⟩ := ha c
  obtain ⟨p0, p1, p2, p3, p4⟩ := hp c
  obtain ⟨r5, r6, r7, r8, hargs⟩ := h c
  rw [← a0, ← a1, ← a2, ← a3, ← a4] at p0 p1 p2 p3 p4
  obtain ⟨e5, e6, e7, e8⟩ := Cert.FoxKernelIdeal.Body.results_eq m c _ _ _ _ _ a0.symm a1.symm a2.symm a3.symm a4.symm p0 p1 p2 p3 p4
  refine ⟨r5.trans ?_, r6.trans ?_, r7.trans ?_, r8.trans ?_, hargs⟩
  · exact e5.trans (Cert.FoxReferenceIdeal.Read.val_main_v89_eq m' c).symm
  · exact e6.trans (Cert.FoxReferenceIdeal.Read.val_main_v91_eq m' c).symm
  · exact e7.trans (Cert.FoxReferenceIdeal.Read.val_main_v93_eq m' c).symm
  · exact e8.trans (Cert.FoxReferenceIdeal.Read.val_main_v94_eq m' c).symm

/-- Gradient of the feed-forward input weights: kernel and reference agree. -/
theorem in_grad_value : Cert.algebraic_InGradIdeal_InGradReferenceIdeal := by
  intro m g m' g' _ ha
  refine ⟨_, ?_, Cert.InGradReferenceIdeal.Value.run m' g'⟩
  refine (θ_run _ _ _).mono (fun r h c => ?_) (Cert.InGradIdeal.Value.run_blocks m g)
  obtain ⟨a0, a1⟩ := ha c
  obtain ⟨r0, hargs⟩ := h c
  exact ⟨r0.trans ((Cert.InGradIdeal.Product.grad_eq m c a0.symm a1.symm).trans
    (Cert.InGradReferenceIdeal.Read.val_main_v4_eq _ _).symm), hargs⟩

/-- Gradient of the feed-forward output weights: kernel and reference agree. -/
theorem out_grad_value : Cert.algebraic_OutGradIdeal_OutGradReferenceIdeal := by
  intro m g m' g' _ ha
  refine ⟨_, ?_, Cert.OutGradReferenceIdeal.Value.run m' g'⟩
  refine (θ_run _ _ _).mono (fun r h c => ?_) (Cert.OutGradIdeal.Value.run_blocks m g)
  obtain ⟨a0, a1⟩ := ha c
  obtain ⟨r0, hargs⟩ := h c
  exact ⟨r0.trans ((Cert.OutGradIdeal.Product.grad_eq m c a0.symm a1.symm).trans
    (Cert.OutGradReferenceIdeal.Read.val_main_v3_eq _ _).symm), hargs⟩

/-- Gradients of the projection's weights and bias: kernel and reference agree. -/
theorem z_grad_value : Cert.algebraic_ZGradIdeal_ZGradReferenceIdeal := by
  intro m g m' g' _ ha
  refine ⟨_, _, ?_, Cert.ZGradReferenceIdeal.Value.run m' g'⟩
  refine (θ_run _ _ _).mono (fun r h c => ?_) (Cert.ZGradIdeal.Value.run_blocks m g)
  obtain ⟨a0, a1⟩ := ha c
  obtain ⟨r0, r1, hargs⟩ := h c
  exact ⟨r0.trans ((Cert.ZGradIdeal.Product.grad_eq m c a0.symm a1.symm).trans
    (Cert.ZGradReferenceIdeal.Read.val_main_v23_eq _ _).symm), r1.trans ((Cert.ZGradIdeal.Product.bias_grad_eq m c a1.symm).trans
    (Cert.ZGradReferenceIdeal.Read.val_main_v24_eq _).symm), hargs⟩

/-- Gradient at the layer's input: kernel and reference agree. -/
theorem h_grad_value : Cert.algebraic_HGradIdeal_HGradReferenceIdeal := by
  intro m g m' g' _ ha
  refine ⟨_, ?_, Cert.HGradReferenceIdeal.Value.run m' g'⟩
  refine (θ_run _ _ _).mono (fun r h c => ?_) (Cert.HGradIdeal.Value.run_blocks m g)
  obtain ⟨a0, a1, a2⟩ := ha c
  obtain ⟨r0, hargs⟩ := h c
  exact ⟨r0.trans ((Cert.HGradIdeal.Product.grad_eq m c a0.symm a1.symm a2.symm).trans
    (Cert.HGradReferenceIdeal.Read.val_main_v4_eq _ _ _).symm), hargs⟩

/-- The projection: kernel and reference agree. -/
theorem z_proj_value : Cert.algebraic_ZProjIdeal_ZProjReferenceIdeal := by
  intro m g m' g' _ ha
  refine ⟨_, _, _, ?_, Cert.ZProjReferenceIdeal.Value.run m' g'⟩
  refine (θ_run _ _ _).mono (fun r h c => ?_) (Cert.ZProjIdeal.Value.run_blocks m g)
  obtain ⟨a0, a1, a2⟩ := ha c
  obtain ⟨r0, r1, r2, hargs⟩ := h c
  exact ⟨r0.trans ((Cert.ZProjIdeal.Product.heads_eq m c a0.symm a1.symm a2.symm).trans
    (Cert.ZProjReferenceIdeal.Read.val_main_v7_eq _ _ _).symm), r1.trans ((Cert.ZProjIdeal.Product.rest_eq m c a0.symm a1.symm a2.symm).trans
    (Cert.ZProjReferenceIdeal.Read.val_main_v9_eq _ _ _).symm), r2.trans ((Cert.ZProjIdeal.Product.input_eq m c a0.symm).trans
    (Cert.ZProjReferenceIdeal.Read.val_main_v10_eq _).symm), hargs⟩

/-- The feed-forward's output: kernel and reference agree. -/
theorem ffn_out_value : Cert.algebraic_FfnOutIdeal_FfnOutReferenceIdeal := by
  intro m g m' g' _ ha
  refine ⟨_, _, ?_, Cert.FfnOutReferenceIdeal.Value.run m' g'⟩
  refine (θ_run _ _ _).mono (fun r h c => ?_) (Cert.FfnOutIdeal.Value.run_blocks m g)
  obtain ⟨a0, a1, a2, a3, a4⟩ := ha c
  obtain ⟨r0, r1, hargs⟩ := h c
  exact ⟨r0.trans ((Cert.FfnOutIdeal.Product.sum_eq m c a0.symm a1.symm a2.symm).trans
    (Cert.FfnOutReferenceIdeal.Read.val_main_v4_eq _ _ _).symm), r1.trans ((Cert.FfnOutIdeal.Product.norm_eq m c a0.symm a1.symm a2.symm a3.symm a4.symm).trans
    (Cert.FfnOutReferenceIdeal.Read.val_main_v28_eq _ _ _ _ _).symm), hargs⟩

/-- The mixer's output: kernel and reference agree. -/
theorem mix_out_value : Cert.algebraic_MixOutIdeal_MixOutReferenceIdeal := by
  intro m g m' g' _ ha
  refine ⟨_, _, _, _, ?_, Cert.MixOutReferenceIdeal.Value.run m' g'⟩
  refine (θ_run _ _ _).mono (fun r h c => ?_) (Cert.MixOutIdeal.Value.run_blocks m g)
  obtain ⟨a0, a1, a2, a3, a4, a5, a6, a7, a8⟩ := ha c
  obtain ⟨r0, r1, r2, r3, hargs⟩ := h c
  exact ⟨r0.trans ((Cert.MixOutIdeal.Product.norm_eq m c a0.symm a1.symm a2.symm a3.symm a4.symm a5.symm a6.symm a7.symm a8.symm).trans
    (Cert.MixOutReferenceIdeal.Read.val_main_v48_eq m' c).symm), r1.trans ((Cert.MixOutIdeal.Product.sum_eq m c a0.symm a1.symm a2.symm a3.symm a4.symm a5.symm a6.symm).trans
    (Cert.MixOutReferenceIdeal.Read.val_main_v24_eq _ _ _ _ _ _ _).symm), r2.trans ((Cert.MixOutIdeal.Product.merged_eq m c a0.symm a1.symm a2.symm a4.symm a5.symm).trans
    (Cert.MixOutReferenceIdeal.Read.val_main_v49_eq _ _ _ _ _).symm), r3.trans ((Cert.MixOutIdeal.Product.norm_half_eq m c a0.symm a1.symm a2.symm a3.symm a4.symm a5.symm a6.symm a7.symm a8.symm).trans
    (Cert.MixOutReferenceIdeal.Read.val_main_v50_eq m' c).symm), hargs⟩

theorem claim : Cert.Claim := ⟨Cert.Kernel.Gen.facts, Cert.KernelIdeal.Gen.facts, Cert.ReferenceIdeal.Gen.facts,
  Cert.FoxKernel.Gen.facts, Cert.FoxKernelIdeal.Gen.facts, Cert.FoxReferenceIdeal.Gen.facts,
  Cert.InGrad.Gen.facts, Cert.InGradIdeal.Gen.facts, Cert.InGradReferenceIdeal.Gen.facts,
  Cert.OutGrad.Gen.facts, Cert.OutGradIdeal.Gen.facts, Cert.OutGradReferenceIdeal.Gen.facts,
  Cert.ZGrad.Gen.facts, Cert.ZGradIdeal.Gen.facts, Cert.ZGradReferenceIdeal.Gen.facts,
  Cert.HGrad.Gen.facts, Cert.HGradIdeal.Gen.facts, Cert.HGradReferenceIdeal.Gen.facts,
  Cert.ZProj.Gen.facts, Cert.ZProjIdeal.Gen.facts, Cert.ZProjReferenceIdeal.Gen.facts,
  Cert.FfnOut.Gen.facts, Cert.FfnOutIdeal.Gen.facts, Cert.FfnOutReferenceIdeal.Gen.facts,
  Cert.MixOut.Gen.facts, Cert.MixOutIdeal.Gen.facts, Cert.MixOutReferenceIdeal.Gen.facts,
  Cert.Pre_finite_operands.Gen.facts, Cert.Pre_finite_heads.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.FoxKernel.Body.frame m ρ, fun m ρ _ => Cert.FoxKernelIdeal.Body.frame m ρ,
  fun m ρ _ => Cert.FoxKernelIdeal.Body.frame m ρ,
  fox_frame_reference, fun m ρ _ => fox_frame_reference m ρ trivial,
  fun m ρ _ => Cert.InGrad.Gen.frame m ρ, fun m ρ _ => Cert.InGradIdeal.Gen.frame m ρ, in_grad_frame_reference,
  fun m ρ _ => Cert.OutGrad.Gen.frame m ρ, fun m ρ _ => Cert.OutGradIdeal.Gen.frame m ρ, out_grad_frame_reference,
  fun m ρ _ => Cert.ZGrad.Gen.frame m ρ, fun m ρ _ => Cert.ZGradIdeal.Gen.frame m ρ, z_grad_frame_reference,
  fun m ρ _ => Cert.HGrad.Gen.frame m ρ, fun m ρ _ => Cert.HGradIdeal.Gen.frame m ρ, h_grad_frame_reference,
  fun m ρ _ => Cert.ZProj.Gen.frame m ρ, fun m ρ _ => Cert.ZProjIdeal.Gen.frame m ρ, z_proj_frame_reference,
  fun m ρ _ => Cert.FfnOut.Gen.frame m ρ, fun m ρ _ => Cert.FfnOutIdeal.Gen.frame m ρ, ffn_out_frame_reference,
  fun m ρ _ => Cert.MixOut.Gen.frame m ρ, fun m ρ _ => Cert.MixOutIdeal.Gen.frame m ρ, mix_out_frame_reference,
  IdealRules.named_const.statement _ _ _ _ _ rfl, value,
  ⟨IdealRules.named_const.statement _ _ _ _ _ rfl, IdealRules.named_const.statement _ _ _ _ _ rfl⟩, fox_value,
  trivial, in_grad_value, trivial, out_grad_value, trivial, z_grad_value,
  IdealRules.named_const.statement _ _ _ _ _ rfl, h_grad_value,
  trivial, z_proj_value, IdealRules.named_const.statement _ _ _ _ _ rfl, ffn_out_value,
  IdealRules.named_const.statement _ _ _ _ _ rfl, mix_out_value⟩

end Cert.Proof

end
